-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MixerOutDx (m : (ℓ : Loc Cert.MixerOutDx.nD Cert.MixerOutDx.τ Cert.MixerOutDx.sig) → Buf (Elt Bits) ℓ) : Prop :=
  True

def Pre_MixerOutDxIdeal (m : (ℓ : Loc Cert.MixerOutDxIdeal.nD Cert.MixerOutDxIdeal.τ Cert.MixerOutDxIdeal.sig) → Buf (Elt Ideal) ℓ) : Prop :=
  True

def Pre_MixerOutDxRefIdeal (m : (ℓ : Loc Cert.MixerOutDxRefIdeal.nD Cert.MixerOutDxRefIdeal.τ Cert.MixerOutDxRefIdeal.sig) → Buf (Elt Ideal) ℓ) : Prop :=
  True

def Pre_MixerOutDw (m : (ℓ : Loc Cert.MixerOutDw.nD Cert.MixerOutDw.τ Cert.MixerOutDw.sig) → Buf (Elt Bits) ℓ) : Prop :=
  True

def Pre_MixerOutDwIdeal (m : (ℓ : Loc Cert.MixerOutDwIdeal.nD Cert.MixerOutDwIdeal.τ Cert.MixerOutDwIdeal.sig) → Buf (Elt Ideal) ℓ) : Prop :=
  True

def Pre_MixerOutDwRefIdeal (m : (ℓ : Loc Cert.MixerOutDwRefIdeal.nD Cert.MixerOutDwRefIdeal.τ Cert.MixerOutDwRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_AttnInDx (m : (ℓ : Loc Cert.AttnInDx.nD Cert.AttnInDx.τ Cert.AttnInDx.sig) → Buf (Elt Bits) ℓ) : Prop :=
  True

def Pre_AttnInDxIdeal (m : (ℓ : Loc Cert.AttnInDxIdeal.nD Cert.AttnInDxIdeal.τ Cert.AttnInDxIdeal.sig) → Buf (Elt Ideal) ℓ) : Prop :=
  True

def Pre_AttnInDxRefIdeal (m : (ℓ : Loc Cert.AttnInDxRefIdeal.nD Cert.AttnInDxRefIdeal.τ Cert.AttnInDxRefIdeal.sig) → Buf (Elt Ideal) ℓ) : Prop :=
  True

def Pre_AttnInDw (m : (ℓ : Loc Cert.AttnInDw.nD Cert.AttnInDw.τ Cert.AttnInDw.sig) → Buf (Elt Bits) ℓ) : Prop :=
  True

def Pre_AttnInDwIdeal (m : (ℓ : Loc Cert.AttnInDwIdeal.nD Cert.AttnInDwIdeal.τ Cert.AttnInDwIdeal.sig) → Buf (Elt Ideal) ℓ) : Prop :=
  True

def Pre_AttnInDwRefIdeal (m : (ℓ : Loc Cert.AttnInDwRefIdeal.nD Cert.AttnInDwRefIdeal.τ Cert.AttnInDwRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_RecInDx (m : (ℓ : Loc Cert.RecInDx.nD Cert.RecInDx.τ Cert.RecInDx.sig) → Buf (Elt Bits) ℓ) : Prop :=
  True

def Pre_RecInDxIdeal (m : (ℓ : Loc Cert.RecInDxIdeal.nD Cert.RecInDxIdeal.τ Cert.RecInDxIdeal.sig) → Buf (Elt Ideal) ℓ) : Prop :=
  True

def Pre_RecInDxRefIdeal (m : (ℓ : Loc Cert.RecInDxRefIdeal.nD Cert.RecInDxRefIdeal.τ Cert.RecInDxRefIdeal.sig) → Buf (Elt Ideal) ℓ) : Prop :=
  True

def Pre_RecInDw (m : (ℓ : Loc Cert.RecInDw.nD Cert.RecInDw.τ Cert.RecInDw.sig) → Buf (Elt Bits) ℓ) : Prop :=
  True

def Pre_RecInDwIdeal (m : (ℓ : Loc Cert.RecInDwIdeal.nD Cert.RecInDwIdeal.τ Cert.RecInDwIdeal.sig) → Buf (Elt Ideal) ℓ) : Prop :=
  True

def Pre_RecInDwRefIdeal (m : (ℓ : Loc Cert.RecInDwRefIdeal.nD Cert.RecInDwRefIdeal.τ Cert.RecInDwRefIdeal.sig) → Buf (Elt Ideal) ℓ) : Prop :=
  True

def Pre_RecIn (m : (ℓ : Loc Cert.RecIn.nD Cert.RecIn.τ Cert.RecIn.sig) → Buf (Elt Bits) ℓ) : Prop :=
  True

def Pre_RecInIdeal (m : (ℓ : Loc Cert.RecInIdeal.nD Cert.RecInIdeal.τ Cert.RecInIdeal.sig) → Buf (Elt Ideal) ℓ) : Prop :=
  True

def Pre_RecInRefIdeal (m : (ℓ : Loc Cert.RecInRefIdeal.nD Cert.RecInRefIdeal.τ Cert.RecInRefIdeal.sig) → Buf (Elt Ideal) ℓ) : Prop :=
  True

def Pre_PoolMixDx (m : (ℓ : Loc Cert.PoolMixDx.nD Cert.PoolMixDx.τ Cert.PoolMixDx.sig) → Buf (Elt Bits) ℓ) : Prop :=
  True

def Pre_PoolMixDxIdeal (m : (ℓ : Loc Cert.PoolMixDxIdeal.nD Cert.PoolMixDxIdeal.τ Cert.PoolMixDxIdeal.sig) → Buf (Elt Ideal) ℓ) : Prop :=
  True

def Pre_PoolMixDxRefIdeal (m : (ℓ : Loc Cert.PoolMixDxRefIdeal.nD Cert.PoolMixDxRefIdeal.τ Cert.PoolMixDxRefIdeal.sig) → Buf (Elt Ideal) ℓ) : Prop :=
  True

def Pre_PoolMixDw (m : (ℓ : Loc Cert.PoolMixDw.nD Cert.PoolMixDw.τ Cert.PoolMixDw.sig) → Buf (Elt Bits) ℓ) : Prop :=
  True

def Pre_PoolMixDwIdeal (m : (ℓ : Loc Cert.PoolMixDwIdeal.nD Cert.PoolMixDwIdeal.τ Cert.PoolMixDwIdeal.sig) → Buf (Elt Ideal) ℓ) : Prop :=
  True

def Pre_PoolMixDwRefIdeal (m : (ℓ : Loc Cert.PoolMixDwRefIdeal.nD Cert.PoolMixDwRefIdeal.τ Cert.PoolMixDwRefIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixRefIdeal (m : (ℓ : Loc Cert.PoolMixRefIdeal.nD Cert.PoolMixRefIdeal.τ Cert.PoolMixRefIdeal.sig) → Buf (Elt Ideal) ℓ) : Prop :=
  True

def Pre_RecGateDx (m : (ℓ : Loc Cert.RecGateDx.nD Cert.RecGateDx.τ Cert.RecGateDx.sig) → Buf (Elt Bits) ℓ) : Prop :=
  True

def Pre_RecGateDxIdeal (m : (ℓ : Loc Cert.RecGateDxIdeal.nD Cert.RecGateDxIdeal.τ Cert.RecGateDxIdeal.sig) → Buf (Elt Ideal) ℓ) : Prop :=
  True

def Pre_RecGateDxRefIdeal (m : (ℓ : Loc Cert.RecGateDxRefIdeal.nD Cert.RecGateDxRefIdeal.τ Cert.RecGateDxRefIdeal.sig) → Buf (Elt Ideal) ℓ) : Prop :=
  True

def Pre_RecGateDxAdd (m : (ℓ : Loc Cert.RecGateDxAdd.nD Cert.RecGateDxAdd.τ Cert.RecGateDxAdd.sig) → Buf (Elt Bits) ℓ) : Prop :=
  True

def Pre_RecGateDxAddIdeal (m : (ℓ : Loc Cert.RecGateDxAddIdeal.nD Cert.RecGateDxAddIdeal.τ Cert.RecGateDxAddIdeal.sig) → Buf (Elt Ideal) ℓ) : Prop :=
  True

def Pre_RecGateDxAddRefIdeal (m : (ℓ : Loc Cert.RecGateDxAddRefIdeal.nD Cert.RecGateDxAddRefIdeal.τ Cert.RecGateDxAddRefIdeal.sig) → Buf (Elt Ideal) ℓ) : Prop :=
  True

def Pre_RecGateDw (m : (ℓ : Loc Cert.RecGateDw.nD Cert.RecGateDw.τ Cert.RecGateDw.sig) → Buf (Elt Bits) ℓ) : Prop :=
  True

def Pre_RecGateDwIdeal (m : (ℓ : Loc Cert.RecGateDwIdeal.nD Cert.RecGateDwIdeal.τ Cert.RecGateDwIdeal.sig) → Buf (Elt Ideal) ℓ) : Prop :=
  True

def Pre_RecGateDwRefIdeal (m : (ℓ : Loc Cert.RecGateDwRefIdeal.nD Cert.RecGateDwRefIdeal.τ Cert.RecGateDwRefIdeal.sig) → Buf (Elt Ideal) ℓ) : Prop :=
  True

def Pre_RecGate (m : (ℓ : Loc Cert.RecGate.nD Cert.RecGate.τ Cert.RecGate.sig) → Buf (Elt Bits) ℓ) : Prop :=
  True

def Pre_RecGateIdeal (m : (ℓ : Loc Cert.RecGateIdeal.nD Cert.RecGateIdeal.τ Cert.RecGateIdeal.sig) → Buf (Elt Ideal) ℓ) : Prop :=
  True

def Pre_RecGateRefIdeal (m : (ℓ : Loc Cert.RecGateRefIdeal.nD Cert.RecGateRefIdeal.τ Cert.RecGateRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_LnScaled (m : (ℓ : Loc Cert.LnScaled.nD Cert.LnScaled.τ Cert.LnScaled.sig) → Buf (Elt Bits) ℓ) : Prop :=
  True

def Pre_LnScaledIdeal (m : (ℓ : Loc Cert.LnScaledIdeal.nD Cert.LnScaledIdeal.τ Cert.LnScaledIdeal.sig) → Buf (Elt Ideal) ℓ) : Prop :=
  True

def Pre_LnScaledRefIdeal (m : (ℓ : Loc Cert.LnScaledRefIdeal.nD Cert.LnScaledRefIdeal.τ Cert.LnScaledRefIdeal.sig) → Buf (Elt Ideal) ℓ) : Prop :=
  True

def Pre_ScaleBwd (m : (ℓ : Loc Cert.ScaleBwd.nD Cert.ScaleBwd.τ Cert.ScaleBwd.sig) → Buf (Elt Bits) ℓ) : Prop :=
  True

def Pre_ScaleBwdIdeal (m : (ℓ : Loc Cert.ScaleBwdIdeal.nD Cert.ScaleBwdIdeal.τ Cert.ScaleBwdIdeal.sig) → Buf (Elt Ideal) ℓ) : Prop :=
  True

def Pre_ScaleBwdRefIdeal (m : (ℓ : Loc Cert.ScaleBwdRefIdeal.nD Cert.ScaleBwdRefIdeal.τ Cert.ScaleBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_MixerOutDx [hMixerOutDx : Cert.MixerOutDx.Facts] : Prop :=
  ∀ (m : (ℓ : Loc Cert.MixerOutDx.nD Cert.MixerOutDx.τ Cert.MixerOutDx.sig) → Buf (Elt Bits) ℓ) (g : Dev Cert.MixerOutDx.nD → PrngReg), Pre_MixerOutDx m →
    θ_run (Cert.MixerOutDx.defs (F := Bits)) (onTc (τ := Cert.MixerOutDx.τ) (Cert.MixerOutDx.main (F := Bits))) ⟨m, fun _ => 0, g⟩ (fun r => (∀ c : Dev Cert.MixerOutDx.nD,
      r.2.mem ((c.tc : Thread Cert.MixerOutDx.nD Cert.MixerOutDx.τ).loc Cert.MixerOutDx.main_arg0) = m ((c.tc : Thread Cert.MixerOutDx.nD Cert.MixerOutDx.τ).loc Cert.MixerOutDx.main_arg0)
      ∧ r.2.mem ((c.tc : Thread Cert.MixerOutDx.nD Cert.MixerOutDx.τ).loc Cert.MixerOutDx.main_arg1) = m ((c.tc : Thread Cert.MixerOutDx.nD Cert.MixerOutDx.τ).loc Cert.MixerOutDx.main_arg1))
      ∧ r.2.sem = fun _ => 0)

def quiescent_MixerOutDxIdeal [hMixerOutDxIdeal : Cert.MixerOutDxIdeal.Facts] : Prop :=
  ∀ (m : (ℓ : Loc Cert.MixerOutDxIdeal.nD Cert.MixerOutDxIdeal.τ Cert.MixerOutDxIdeal.sig) → Buf (Elt Ideal) ℓ) (g : Dev Cert.MixerOutDxIdeal.nD → PrngReg), Pre_MixerOutDxIdeal m →
    θ_run (Cert.MixerOutDxIdeal.defs (F := Ideal)) (onTc (τ := Cert.MixerOutDxIdeal.τ) (Cert.MixerOutDxIdeal.main (F := Ideal))) ⟨m, fun _ => 0, g⟩ (fun r => (∀ c : Dev Cert.MixerOutDxIdeal.nD,
      r.2.mem ((c.tc : Thread Cert.MixerOutDxIdeal.nD Cert.MixerOutDxIdeal.τ).loc Cert.MixerOutDxIdeal.main_arg0) = m ((c.tc : Thread Cert.MixerOutDxIdeal.nD Cert.MixerOutDxIdeal.τ).loc Cert.MixerOutDxIdeal.main_arg0)
      ∧ r.2.mem ((c.tc : Thread Cert.MixerOutDxIdeal.nD Cert.MixerOutDxIdeal.τ).loc Cert.MixerOutDxIdeal.main_arg1) = m ((c.tc : Thread Cert.MixerOutDxIdeal.nD Cert.MixerOutDxIdeal.τ).loc Cert.MixerOutDxIdeal.main_arg1))
      ∧ r.2.sem = fun _ => 0)

def quiescent_MixerOutDxRefIdeal [hMixerOutDxRefIdeal : Cert.MixerOutDxRefIdeal.Facts] : Prop :=
  ∀ (m : (ℓ : Loc Cert.MixerOutDxRefIdeal.nD Cert.MixerOutDxRefIdeal.τ Cert.MixerOutDxRefIdeal.sig) → Buf (Elt Ideal) ℓ) (g : Dev Cert.MixerOutDxRefIdeal.nD → PrngReg), Pre_MixerOutDxRefIdeal m →
    θ_run (Cert.MixerOutDxRefIdeal.defs (F := Ideal)) (onTc (τ := Cert.MixerOutDxRefIdeal.τ) (Cert.MixerOutDxRefIdeal.main (F := Ideal))) ⟨m, fun _ => 0, g⟩ (fun r => (∀ c : Dev Cert.MixerOutDxRefIdeal.nD,
      r.2.mem ((c.tc : Thread Cert.MixerOutDxRefIdeal.nD Cert.MixerOutDxRefIdeal.τ).loc Cert.MixerOutDxRefIdeal.main_arg0) = m ((c.tc : Thread Cert.MixerOutDxRefIdeal.nD Cert.MixerOutDxRefIdeal.τ).loc Cert.MixerOutDxRefIdeal.main_arg0)
      ∧ r.2.mem ((c.tc : Thread Cert.MixerOutDxRefIdeal.nD Cert.MixerOutDxRefIdeal.τ).loc Cert.MixerOutDxRefIdeal.main_arg1) = m ((c.tc : Thread Cert.MixerOutDxRefIdeal.nD Cert.MixerOutDxRefIdeal.τ).loc Cert.MixerOutDxRefIdeal.main_arg1))
      ∧ r.2.sem = fun _ => 0)

def quiescent_MixerOutDw [hMixerOutDw : Cert.MixerOutDw.Facts] : Prop :=
  ∀ (m : (ℓ : Loc Cert.MixerOutDw.nD Cert.MixerOutDw.τ Cert.MixerOutDw.sig) → Buf (Elt Bits) ℓ) (g : Dev Cert.MixerOutDw.nD → PrngReg), Pre_MixerOutDw m →
    θ_run (Cert.MixerOutDw.defs (F := Bits)) (onTc (τ := Cert.MixerOutDw.τ) (Cert.MixerOutDw.main (F := Bits))) ⟨m, fun _ => 0, g⟩ (fun r => (∀ c : Dev Cert.MixerOutDw.nD,
      r.2.mem ((c.tc : Thread Cert.MixerOutDw.nD Cert.MixerOutDw.τ).loc Cert.MixerOutDw.main_arg0) = m ((c.tc : Thread Cert.MixerOutDw.nD Cert.MixerOutDw.τ).loc Cert.MixerOutDw.main_arg0)
      ∧ r.2.mem ((c.tc : Thread Cert.MixerOutDw.nD Cert.MixerOutDw.τ).loc Cert.MixerOutDw.main_arg1) = m ((c.tc : Thread Cert.MixerOutDw.nD Cert.MixerOutDw.τ).loc Cert.MixerOutDw.main_arg1))
      ∧ r.2.sem = fun _ => 0)

def quiescent_MixerOutDwIdeal [hMixerOutDwIdeal : Cert.MixerOutDwIdeal.Facts] : Prop :=
  ∀ (m : (ℓ : Loc Cert.MixerOutDwIdeal.nD Cert.MixerOutDwIdeal.τ Cert.MixerOutDwIdeal.sig) → Buf (Elt Ideal) ℓ) (g : Dev Cert.MixerOutDwIdeal.nD → PrngReg), Pre_MixerOutDwIdeal m →
    θ_run (Cert.MixerOutDwIdeal.defs (F := Ideal)) (onTc (τ := Cert.MixerOutDwIdeal.τ) (Cert.MixerOutDwIdeal.main (F := Ideal))) ⟨m, fun _ => 0, g⟩ (fun r => (∀ c : Dev Cert.MixerOutDwIdeal.nD,
      r.2.mem ((c.tc : Thread Cert.MixerOutDwIdeal.nD Cert.MixerOutDwIdeal.τ).loc Cert.MixerOutDwIdeal.main_arg0) = m ((c.tc : Thread Cert.MixerOutDwIdeal.nD Cert.MixerOutDwIdeal.τ).loc Cert.MixerOutDwIdeal.main_arg0)
      ∧ r.2.mem ((c.tc : Thread Cert.MixerOutDwIdeal.nD Cert.MixerOutDwIdeal.τ).loc Cert.MixerOutDwIdeal.main_arg1) = m ((c.tc : Thread Cert.MixerOutDwIdeal.nD Cert.MixerOutDwIdeal.τ).loc Cert.MixerOutDwIdeal.main_arg1))
      ∧ r.2.sem = fun _ => 0)

def quiescent_MixerOutDwRefIdeal [hMixerOutDwRefIdeal : Cert.MixerOutDwRefIdeal.Facts] : Prop :=
  ∀ (m : (ℓ : Loc Cert.MixerOutDwRefIdeal.nD Cert.MixerOutDwRefIdeal.τ Cert.MixerOutDwRefIdeal.sig) → Buf (Elt Ideal) ℓ) (g : Dev Cert.MixerOutDwRefIdeal.nD → PrngReg), Pre_MixerOutDwRefIdeal m →
    θ_run (Cert.MixerOutDwRefIdeal.defs (F := Ideal)) (onTc (τ := Cert.MixerOutDwRefIdeal.τ) (Cert.MixerOutDwRefIdeal.main (F := Ideal))) ⟨m, fun _ => 0, g⟩ (fun r => (∀ c : Dev Cert.MixerOutDwRefIdeal.nD,
      r.2.mem ((c.tc : Thread Cert.MixerOutDwRefIdeal.nD Cert.MixerOutDwRefIdeal.τ).loc Cert.MixerOutDwRefIdeal.main_arg0) = m ((c.tc : Thread Cert.MixerOutDwRefIdeal.nD Cert.MixerOutDwRefIdeal.τ).loc Cert.MixerOutDwRefIdeal.main_arg0)
      ∧ r.2.mem ((c.tc : Thread Cert.MixerOutDwRefIdeal.nD Cert.MixerOutDwRefIdeal.τ).loc Cert.MixerOutDwRefIdeal.main_arg1) = m ((c.tc : Thread Cert.MixerOutDwRefIdeal.nD Cert.MixerOutDwRefIdeal.τ).loc Cert.MixerOutDwRefIdeal.main_arg1))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1))
      ∧ r.2.sem = fun _ => 0)

def quiescent_AttnInDx [hAttnInDx : Cert.AttnInDx.Facts] : Prop :=
  ∀ (m : (ℓ : Loc Cert.AttnInDx.nD Cert.AttnInDx.τ Cert.AttnInDx.sig) → Buf (Elt Bits) ℓ) (g : Dev Cert.AttnInDx.nD → PrngReg), Pre_AttnInDx m →
    θ_run (Cert.AttnInDx.defs (F := Bits)) (onTc (τ := Cert.AttnInDx.τ) (Cert.AttnInDx.main (F := Bits))) ⟨m, fun _ => 0, g⟩ (fun r => (∀ c : Dev Cert.AttnInDx.nD,
      r.2.mem ((c.tc : Thread Cert.AttnInDx.nD Cert.AttnInDx.τ).loc Cert.AttnInDx.main_arg0) = m ((c.tc : Thread Cert.AttnInDx.nD Cert.AttnInDx.τ).loc Cert.AttnInDx.main_arg0)
      ∧ r.2.mem ((c.tc : Thread Cert.AttnInDx.nD Cert.AttnInDx.τ).loc Cert.AttnInDx.main_arg1) = m ((c.tc : Thread Cert.AttnInDx.nD Cert.AttnInDx.τ).loc Cert.AttnInDx.main_arg1)
      ∧ r.2.mem ((c.tc : Thread Cert.AttnInDx.nD Cert.AttnInDx.τ).loc Cert.AttnInDx.main_arg2) = m ((c.tc : Thread Cert.AttnInDx.nD Cert.AttnInDx.τ).loc Cert.AttnInDx.main_arg2))
      ∧ r.2.sem = fun _ => 0)

def quiescent_AttnInDxIdeal [hAttnInDxIdeal : Cert.AttnInDxIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg), Pre_AttnInDxIdeal m →
    θ_run (Cert.AttnInDxIdeal.defs (F := Ideal)) (onTc (τ := Cert.AttnInDxIdeal.τ) (Cert.AttnInDxIdeal.main (F := Ideal))) ⟨m, fun _ => 0, g⟩ (fun r => (∀ c : Dev Cert.AttnInDxIdeal.nD,
      r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
      ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1)
      ∧ r.2.mem ((c.tc : Thread Cert.AttnInDxIdeal.nD Cert.AttnInDxIdeal.τ).loc Cert.AttnInDxIdeal.main_arg2) = m ((c.tc : Thread Cert.AttnInDxIdeal.nD Cert.AttnInDxIdeal.τ).loc Cert.AttnInDxIdeal.main_arg2))
      ∧ r.2.sem = fun _ => 0)

def quiescent_AttnInDxRefIdeal [hAttnInDxRefIdeal : Cert.AttnInDxRefIdeal.Facts] : Prop :=
  ∀ (m : (ℓ : Loc Cert.AttnInDxRefIdeal.nD Cert.AttnInDxRefIdeal.τ Cert.AttnInDxRefIdeal.sig) → Buf (Elt Ideal) ℓ) (g : Dev Cert.AttnInDxRefIdeal.nD → PrngReg), Pre_AttnInDxRefIdeal m →
    θ_run (Cert.AttnInDxRefIdeal.defs (F := Ideal)) (onTc (τ := Cert.AttnInDxRefIdeal.τ) (Cert.AttnInDxRefIdeal.main (F := Ideal))) ⟨m, fun _ => 0, g⟩ (fun r => (∀ c : Dev Cert.AttnInDxRefIdeal.nD,
      r.2.mem ((c.tc : Thread Cert.AttnInDxRefIdeal.nD Cert.AttnInDxRefIdeal.τ).loc Cert.AttnInDxRefIdeal.main_arg0) = m ((c.tc : Thread Cert.AttnInDxRefIdeal.nD Cert.AttnInDxRefIdeal.τ).loc Cert.AttnInDxRefIdeal.main_arg0)
      ∧ r.2.mem ((c.tc : Thread Cert.AttnInDxRefIdeal.nD Cert.AttnInDxRefIdeal.τ).loc Cert.AttnInDxRefIdeal.main_arg1) = m ((c.tc : Thread Cert.AttnInDxRefIdeal.nD Cert.AttnInDxRefIdeal.τ).loc Cert.AttnInDxRefIdeal.main_arg1)
      ∧ r.2.mem ((c.tc : Thread Cert.AttnInDxRefIdeal.nD Cert.AttnInDxRefIdeal.τ).loc Cert.AttnInDxRefIdeal.main_arg2) = m ((c.tc : Thread Cert.AttnInDxRefIdeal.nD Cert.AttnInDxRefIdeal.τ).loc Cert.AttnInDxRefIdeal.main_arg2))
      ∧ r.2.sem = fun _ => 0)

def quiescent_AttnInDw [hAttnInDw : Cert.AttnInDw.Facts] : Prop :=
  ∀ (m : (ℓ : Loc Cert.AttnInDw.nD Cert.AttnInDw.τ Cert.AttnInDw.sig) → Buf (Elt Bits) ℓ) (g : Dev Cert.AttnInDw.nD → PrngReg), Pre_AttnInDw m →
    θ_run (Cert.AttnInDw.defs (F := Bits)) (onTc (τ := Cert.AttnInDw.τ) (Cert.AttnInDw.main (F := Bits))) ⟨m, fun _ => 0, g⟩ (fun r => (∀ c : Dev Cert.AttnInDw.nD,
      r.2.mem ((c.tc : Thread Cert.AttnInDw.nD Cert.AttnInDw.τ).loc Cert.AttnInDw.main_arg0) = m ((c.tc : Thread Cert.AttnInDw.nD Cert.AttnInDw.τ).loc Cert.AttnInDw.main_arg0)
      ∧ r.2.mem ((c.tc : Thread Cert.AttnInDw.nD Cert.AttnInDw.τ).loc Cert.AttnInDw.main_arg1) = m ((c.tc : Thread Cert.AttnInDw.nD Cert.AttnInDw.τ).loc Cert.AttnInDw.main_arg1))
      ∧ r.2.sem = fun _ => 0)

def quiescent_AttnInDwIdeal [hAttnInDwIdeal : Cert.AttnInDwIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg), Pre_AttnInDwIdeal m →
    θ_run (Cert.AttnInDwIdeal.defs (F := Ideal)) (onTc (τ := Cert.AttnInDwIdeal.τ) (Cert.AttnInDwIdeal.main (F := Ideal))) ⟨m, fun _ => 0, g⟩ (fun r => (∀ c : Dev Cert.AttnInDwIdeal.nD,
      r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
      ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ r.2.sem = fun _ => 0)

def quiescent_AttnInDwRefIdeal [hAttnInDwRefIdeal : Cert.AttnInDwRefIdeal.Facts] : Prop :=
  ∀ (m : (ℓ : Loc Cert.AttnInDwRefIdeal.nD Cert.AttnInDwRefIdeal.τ Cert.AttnInDwRefIdeal.sig) → Buf (Elt Ideal) ℓ) (g : Dev Cert.AttnInDwRefIdeal.nD → PrngReg), Pre_AttnInDwRefIdeal m →
    θ_run (Cert.AttnInDwRefIdeal.defs (F := Ideal)) (onTc (τ := Cert.AttnInDwRefIdeal.τ) (Cert.AttnInDwRefIdeal.main (F := Ideal))) ⟨m, fun _ => 0, g⟩ (fun r => (∀ c : Dev Cert.AttnInDwRefIdeal.nD,
      r.2.mem ((c.tc : Thread Cert.AttnInDwRefIdeal.nD Cert.AttnInDwRefIdeal.τ).loc Cert.AttnInDwRefIdeal.main_arg0) = m ((c.tc : Thread Cert.AttnInDwRefIdeal.nD Cert.AttnInDwRefIdeal.τ).loc Cert.AttnInDwRefIdeal.main_arg0)
      ∧ r.2.mem ((c.tc : Thread Cert.AttnInDwRefIdeal.nD Cert.AttnInDwRefIdeal.τ).loc Cert.AttnInDwRefIdeal.main_arg1) = m ((c.tc : Thread Cert.AttnInDwRefIdeal.nD Cert.AttnInDwRefIdeal.τ).loc Cert.AttnInDwRefIdeal.main_arg1))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1))
      ∧ r.2.sem = fun _ => 0)

def quiescent_RecInDx [hRecInDx : Cert.RecInDx.Facts] : Prop :=
  ∀ (m : (ℓ : Loc Cert.RecInDx.nD Cert.RecInDx.τ Cert.RecInDx.sig) → Buf (Elt Bits) ℓ) (g : Dev Cert.RecInDx.nD → PrngReg), Pre_RecInDx m →
    θ_run (Cert.RecInDx.defs (F := Bits)) (onTc (τ := Cert.RecInDx.τ) (Cert.RecInDx.main (F := Bits))) ⟨m, fun _ => 0, g⟩ (fun r => (∀ c : Dev Cert.RecInDx.nD,
      r.2.mem ((c.tc : Thread Cert.RecInDx.nD Cert.RecInDx.τ).loc Cert.RecInDx.main_arg0) = m ((c.tc : Thread Cert.RecInDx.nD Cert.RecInDx.τ).loc Cert.RecInDx.main_arg0)
      ∧ r.2.mem ((c.tc : Thread Cert.RecInDx.nD Cert.RecInDx.τ).loc Cert.RecInDx.main_arg1) = m ((c.tc : Thread Cert.RecInDx.nD Cert.RecInDx.τ).loc Cert.RecInDx.main_arg1)
      ∧ r.2.mem ((c.tc : Thread Cert.RecInDx.nD Cert.RecInDx.τ).loc Cert.RecInDx.main_arg2) = m ((c.tc : Thread Cert.RecInDx.nD Cert.RecInDx.τ).loc Cert.RecInDx.main_arg2))
      ∧ r.2.sem = fun _ => 0)

def quiescent_RecInDxIdeal [hRecInDxIdeal : Cert.RecInDxIdeal.Facts] : Prop :=
  ∀ (m : (ℓ : Loc Cert.RecInDxIdeal.nD Cert.RecInDxIdeal.τ Cert.RecInDxIdeal.sig) → Buf (Elt Ideal) ℓ) (g : Dev Cert.RecInDxIdeal.nD → PrngReg), Pre_RecInDxIdeal m →
    θ_run (Cert.RecInDxIdeal.defs (F := Ideal)) (onTc (τ := Cert.RecInDxIdeal.τ) (Cert.RecInDxIdeal.main (F := Ideal))) ⟨m, fun _ => 0, g⟩ (fun r => (∀ c : Dev Cert.RecInDxIdeal.nD,
      r.2.mem ((c.tc : Thread Cert.RecInDxIdeal.nD Cert.RecInDxIdeal.τ).loc Cert.RecInDxIdeal.main_arg0) = m ((c.tc : Thread Cert.RecInDxIdeal.nD Cert.RecInDxIdeal.τ).loc Cert.RecInDxIdeal.main_arg0)
      ∧ r.2.mem ((c.tc : Thread Cert.RecInDxIdeal.nD Cert.RecInDxIdeal.τ).loc Cert.RecInDxIdeal.main_arg1) = m ((c.tc : Thread Cert.RecInDxIdeal.nD Cert.RecInDxIdeal.τ).loc Cert.RecInDxIdeal.main_arg1)
      ∧ r.2.mem ((c.tc : Thread Cert.RecInDxIdeal.nD Cert.RecInDxIdeal.τ).loc Cert.RecInDxIdeal.main_arg2) = m ((c.tc : Thread Cert.RecInDxIdeal.nD Cert.RecInDxIdeal.τ).loc Cert.RecInDxIdeal.main_arg2))
      ∧ r.2.sem = fun _ => 0)

def quiescent_RecInDxRefIdeal [hRecInDxRefIdeal : Cert.RecInDxRefIdeal.Facts] : Prop :=
  ∀ (m : (ℓ : Loc Cert.RecInDxRefIdeal.nD Cert.RecInDxRefIdeal.τ Cert.RecInDxRefIdeal.sig) → Buf (Elt Ideal) ℓ) (g : Dev Cert.RecInDxRefIdeal.nD → PrngReg), Pre_RecInDxRefIdeal m →
    θ_run (Cert.RecInDxRefIdeal.defs (F := Ideal)) (onTc (τ := Cert.RecInDxRefIdeal.τ) (Cert.RecInDxRefIdeal.main (F := Ideal))) ⟨m, fun _ => 0, g⟩ (fun r => (∀ c : Dev Cert.RecInDxRefIdeal.nD,
      r.2.mem ((c.tc : Thread Cert.RecInDxRefIdeal.nD Cert.RecInDxRefIdeal.τ).loc Cert.RecInDxRefIdeal.main_arg0) = m ((c.tc : Thread Cert.RecInDxRefIdeal.nD Cert.RecInDxRefIdeal.τ).loc Cert.RecInDxRefIdeal.main_arg0)
      ∧ r.2.mem ((c.tc : Thread Cert.RecInDxRefIdeal.nD Cert.RecInDxRefIdeal.τ).loc Cert.RecInDxRefIdeal.main_arg1) = m ((c.tc : Thread Cert.RecInDxRefIdeal.nD Cert.RecInDxRefIdeal.τ).loc Cert.RecInDxRefIdeal.main_arg1)
      ∧ r.2.mem ((c.tc : Thread Cert.RecInDxRefIdeal.nD Cert.RecInDxRefIdeal.τ).loc Cert.RecInDxRefIdeal.main_arg2) = m ((c.tc : Thread Cert.RecInDxRefIdeal.nD Cert.RecInDxRefIdeal.τ).loc Cert.RecInDxRefIdeal.main_arg2))
      ∧ r.2.sem = fun _ => 0)

def quiescent_RecInDw [hRecInDw : Cert.RecInDw.Facts] : Prop :=
  ∀ (m : (ℓ : Loc Cert.RecInDw.nD Cert.RecInDw.τ Cert.RecInDw.sig) → Buf (Elt Bits) ℓ) (g : Dev Cert.RecInDw.nD → PrngReg), Pre_RecInDw m →
    θ_run (Cert.RecInDw.defs (F := Bits)) (onTc (τ := Cert.RecInDw.τ) (Cert.RecInDw.main (F := Bits))) ⟨m, fun _ => 0, g⟩ (fun r => (∀ c : Dev Cert.RecInDw.nD,
      r.2.mem ((c.tc : Thread Cert.RecInDw.nD Cert.RecInDw.τ).loc Cert.RecInDw.main_arg0) = m ((c.tc : Thread Cert.RecInDw.nD Cert.RecInDw.τ).loc Cert.RecInDw.main_arg0)
      ∧ r.2.mem ((c.tc : Thread Cert.RecInDw.nD Cert.RecInDw.τ).loc Cert.RecInDw.main_arg1) = m ((c.tc : Thread Cert.RecInDw.nD Cert.RecInDw.τ).loc Cert.RecInDw.main_arg1))
      ∧ r.2.sem = fun _ => 0)

def quiescent_RecInDwIdeal [hRecInDwIdeal : Cert.RecInDwIdeal.Facts] : Prop :=
  ∀ (m : (ℓ : Loc Cert.RecInDwIdeal.nD Cert.RecInDwIdeal.τ Cert.RecInDwIdeal.sig) → Buf (Elt Ideal) ℓ) (g : Dev Cert.RecInDwIdeal.nD → PrngReg), Pre_RecInDwIdeal m →
    θ_run (Cert.RecInDwIdeal.defs (F := Ideal)) (onTc (τ := Cert.RecInDwIdeal.τ) (Cert.RecInDwIdeal.main (F := Ideal))) ⟨m, fun _ => 0, g⟩ (fun r => (∀ c : Dev Cert.RecInDwIdeal.nD,
      r.2.mem ((c.tc : Thread Cert.RecInDwIdeal.nD Cert.RecInDwIdeal.τ).loc Cert.RecInDwIdeal.main_arg0) = m ((c.tc : Thread Cert.RecInDwIdeal.nD Cert.RecInDwIdeal.τ).loc Cert.RecInDwIdeal.main_arg0)
      ∧ r.2.mem ((c.tc : Thread Cert.RecInDwIdeal.nD Cert.RecInDwIdeal.τ).loc Cert.RecInDwIdeal.main_arg1) = m ((c.tc : Thread Cert.RecInDwIdeal.nD Cert.RecInDwIdeal.τ).loc Cert.RecInDwIdeal.main_arg1))
      ∧ r.2.sem = fun _ => 0)

def quiescent_RecInDwRefIdeal [hRecInDwRefIdeal : Cert.RecInDwRefIdeal.Facts] : Prop :=
  ∀ (m : (ℓ : Loc Cert.RecInDwRefIdeal.nD Cert.RecInDwRefIdeal.τ Cert.RecInDwRefIdeal.sig) → Buf (Elt Ideal) ℓ) (g : Dev Cert.RecInDwRefIdeal.nD → PrngReg), Pre_RecInDwRefIdeal m →
    θ_run (Cert.RecInDwRefIdeal.defs (F := Ideal)) (onTc (τ := Cert.RecInDwRefIdeal.τ) (Cert.RecInDwRefIdeal.main (F := Ideal))) ⟨m, fun _ => 0, g⟩ (fun r => (∀ c : Dev Cert.RecInDwRefIdeal.nD,
      r.2.mem ((c.tc : Thread Cert.RecInDwRefIdeal.nD Cert.RecInDwRefIdeal.τ).loc Cert.RecInDwRefIdeal.main_arg0) = m ((c.tc : Thread Cert.RecInDwRefIdeal.nD Cert.RecInDwRefIdeal.τ).loc Cert.RecInDwRefIdeal.main_arg0)
      ∧ r.2.mem ((c.tc : Thread Cert.RecInDwRefIdeal.nD Cert.RecInDwRefIdeal.τ).loc Cert.RecInDwRefIdeal.main_arg1) = m ((c.tc : Thread Cert.RecInDwRefIdeal.nD Cert.RecInDwRefIdeal.τ).loc Cert.RecInDwRefIdeal.main_arg1))
      ∧ r.2.sem = fun _ => 0)

def quiescent_RecIn [hRecIn : Cert.RecIn.Facts] : Prop :=
  ∀ (m : (ℓ : Loc Cert.RecIn.nD Cert.RecIn.τ Cert.RecIn.sig) → Buf (Elt Bits) ℓ) (g : Dev Cert.RecIn.nD → PrngReg), Pre_RecIn m →
    θ_run (Cert.RecIn.defs (F := Bits)) (onTc (τ := Cert.RecIn.τ) (Cert.RecIn.main (F := Bits))) ⟨m, fun _ => 0, g⟩ (fun r => (∀ c : Dev Cert.RecIn.nD,
      r.2.mem ((c.tc : Thread Cert.RecIn.nD Cert.RecIn.τ).loc Cert.RecIn.main_arg0) = m ((c.tc : Thread Cert.RecIn.nD Cert.RecIn.τ).loc Cert.RecIn.main_arg0)
      ∧ r.2.mem ((c.tc : Thread Cert.RecIn.nD Cert.RecIn.τ).loc Cert.RecIn.main_arg1) = m ((c.tc : Thread Cert.RecIn.nD Cert.RecIn.τ).loc Cert.RecIn.main_arg1))
      ∧ r.2.sem = fun _ => 0)

def quiescent_RecInIdeal [hRecInIdeal : Cert.RecInIdeal.Facts] : Prop :=
  ∀ (m : (ℓ : Loc Cert.RecInIdeal.nD Cert.RecInIdeal.τ Cert.RecInIdeal.sig) → Buf (Elt Ideal) ℓ) (g : Dev Cert.RecInIdeal.nD → PrngReg), Pre_RecInIdeal m →
    θ_run (Cert.RecInIdeal.defs (F := Ideal)) (onTc (τ := Cert.RecInIdeal.τ) (Cert.RecInIdeal.main (F := Ideal))) ⟨m, fun _ => 0, g⟩ (fun r => (∀ c : Dev Cert.RecInIdeal.nD,
      r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
      ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ r.2.sem = fun _ => 0)

def quiescent_RecInRefIdeal [hRecInRefIdeal : Cert.RecInRefIdeal.Facts] : Prop :=
  ∀ (m : (ℓ : Loc Cert.RecInRefIdeal.nD Cert.RecInRefIdeal.τ Cert.RecInRefIdeal.sig) → Buf (Elt Ideal) ℓ) (g : Dev Cert.RecInRefIdeal.nD → PrngReg), Pre_RecInRefIdeal m →
    θ_run (Cert.RecInRefIdeal.defs (F := Ideal)) (onTc (τ := Cert.RecInRefIdeal.τ) (Cert.RecInRefIdeal.main (F := Ideal))) ⟨m, fun _ => 0, g⟩ (fun r => (∀ c : Dev Cert.RecInRefIdeal.nD,
      r.2.mem ((c.tc : Thread Cert.RecInRefIdeal.nD Cert.RecInRefIdeal.τ).loc Cert.RecInRefIdeal.main_arg0) = m ((c.tc : Thread Cert.RecInRefIdeal.nD Cert.RecInRefIdeal.τ).loc Cert.RecInRefIdeal.main_arg0)
      ∧ r.2.mem ((c.tc : Thread Cert.RecInRefIdeal.nD Cert.RecInRefIdeal.τ).loc Cert.RecInRefIdeal.main_arg1) = m ((c.tc : Thread Cert.RecInRefIdeal.nD Cert.RecInRefIdeal.τ).loc Cert.RecInRefIdeal.main_arg1))
      ∧ r.2.sem = fun _ => 0)

def quiescent_PoolMixDx [hPoolMixDx : Cert.PoolMixDx.Facts] : Prop :=
  ∀ (m : (ℓ : Loc Cert.PoolMixDx.nD Cert.PoolMixDx.τ Cert.PoolMixDx.sig) → Buf (Elt Bits) ℓ) (g : Dev Cert.PoolMixDx.nD → PrngReg), Pre_PoolMixDx m →
    θ_run (Cert.PoolMixDx.defs (F := Bits)) (onTc (τ := Cert.PoolMixDx.τ) (Cert.PoolMixDx.main (F := Bits))) ⟨m, fun _ => 0, g⟩ (fun r => (∀ c : Dev Cert.PoolMixDx.nD,
      r.2.mem ((c.tc : Thread Cert.PoolMixDx.nD Cert.PoolMixDx.τ).loc Cert.PoolMixDx.main_arg0) = m ((c.tc : Thread Cert.PoolMixDx.nD Cert.PoolMixDx.τ).loc Cert.PoolMixDx.main_arg0)
      ∧ r.2.mem ((c.tc : Thread Cert.PoolMixDx.nD Cert.PoolMixDx.τ).loc Cert.PoolMixDx.main_arg1) = m ((c.tc : Thread Cert.PoolMixDx.nD Cert.PoolMixDx.τ).loc Cert.PoolMixDx.main_arg1))
      ∧ r.2.sem = fun _ => 0)

def quiescent_PoolMixDxIdeal [hPoolMixDxIdeal : Cert.PoolMixDxIdeal.Facts] : Prop :=
  ∀ (m : (ℓ : Loc Cert.PoolMixDxIdeal.nD Cert.PoolMixDxIdeal.τ Cert.PoolMixDxIdeal.sig) → Buf (Elt Ideal) ℓ) (g : Dev Cert.PoolMixDxIdeal.nD → PrngReg), Pre_PoolMixDxIdeal m →
    θ_run (Cert.PoolMixDxIdeal.defs (F := Ideal)) (onTc (τ := Cert.PoolMixDxIdeal.τ) (Cert.PoolMixDxIdeal.main (F := Ideal))) ⟨m, fun _ => 0, g⟩ (fun r => (∀ c : Dev Cert.PoolMixDxIdeal.nD,
      r.2.mem ((c.tc : Thread Cert.PoolMixDxIdeal.nD Cert.PoolMixDxIdeal.τ).loc Cert.PoolMixDxIdeal.main_arg0) = m ((c.tc : Thread Cert.PoolMixDxIdeal.nD Cert.PoolMixDxIdeal.τ).loc Cert.PoolMixDxIdeal.main_arg0)
      ∧ r.2.mem ((c.tc : Thread Cert.PoolMixDxIdeal.nD Cert.PoolMixDxIdeal.τ).loc Cert.PoolMixDxIdeal.main_arg1) = m ((c.tc : Thread Cert.PoolMixDxIdeal.nD Cert.PoolMixDxIdeal.τ).loc Cert.PoolMixDxIdeal.main_arg1))
      ∧ r.2.sem = fun _ => 0)

def quiescent_PoolMixDxRefIdeal [hPoolMixDxRefIdeal : Cert.PoolMixDxRefIdeal.Facts] : Prop :=
  ∀ (m : (ℓ : Loc Cert.PoolMixDxRefIdeal.nD Cert.PoolMixDxRefIdeal.τ Cert.PoolMixDxRefIdeal.sig) → Buf (Elt Ideal) ℓ) (g : Dev Cert.PoolMixDxRefIdeal.nD → PrngReg), Pre_PoolMixDxRefIdeal m →
    θ_run (Cert.PoolMixDxRefIdeal.defs (F := Ideal)) (onTc (τ := Cert.PoolMixDxRefIdeal.τ) (Cert.PoolMixDxRefIdeal.main (F := Ideal))) ⟨m, fun _ => 0, g⟩ (fun r => (∀ c : Dev Cert.PoolMixDxRefIdeal.nD,
      r.2.mem ((c.tc : Thread Cert.PoolMixDxRefIdeal.nD Cert.PoolMixDxRefIdeal.τ).loc Cert.PoolMixDxRefIdeal.main_arg0) = m ((c.tc : Thread Cert.PoolMixDxRefIdeal.nD Cert.PoolMixDxRefIdeal.τ).loc Cert.PoolMixDxRefIdeal.main_arg0)
      ∧ r.2.mem ((c.tc : Thread Cert.PoolMixDxRefIdeal.nD Cert.PoolMixDxRefIdeal.τ).loc Cert.PoolMixDxRefIdeal.main_arg1) = m ((c.tc : Thread Cert.PoolMixDxRefIdeal.nD Cert.PoolMixDxRefIdeal.τ).loc Cert.PoolMixDxRefIdeal.main_arg1))
      ∧ r.2.sem = fun _ => 0)

def quiescent_PoolMixDw [hPoolMixDw : Cert.PoolMixDw.Facts] : Prop :=
  ∀ (m : (ℓ : Loc Cert.PoolMixDw.nD Cert.PoolMixDw.τ Cert.PoolMixDw.sig) → Buf (Elt Bits) ℓ) (g : Dev Cert.PoolMixDw.nD → PrngReg), Pre_PoolMixDw m →
    θ_run (Cert.PoolMixDw.defs (F := Bits)) (onTc (τ := Cert.PoolMixDw.τ) (Cert.PoolMixDw.main (F := Bits))) ⟨m, fun _ => 0, g⟩ (fun r => (∀ c : Dev Cert.PoolMixDw.nD,
      r.2.mem ((c.tc : Thread Cert.PoolMixDw.nD Cert.PoolMixDw.τ).loc Cert.PoolMixDw.main_arg0) = m ((c.tc : Thread Cert.PoolMixDw.nD Cert.PoolMixDw.τ).loc Cert.PoolMixDw.main_arg0)
      ∧ r.2.mem ((c.tc : Thread Cert.PoolMixDw.nD Cert.PoolMixDw.τ).loc Cert.PoolMixDw.main_arg1) = m ((c.tc : Thread Cert.PoolMixDw.nD Cert.PoolMixDw.τ).loc Cert.PoolMixDw.main_arg1))
      ∧ r.2.sem = fun _ => 0)

def quiescent_PoolMixDwIdeal [hPoolMixDwIdeal : Cert.PoolMixDwIdeal.Facts] : Prop :=
  ∀ (m : (ℓ : Loc Cert.PoolMixDwIdeal.nD Cert.PoolMixDwIdeal.τ Cert.PoolMixDwIdeal.sig) → Buf (Elt Ideal) ℓ) (g : Dev Cert.PoolMixDwIdeal.nD → PrngReg), Pre_PoolMixDwIdeal m →
    θ_run (Cert.PoolMixDwIdeal.defs (F := Ideal)) (onTc (τ := Cert.PoolMixDwIdeal.τ) (Cert.PoolMixDwIdeal.main (F := Ideal))) ⟨m, fun _ => 0, g⟩ (fun r => (∀ c : Dev Cert.PoolMixDwIdeal.nD,
      r.2.mem ((c.tc : Thread Cert.PoolMixDwIdeal.nD Cert.PoolMixDwIdeal.τ).loc Cert.PoolMixDwIdeal.main_arg0) = m ((c.tc : Thread Cert.PoolMixDwIdeal.nD Cert.PoolMixDwIdeal.τ).loc Cert.PoolMixDwIdeal.main_arg0)
      ∧ r.2.mem ((c.tc : Thread Cert.PoolMixDwIdeal.nD Cert.PoolMixDwIdeal.τ).loc Cert.PoolMixDwIdeal.main_arg1) = m ((c.tc : Thread Cert.PoolMixDwIdeal.nD Cert.PoolMixDwIdeal.τ).loc Cert.PoolMixDwIdeal.main_arg1))
      ∧ r.2.sem = fun _ => 0)

def quiescent_PoolMixDwRefIdeal [hPoolMixDwRefIdeal : Cert.PoolMixDwRefIdeal.Facts] : Prop :=
  ∀ (m : (ℓ : Loc Cert.PoolMixDwRefIdeal.nD Cert.PoolMixDwRefIdeal.τ Cert.PoolMixDwRefIdeal.sig) → Buf (Elt Ideal) ℓ) (g : Dev Cert.PoolMixDwRefIdeal.nD → PrngReg), Pre_PoolMixDwRefIdeal m →
    θ_run (Cert.PoolMixDwRefIdeal.defs (F := Ideal)) (onTc (τ := Cert.PoolMixDwRefIdeal.τ) (Cert.PoolMixDwRefIdeal.main (F := Ideal))) ⟨m, fun _ => 0, g⟩ (fun r => (∀ c : Dev Cert.PoolMixDwRefIdeal.nD,
      r.2.mem ((c.tc : Thread Cert.PoolMixDwRefIdeal.nD Cert.PoolMixDwRefIdeal.τ).loc Cert.PoolMixDwRefIdeal.main_arg0) = m ((c.tc : Thread Cert.PoolMixDwRefIdeal.nD Cert.PoolMixDwRefIdeal.τ).loc Cert.PoolMixDwRefIdeal.main_arg0)
      ∧ r.2.mem ((c.tc : Thread Cert.PoolMixDwRefIdeal.nD Cert.PoolMixDwRefIdeal.τ).loc Cert.PoolMixDwRefIdeal.main_arg1) = m ((c.tc : Thread Cert.PoolMixDwRefIdeal.nD Cert.PoolMixDwRefIdeal.τ).loc Cert.PoolMixDwRefIdeal.main_arg1))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1))
      ∧ r.2.sem = fun _ => 0)

def quiescent_PoolMixRefIdeal [hPoolMixRefIdeal : Cert.PoolMixRefIdeal.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1))
      ∧ r.2.sem = fun _ => 0)

def quiescent_RecGateDx [hRecGateDx : Cert.RecGateDx.Facts] : Prop :=
  ∀ (m : (ℓ : Loc Cert.RecGateDx.nD Cert.RecGateDx.τ Cert.RecGateDx.sig) → Buf (Elt Bits) ℓ) (g : Dev Cert.RecGateDx.nD → PrngReg), Pre_RecGateDx m →
    θ_run (Cert.RecGateDx.defs (F := Bits)) (onTc (τ := Cert.RecGateDx.τ) (Cert.RecGateDx.main (F := Bits))) ⟨m, fun _ => 0, g⟩ (fun r => (∀ c : Dev Cert.RecGateDx.nD,
      r.2.mem ((c.tc : Thread Cert.RecGateDx.nD Cert.RecGateDx.τ).loc Cert.RecGateDx.main_arg0) = m ((c.tc : Thread Cert.RecGateDx.nD Cert.RecGateDx.τ).loc Cert.RecGateDx.main_arg0)
      ∧ r.2.mem ((c.tc : Thread Cert.RecGateDx.nD Cert.RecGateDx.τ).loc Cert.RecGateDx.main_arg1) = m ((c.tc : Thread Cert.RecGateDx.nD Cert.RecGateDx.τ).loc Cert.RecGateDx.main_arg1))
      ∧ r.2.sem = fun _ => 0)

def quiescent_RecGateDxIdeal [hRecGateDxIdeal : Cert.RecGateDxIdeal.Facts] : Prop :=
  ∀ (m : (ℓ : Loc Cert.RecGateDxIdeal.nD Cert.RecGateDxIdeal.τ Cert.RecGateDxIdeal.sig) → Buf (Elt Ideal) ℓ) (g : Dev Cert.RecGateDxIdeal.nD → PrngReg), Pre_RecGateDxIdeal m →
    θ_run (Cert.RecGateDxIdeal.defs (F := Ideal)) (onTc (τ := Cert.RecGateDxIdeal.τ) (Cert.RecGateDxIdeal.main (F := Ideal))) ⟨m, fun _ => 0, g⟩ (fun r => (∀ c : Dev Cert.RecGateDxIdeal.nD,
      r.2.mem ((c.tc : Thread Cert.RecGateDxIdeal.nD Cert.RecGateDxIdeal.τ).loc Cert.RecGateDxIdeal.main_arg0) = m ((c.tc : Thread Cert.RecGateDxIdeal.nD Cert.RecGateDxIdeal.τ).loc Cert.RecGateDxIdeal.main_arg0)
      ∧ r.2.mem ((c.tc : Thread Cert.RecGateDxIdeal.nD Cert.RecGateDxIdeal.τ).loc Cert.RecGateDxIdeal.main_arg1) = m ((c.tc : Thread Cert.RecGateDxIdeal.nD Cert.RecGateDxIdeal.τ).loc Cert.RecGateDxIdeal.main_arg1))
      ∧ r.2.sem = fun _ => 0)

def quiescent_RecGateDxRefIdeal [hRecGateDxRefIdeal : Cert.RecGateDxRefIdeal.Facts] : Prop :=
  ∀ (m : (ℓ : Loc Cert.RecGateDxRefIdeal.nD Cert.RecGateDxRefIdeal.τ Cert.RecGateDxRefIdeal.sig) → Buf (Elt Ideal) ℓ) (g : Dev Cert.RecGateDxRefIdeal.nD → PrngReg), Pre_RecGateDxRefIdeal m →
    θ_run (Cert.RecGateDxRefIdeal.defs (F := Ideal)) (onTc (τ := Cert.RecGateDxRefIdeal.τ) (Cert.RecGateDxRefIdeal.main (F := Ideal))) ⟨m, fun _ => 0, g⟩ (fun r => (∀ c : Dev Cert.RecGateDxRefIdeal.nD,
      r.2.mem ((c.tc : Thread Cert.RecGateDxRefIdeal.nD Cert.RecGateDxRefIdeal.τ).loc Cert.RecGateDxRefIdeal.main_arg0) = m ((c.tc : Thread Cert.RecGateDxRefIdeal.nD Cert.RecGateDxRefIdeal.τ).loc Cert.RecGateDxRefIdeal.main_arg0)
      ∧ r.2.mem ((c.tc : Thread Cert.RecGateDxRefIdeal.nD Cert.RecGateDxRefIdeal.τ).loc Cert.RecGateDxRefIdeal.main_arg1) = m ((c.tc : Thread Cert.RecGateDxRefIdeal.nD Cert.RecGateDxRefIdeal.τ).loc Cert.RecGateDxRefIdeal.main_arg1))
      ∧ r.2.sem = fun _ => 0)

def quiescent_RecGateDxAdd [hRecGateDxAdd : Cert.RecGateDxAdd.Facts] : Prop :=
  ∀ (m : (ℓ : Loc Cert.RecGateDxAdd.nD Cert.RecGateDxAdd.τ Cert.RecGateDxAdd.sig) → Buf (Elt Bits) ℓ) (g : Dev Cert.RecGateDxAdd.nD → PrngReg), Pre_RecGateDxAdd m →
    θ_run (Cert.RecGateDxAdd.defs (F := Bits)) (onTc (τ := Cert.RecGateDxAdd.τ) (Cert.RecGateDxAdd.main (F := Bits))) ⟨m, fun _ => 0, g⟩ (fun r => (∀ c : Dev Cert.RecGateDxAdd.nD,
      r.2.mem ((c.tc : Thread Cert.RecGateDxAdd.nD Cert.RecGateDxAdd.τ).loc Cert.RecGateDxAdd.main_arg0) = m ((c.tc : Thread Cert.RecGateDxAdd.nD Cert.RecGateDxAdd.τ).loc Cert.RecGateDxAdd.main_arg0)
      ∧ r.2.mem ((c.tc : Thread Cert.RecGateDxAdd.nD Cert.RecGateDxAdd.τ).loc Cert.RecGateDxAdd.main_arg1) = m ((c.tc : Thread Cert.RecGateDxAdd.nD Cert.RecGateDxAdd.τ).loc Cert.RecGateDxAdd.main_arg1)
      ∧ r.2.mem ((c.tc : Thread Cert.RecGateDxAdd.nD Cert.RecGateDxAdd.τ).loc Cert.RecGateDxAdd.main_arg2) = m ((c.tc : Thread Cert.RecGateDxAdd.nD Cert.RecGateDxAdd.τ).loc Cert.RecGateDxAdd.main_arg2))
      ∧ r.2.sem = fun _ => 0)

def quiescent_RecGateDxAddIdeal [hRecGateDxAddIdeal : Cert.RecGateDxAddIdeal.Facts] : Prop :=
  ∀ (m : (ℓ : Loc Cert.RecGateDxAddIdeal.nD Cert.RecGateDxAddIdeal.τ Cert.RecGateDxAddIdeal.sig) → Buf (Elt Ideal) ℓ) (g : Dev Cert.RecGateDxAddIdeal.nD → PrngReg), Pre_RecGateDxAddIdeal m →
    θ_run (Cert.RecGateDxAddIdeal.defs (F := Ideal)) (onTc (τ := Cert.RecGateDxAddIdeal.τ) (Cert.RecGateDxAddIdeal.main (F := Ideal))) ⟨m, fun _ => 0, g⟩ (fun r => (∀ c : Dev Cert.RecGateDxAddIdeal.nD,
      r.2.mem ((c.tc : Thread Cert.RecGateDxAddIdeal.nD Cert.RecGateDxAddIdeal.τ).loc Cert.RecGateDxAddIdeal.main_arg0) = m ((c.tc : Thread Cert.RecGateDxAddIdeal.nD Cert.RecGateDxAddIdeal.τ).loc Cert.RecGateDxAddIdeal.main_arg0)
      ∧ r.2.mem ((c.tc : Thread Cert.RecGateDxAddIdeal.nD Cert.RecGateDxAddIdeal.τ).loc Cert.RecGateDxAddIdeal.main_arg1) = m ((c.tc : Thread Cert.RecGateDxAddIdeal.nD Cert.RecGateDxAddIdeal.τ).loc Cert.RecGateDxAddIdeal.main_arg1)
      ∧ r.2.mem ((c.tc : Thread Cert.RecGateDxAddIdeal.nD Cert.RecGateDxAddIdeal.τ).loc Cert.RecGateDxAddIdeal.main_arg2) = m ((c.tc : Thread Cert.RecGateDxAddIdeal.nD Cert.RecGateDxAddIdeal.τ).loc Cert.RecGateDxAddIdeal.main_arg2))
      ∧ r.2.sem = fun _ => 0)

def quiescent_RecGateDxAddRefIdeal [hRecGateDxAddRefIdeal : Cert.RecGateDxAddRefIdeal.Facts] : Prop :=
  ∀ (m : (ℓ : Loc Cert.RecGateDxAddRefIdeal.nD Cert.RecGateDxAddRefIdeal.τ Cert.RecGateDxAddRefIdeal.sig) → Buf (Elt Ideal) ℓ) (g : Dev Cert.RecGateDxAddRefIdeal.nD → PrngReg), Pre_RecGateDxAddRefIdeal m →
    θ_run (Cert.RecGateDxAddRefIdeal.defs (F := Ideal)) (onTc (τ := Cert.RecGateDxAddRefIdeal.τ) (Cert.RecGateDxAddRefIdeal.main (F := Ideal))) ⟨m, fun _ => 0, g⟩ (fun r => (∀ c : Dev Cert.RecGateDxAddRefIdeal.nD,
      r.2.mem ((c.tc : Thread Cert.RecGateDxAddRefIdeal.nD Cert.RecGateDxAddRefIdeal.τ).loc Cert.RecGateDxAddRefIdeal.main_arg0) = m ((c.tc : Thread Cert.RecGateDxAddRefIdeal.nD Cert.RecGateDxAddRefIdeal.τ).loc Cert.RecGateDxAddRefIdeal.main_arg0)
      ∧ r.2.mem ((c.tc : Thread Cert.RecGateDxAddRefIdeal.nD Cert.RecGateDxAddRefIdeal.τ).loc Cert.RecGateDxAddRefIdeal.main_arg1) = m ((c.tc : Thread Cert.RecGateDxAddRefIdeal.nD Cert.RecGateDxAddRefIdeal.τ).loc Cert.RecGateDxAddRefIdeal.main_arg1)
      ∧ r.2.mem ((c.tc : Thread Cert.RecGateDxAddRefIdeal.nD Cert.RecGateDxAddRefIdeal.τ).loc Cert.RecGateDxAddRefIdeal.main_arg2) = m ((c.tc : Thread Cert.RecGateDxAddRefIdeal.nD Cert.RecGateDxAddRefIdeal.τ).loc Cert.RecGateDxAddRefIdeal.main_arg2))
      ∧ r.2.sem = fun _ => 0)

def quiescent_RecGateDw [hRecGateDw : Cert.RecGateDw.Facts] : Prop :=
  ∀ (m : (ℓ : Loc Cert.RecGateDw.nD Cert.RecGateDw.τ Cert.RecGateDw.sig) → Buf (Elt Bits) ℓ) (g : Dev Cert.RecGateDw.nD → PrngReg), Pre_RecGateDw m →
    θ_run (Cert.RecGateDw.defs (F := Bits)) (onTc (τ := Cert.RecGateDw.τ) (Cert.RecGateDw.main (F := Bits))) ⟨m, fun _ => 0, g⟩ (fun r => (∀ c : Dev Cert.RecGateDw.nD,
      r.2.mem ((c.tc : Thread Cert.RecGateDw.nD Cert.RecGateDw.τ).loc Cert.RecGateDw.main_arg0) = m ((c.tc : Thread Cert.RecGateDw.nD Cert.RecGateDw.τ).loc Cert.RecGateDw.main_arg0)
      ∧ r.2.mem ((c.tc : Thread Cert.RecGateDw.nD Cert.RecGateDw.τ).loc Cert.RecGateDw.main_arg1) = m ((c.tc : Thread Cert.RecGateDw.nD Cert.RecGateDw.τ).loc Cert.RecGateDw.main_arg1))
      ∧ r.2.sem = fun _ => 0)

def quiescent_RecGateDwIdeal [hRecGateDwIdeal : Cert.RecGateDwIdeal.Facts] : Prop :=
  ∀ (m : (ℓ : Loc Cert.RecGateDwIdeal.nD Cert.RecGateDwIdeal.τ Cert.RecGateDwIdeal.sig) → Buf (Elt Ideal) ℓ) (g : Dev Cert.RecGateDwIdeal.nD → PrngReg), Pre_RecGateDwIdeal m →
    θ_run (Cert.RecGateDwIdeal.defs (F := Ideal)) (onTc (τ := Cert.RecGateDwIdeal.τ) (Cert.RecGateDwIdeal.main (F := Ideal))) ⟨m, fun _ => 0, g⟩ (fun r => (∀ c : Dev Cert.RecGateDwIdeal.nD,
      r.2.mem ((c.tc : Thread Cert.RecGateDwIdeal.nD Cert.RecGateDwIdeal.τ).loc Cert.RecGateDwIdeal.main_arg0) = m ((c.tc : Thread Cert.RecGateDwIdeal.nD Cert.RecGateDwIdeal.τ).loc Cert.RecGateDwIdeal.main_arg0)
      ∧ r.2.mem ((c.tc : Thread Cert.RecGateDwIdeal.nD Cert.RecGateDwIdeal.τ).loc Cert.RecGateDwIdeal.main_arg1) = m ((c.tc : Thread Cert.RecGateDwIdeal.nD Cert.RecGateDwIdeal.τ).loc Cert.RecGateDwIdeal.main_arg1))
      ∧ r.2.sem = fun _ => 0)

def quiescent_RecGateDwRefIdeal [hRecGateDwRefIdeal : Cert.RecGateDwRefIdeal.Facts] : Prop :=
  ∀ (m : (ℓ : Loc Cert.RecGateDwRefIdeal.nD Cert.RecGateDwRefIdeal.τ Cert.RecGateDwRefIdeal.sig) → Buf (Elt Ideal) ℓ) (g : Dev Cert.RecGateDwRefIdeal.nD → PrngReg), Pre_RecGateDwRefIdeal m →
    θ_run (Cert.RecGateDwRefIdeal.defs (F := Ideal)) (onTc (τ := Cert.RecGateDwRefIdeal.τ) (Cert.RecGateDwRefIdeal.main (F := Ideal))) ⟨m, fun _ => 0, g⟩ (fun r => (∀ c : Dev Cert.RecGateDwRefIdeal.nD,
      r.2.mem ((c.tc : Thread Cert.RecGateDwRefIdeal.nD Cert.RecGateDwRefIdeal.τ).loc Cert.RecGateDwRefIdeal.main_arg0) = m ((c.tc : Thread Cert.RecGateDwRefIdeal.nD Cert.RecGateDwRefIdeal.τ).loc Cert.RecGateDwRefIdeal.main_arg0)
      ∧ r.2.mem ((c.tc : Thread Cert.RecGateDwRefIdeal.nD Cert.RecGateDwRefIdeal.τ).loc Cert.RecGateDwRefIdeal.main_arg1) = m ((c.tc : Thread Cert.RecGateDwRefIdeal.nD Cert.RecGateDwRefIdeal.τ).loc Cert.RecGateDwRefIdeal.main_arg1))
      ∧ r.2.sem = fun _ => 0)

def quiescent_RecGate [hRecGate : Cert.RecGate.Facts] : Prop :=
  ∀ (m : (ℓ : Loc Cert.RecGate.nD Cert.RecGate.τ Cert.RecGate.sig) → Buf (Elt Bits) ℓ) (g : Dev Cert.RecGate.nD → PrngReg), Pre_RecGate m →
    θ_run (Cert.RecGate.defs (F := Bits)) (onTc (τ := Cert.RecGate.τ) (Cert.RecGate.main (F := Bits))) ⟨m, fun _ => 0, g⟩ (fun r => (∀ c : Dev Cert.RecGate.nD,
      r.2.mem ((c.tc : Thread Cert.RecGate.nD Cert.RecGate.τ).loc Cert.RecGate.main_arg0) = m ((c.tc : Thread Cert.RecGate.nD Cert.RecGate.τ).loc Cert.RecGate.main_arg0)
      ∧ r.2.mem ((c.tc : Thread Cert.RecGate.nD Cert.RecGate.τ).loc Cert.RecGate.main_arg1) = m ((c.tc : Thread Cert.RecGate.nD Cert.RecGate.τ).loc Cert.RecGate.main_arg1))
      ∧ r.2.sem = fun _ => 0)

def quiescent_RecGateIdeal [hRecGateIdeal : Cert.RecGateIdeal.Facts] : Prop :=
  ∀ (m : (ℓ : Loc Cert.RecGateIdeal.nD Cert.RecGateIdeal.τ Cert.RecGateIdeal.sig) → Buf (Elt Ideal) ℓ) (g : Dev Cert.RecGateIdeal.nD → PrngReg), Pre_RecGateIdeal m →
    θ_run (Cert.RecGateIdeal.defs (F := Ideal)) (onTc (τ := Cert.RecGateIdeal.τ) (Cert.RecGateIdeal.main (F := Ideal))) ⟨m, fun _ => 0, g⟩ (fun r => (∀ c : Dev Cert.RecGateIdeal.nD,
      r.2.mem ((c.tc : Thread Cert.RecGateIdeal.nD Cert.RecGateIdeal.τ).loc Cert.RecGateIdeal.main_arg0) = m ((c.tc : Thread Cert.RecGateIdeal.nD Cert.RecGateIdeal.τ).loc Cert.RecGateIdeal.main_arg0)
      ∧ r.2.mem ((c.tc : Thread Cert.RecGateIdeal.nD Cert.RecGateIdeal.τ).loc Cert.RecGateIdeal.main_arg1) = m ((c.tc : Thread Cert.RecGateIdeal.nD Cert.RecGateIdeal.τ).loc Cert.RecGateIdeal.main_arg1))
      ∧ r.2.sem = fun _ => 0)

def quiescent_RecGateRefIdeal [hRecGateRefIdeal : Cert.RecGateRefIdeal.Facts] : Prop :=
  ∀ (m : (ℓ : Loc Cert.RecGateRefIdeal.nD Cert.RecGateRefIdeal.τ Cert.RecGateRefIdeal.sig) → Buf (Elt Ideal) ℓ) (g : Dev Cert.RecGateRefIdeal.nD → PrngReg), Pre_RecGateRefIdeal m →
    θ_run (Cert.RecGateRefIdeal.defs (F := Ideal)) (onTc (τ := Cert.RecGateRefIdeal.τ) (Cert.RecGateRefIdeal.main (F := Ideal))) ⟨m, fun _ => 0, g⟩ (fun r => (∀ c : Dev Cert.RecGateRefIdeal.nD,
      r.2.mem ((c.tc : Thread Cert.RecGateRefIdeal.nD Cert.RecGateRefIdeal.τ).loc Cert.RecGateRefIdeal.main_arg0) = m ((c.tc : Thread Cert.RecGateRefIdeal.nD Cert.RecGateRefIdeal.τ).loc Cert.RecGateRefIdeal.main_arg0)
      ∧ r.2.mem ((c.tc : Thread Cert.RecGateRefIdeal.nD Cert.RecGateRefIdeal.τ).loc Cert.RecGateRefIdeal.main_arg1) = m ((c.tc : Thread Cert.RecGateRefIdeal.nD Cert.RecGateRefIdeal.τ).loc Cert.RecGateRefIdeal.main_arg1))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_LnScaled [hLnScaled : Cert.LnScaled.Facts] : Prop :=
  ∀ (m : (ℓ : Loc Cert.LnScaled.nD Cert.LnScaled.τ Cert.LnScaled.sig) → Buf (Elt Bits) ℓ) (g : Dev Cert.LnScaled.nD → PrngReg), Pre_LnScaled m →
    θ_run (Cert.LnScaled.defs (F := Bits)) (onTc (τ := Cert.LnScaled.τ) (Cert.LnScaled.main (F := Bits))) ⟨m, fun _ => 0, g⟩ (fun r => (∀ c : Dev Cert.LnScaled.nD,
      r.2.mem ((c.tc : Thread Cert.LnScaled.nD Cert.LnScaled.τ).loc Cert.LnScaled.main_arg0) = m ((c.tc : Thread Cert.LnScaled.nD Cert.LnScaled.τ).loc Cert.LnScaled.main_arg0)
      ∧ r.2.mem ((c.tc : Thread Cert.LnScaled.nD Cert.LnScaled.τ).loc Cert.LnScaled.main_arg1) = m ((c.tc : Thread Cert.LnScaled.nD Cert.LnScaled.τ).loc Cert.LnScaled.main_arg1)
      ∧ r.2.mem ((c.tc : Thread Cert.LnScaled.nD Cert.LnScaled.τ).loc Cert.LnScaled.main_arg2) = m ((c.tc : Thread Cert.LnScaled.nD Cert.LnScaled.τ).loc Cert.LnScaled.main_arg2)
      ∧ r.2.mem ((c.tc : Thread Cert.LnScaled.nD Cert.LnScaled.τ).loc Cert.LnScaled.main_arg3) = m ((c.tc : Thread Cert.LnScaled.nD Cert.LnScaled.τ).loc Cert.LnScaled.main_arg3)
      ∧ r.2.mem ((c.tc : Thread Cert.LnScaled.nD Cert.LnScaled.τ).loc Cert.LnScaled.main_arg4) = m ((c.tc : Thread Cert.LnScaled.nD Cert.LnScaled.τ).loc Cert.LnScaled.main_arg4))
      ∧ r.2.sem = fun _ => 0)

def quiescent_LnScaledIdeal [hLnScaledIdeal : Cert.LnScaledIdeal.Facts] : Prop :=
  ∀ (m : (ℓ : Loc Cert.LnScaledIdeal.nD Cert.LnScaledIdeal.τ Cert.LnScaledIdeal.sig) → Buf (Elt Ideal) ℓ) (g : Dev Cert.LnScaledIdeal.nD → PrngReg), Pre_LnScaledIdeal m →
    θ_run (Cert.LnScaledIdeal.defs (F := Ideal)) (onTc (τ := Cert.LnScaledIdeal.τ) (Cert.LnScaledIdeal.main (F := Ideal))) ⟨m, fun _ => 0, g⟩ (fun r => (∀ c : Dev Cert.LnScaledIdeal.nD,
      r.2.mem ((c.tc : Thread Cert.LnScaledIdeal.nD Cert.LnScaledIdeal.τ).loc Cert.LnScaledIdeal.main_arg0) = m ((c.tc : Thread Cert.LnScaledIdeal.nD Cert.LnScaledIdeal.τ).loc Cert.LnScaledIdeal.main_arg0)
      ∧ r.2.mem ((c.tc : Thread Cert.LnScaledIdeal.nD Cert.LnScaledIdeal.τ).loc Cert.LnScaledIdeal.main_arg1) = m ((c.tc : Thread Cert.LnScaledIdeal.nD Cert.LnScaledIdeal.τ).loc Cert.LnScaledIdeal.main_arg1)
      ∧ r.2.mem ((c.tc : Thread Cert.LnScaledIdeal.nD Cert.LnScaledIdeal.τ).loc Cert.LnScaledIdeal.main_arg2) = m ((c.tc : Thread Cert.LnScaledIdeal.nD Cert.LnScaledIdeal.τ).loc Cert.LnScaledIdeal.main_arg2)
      ∧ r.2.mem ((c.tc : Thread Cert.LnScaledIdeal.nD Cert.LnScaledIdeal.τ).loc Cert.LnScaledIdeal.main_arg3) = m ((c.tc : Thread Cert.LnScaledIdeal.nD Cert.LnScaledIdeal.τ).loc Cert.LnScaledIdeal.main_arg3)
      ∧ r.2.mem ((c.tc : Thread Cert.LnScaledIdeal.nD Cert.LnScaledIdeal.τ).loc Cert.LnScaledIdeal.main_arg4) = m ((c.tc : Thread Cert.LnScaledIdeal.nD Cert.LnScaledIdeal.τ).loc Cert.LnScaledIdeal.main_arg4))
      ∧ r.2.sem = fun _ => 0)

def quiescent_LnScaledRefIdeal [hLnScaledRefIdeal : Cert.LnScaledRefIdeal.Facts] : Prop :=
  ∀ (m : (ℓ : Loc Cert.LnScaledRefIdeal.nD Cert.LnScaledRefIdeal.τ Cert.LnScaledRefIdeal.sig) → Buf (Elt Ideal) ℓ) (g : Dev Cert.LnScaledRefIdeal.nD → PrngReg), Pre_LnScaledRefIdeal m →
    θ_run (Cert.LnScaledRefIdeal.defs (F := Ideal)) (onTc (τ := Cert.LnScaledRefIdeal.τ) (Cert.LnScaledRefIdeal.main (F := Ideal))) ⟨m, fun _ => 0, g⟩ (fun r => (∀ c : Dev Cert.LnScaledRefIdeal.nD,
      r.2.mem ((c.tc : Thread Cert.LnScaledRefIdeal.nD Cert.LnScaledRefIdeal.τ).loc Cert.LnScaledRefIdeal.main_arg0) = m ((c.tc : Thread Cert.LnScaledRefIdeal.nD Cert.LnScaledRefIdeal.τ).loc Cert.LnScaledRefIdeal.main_arg0)
      ∧ r.2.mem ((c.tc : Thread Cert.LnScaledRefIdeal.nD Cert.LnScaledRefIdeal.τ).loc Cert.LnScaledRefIdeal.main_arg1) = m ((c.tc : Thread Cert.LnScaledRefIdeal.nD Cert.LnScaledRefIdeal.τ).loc Cert.LnScaledRefIdeal.main_arg1)
      ∧ r.2.mem ((c.tc : Thread Cert.LnScaledRefIdeal.nD Cert.LnScaledRefIdeal.τ).loc Cert.LnScaledRefIdeal.main_arg2) = m ((c.tc : Thread Cert.LnScaledRefIdeal.nD Cert.LnScaledRefIdeal.τ).loc Cert.LnScaledRefIdeal.main_arg2)
      ∧ r.2.mem ((c.tc : Thread Cert.LnScaledRefIdeal.nD Cert.LnScaledRefIdeal.τ).loc Cert.LnScaledRefIdeal.main_arg3) = m ((c.tc : Thread Cert.LnScaledRefIdeal.nD Cert.LnScaledRefIdeal.τ).loc Cert.LnScaledRefIdeal.main_arg3)
      ∧ r.2.mem ((c.tc : Thread Cert.LnScaledRefIdeal.nD Cert.LnScaledRefIdeal.τ).loc Cert.LnScaledRefIdeal.main_arg4) = m ((c.tc : Thread Cert.LnScaledRefIdeal.nD Cert.LnScaledRefIdeal.τ).loc Cert.LnScaledRefIdeal.main_arg4))
      ∧ r.2.sem = fun _ => 0)

def quiescent_ScaleBwd [hScaleBwd : Cert.ScaleBwd.Facts] : Prop :=
  ∀ (m : (ℓ : Loc Cert.ScaleBwd.nD Cert.ScaleBwd.τ Cert.ScaleBwd.sig) → Buf (Elt Bits) ℓ) (g : Dev Cert.ScaleBwd.nD → PrngReg), Pre_ScaleBwd m →
    θ_run (Cert.ScaleBwd.defs (F := Bits)) (onTc (τ := Cert.ScaleBwd.τ) (Cert.ScaleBwd.main (F := Bits))) ⟨m, fun _ => 0, g⟩ (fun r => (∀ c : Dev Cert.ScaleBwd.nD,
      r.2.mem ((c.tc : Thread Cert.ScaleBwd.nD Cert.ScaleBwd.τ).loc Cert.ScaleBwd.main_arg0) = m ((c.tc : Thread Cert.ScaleBwd.nD Cert.ScaleBwd.τ).loc Cert.ScaleBwd.main_arg0)
      ∧ r.2.mem ((c.tc : Thread Cert.ScaleBwd.nD Cert.ScaleBwd.τ).loc Cert.ScaleBwd.main_arg1) = m ((c.tc : Thread Cert.ScaleBwd.nD Cert.ScaleBwd.τ).loc Cert.ScaleBwd.main_arg1)
      ∧ r.2.mem ((c.tc : Thread Cert.ScaleBwd.nD Cert.ScaleBwd.τ).loc Cert.ScaleBwd.main_arg2) = m ((c.tc : Thread Cert.ScaleBwd.nD Cert.ScaleBwd.τ).loc Cert.ScaleBwd.main_arg2))
      ∧ r.2.sem = fun _ => 0)

def quiescent_ScaleBwdIdeal [hScaleBwdIdeal : Cert.ScaleBwdIdeal.Facts] : Prop :=
  ∀ (m : (ℓ : Loc Cert.ScaleBwdIdeal.nD Cert.ScaleBwdIdeal.τ Cert.ScaleBwdIdeal.sig) → Buf (Elt Ideal) ℓ) (g : Dev Cert.ScaleBwdIdeal.nD → PrngReg), Pre_ScaleBwdIdeal m →
    θ_run (Cert.ScaleBwdIdeal.defs (F := Ideal)) (onTc (τ := Cert.ScaleBwdIdeal.τ) (Cert.ScaleBwdIdeal.main (F := Ideal))) ⟨m, fun _ => 0, g⟩ (fun r => (∀ c : Dev Cert.ScaleBwdIdeal.nD,
      r.2.mem ((c.tc : Thread Cert.ScaleBwdIdeal.nD Cert.ScaleBwdIdeal.τ).loc Cert.ScaleBwdIdeal.main_arg0) = m ((c.tc : Thread Cert.ScaleBwdIdeal.nD Cert.ScaleBwdIdeal.τ).loc Cert.ScaleBwdIdeal.main_arg0)
      ∧ r.2.mem ((c.tc : Thread Cert.ScaleBwdIdeal.nD Cert.ScaleBwdIdeal.τ).loc Cert.ScaleBwdIdeal.main_arg1) = m ((c.tc : Thread Cert.ScaleBwdIdeal.nD Cert.ScaleBwdIdeal.τ).loc Cert.ScaleBwdIdeal.main_arg1)
      ∧ r.2.mem ((c.tc : Thread Cert.ScaleBwdIdeal.nD Cert.ScaleBwdIdeal.τ).loc Cert.ScaleBwdIdeal.main_arg2) = m ((c.tc : Thread Cert.ScaleBwdIdeal.nD Cert.ScaleBwdIdeal.τ).loc Cert.ScaleBwdIdeal.main_arg2))
      ∧ r.2.sem = fun _ => 0)

def quiescent_ScaleBwdRefIdeal [hScaleBwdRefIdeal : Cert.ScaleBwdRefIdeal.Facts] : Prop :=
  ∀ (m : (ℓ : Loc Cert.ScaleBwdRefIdeal.nD Cert.ScaleBwdRefIdeal.τ Cert.ScaleBwdRefIdeal.sig) → Buf (Elt Ideal) ℓ) (g : Dev Cert.ScaleBwdRefIdeal.nD → PrngReg), Pre_ScaleBwdRefIdeal m →
    θ_run (Cert.ScaleBwdRefIdeal.defs (F := Ideal)) (onTc (τ := Cert.ScaleBwdRefIdeal.τ) (Cert.ScaleBwdRefIdeal.main (F := Ideal))) ⟨m, fun _ => 0, g⟩ (fun r => (∀ c : Dev Cert.ScaleBwdRefIdeal.nD,
      r.2.mem ((c.tc : Thread Cert.ScaleBwdRefIdeal.nD Cert.ScaleBwdRefIdeal.τ).loc Cert.ScaleBwdRefIdeal.main_arg0) = m ((c.tc : Thread Cert.ScaleBwdRefIdeal.nD Cert.ScaleBwdRefIdeal.τ).loc Cert.ScaleBwdRefIdeal.main_arg0)
      ∧ r.2.mem ((c.tc : Thread Cert.ScaleBwdRefIdeal.nD Cert.ScaleBwdRefIdeal.τ).loc Cert.ScaleBwdRefIdeal.main_arg1) = m ((c.tc : Thread Cert.ScaleBwdRefIdeal.nD Cert.ScaleBwdRefIdeal.τ).loc Cert.ScaleBwdRefIdeal.main_arg1)
      ∧ r.2.mem ((c.tc : Thread Cert.ScaleBwdRefIdeal.nD Cert.ScaleBwdRefIdeal.τ).loc Cert.ScaleBwdRefIdeal.main_arg2) = m ((c.tc : Thread Cert.ScaleBwdRefIdeal.nD Cert.ScaleBwdRefIdeal.τ).loc Cert.ScaleBwdRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)) (v4 : (c : Dev Cert.KernelIdeal.nD) → Buf (Elt Ideal) ((c.tc : Thread Cert.KernelIdeal.nD Cert.KernelIdeal.τ).loc Cert.KernelIdeal.main_v42_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_v42_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v14) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v15) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_MixerOutDx_MixerOutDxIdeal : Prop :=
  True

def algebraic_MixerOutDxIdeal_MixerOutDxRefIdeal [hMixerOutDxIdeal : Cert.MixerOutDxIdeal.Facts] [hMixerOutDxRefIdeal : Cert.MixerOutDxRefIdeal.Facts] : Prop :=
  ∀ (m : (ℓ : Loc Cert.MixerOutDxIdeal.nD Cert.MixerOutDxIdeal.τ Cert.MixerOutDxIdeal.sig) → Buf (Elt Ideal) ℓ) (g : Dev Cert.MixerOutDxIdeal.nD → PrngReg)
    (m' : (ℓ : Loc Cert.MixerOutDxRefIdeal.nD Cert.MixerOutDxRefIdeal.τ Cert.MixerOutDxRefIdeal.sig) → Buf (Elt Ideal) ℓ) (g' : Dev Cert.MixerOutDxRefIdeal.nD → PrngReg), Pre_MixerOutDxIdeal m →
    (∀ c : Dev Cert.MixerOutDxIdeal.nD,
      m' ((c.tc : Thread Cert.MixerOutDxRefIdeal.nD Cert.MixerOutDxRefIdeal.τ).loc Cert.MixerOutDxRefIdeal.main_arg0) = m ((c.tc : Thread Cert.MixerOutDxIdeal.nD Cert.MixerOutDxIdeal.τ).loc Cert.MixerOutDxIdeal.main_arg0)
      ∧ m' ((c.tc : Thread Cert.MixerOutDxRefIdeal.nD Cert.MixerOutDxRefIdeal.τ).loc Cert.MixerOutDxRefIdeal.main_arg1) = m ((c.tc : Thread Cert.MixerOutDxIdeal.nD Cert.MixerOutDxIdeal.τ).loc Cert.MixerOutDxIdeal.main_arg1)) →
    ∃ (v0 : (c : Dev Cert.MixerOutDxIdeal.nD) → Buf (Elt Ideal) ((c.tc : Thread Cert.MixerOutDxIdeal.nD Cert.MixerOutDxIdeal.τ).loc Cert.MixerOutDxIdeal.main_v0)),
      θ_run (Cert.MixerOutDxIdeal.defs (F := Ideal)) (onTc (τ := Cert.MixerOutDxIdeal.τ) (Cert.MixerOutDxIdeal.main (F := Ideal))) ⟨m, fun _ => 0, g⟩ (fun r => ∀ c : Dev Cert.MixerOutDxIdeal.nD,
          r.2.mem ((c.tc : Thread Cert.MixerOutDxIdeal.nD Cert.MixerOutDxIdeal.τ).loc Cert.MixerOutDxIdeal.main_v0) = v0 c
          ∧ r.2.mem ((c.tc : Thread Cert.MixerOutDxIdeal.nD Cert.MixerOutDxIdeal.τ).loc Cert.MixerOutDxIdeal.main_arg0) = m ((c.tc : Thread Cert.MixerOutDxIdeal.nD Cert.MixerOutDxIdeal.τ).loc Cert.MixerOutDxIdeal.main_arg0)
          ∧ r.2.mem ((c.tc : Thread Cert.MixerOutDxIdeal.nD Cert.MixerOutDxIdeal.τ).loc Cert.MixerOutDxIdeal.main_arg1) = m ((c.tc : Thread Cert.MixerOutDxIdeal.nD Cert.MixerOutDxIdeal.τ).loc Cert.MixerOutDxIdeal.main_arg1))
      ∧ θ_run (Cert.MixerOutDxRefIdeal.defs (F := Ideal)) (onTc (τ := Cert.MixerOutDxRefIdeal.τ) (Cert.MixerOutDxRefIdeal.main (F := Ideal))) ⟨m', fun _ => 0, g'⟩ (fun r => ∀ c : Dev Cert.MixerOutDxRefIdeal.nD,
          r.2.mem ((c.tc : Thread Cert.MixerOutDxRefIdeal.nD Cert.MixerOutDxRefIdeal.τ).loc Cert.MixerOutDxRefIdeal.main_v4) = v0 c
          ∧ r.2.mem ((c.tc : Thread Cert.MixerOutDxRefIdeal.nD Cert.MixerOutDxRefIdeal.τ).loc Cert.MixerOutDxRefIdeal.main_arg0) = m' ((c.tc : Thread Cert.MixerOutDxRefIdeal.nD Cert.MixerOutDxRefIdeal.τ).loc Cert.MixerOutDxRefIdeal.main_arg0)
          ∧ r.2.mem ((c.tc : Thread Cert.MixerOutDxRefIdeal.nD Cert.MixerOutDxRefIdeal.τ).loc Cert.MixerOutDxRefIdeal.main_arg1) = m' ((c.tc : Thread Cert.MixerOutDxRefIdeal.nD Cert.MixerOutDxRefIdeal.τ).loc Cert.MixerOutDxRefIdeal.main_arg1))

def preserves_MixerOutDw_MixerOutDwIdeal : Prop :=
  True

def algebraic_MixerOutDwIdeal_MixerOutDwRefIdeal [hMixerOutDwIdeal : Cert.MixerOutDwIdeal.Facts] [hMixerOutDwRefIdeal : Cert.MixerOutDwRefIdeal.Facts] : Prop :=
  ∀ (m : (ℓ : Loc Cert.MixerOutDwIdeal.nD Cert.MixerOutDwIdeal.τ Cert.MixerOutDwIdeal.sig) → Buf (Elt Ideal) ℓ) (g : Dev Cert.MixerOutDwIdeal.nD → PrngReg)
    (m' : (ℓ : Loc Cert.MixerOutDwRefIdeal.nD Cert.MixerOutDwRefIdeal.τ Cert.MixerOutDwRefIdeal.sig) → Buf (Elt Ideal) ℓ) (g' : Dev Cert.MixerOutDwRefIdeal.nD → PrngReg), Pre_MixerOutDwIdeal m →
    (∀ c : Dev Cert.MixerOutDwIdeal.nD,
      m' ((c.tc : Thread Cert.MixerOutDwRefIdeal.nD Cert.MixerOutDwRefIdeal.τ).loc Cert.MixerOutDwRefIdeal.main_arg0) = m ((c.tc : Thread Cert.MixerOutDwIdeal.nD Cert.MixerOutDwIdeal.τ).loc Cert.MixerOutDwIdeal.main_arg0)
      ∧ m' ((c.tc : Thread Cert.MixerOutDwRefIdeal.nD Cert.MixerOutDwRefIdeal.τ).loc Cert.MixerOutDwRefIdeal.main_arg1) = m ((c.tc : Thread Cert.MixerOutDwIdeal.nD Cert.MixerOutDwIdeal.τ).loc Cert.MixerOutDwIdeal.main_arg1)) →
    ∃ (v0 : (c : Dev Cert.MixerOutDwIdeal.nD) → Buf (Elt Ideal) ((c.tc : Thread Cert.MixerOutDwIdeal.nD Cert.MixerOutDwIdeal.τ).loc Cert.MixerOutDwIdeal.main_v0)),
      θ_run (Cert.MixerOutDwIdeal.defs (F := Ideal)) (onTc (τ := Cert.MixerOutDwIdeal.τ) (Cert.MixerOutDwIdeal.main (F := Ideal))) ⟨m, fun _ => 0, g⟩ (fun r => ∀ c : Dev Cert.MixerOutDwIdeal.nD,
          r.2.mem ((c.tc : Thread Cert.MixerOutDwIdeal.nD Cert.MixerOutDwIdeal.τ).loc Cert.MixerOutDwIdeal.main_v0) = v0 c
          ∧ r.2.mem ((c.tc : Thread Cert.MixerOutDwIdeal.nD Cert.MixerOutDwIdeal.τ).loc Cert.MixerOutDwIdeal.main_arg0) = m ((c.tc : Thread Cert.MixerOutDwIdeal.nD Cert.MixerOutDwIdeal.τ).loc Cert.MixerOutDwIdeal.main_arg0)
          ∧ r.2.mem ((c.tc : Thread Cert.MixerOutDwIdeal.nD Cert.MixerOutDwIdeal.τ).loc Cert.MixerOutDwIdeal.main_arg1) = m ((c.tc : Thread Cert.MixerOutDwIdeal.nD Cert.MixerOutDwIdeal.τ).loc Cert.MixerOutDwIdeal.main_arg1))
      ∧ θ_run (Cert.MixerOutDwRefIdeal.defs (F := Ideal)) (onTc (τ := Cert.MixerOutDwRefIdeal.τ) (Cert.MixerOutDwRefIdeal.main (F := Ideal))) ⟨m', fun _ => 0, g'⟩ (fun r => ∀ c : Dev Cert.MixerOutDwRefIdeal.nD,
          r.2.mem ((c.tc : Thread Cert.MixerOutDwRefIdeal.nD Cert.MixerOutDwRefIdeal.τ).loc Cert.MixerOutDwRefIdeal.main_v6) = v0 c
          ∧ r.2.mem ((c.tc : Thread Cert.MixerOutDwRefIdeal.nD Cert.MixerOutDwRefIdeal.τ).loc Cert.MixerOutDwRefIdeal.main_arg0) = m' ((c.tc : Thread Cert.MixerOutDwRefIdeal.nD Cert.MixerOutDwRefIdeal.τ).loc Cert.MixerOutDwRefIdeal.main_arg0)
          ∧ r.2.mem ((c.tc : Thread Cert.MixerOutDwRefIdeal.nD Cert.MixerOutDwRefIdeal.τ).loc Cert.MixerOutDwRefIdeal.main_arg1) = m' ((c.tc : Thread Cert.MixerOutDwRefIdeal.nD Cert.MixerOutDwRefIdeal.τ).loc Cert.MixerOutDwRefIdeal.main_arg1))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)) →
    ∃ (v0 : (c : Dev Cert.MixerOutIdeal.nD) → Buf (Elt Ideal) ((c.tc : Thread Cert.MixerOutIdeal.nD Cert.MixerOutIdeal.τ).loc Cert.MixerOutIdeal.main_v0)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v0) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v2) = v0 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1))

def preserves_AttnInDx_AttnInDxIdeal : Prop :=
  True

def algebraic_AttnInDxIdeal_AttnInDxRefIdeal [hAttnInDxIdeal : Cert.AttnInDxIdeal.Facts] [hAttnInDxRefIdeal : Cert.AttnInDxRefIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg)
    (m' : (ℓ : Loc Cert.AttnInDxRefIdeal.nD Cert.AttnInDxRefIdeal.τ Cert.AttnInDxRefIdeal.sig) → Buf (Elt Ideal) ℓ) (g' : Dev Cert.AttnInDxRefIdeal.nD → PrngReg), Pre_AttnInDxIdeal m →
    (∀ c : Dev Cert.AttnInDxIdeal.nD,
      m' ((c.tc : Thread Cert.AttnInDxRefIdeal.nD Cert.AttnInDxRefIdeal.τ).loc Cert.AttnInDxRefIdeal.main_arg0) = m ((c.tc : Thread Cert.AttnInDxIdeal.nD Cert.AttnInDxIdeal.τ).loc Cert.AttnInDxIdeal.main_arg0)
      ∧ m' ((c.tc : Thread Cert.AttnInDxRefIdeal.nD Cert.AttnInDxRefIdeal.τ).loc Cert.AttnInDxRefIdeal.main_arg1) = m ((c.tc : Thread Cert.AttnInDxIdeal.nD Cert.AttnInDxIdeal.τ).loc Cert.AttnInDxIdeal.main_arg1)
      ∧ m' ((c.tc : Thread Cert.AttnInDxRefIdeal.nD Cert.AttnInDxRefIdeal.τ).loc Cert.AttnInDxRefIdeal.main_arg2) = m ((c.tc : Thread Cert.AttnInDxIdeal.nD Cert.AttnInDxIdeal.τ).loc Cert.AttnInDxIdeal.main_arg2)) →
    ∃ (v0 : (c : Dev Cert.AttnInDxIdeal.nD) → Buf (Elt Ideal) ((c.tc : Thread Cert.AttnInDxIdeal.nD Cert.AttnInDxIdeal.τ).loc Cert.AttnInDxIdeal.main_v0)),
      θ_run (Cert.AttnInDxIdeal.defs (F := Ideal)) (onTc (τ := Cert.AttnInDxIdeal.τ) (Cert.AttnInDxIdeal.main (F := Ideal))) ⟨m, fun _ => 0, g⟩ (fun r => ∀ c : Dev Cert.AttnInDxIdeal.nD,
          r.2.mem ((c.tc : Thread Cert.AttnInDxIdeal.nD Cert.AttnInDxIdeal.τ).loc Cert.AttnInDxIdeal.main_v0) = v0 c
          ∧ r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
          ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1)
          ∧ r.2.mem ((c.tc : Thread Cert.AttnInDxIdeal.nD Cert.AttnInDxIdeal.τ).loc Cert.AttnInDxIdeal.main_arg2) = m ((c.tc : Thread Cert.AttnInDxIdeal.nD Cert.AttnInDxIdeal.τ).loc Cert.AttnInDxIdeal.main_arg2))
      ∧ θ_run (Cert.AttnInDxRefIdeal.defs (F := Ideal)) (onTc (τ := Cert.AttnInDxRefIdeal.τ) (Cert.AttnInDxRefIdeal.main (F := Ideal))) ⟨m', fun _ => 0, g'⟩ (fun r => ∀ c : Dev Cert.AttnInDxRefIdeal.nD,
          r.2.mem ((c.tc : Thread Cert.AttnInDxRefIdeal.nD Cert.AttnInDxRefIdeal.τ).loc Cert.AttnInDxRefIdeal.main_v9) = v0 c
          ∧ r.2.mem ((c.tc : Thread Cert.AttnInDxRefIdeal.nD Cert.AttnInDxRefIdeal.τ).loc Cert.AttnInDxRefIdeal.main_arg0) = m' ((c.tc : Thread Cert.AttnInDxRefIdeal.nD Cert.AttnInDxRefIdeal.τ).loc Cert.AttnInDxRefIdeal.main_arg0)
          ∧ r.2.mem ((c.tc : Thread Cert.AttnInDxRefIdeal.nD Cert.AttnInDxRefIdeal.τ).loc Cert.AttnInDxRefIdeal.main_arg1) = m' ((c.tc : Thread Cert.AttnInDxRefIdeal.nD Cert.AttnInDxRefIdeal.τ).loc Cert.AttnInDxRefIdeal.main_arg1)
          ∧ r.2.mem ((c.tc : Thread Cert.AttnInDxRefIdeal.nD Cert.AttnInDxRefIdeal.τ).loc Cert.AttnInDxRefIdeal.main_arg2) = m' ((c.tc : Thread Cert.AttnInDxRefIdeal.nD Cert.AttnInDxRefIdeal.τ).loc Cert.AttnInDxRefIdeal.main_arg2))

def preserves_AttnInDw_AttnInDwIdeal : Prop :=
  True

def algebraic_AttnInDwIdeal_AttnInDwRefIdeal [hAttnInDwIdeal : Cert.AttnInDwIdeal.Facts] [hAttnInDwRefIdeal : Cert.AttnInDwRefIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg)
    (m' : (ℓ : Loc Cert.AttnInDwRefIdeal.nD Cert.AttnInDwRefIdeal.τ Cert.AttnInDwRefIdeal.sig) → Buf (Elt Ideal) ℓ) (g' : Dev Cert.AttnInDwRefIdeal.nD → PrngReg), Pre_AttnInDwIdeal m →
    (∀ c : Dev Cert.AttnInDwIdeal.nD,
      m' ((c.tc : Thread Cert.AttnInDwRefIdeal.nD Cert.AttnInDwRefIdeal.τ).loc Cert.AttnInDwRefIdeal.main_arg0) = m ((c.tc : Thread Cert.AttnInDwIdeal.nD Cert.AttnInDwIdeal.τ).loc Cert.AttnInDwIdeal.main_arg0)
      ∧ m' ((c.tc : Thread Cert.AttnInDwRefIdeal.nD Cert.AttnInDwRefIdeal.τ).loc Cert.AttnInDwRefIdeal.main_arg1) = m ((c.tc : Thread Cert.AttnInDwIdeal.nD Cert.AttnInDwIdeal.τ).loc Cert.AttnInDwIdeal.main_arg1)) →
    ∃ (v0 : (c : Dev Cert.AttnInDwIdeal.nD) → Buf (Elt Ideal) ((c.tc : Thread Cert.AttnInDwIdeal.nD Cert.AttnInDwIdeal.τ).loc Cert.AttnInDwIdeal.main_v0)),
      θ_run (Cert.AttnInDwIdeal.defs (F := Ideal)) (onTc (τ := Cert.AttnInDwIdeal.τ) (Cert.AttnInDwIdeal.main (F := Ideal))) ⟨m, fun _ => 0, g⟩ (fun r => ∀ c : Dev Cert.AttnInDwIdeal.nD,
          r.2.mem ((c.tc : Thread Cert.AttnInDwIdeal.nD Cert.AttnInDwIdeal.τ).loc Cert.AttnInDwIdeal.main_v0) = v0 c
          ∧ r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
          ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ θ_run (Cert.AttnInDwRefIdeal.defs (F := Ideal)) (onTc (τ := Cert.AttnInDwRefIdeal.τ) (Cert.AttnInDwRefIdeal.main (F := Ideal))) ⟨m', fun _ => 0, g'⟩ (fun r => ∀ c : Dev Cert.AttnInDwRefIdeal.nD,
          r.2.mem ((c.tc : Thread Cert.AttnInDwRefIdeal.nD Cert.AttnInDwRefIdeal.τ).loc Cert.AttnInDwRefIdeal.main_v6) = v0 c
          ∧ r.2.mem ((c.tc : Thread Cert.AttnInDwRefIdeal.nD Cert.AttnInDwRefIdeal.τ).loc Cert.AttnInDwRefIdeal.main_arg0) = m' ((c.tc : Thread Cert.AttnInDwRefIdeal.nD Cert.AttnInDwRefIdeal.τ).loc Cert.AttnInDwRefIdeal.main_arg0)
          ∧ r.2.mem ((c.tc : Thread Cert.AttnInDwRefIdeal.nD Cert.AttnInDwRefIdeal.τ).loc Cert.AttnInDwRefIdeal.main_arg1) = m' ((c.tc : Thread Cert.AttnInDwRefIdeal.nD Cert.AttnInDwRefIdeal.τ).loc Cert.AttnInDwRefIdeal.main_arg1))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v2) = v0 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1))

def preserves_RecInDx_RecInDxIdeal : Prop :=
  True

def algebraic_RecInDxIdeal_RecInDxRefIdeal [hRecInDxIdeal : Cert.RecInDxIdeal.Facts] [hRecInDxRefIdeal : Cert.RecInDxRefIdeal.Facts] : Prop :=
  ∀ (m : (ℓ : Loc Cert.RecInDxIdeal.nD Cert.RecInDxIdeal.τ Cert.RecInDxIdeal.sig) → Buf (Elt Ideal) ℓ) (g : Dev Cert.RecInDxIdeal.nD → PrngReg)
    (m' : (ℓ : Loc Cert.RecInDxRefIdeal.nD Cert.RecInDxRefIdeal.τ Cert.RecInDxRefIdeal.sig) → Buf (Elt Ideal) ℓ) (g' : Dev Cert.RecInDxRefIdeal.nD → PrngReg), Pre_RecInDxIdeal m →
    (∀ c : Dev Cert.RecInDxIdeal.nD,
      m' ((c.tc : Thread Cert.RecInDxRefIdeal.nD Cert.RecInDxRefIdeal.τ).loc Cert.RecInDxRefIdeal.main_arg0) = m ((c.tc : Thread Cert.RecInDxIdeal.nD Cert.RecInDxIdeal.τ).loc Cert.RecInDxIdeal.main_arg0)
      ∧ m' ((c.tc : Thread Cert.RecInDxRefIdeal.nD Cert.RecInDxRefIdeal.τ).loc Cert.RecInDxRefIdeal.main_arg1) = m ((c.tc : Thread Cert.RecInDxIdeal.nD Cert.RecInDxIdeal.τ).loc Cert.RecInDxIdeal.main_arg1)
      ∧ m' ((c.tc : Thread Cert.RecInDxRefIdeal.nD Cert.RecInDxRefIdeal.τ).loc Cert.RecInDxRefIdeal.main_arg2) = m ((c.tc : Thread Cert.RecInDxIdeal.nD Cert.RecInDxIdeal.τ).loc Cert.RecInDxIdeal.main_arg2)) →
    ∃ (v0 : (c : Dev Cert.RecInDxIdeal.nD) → Buf (Elt Ideal) ((c.tc : Thread Cert.RecInDxIdeal.nD Cert.RecInDxIdeal.τ).loc Cert.RecInDxIdeal.main_v0)),
      θ_run (Cert.RecInDxIdeal.defs (F := Ideal)) (onTc (τ := Cert.RecInDxIdeal.τ) (Cert.RecInDxIdeal.main (F := Ideal))) ⟨m, fun _ => 0, g⟩ (fun r => ∀ c : Dev Cert.RecInDxIdeal.nD,
          r.2.mem ((c.tc : Thread Cert.RecInDxIdeal.nD Cert.RecInDxIdeal.τ).loc Cert.RecInDxIdeal.main_v0) = v0 c
          ∧ r.2.mem ((c.tc : Thread Cert.RecInDxIdeal.nD Cert.RecInDxIdeal.τ).loc Cert.RecInDxIdeal.main_arg0) = m ((c.tc : Thread Cert.RecInDxIdeal.nD Cert.RecInDxIdeal.τ).loc Cert.RecInDxIdeal.main_arg0)
          ∧ r.2.mem ((c.tc : Thread Cert.RecInDxIdeal.nD Cert.RecInDxIdeal.τ).loc Cert.RecInDxIdeal.main_arg1) = m ((c.tc : Thread Cert.RecInDxIdeal.nD Cert.RecInDxIdeal.τ).loc Cert.RecInDxIdeal.main_arg1)
          ∧ r.2.mem ((c.tc : Thread Cert.RecInDxIdeal.nD Cert.RecInDxIdeal.τ).loc Cert.RecInDxIdeal.main_arg2) = m ((c.tc : Thread Cert.RecInDxIdeal.nD Cert.RecInDxIdeal.τ).loc Cert.RecInDxIdeal.main_arg2))
      ∧ θ_run (Cert.RecInDxRefIdeal.defs (F := Ideal)) (onTc (τ := Cert.RecInDxRefIdeal.τ) (Cert.RecInDxRefIdeal.main (F := Ideal))) ⟨m', fun _ => 0, g'⟩ (fun r => ∀ c : Dev Cert.RecInDxRefIdeal.nD,
          r.2.mem ((c.tc : Thread Cert.RecInDxRefIdeal.nD Cert.RecInDxRefIdeal.τ).loc Cert.RecInDxRefIdeal.main_v15) = v0 c
          ∧ r.2.mem ((c.tc : Thread Cert.RecInDxRefIdeal.nD Cert.RecInDxRefIdeal.τ).loc Cert.RecInDxRefIdeal.main_arg0) = m' ((c.tc : Thread Cert.RecInDxRefIdeal.nD Cert.RecInDxRefIdeal.τ).loc Cert.RecInDxRefIdeal.main_arg0)
          ∧ r.2.mem ((c.tc : Thread Cert.RecInDxRefIdeal.nD Cert.RecInDxRefIdeal.τ).loc Cert.RecInDxRefIdeal.main_arg1) = m' ((c.tc : Thread Cert.RecInDxRefIdeal.nD Cert.RecInDxRefIdeal.τ).loc Cert.RecInDxRefIdeal.main_arg1)
          ∧ r.2.mem ((c.tc : Thread Cert.RecInDxRefIdeal.nD Cert.RecInDxRefIdeal.τ).loc Cert.RecInDxRefIdeal.main_arg2) = m' ((c.tc : Thread Cert.RecInDxRefIdeal.nD Cert.RecInDxRefIdeal.τ).loc Cert.RecInDxRefIdeal.main_arg2))

def preserves_RecInDw_RecInDwIdeal : Prop :=
  True

def algebraic_RecInDwIdeal_RecInDwRefIdeal [hRecInDwIdeal : Cert.RecInDwIdeal.Facts] [hRecInDwRefIdeal : Cert.RecInDwRefIdeal.Facts] : Prop :=
  ∀ (m : (ℓ : Loc Cert.RecInDwIdeal.nD Cert.RecInDwIdeal.τ Cert.RecInDwIdeal.sig) → Buf (Elt Ideal) ℓ) (g : Dev Cert.RecInDwIdeal.nD → PrngReg)
    (m' : (ℓ : Loc Cert.RecInDwRefIdeal.nD Cert.RecInDwRefIdeal.τ Cert.RecInDwRefIdeal.sig) → Buf (Elt Ideal) ℓ) (g' : Dev Cert.RecInDwRefIdeal.nD → PrngReg), Pre_RecInDwIdeal m →
    (∀ c : Dev Cert.RecInDwIdeal.nD,
      m' ((c.tc : Thread Cert.RecInDwRefIdeal.nD Cert.RecInDwRefIdeal.τ).loc Cert.RecInDwRefIdeal.main_arg0) = m ((c.tc : Thread Cert.RecInDwIdeal.nD Cert.RecInDwIdeal.τ).loc Cert.RecInDwIdeal.main_arg0)
      ∧ m' ((c.tc : Thread Cert.RecInDwRefIdeal.nD Cert.RecInDwRefIdeal.τ).loc Cert.RecInDwRefIdeal.main_arg1) = m ((c.tc : Thread Cert.RecInDwIdeal.nD Cert.RecInDwIdeal.τ).loc Cert.RecInDwIdeal.main_arg1)) →
    ∃ (v0 : (c : Dev Cert.RecInDwIdeal.nD) → Buf (Elt Ideal) ((c.tc : Thread Cert.RecInDwIdeal.nD Cert.RecInDwIdeal.τ).loc Cert.RecInDwIdeal.main_v0)),
      θ_run (Cert.RecInDwIdeal.defs (F := Ideal)) (onTc (τ := Cert.RecInDwIdeal.τ) (Cert.RecInDwIdeal.main (F := Ideal))) ⟨m, fun _ => 0, g⟩ (fun r => ∀ c : Dev Cert.RecInDwIdeal.nD,
          r.2.mem ((c.tc : Thread Cert.RecInDwIdeal.nD Cert.RecInDwIdeal.τ).loc Cert.RecInDwIdeal.main_v0) = v0 c
          ∧ r.2.mem ((c.tc : Thread Cert.RecInDwIdeal.nD Cert.RecInDwIdeal.τ).loc Cert.RecInDwIdeal.main_arg0) = m ((c.tc : Thread Cert.RecInDwIdeal.nD Cert.RecInDwIdeal.τ).loc Cert.RecInDwIdeal.main_arg0)
          ∧ r.2.mem ((c.tc : Thread Cert.RecInDwIdeal.nD Cert.RecInDwIdeal.τ).loc Cert.RecInDwIdeal.main_arg1) = m ((c.tc : Thread Cert.RecInDwIdeal.nD Cert.RecInDwIdeal.τ).loc Cert.RecInDwIdeal.main_arg1))
      ∧ θ_run (Cert.RecInDwRefIdeal.defs (F := Ideal)) (onTc (τ := Cert.RecInDwRefIdeal.τ) (Cert.RecInDwRefIdeal.main (F := Ideal))) ⟨m', fun _ => 0, g'⟩ (fun r => ∀ c : Dev Cert.RecInDwRefIdeal.nD,
          r.2.mem ((c.tc : Thread Cert.RecInDwRefIdeal.nD Cert.RecInDwRefIdeal.τ).loc Cert.RecInDwRefIdeal.main_v14) = v0 c
          ∧ r.2.mem ((c.tc : Thread Cert.RecInDwRefIdeal.nD Cert.RecInDwRefIdeal.τ).loc Cert.RecInDwRefIdeal.main_arg0) = m' ((c.tc : Thread Cert.RecInDwRefIdeal.nD Cert.RecInDwRefIdeal.τ).loc Cert.RecInDwRefIdeal.main_arg0)
          ∧ r.2.mem ((c.tc : Thread Cert.RecInDwRefIdeal.nD Cert.RecInDwRefIdeal.τ).loc Cert.RecInDwRefIdeal.main_arg1) = m' ((c.tc : Thread Cert.RecInDwRefIdeal.nD Cert.RecInDwRefIdeal.τ).loc Cert.RecInDwRefIdeal.main_arg1))

def preserves_RecIn_RecInIdeal : Prop :=
  True

def algebraic_RecInIdeal_RecInRefIdeal [hRecInIdeal : Cert.RecInIdeal.Facts] [hRecInRefIdeal : Cert.RecInRefIdeal.Facts] : Prop :=
  ∀ (m : (ℓ : Loc Cert.RecInIdeal.nD Cert.RecInIdeal.τ Cert.RecInIdeal.sig) → Buf (Elt Ideal) ℓ) (g : Dev Cert.RecInIdeal.nD → PrngReg)
    (m' : (ℓ : Loc Cert.RecInRefIdeal.nD Cert.RecInRefIdeal.τ Cert.RecInRefIdeal.sig) → Buf (Elt Ideal) ℓ) (g' : Dev Cert.RecInRefIdeal.nD → PrngReg), Pre_RecInIdeal m →
    (∀ c : Dev Cert.RecInIdeal.nD,
      m' ((c.tc : Thread Cert.RecInRefIdeal.nD Cert.RecInRefIdeal.τ).loc Cert.RecInRefIdeal.main_arg0) = m ((c.tc : Thread Cert.RecInIdeal.nD Cert.RecInIdeal.τ).loc Cert.RecInIdeal.main_arg0)
      ∧ m' ((c.tc : Thread Cert.RecInRefIdeal.nD Cert.RecInRefIdeal.τ).loc Cert.RecInRefIdeal.main_arg1) = m ((c.tc : Thread Cert.RecInIdeal.nD Cert.RecInIdeal.τ).loc Cert.RecInIdeal.main_arg1)) →
    ∃ (v0 : (c : Dev Cert.RecInIdeal.nD) → Buf (Elt Ideal) ((c.tc : Thread Cert.RecInIdeal.nD Cert.RecInIdeal.τ).loc Cert.RecInIdeal.main_v0)),
      θ_run (Cert.RecInIdeal.defs (F := Ideal)) (onTc (τ := Cert.RecInIdeal.τ) (Cert.RecInIdeal.main (F := Ideal))) ⟨m, fun _ => 0, g⟩ (fun r => ∀ c : Dev Cert.RecInIdeal.nD,
          r.2.mem ((c.tc : Thread Cert.RecInIdeal.nD Cert.RecInIdeal.τ).loc Cert.RecInIdeal.main_v0) = v0 c
          ∧ r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
          ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ θ_run (Cert.RecInRefIdeal.defs (F := Ideal)) (onTc (τ := Cert.RecInRefIdeal.τ) (Cert.RecInRefIdeal.main (F := Ideal))) ⟨m', fun _ => 0, g'⟩ (fun r => ∀ c : Dev Cert.RecInRefIdeal.nD,
          r.2.mem ((c.tc : Thread Cert.RecInRefIdeal.nD Cert.RecInRefIdeal.τ).loc Cert.RecInRefIdeal.main_v6) = v0 c
          ∧ r.2.mem ((c.tc : Thread Cert.RecInRefIdeal.nD Cert.RecInRefIdeal.τ).loc Cert.RecInRefIdeal.main_arg0) = m' ((c.tc : Thread Cert.RecInRefIdeal.nD Cert.RecInRefIdeal.τ).loc Cert.RecInRefIdeal.main_arg0)
          ∧ r.2.mem ((c.tc : Thread Cert.RecInRefIdeal.nD Cert.RecInRefIdeal.τ).loc Cert.RecInRefIdeal.main_arg1) = m' ((c.tc : Thread Cert.RecInRefIdeal.nD Cert.RecInRefIdeal.τ).loc Cert.RecInRefIdeal.main_arg1))

def preserves_PoolMixDx_PoolMixDxIdeal : Prop :=
  True

def algebraic_PoolMixDxIdeal_PoolMixDxRefIdeal [hPoolMixDxIdeal : Cert.PoolMixDxIdeal.Facts] [hPoolMixDxRefIdeal : Cert.PoolMixDxRefIdeal.Facts] : Prop :=
  ∀ (m : (ℓ : Loc Cert.PoolMixDxIdeal.nD Cert.PoolMixDxIdeal.τ Cert.PoolMixDxIdeal.sig) → Buf (Elt Ideal) ℓ) (g : Dev Cert.PoolMixDxIdeal.nD → PrngReg)
    (m' : (ℓ : Loc Cert.PoolMixDxRefIdeal.nD Cert.PoolMixDxRefIdeal.τ Cert.PoolMixDxRefIdeal.sig) → Buf (Elt Ideal) ℓ) (g' : Dev Cert.PoolMixDxRefIdeal.nD → PrngReg), Pre_PoolMixDxIdeal m →
    (∀ c : Dev Cert.PoolMixDxIdeal.nD,
      m' ((c.tc : Thread Cert.PoolMixDxRefIdeal.nD Cert.PoolMixDxRefIdeal.τ).loc Cert.PoolMixDxRefIdeal.main_arg0) = m ((c.tc : Thread Cert.PoolMixDxIdeal.nD Cert.PoolMixDxIdeal.τ).loc Cert.PoolMixDxIdeal.main_arg0)
      ∧ m' ((c.tc : Thread Cert.PoolMixDxRefIdeal.nD Cert.PoolMixDxRefIdeal.τ).loc Cert.PoolMixDxRefIdeal.main_arg1) = m ((c.tc : Thread Cert.PoolMixDxIdeal.nD Cert.PoolMixDxIdeal.τ).loc Cert.PoolMixDxIdeal.main_arg1)) →
    ∃ (v0 : (c : Dev Cert.PoolMixDxIdeal.nD) → Buf (Elt Ideal) ((c.tc : Thread Cert.PoolMixDxIdeal.nD Cert.PoolMixDxIdeal.τ).loc Cert.PoolMixDxIdeal.main_v0)),
      θ_run (Cert.PoolMixDxIdeal.defs (F := Ideal)) (onTc (τ := Cert.PoolMixDxIdeal.τ) (Cert.PoolMixDxIdeal.main (F := Ideal))) ⟨m, fun _ => 0, g⟩ (fun r => ∀ c : Dev Cert.PoolMixDxIdeal.nD,
          r.2.mem ((c.tc : Thread Cert.PoolMixDxIdeal.nD Cert.PoolMixDxIdeal.τ).loc Cert.PoolMixDxIdeal.main_v0) = v0 c
          ∧ r.2.mem ((c.tc : Thread Cert.PoolMixDxIdeal.nD Cert.PoolMixDxIdeal.τ).loc Cert.PoolMixDxIdeal.main_arg0) = m ((c.tc : Thread Cert.PoolMixDxIdeal.nD Cert.PoolMixDxIdeal.τ).loc Cert.PoolMixDxIdeal.main_arg0)
          ∧ r.2.mem ((c.tc : Thread Cert.PoolMixDxIdeal.nD Cert.PoolMixDxIdeal.τ).loc Cert.PoolMixDxIdeal.main_arg1) = m ((c.tc : Thread Cert.PoolMixDxIdeal.nD Cert.PoolMixDxIdeal.τ).loc Cert.PoolMixDxIdeal.main_arg1))
      ∧ θ_run (Cert.PoolMixDxRefIdeal.defs (F := Ideal)) (onTc (τ := Cert.PoolMixDxRefIdeal.τ) (Cert.PoolMixDxRefIdeal.main (F := Ideal))) ⟨m', fun _ => 0, g'⟩ (fun r => ∀ c : Dev Cert.PoolMixDxRefIdeal.nD,
          r.2.mem ((c.tc : Thread Cert.PoolMixDxRefIdeal.nD Cert.PoolMixDxRefIdeal.τ).loc Cert.PoolMixDxRefIdeal.main_v11) = v0 c
          ∧ r.2.mem ((c.tc : Thread Cert.PoolMixDxRefIdeal.nD Cert.PoolMixDxRefIdeal.τ).loc Cert.PoolMixDxRefIdeal.main_arg0) = m' ((c.tc : Thread Cert.PoolMixDxRefIdeal.nD Cert.PoolMixDxRefIdeal.τ).loc Cert.PoolMixDxRefIdeal.main_arg0)
          ∧ r.2.mem ((c.tc : Thread Cert.PoolMixDxRefIdeal.nD Cert.PoolMixDxRefIdeal.τ).loc Cert.PoolMixDxRefIdeal.main_arg1) = m' ((c.tc : Thread Cert.PoolMixDxRefIdeal.nD Cert.PoolMixDxRefIdeal.τ).loc Cert.PoolMixDxRefIdeal.main_arg1))

def preserves_PoolMixDw_PoolMixDwIdeal : Prop :=
  True

def algebraic_PoolMixDwIdeal_PoolMixDwRefIdeal [hPoolMixDwIdeal : Cert.PoolMixDwIdeal.Facts] [hPoolMixDwRefIdeal : Cert.PoolMixDwRefIdeal.Facts] : Prop :=
  ∀ (m : (ℓ : Loc Cert.PoolMixDwIdeal.nD Cert.PoolMixDwIdeal.τ Cert.PoolMixDwIdeal.sig) → Buf (Elt Ideal) ℓ) (g : Dev Cert.PoolMixDwIdeal.nD → PrngReg)
    (m' : (ℓ : Loc Cert.PoolMixDwRefIdeal.nD Cert.PoolMixDwRefIdeal.τ Cert.PoolMixDwRefIdeal.sig) → Buf (Elt Ideal) ℓ) (g' : Dev Cert.PoolMixDwRefIdeal.nD → PrngReg), Pre_PoolMixDwIdeal m →
    (∀ c : Dev Cert.PoolMixDwIdeal.nD,
      m' ((c.tc : Thread Cert.PoolMixDwRefIdeal.nD Cert.PoolMixDwRefIdeal.τ).loc Cert.PoolMixDwRefIdeal.main_arg0) = m ((c.tc : Thread Cert.PoolMixDwIdeal.nD Cert.PoolMixDwIdeal.τ).loc Cert.PoolMixDwIdeal.main_arg0)
      ∧ m' ((c.tc : Thread Cert.PoolMixDwRefIdeal.nD Cert.PoolMixDwRefIdeal.τ).loc Cert.PoolMixDwRefIdeal.main_arg1) = m ((c.tc : Thread Cert.PoolMixDwIdeal.nD Cert.PoolMixDwIdeal.τ).loc Cert.PoolMixDwIdeal.main_arg1)) →
    ∃ (v0 : (c : Dev Cert.PoolMixDwIdeal.nD) → Buf (Elt Ideal) ((c.tc : Thread Cert.PoolMixDwIdeal.nD Cert.PoolMixDwIdeal.τ).loc Cert.PoolMixDwIdeal.main_v0)),
      θ_run (Cert.PoolMixDwIdeal.defs (F := Ideal)) (onTc (τ := Cert.PoolMixDwIdeal.τ) (Cert.PoolMixDwIdeal.main (F := Ideal))) ⟨m, fun _ => 0, g⟩ (fun r => ∀ c : Dev Cert.PoolMixDwIdeal.nD,
          r.2.mem ((c.tc : Thread Cert.PoolMixDwIdeal.nD Cert.PoolMixDwIdeal.τ).loc Cert.PoolMixDwIdeal.main_v0) = v0 c
          ∧ r.2.mem ((c.tc : Thread Cert.PoolMixDwIdeal.nD Cert.PoolMixDwIdeal.τ).loc Cert.PoolMixDwIdeal.main_arg0) = m ((c.tc : Thread Cert.PoolMixDwIdeal.nD Cert.PoolMixDwIdeal.τ).loc Cert.PoolMixDwIdeal.main_arg0)
          ∧ r.2.mem ((c.tc : Thread Cert.PoolMixDwIdeal.nD Cert.PoolMixDwIdeal.τ).loc Cert.PoolMixDwIdeal.main_arg1) = m ((c.tc : Thread Cert.PoolMixDwIdeal.nD Cert.PoolMixDwIdeal.τ).loc Cert.PoolMixDwIdeal.main_arg1))
      ∧ θ_run (Cert.PoolMixDwRefIdeal.defs (F := Ideal)) (onTc (τ := Cert.PoolMixDwRefIdeal.τ) (Cert.PoolMixDwRefIdeal.main (F := Ideal))) ⟨m', fun _ => 0, g'⟩ (fun r => ∀ c : Dev Cert.PoolMixDwRefIdeal.nD,
          r.2.mem ((c.tc : Thread Cert.PoolMixDwRefIdeal.nD Cert.PoolMixDwRefIdeal.τ).loc Cert.PoolMixDwRefIdeal.main_v10) = v0 c
          ∧ r.2.mem ((c.tc : Thread Cert.PoolMixDwRefIdeal.nD Cert.PoolMixDwRefIdeal.τ).loc Cert.PoolMixDwRefIdeal.main_arg0) = m' ((c.tc : Thread Cert.PoolMixDwRefIdeal.nD Cert.PoolMixDwRefIdeal.τ).loc Cert.PoolMixDwRefIdeal.main_arg0)
          ∧ r.2.mem ((c.tc : Thread Cert.PoolMixDwRefIdeal.nD Cert.PoolMixDwRefIdeal.τ).loc Cert.PoolMixDwRefIdeal.main_arg1) = m' ((c.tc : Thread Cert.PoolMixDwRefIdeal.nD Cert.PoolMixDwRefIdeal.τ).loc Cert.PoolMixDwRefIdeal.main_arg1))

def preserves_PoolMix_PoolMixIdeal : Prop :=
  True

def algebraic_PoolMixIdeal_PoolMixRefIdeal [hPoolMixIdeal : Cert.PoolMixIdeal.Facts] [hPoolMixRefIdeal : Cert.PoolMixRefIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixRefIdeal.nD Cert.PoolMixRefIdeal.τ Cert.PoolMixRefIdeal.sig) → Buf (Elt Ideal) ℓ) (g' : Dev Cert.PoolMixRefIdeal.nD → PrngReg), Pre_PoolMixIdeal m →
    (∀ c : Dev Cert.PoolMixIdeal.nD,
      m' ((c.tc : Thread Cert.PoolMixRefIdeal.nD Cert.PoolMixRefIdeal.τ).loc Cert.PoolMixRefIdeal.main_arg0) = m ((c.tc : Thread Cert.PoolMixIdeal.nD Cert.PoolMixIdeal.τ).loc Cert.PoolMixIdeal.main_arg0)
      ∧ m' ((c.tc : Thread Cert.PoolMixRefIdeal.nD Cert.PoolMixRefIdeal.τ).loc Cert.PoolMixRefIdeal.main_arg1) = m ((c.tc : Thread Cert.PoolMixIdeal.nD Cert.PoolMixIdeal.τ).loc Cert.PoolMixIdeal.main_arg1)) →
    ∃ (v0 : (c : Dev Cert.PoolMixIdeal.nD) → Buf (Elt Ideal) ((c.tc : Thread Cert.PoolMixIdeal.nD Cert.PoolMixIdeal.τ).loc Cert.PoolMixIdeal.main_v0)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v0) = v0 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1))
      ∧ θ_run (Cert.PoolMixRefIdeal.defs (F := Ideal)) (onTc (τ := Cert.PoolMixRefIdeal.τ) (Cert.PoolMixRefIdeal.main (F := Ideal))) ⟨m', fun _ => 0, g'⟩ (fun r => ∀ c : Dev Cert.PoolMixRefIdeal.nD,
          r.2.mem ((c.tc : Thread Cert.PoolMixRefIdeal.nD Cert.PoolMixRefIdeal.τ).loc Cert.PoolMixRefIdeal.main_v5) = v0 c
          ∧ r.2.mem ((c.tc : Thread Cert.PoolMixRefIdeal.nD Cert.PoolMixRefIdeal.τ).loc Cert.PoolMixRefIdeal.main_arg0) = m' ((c.tc : Thread Cert.PoolMixRefIdeal.nD Cert.PoolMixRefIdeal.τ).loc Cert.PoolMixRefIdeal.main_arg0)
          ∧ r.2.mem ((c.tc : Thread Cert.PoolMixRefIdeal.nD Cert.PoolMixRefIdeal.τ).loc Cert.PoolMixRefIdeal.main_arg1) = m' ((c.tc : Thread Cert.PoolMixRefIdeal.nD Cert.PoolMixRefIdeal.τ).loc Cert.PoolMixRefIdeal.main_arg1))

def preserves_RecGateDx_RecGateDxIdeal : Prop :=
  True

def algebraic_RecGateDxIdeal_RecGateDxRefIdeal [hRecGateDxIdeal : Cert.RecGateDxIdeal.Facts] [hRecGateDxRefIdeal : Cert.RecGateDxRefIdeal.Facts] : Prop :=
  ∀ (m : (ℓ : Loc Cert.RecGateDxIdeal.nD Cert.RecGateDxIdeal.τ Cert.RecGateDxIdeal.sig) → Buf (Elt Ideal) ℓ) (g : Dev Cert.RecGateDxIdeal.nD → PrngReg)
    (m' : (ℓ : Loc Cert.RecGateDxRefIdeal.nD Cert.RecGateDxRefIdeal.τ Cert.RecGateDxRefIdeal.sig) → Buf (Elt Ideal) ℓ) (g' : Dev Cert.RecGateDxRefIdeal.nD → PrngReg), Pre_RecGateDxIdeal m →
    (∀ c : Dev Cert.RecGateDxIdeal.nD,
      m' ((c.tc : Thread Cert.RecGateDxRefIdeal.nD Cert.RecGateDxRefIdeal.τ).loc Cert.RecGateDxRefIdeal.main_arg0) = m ((c.tc : Thread Cert.RecGateDxIdeal.nD Cert.RecGateDxIdeal.τ).loc Cert.RecGateDxIdeal.main_arg0)
      ∧ m' ((c.tc : Thread Cert.RecGateDxRefIdeal.nD Cert.RecGateDxRefIdeal.τ).loc Cert.RecGateDxRefIdeal.main_arg1) = m ((c.tc : Thread Cert.RecGateDxIdeal.nD Cert.RecGateDxIdeal.τ).loc Cert.RecGateDxIdeal.main_arg1)) →
    ∃ (v0 : (c : Dev Cert.RecGateDxIdeal.nD) → Buf (Elt Ideal) ((c.tc : Thread Cert.RecGateDxIdeal.nD Cert.RecGateDxIdeal.τ).loc Cert.RecGateDxIdeal.main_v0)),
      θ_run (Cert.RecGateDxIdeal.defs (F := Ideal)) (onTc (τ := Cert.RecGateDxIdeal.τ) (Cert.RecGateDxIdeal.main (F := Ideal))) ⟨m, fun _ => 0, g⟩ (fun r => ∀ c : Dev Cert.RecGateDxIdeal.nD,
          r.2.mem ((c.tc : Thread Cert.RecGateDxIdeal.nD Cert.RecGateDxIdeal.τ).loc Cert.RecGateDxIdeal.main_v0) = v0 c
          ∧ r.2.mem ((c.tc : Thread Cert.RecGateDxIdeal.nD Cert.RecGateDxIdeal.τ).loc Cert.RecGateDxIdeal.main_arg0) = m ((c.tc : Thread Cert.RecGateDxIdeal.nD Cert.RecGateDxIdeal.τ).loc Cert.RecGateDxIdeal.main_arg0)
          ∧ r.2.mem ((c.tc : Thread Cert.RecGateDxIdeal.nD Cert.RecGateDxIdeal.τ).loc Cert.RecGateDxIdeal.main_arg1) = m ((c.tc : Thread Cert.RecGateDxIdeal.nD Cert.RecGateDxIdeal.τ).loc Cert.RecGateDxIdeal.main_arg1))
      ∧ θ_run (Cert.RecGateDxRefIdeal.defs (F := Ideal)) (onTc (τ := Cert.RecGateDxRefIdeal.τ) (Cert.RecGateDxRefIdeal.main (F := Ideal))) ⟨m', fun _ => 0, g'⟩ (fun r => ∀ c : Dev Cert.RecGateDxRefIdeal.nD,
          r.2.mem ((c.tc : Thread Cert.RecGateDxRefIdeal.nD Cert.RecGateDxRefIdeal.τ).loc Cert.RecGateDxRefIdeal.main_v11) = v0 c
          ∧ r.2.mem ((c.tc : Thread Cert.RecGateDxRefIdeal.nD Cert.RecGateDxRefIdeal.τ).loc Cert.RecGateDxRefIdeal.main_arg0) = m' ((c.tc : Thread Cert.RecGateDxRefIdeal.nD Cert.RecGateDxRefIdeal.τ).loc Cert.RecGateDxRefIdeal.main_arg0)
          ∧ r.2.mem ((c.tc : Thread Cert.RecGateDxRefIdeal.nD Cert.RecGateDxRefIdeal.τ).loc Cert.RecGateDxRefIdeal.main_arg1) = m' ((c.tc : Thread Cert.RecGateDxRefIdeal.nD Cert.RecGateDxRefIdeal.τ).loc Cert.RecGateDxRefIdeal.main_arg1))

def preserves_RecGateDxAdd_RecGateDxAddIdeal : Prop :=
  True

def algebraic_RecGateDxAddIdeal_RecGateDxAddRefIdeal [hRecGateDxAddIdeal : Cert.RecGateDxAddIdeal.Facts] [hRecGateDxAddRefIdeal : Cert.RecGateDxAddRefIdeal.Facts] : Prop :=
  ∀ (m : (ℓ : Loc Cert.RecGateDxAddIdeal.nD Cert.RecGateDxAddIdeal.τ Cert.RecGateDxAddIdeal.sig) → Buf (Elt Ideal) ℓ) (g : Dev Cert.RecGateDxAddIdeal.nD → PrngReg)
    (m' : (ℓ : Loc Cert.RecGateDxAddRefIdeal.nD Cert.RecGateDxAddRefIdeal.τ Cert.RecGateDxAddRefIdeal.sig) → Buf (Elt Ideal) ℓ) (g' : Dev Cert.RecGateDxAddRefIdeal.nD → PrngReg), Pre_RecGateDxAddIdeal m →
    (∀ c : Dev Cert.RecGateDxAddIdeal.nD,
      m' ((c.tc : Thread Cert.RecGateDxAddRefIdeal.nD Cert.RecGateDxAddRefIdeal.τ).loc Cert.RecGateDxAddRefIdeal.main_arg0) = m ((c.tc : Thread Cert.RecGateDxAddIdeal.nD Cert.RecGateDxAddIdeal.τ).loc Cert.RecGateDxAddIdeal.main_arg0)
      ∧ m' ((c.tc : Thread Cert.RecGateDxAddRefIdeal.nD Cert.RecGateDxAddRefIdeal.τ).loc Cert.RecGateDxAddRefIdeal.main_arg1) = m ((c.tc : Thread Cert.RecGateDxAddIdeal.nD Cert.RecGateDxAddIdeal.τ).loc Cert.RecGateDxAddIdeal.main_arg1)
      ∧ m' ((c.tc : Thread Cert.RecGateDxAddRefIdeal.nD Cert.RecGateDxAddRefIdeal.τ).loc Cert.RecGateDxAddRefIdeal.main_arg2) = m ((c.tc : Thread Cert.RecGateDxAddIdeal.nD Cert.RecGateDxAddIdeal.τ).loc Cert.RecGateDxAddIdeal.main_arg2)) →
    ∃ (v0 : (c : Dev Cert.RecGateDxAddIdeal.nD) → Buf (Elt Ideal) ((c.tc : Thread Cert.RecGateDxAddIdeal.nD Cert.RecGateDxAddIdeal.τ).loc Cert.RecGateDxAddIdeal.main_v0)),
      θ_run (Cert.RecGateDxAddIdeal.defs (F := Ideal)) (onTc (τ := Cert.RecGateDxAddIdeal.τ) (Cert.RecGateDxAddIdeal.main (F := Ideal))) ⟨m, fun _ => 0, g⟩ (fun r => ∀ c : Dev Cert.RecGateDxAddIdeal.nD,
          r.2.mem ((c.tc : Thread Cert.RecGateDxAddIdeal.nD Cert.RecGateDxAddIdeal.τ).loc Cert.RecGateDxAddIdeal.main_v0) = v0 c
          ∧ r.2.mem ((c.tc : Thread Cert.RecGateDxAddIdeal.nD Cert.RecGateDxAddIdeal.τ).loc Cert.RecGateDxAddIdeal.main_arg0) = m ((c.tc : Thread Cert.RecGateDxAddIdeal.nD Cert.RecGateDxAddIdeal.τ).loc Cert.RecGateDxAddIdeal.main_arg0)
          ∧ r.2.mem ((c.tc : Thread Cert.RecGateDxAddIdeal.nD Cert.RecGateDxAddIdeal.τ).loc Cert.RecGateDxAddIdeal.main_arg1) = m ((c.tc : Thread Cert.RecGateDxAddIdeal.nD Cert.RecGateDxAddIdeal.τ).loc Cert.RecGateDxAddIdeal.main_arg1)
          ∧ r.2.mem ((c.tc : Thread Cert.RecGateDxAddIdeal.nD Cert.RecGateDxAddIdeal.τ).loc Cert.RecGateDxAddIdeal.main_arg2) = m ((c.tc : Thread Cert.RecGateDxAddIdeal.nD Cert.RecGateDxAddIdeal.τ).loc Cert.RecGateDxAddIdeal.main_arg2))
      ∧ θ_run (Cert.RecGateDxAddRefIdeal.defs (F := Ideal)) (onTc (τ := Cert.RecGateDxAddRefIdeal.τ) (Cert.RecGateDxAddRefIdeal.main (F := Ideal))) ⟨m', fun _ => 0, g'⟩ (fun r => ∀ c : Dev Cert.RecGateDxAddRefIdeal.nD,
          r.2.mem ((c.tc : Thread Cert.RecGateDxAddRefIdeal.nD Cert.RecGateDxAddRefIdeal.τ).loc Cert.RecGateDxAddRefIdeal.main_v12) = v0 c
          ∧ r.2.mem ((c.tc : Thread Cert.RecGateDxAddRefIdeal.nD Cert.RecGateDxAddRefIdeal.τ).loc Cert.RecGateDxAddRefIdeal.main_arg0) = m' ((c.tc : Thread Cert.RecGateDxAddRefIdeal.nD Cert.RecGateDxAddRefIdeal.τ).loc Cert.RecGateDxAddRefIdeal.main_arg0)
          ∧ r.2.mem ((c.tc : Thread Cert.RecGateDxAddRefIdeal.nD Cert.RecGateDxAddRefIdeal.τ).loc Cert.RecGateDxAddRefIdeal.main_arg1) = m' ((c.tc : Thread Cert.RecGateDxAddRefIdeal.nD Cert.RecGateDxAddRefIdeal.τ).loc Cert.RecGateDxAddRefIdeal.main_arg1)
          ∧ r.2.mem ((c.tc : Thread Cert.RecGateDxAddRefIdeal.nD Cert.RecGateDxAddRefIdeal.τ).loc Cert.RecGateDxAddRefIdeal.main_arg2) = m' ((c.tc : Thread Cert.RecGateDxAddRefIdeal.nD Cert.RecGateDxAddRefIdeal.τ).loc Cert.RecGateDxAddRefIdeal.main_arg2))

def preserves_RecGateDw_RecGateDwIdeal : Prop :=
  True

def algebraic_RecGateDwIdeal_RecGateDwRefIdeal [hRecGateDwIdeal : Cert.RecGateDwIdeal.Facts] [hRecGateDwRefIdeal : Cert.RecGateDwRefIdeal.Facts] : Prop :=
  ∀ (m : (ℓ : Loc Cert.RecGateDwIdeal.nD Cert.RecGateDwIdeal.τ Cert.RecGateDwIdeal.sig) → Buf (Elt Ideal) ℓ) (g : Dev Cert.RecGateDwIdeal.nD → PrngReg)
    (m' : (ℓ : Loc Cert.RecGateDwRefIdeal.nD Cert.RecGateDwRefIdeal.τ Cert.RecGateDwRefIdeal.sig) → Buf (Elt Ideal) ℓ) (g' : Dev Cert.RecGateDwRefIdeal.nD → PrngReg), Pre_RecGateDwIdeal m →
    (∀ c : Dev Cert.RecGateDwIdeal.nD,
      m' ((c.tc : Thread Cert.RecGateDwRefIdeal.nD Cert.RecGateDwRefIdeal.τ).loc Cert.RecGateDwRefIdeal.main_arg0) = m ((c.tc : Thread Cert.RecGateDwIdeal.nD Cert.RecGateDwIdeal.τ).loc Cert.RecGateDwIdeal.main_arg0)
      ∧ m' ((c.tc : Thread Cert.RecGateDwRefIdeal.nD Cert.RecGateDwRefIdeal.τ).loc Cert.RecGateDwRefIdeal.main_arg1) = m ((c.tc : Thread Cert.RecGateDwIdeal.nD Cert.RecGateDwIdeal.τ).loc Cert.RecGateDwIdeal.main_arg1)) →
    ∃ (v0 : (c : Dev Cert.RecGateDwIdeal.nD) → Buf (Elt Ideal) ((c.tc : Thread Cert.RecGateDwIdeal.nD Cert.RecGateDwIdeal.τ).loc Cert.RecGateDwIdeal.main_v0)),
      θ_run (Cert.RecGateDwIdeal.defs (F := Ideal)) (onTc (τ := Cert.RecGateDwIdeal.τ) (Cert.RecGateDwIdeal.main (F := Ideal))) ⟨m, fun _ => 0, g⟩ (fun r => ∀ c : Dev Cert.RecGateDwIdeal.nD,
          r.2.mem ((c.tc : Thread Cert.RecGateDwIdeal.nD Cert.RecGateDwIdeal.τ).loc Cert.RecGateDwIdeal.main_v0) = v0 c
          ∧ r.2.mem ((c.tc : Thread Cert.RecGateDwIdeal.nD Cert.RecGateDwIdeal.τ).loc Cert.RecGateDwIdeal.main_arg0) = m ((c.tc : Thread Cert.RecGateDwIdeal.nD Cert.RecGateDwIdeal.τ).loc Cert.RecGateDwIdeal.main_arg0)
          ∧ r.2.mem ((c.tc : Thread Cert.RecGateDwIdeal.nD Cert.RecGateDwIdeal.τ).loc Cert.RecGateDwIdeal.main_arg1) = m ((c.tc : Thread Cert.RecGateDwIdeal.nD Cert.RecGateDwIdeal.τ).loc Cert.RecGateDwIdeal.main_arg1))
      ∧ θ_run (Cert.RecGateDwRefIdeal.defs (F := Ideal)) (onTc (τ := Cert.RecGateDwRefIdeal.τ) (Cert.RecGateDwRefIdeal.main (F := Ideal))) ⟨m', fun _ => 0, g'⟩ (fun r => ∀ c : Dev Cert.RecGateDwRefIdeal.nD,
          r.2.mem ((c.tc : Thread Cert.RecGateDwRefIdeal.nD Cert.RecGateDwRefIdeal.τ).loc Cert.RecGateDwRefIdeal.main_v10) = v0 c
          ∧ r.2.mem ((c.tc : Thread Cert.RecGateDwRefIdeal.nD Cert.RecGateDwRefIdeal.τ).loc Cert.RecGateDwRefIdeal.main_arg0) = m' ((c.tc : Thread Cert.RecGateDwRefIdeal.nD Cert.RecGateDwRefIdeal.τ).loc Cert.RecGateDwRefIdeal.main_arg0)
          ∧ r.2.mem ((c.tc : Thread Cert.RecGateDwRefIdeal.nD Cert.RecGateDwRefIdeal.τ).loc Cert.RecGateDwRefIdeal.main_arg1) = m' ((c.tc : Thread Cert.RecGateDwRefIdeal.nD Cert.RecGateDwRefIdeal.τ).loc Cert.RecGateDwRefIdeal.main_arg1))

def preserves_RecGate_RecGateIdeal : Prop :=
  True

def algebraic_RecGateIdeal_RecGateRefIdeal [hRecGateIdeal : Cert.RecGateIdeal.Facts] [hRecGateRefIdeal : Cert.RecGateRefIdeal.Facts] : Prop :=
  ∀ (m : (ℓ : Loc Cert.RecGateIdeal.nD Cert.RecGateIdeal.τ Cert.RecGateIdeal.sig) → Buf (Elt Ideal) ℓ) (g : Dev Cert.RecGateIdeal.nD → PrngReg)
    (m' : (ℓ : Loc Cert.RecGateRefIdeal.nD Cert.RecGateRefIdeal.τ Cert.RecGateRefIdeal.sig) → Buf (Elt Ideal) ℓ) (g' : Dev Cert.RecGateRefIdeal.nD → PrngReg), Pre_RecGateIdeal m →
    (∀ c : Dev Cert.RecGateIdeal.nD,
      m' ((c.tc : Thread Cert.RecGateRefIdeal.nD Cert.RecGateRefIdeal.τ).loc Cert.RecGateRefIdeal.main_arg0) = m ((c.tc : Thread Cert.RecGateIdeal.nD Cert.RecGateIdeal.τ).loc Cert.RecGateIdeal.main_arg0)
      ∧ m' ((c.tc : Thread Cert.RecGateRefIdeal.nD Cert.RecGateRefIdeal.τ).loc Cert.RecGateRefIdeal.main_arg1) = m ((c.tc : Thread Cert.RecGateIdeal.nD Cert.RecGateIdeal.τ).loc Cert.RecGateIdeal.main_arg1)) →
    ∃ (v0 : (c : Dev Cert.RecGateIdeal.nD) → Buf (Elt Ideal) ((c.tc : Thread Cert.RecGateIdeal.nD Cert.RecGateIdeal.τ).loc Cert.RecGateIdeal.main_v0)),
      θ_run (Cert.RecGateIdeal.defs (F := Ideal)) (onTc (τ := Cert.RecGateIdeal.τ) (Cert.RecGateIdeal.main (F := Ideal))) ⟨m, fun _ => 0, g⟩ (fun r => ∀ c : Dev Cert.RecGateIdeal.nD,
          r.2.mem ((c.tc : Thread Cert.RecGateIdeal.nD Cert.RecGateIdeal.τ).loc Cert.RecGateIdeal.main_v0) = v0 c
          ∧ r.2.mem ((c.tc : Thread Cert.RecGateIdeal.nD Cert.RecGateIdeal.τ).loc Cert.RecGateIdeal.main_arg0) = m ((c.tc : Thread Cert.RecGateIdeal.nD Cert.RecGateIdeal.τ).loc Cert.RecGateIdeal.main_arg0)
          ∧ r.2.mem ((c.tc : Thread Cert.RecGateIdeal.nD Cert.RecGateIdeal.τ).loc Cert.RecGateIdeal.main_arg1) = m ((c.tc : Thread Cert.RecGateIdeal.nD Cert.RecGateIdeal.τ).loc Cert.RecGateIdeal.main_arg1))
      ∧ θ_run (Cert.RecGateRefIdeal.defs (F := Ideal)) (onTc (τ := Cert.RecGateRefIdeal.τ) (Cert.RecGateRefIdeal.main (F := Ideal))) ⟨m', fun _ => 0, g'⟩ (fun r => ∀ c : Dev Cert.RecGateRefIdeal.nD,
          r.2.mem ((c.tc : Thread Cert.RecGateRefIdeal.nD Cert.RecGateRefIdeal.τ).loc Cert.RecGateRefIdeal.main_v5) = v0 c
          ∧ r.2.mem ((c.tc : Thread Cert.RecGateRefIdeal.nD Cert.RecGateRefIdeal.τ).loc Cert.RecGateRefIdeal.main_arg0) = m' ((c.tc : Thread Cert.RecGateRefIdeal.nD Cert.RecGateRefIdeal.τ).loc Cert.RecGateRefIdeal.main_arg0)
          ∧ r.2.mem ((c.tc : Thread Cert.RecGateRefIdeal.nD Cert.RecGateRefIdeal.τ).loc Cert.RecGateRefIdeal.main_arg1) = m' ((c.tc : Thread Cert.RecGateRefIdeal.nD Cert.RecGateRefIdeal.τ).loc Cert.RecGateRefIdeal.main_arg1))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)) (v2 : (c : Dev Cert.LnIdeal.nD) → Buf (Elt Ideal) ((c.tc : Thread Cert.LnIdeal.nD Cert.LnIdeal.τ).loc Cert.LnIdeal.main_v0_2)) (v3 : (c : Dev Cert.LnIdeal.nD) → Buf (Elt Ideal) ((c.tc : Thread Cert.LnIdeal.nD Cert.LnIdeal.τ).loc Cert.LnIdeal.main_v0_3)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_v0_2) = v2 c
          ∧ r.2.mem ((c.tc : Thread Cert.LnIdeal.nD Cert.LnIdeal.τ).loc Cert.LnIdeal.main_v0_3) = v3 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v24) = v0 c
          ∧ r.2.mem ((c.tc : Thread Cert.LnRefIdeal.nD Cert.LnRefIdeal.τ).loc Cert.LnRefIdeal.main_v29) = v1 c
          ∧ r.2.mem ((c.tc : Thread Cert.LnRefIdeal.nD Cert.LnRefIdeal.τ).loc Cert.LnRefIdeal.main_v28) = v2 c
          ∧ r.2.mem ((c.tc : Thread Cert.LnRefIdeal.nD Cert.LnRefIdeal.τ).loc Cert.LnRefIdeal.main_v16) = v3 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_LnScaled_LnScaledIdeal : Prop :=
  True

def algebraic_LnScaledIdeal_LnScaledRefIdeal [hLnScaledIdeal : Cert.LnScaledIdeal.Facts] [hLnScaledRefIdeal : Cert.LnScaledRefIdeal.Facts] : Prop :=
  ∀ (m : (ℓ : Loc Cert.LnScaledIdeal.nD Cert.LnScaledIdeal.τ Cert.LnScaledIdeal.sig) → Buf (Elt Ideal) ℓ) (g : Dev Cert.LnScaledIdeal.nD → PrngReg)
    (m' : (ℓ : Loc Cert.LnScaledRefIdeal.nD Cert.LnScaledRefIdeal.τ Cert.LnScaledRefIdeal.sig) → Buf (Elt Ideal) ℓ) (g' : Dev Cert.LnScaledRefIdeal.nD → PrngReg), Pre_LnScaledIdeal m →
    (∀ c : Dev Cert.LnScaledIdeal.nD,
      m' ((c.tc : Thread Cert.LnScaledRefIdeal.nD Cert.LnScaledRefIdeal.τ).loc Cert.LnScaledRefIdeal.main_arg0) = m ((c.tc : Thread Cert.LnScaledIdeal.nD Cert.LnScaledIdeal.τ).loc Cert.LnScaledIdeal.main_arg0)
      ∧ m' ((c.tc : Thread Cert.LnScaledRefIdeal.nD Cert.LnScaledRefIdeal.τ).loc Cert.LnScaledRefIdeal.main_arg1) = m ((c.tc : Thread Cert.LnScaledIdeal.nD Cert.LnScaledIdeal.τ).loc Cert.LnScaledIdeal.main_arg1)
      ∧ m' ((c.tc : Thread Cert.LnScaledRefIdeal.nD Cert.LnScaledRefIdeal.τ).loc Cert.LnScaledRefIdeal.main_arg2) = m ((c.tc : Thread Cert.LnScaledIdeal.nD Cert.LnScaledIdeal.τ).loc Cert.LnScaledIdeal.main_arg2)
      ∧ m' ((c.tc : Thread Cert.LnScaledRefIdeal.nD Cert.LnScaledRefIdeal.τ).loc Cert.LnScaledRefIdeal.main_arg3) = m ((c.tc : Thread Cert.LnScaledIdeal.nD Cert.LnScaledIdeal.τ).loc Cert.LnScaledIdeal.main_arg3)
      ∧ m' ((c.tc : Thread Cert.LnScaledRefIdeal.nD Cert.LnScaledRefIdeal.τ).loc Cert.LnScaledRefIdeal.main_arg4) = m ((c.tc : Thread Cert.LnScaledIdeal.nD Cert.LnScaledIdeal.τ).loc Cert.LnScaledIdeal.main_arg4)) →
    ∃ (v0 : (c : Dev Cert.LnScaledIdeal.nD) → Buf (Elt Ideal) ((c.tc : Thread Cert.LnScaledIdeal.nD Cert.LnScaledIdeal.τ).loc Cert.LnScaledIdeal.main_v0_0)) (v1 : (c : Dev Cert.LnScaledIdeal.nD) → Buf (Elt Ideal) ((c.tc : Thread Cert.LnScaledIdeal.nD Cert.LnScaledIdeal.τ).loc Cert.LnScaledIdeal.main_v0_1)) (v2 : (c : Dev Cert.LnScaledIdeal.nD) → Buf (Elt Ideal) ((c.tc : Thread Cert.LnScaledIdeal.nD Cert.LnScaledIdeal.τ).loc Cert.LnScaledIdeal.main_v0_2)) (v3 : (c : Dev Cert.LnScaledIdeal.nD) → Buf (Elt Ideal) ((c.tc : Thread Cert.LnScaledIdeal.nD Cert.LnScaledIdeal.τ).loc Cert.LnScaledIdeal.main_v0_3)),
      θ_run (Cert.LnScaledIdeal.defs (F := Ideal)) (onTc (τ := Cert.LnScaledIdeal.τ) (Cert.LnScaledIdeal.main (F := Ideal))) ⟨m, fun _ => 0, g⟩ (fun r => ∀ c : Dev Cert.LnScaledIdeal.nD,
          r.2.mem ((c.tc : Thread Cert.LnScaledIdeal.nD Cert.LnScaledIdeal.τ).loc Cert.LnScaledIdeal.main_v0_0) = v0 c
          ∧ r.2.mem ((c.tc : Thread Cert.LnScaledIdeal.nD Cert.LnScaledIdeal.τ).loc Cert.LnScaledIdeal.main_v0_1) = v1 c
          ∧ r.2.mem ((c.tc : Thread Cert.LnScaledIdeal.nD Cert.LnScaledIdeal.τ).loc Cert.LnScaledIdeal.main_v0_2) = v2 c
          ∧ r.2.mem ((c.tc : Thread Cert.LnScaledIdeal.nD Cert.LnScaledIdeal.τ).loc Cert.LnScaledIdeal.main_v0_3) = v3 c
          ∧ r.2.mem ((c.tc : Thread Cert.LnScaledIdeal.nD Cert.LnScaledIdeal.τ).loc Cert.LnScaledIdeal.main_arg0) = m ((c.tc : Thread Cert.LnScaledIdeal.nD Cert.LnScaledIdeal.τ).loc Cert.LnScaledIdeal.main_arg0)
          ∧ r.2.mem ((c.tc : Thread Cert.LnScaledIdeal.nD Cert.LnScaledIdeal.τ).loc Cert.LnScaledIdeal.main_arg1) = m ((c.tc : Thread Cert.LnScaledIdeal.nD Cert.LnScaledIdeal.τ).loc Cert.LnScaledIdeal.main_arg1)
          ∧ r.2.mem ((c.tc : Thread Cert.LnScaledIdeal.nD Cert.LnScaledIdeal.τ).loc Cert.LnScaledIdeal.main_arg2) = m ((c.tc : Thread Cert.LnScaledIdeal.nD Cert.LnScaledIdeal.τ).loc Cert.LnScaledIdeal.main_arg2)
          ∧ r.2.mem ((c.tc : Thread Cert.LnScaledIdeal.nD Cert.LnScaledIdeal.τ).loc Cert.LnScaledIdeal.main_arg3) = m ((c.tc : Thread Cert.LnScaledIdeal.nD Cert.LnScaledIdeal.τ).loc Cert.LnScaledIdeal.main_arg3)
          ∧ r.2.mem ((c.tc : Thread Cert.LnScaledIdeal.nD Cert.LnScaledIdeal.τ).loc Cert.LnScaledIdeal.main_arg4) = m ((c.tc : Thread Cert.LnScaledIdeal.nD Cert.LnScaledIdeal.τ).loc Cert.LnScaledIdeal.main_arg4))
      ∧ θ_run (Cert.LnScaledRefIdeal.defs (F := Ideal)) (onTc (τ := Cert.LnScaledRefIdeal.τ) (Cert.LnScaledRefIdeal.main (F := Ideal))) ⟨m', fun _ => 0, g'⟩ (fun r => ∀ c : Dev Cert.LnScaledRefIdeal.nD,
          r.2.mem ((c.tc : Thread Cert.LnScaledRefIdeal.nD Cert.LnScaledRefIdeal.τ).loc Cert.LnScaledRefIdeal.main_v26) = v0 c
          ∧ r.2.mem ((c.tc : Thread Cert.LnScaledRefIdeal.nD Cert.LnScaledRefIdeal.τ).loc Cert.LnScaledRefIdeal.main_v31) = v1 c
          ∧ r.2.mem ((c.tc : Thread Cert.LnScaledRefIdeal.nD Cert.LnScaledRefIdeal.τ).loc Cert.LnScaledRefIdeal.main_v30) = v2 c
          ∧ r.2.mem ((c.tc : Thread Cert.LnScaledRefIdeal.nD Cert.LnScaledRefIdeal.τ).loc Cert.LnScaledRefIdeal.main_v18) = v3 c
          ∧ r.2.mem ((c.tc : Thread Cert.LnScaledRefIdeal.nD Cert.LnScaledRefIdeal.τ).loc Cert.LnScaledRefIdeal.main_arg0) = m' ((c.tc : Thread Cert.LnScaledRefIdeal.nD Cert.LnScaledRefIdeal.τ).loc Cert.LnScaledRefIdeal.main_arg0)
          ∧ r.2.mem ((c.tc : Thread Cert.LnScaledRefIdeal.nD Cert.LnScaledRefIdeal.τ).loc Cert.LnScaledRefIdeal.main_arg1) = m' ((c.tc : Thread Cert.LnScaledRefIdeal.nD Cert.LnScaledRefIdeal.τ).loc Cert.LnScaledRefIdeal.main_arg1)
          ∧ r.2.mem ((c.tc : Thread Cert.LnScaledRefIdeal.nD Cert.LnScaledRefIdeal.τ).loc Cert.LnScaledRefIdeal.main_arg2) = m' ((c.tc : Thread Cert.LnScaledRefIdeal.nD Cert.LnScaledRefIdeal.τ).loc Cert.LnScaledRefIdeal.main_arg2)
          ∧ r.2.mem ((c.tc : Thread Cert.LnScaledRefIdeal.nD Cert.LnScaledRefIdeal.τ).loc Cert.LnScaledRefIdeal.main_arg3) = m' ((c.tc : Thread Cert.LnScaledRefIdeal.nD Cert.LnScaledRefIdeal.τ).loc Cert.LnScaledRefIdeal.main_arg3)
          ∧ r.2.mem ((c.tc : Thread Cert.LnScaledRefIdeal.nD Cert.LnScaledRefIdeal.τ).loc Cert.LnScaledRefIdeal.main_arg4) = m' ((c.tc : Thread Cert.LnScaledRefIdeal.nD Cert.LnScaledRefIdeal.τ).loc Cert.LnScaledRefIdeal.main_arg4))

def preserves_ScaleBwd_ScaleBwdIdeal : Prop :=
  True

def algebraic_ScaleBwdIdeal_ScaleBwdRefIdeal [hScaleBwdIdeal : Cert.ScaleBwdIdeal.Facts] [hScaleBwdRefIdeal : Cert.ScaleBwdRefIdeal.Facts] : Prop :=
  ∀ (m : (ℓ : Loc Cert.ScaleBwdIdeal.nD Cert.ScaleBwdIdeal.τ Cert.ScaleBwdIdeal.sig) → Buf (Elt Ideal) ℓ) (g : Dev Cert.ScaleBwdIdeal.nD → PrngReg)
    (m' : (ℓ : Loc Cert.ScaleBwdRefIdeal.nD Cert.ScaleBwdRefIdeal.τ Cert.ScaleBwdRefIdeal.sig) → Buf (Elt Ideal) ℓ) (g' : Dev Cert.ScaleBwdRefIdeal.nD → PrngReg), Pre_ScaleBwdIdeal m →
    (∀ c : Dev Cert.ScaleBwdIdeal.nD,
      m' ((c.tc : Thread Cert.ScaleBwdRefIdeal.nD Cert.ScaleBwdRefIdeal.τ).loc Cert.ScaleBwdRefIdeal.main_arg0) = m ((c.tc : Thread Cert.ScaleBwdIdeal.nD Cert.ScaleBwdIdeal.τ).loc Cert.ScaleBwdIdeal.main_arg0)
      ∧ m' ((c.tc : Thread Cert.ScaleBwdRefIdeal.nD Cert.ScaleBwdRefIdeal.τ).loc Cert.ScaleBwdRefIdeal.main_arg1) = m ((c.tc : Thread Cert.ScaleBwdIdeal.nD Cert.ScaleBwdIdeal.τ).loc Cert.ScaleBwdIdeal.main_arg1)
      ∧ m' ((c.tc : Thread Cert.ScaleBwdRefIdeal.nD Cert.ScaleBwdRefIdeal.τ).loc Cert.ScaleBwdRefIdeal.main_arg2) = m ((c.tc : Thread Cert.ScaleBwdIdeal.nD Cert.ScaleBwdIdeal.τ).loc Cert.ScaleBwdIdeal.main_arg2)) →
    ∃ (v0 : (c : Dev Cert.ScaleBwdIdeal.nD) → Buf (Elt Ideal) ((c.tc : Thread Cert.ScaleBwdIdeal.nD Cert.ScaleBwdIdeal.τ).loc Cert.ScaleBwdIdeal.main_v0_0)) (v1 : (c : Dev Cert.ScaleBwdIdeal.nD) → Buf (Elt Ideal) ((c.tc : Thread Cert.ScaleBwdIdeal.nD Cert.ScaleBwdIdeal.τ).loc Cert.ScaleBwdIdeal.main_v0_1)),
      θ_run (Cert.ScaleBwdIdeal.defs (F := Ideal)) (onTc (τ := Cert.ScaleBwdIdeal.τ) (Cert.ScaleBwdIdeal.main (F := Ideal))) ⟨m, fun _ => 0, g⟩ (fun r => ∀ c : Dev Cert.ScaleBwdIdeal.nD,
          r.2.mem ((c.tc : Thread Cert.ScaleBwdIdeal.nD Cert.ScaleBwdIdeal.τ).loc Cert.ScaleBwdIdeal.main_v0_0) = v0 c
          ∧ r.2.mem ((c.tc : Thread Cert.ScaleBwdIdeal.nD Cert.ScaleBwdIdeal.τ).loc Cert.ScaleBwdIdeal.main_v0_1) = v1 c
          ∧ r.2.mem ((c.tc : Thread Cert.ScaleBwdIdeal.nD Cert.ScaleBwdIdeal.τ).loc Cert.ScaleBwdIdeal.main_arg0) = m ((c.tc : Thread Cert.ScaleBwdIdeal.nD Cert.ScaleBwdIdeal.τ).loc Cert.ScaleBwdIdeal.main_arg0)
          ∧ r.2.mem ((c.tc : Thread Cert.ScaleBwdIdeal.nD Cert.ScaleBwdIdeal.τ).loc Cert.ScaleBwdIdeal.main_arg1) = m ((c.tc : Thread Cert.ScaleBwdIdeal.nD Cert.ScaleBwdIdeal.τ).loc Cert.ScaleBwdIdeal.main_arg1)
          ∧ r.2.mem ((c.tc : Thread Cert.ScaleBwdIdeal.nD Cert.ScaleBwdIdeal.τ).loc Cert.ScaleBwdIdeal.main_arg2) = m ((c.tc : Thread Cert.ScaleBwdIdeal.nD Cert.ScaleBwdIdeal.τ).loc Cert.ScaleBwdIdeal.main_arg2))
      ∧ θ_run (Cert.ScaleBwdRefIdeal.defs (F := Ideal)) (onTc (τ := Cert.ScaleBwdRefIdeal.τ) (Cert.ScaleBwdRefIdeal.main (F := Ideal))) ⟨m', fun _ => 0, g'⟩ (fun r => ∀ c : Dev Cert.ScaleBwdRefIdeal.nD,
          r.2.mem ((c.tc : Thread Cert.ScaleBwdRefIdeal.nD Cert.ScaleBwdRefIdeal.τ).loc Cert.ScaleBwdRefIdeal.main_v7) = v0 c
          ∧ r.2.mem ((c.tc : Thread Cert.ScaleBwdRefIdeal.nD Cert.ScaleBwdRefIdeal.τ).loc Cert.ScaleBwdRefIdeal.main_v4) = v1 c
          ∧ r.2.mem ((c.tc : Thread Cert.ScaleBwdRefIdeal.nD Cert.ScaleBwdRefIdeal.τ).loc Cert.ScaleBwdRefIdeal.main_arg0) = m' ((c.tc : Thread Cert.ScaleBwdRefIdeal.nD Cert.ScaleBwdRefIdeal.τ).loc Cert.ScaleBwdRefIdeal.main_arg0)
          ∧ r.2.mem ((c.tc : Thread Cert.ScaleBwdRefIdeal.nD Cert.ScaleBwdRefIdeal.τ).loc Cert.ScaleBwdRefIdeal.main_arg1) = m' ((c.tc : Thread Cert.ScaleBwdRefIdeal.nD Cert.ScaleBwdRefIdeal.τ).loc Cert.ScaleBwdRefIdeal.main_arg1)
          ∧ r.2.mem ((c.tc : Thread Cert.ScaleBwdRefIdeal.nD Cert.ScaleBwdRefIdeal.τ).loc Cert.ScaleBwdRefIdeal.main_arg2) = m' ((c.tc : Thread Cert.ScaleBwdRefIdeal.nD Cert.ScaleBwdRefIdeal.τ).loc Cert.ScaleBwdRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v4_0)) (v1 : (c : Dev Cert.AttnIdeal.nD) → Buf (Elt Ideal) ((c.tc : Thread Cert.AttnIdeal.nD Cert.AttnIdeal.τ).loc Cert.AttnIdeal.main_v4_1)) (v2 : (c : Dev Cert.AttnIdeal.nD) → Buf (Elt Ideal) ((c.tc : Thread Cert.AttnIdeal.nD Cert.AttnIdeal.τ).loc Cert.AttnIdeal.main_v4_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4_0) = v0 c
          ∧ r.2.mem ((c.tc : Thread Cert.AttnIdeal.nD Cert.AttnIdeal.τ).loc Cert.AttnIdeal.main_v4_1) = v1 c
          ∧ r.2.mem ((c.tc : Thread Cert.AttnIdeal.nD Cert.AttnIdeal.τ).loc Cert.AttnIdeal.main_v4_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v72) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMixerOutDx : Cert.MixerOutDx.Facts) (hMixerOutDxIdeal : Cert.MixerOutDxIdeal.Facts) (hMixerOutDxRefIdeal : Cert.MixerOutDxRefIdeal.Facts) (hMixerOutDw : Cert.MixerOutDw.Facts) (hMixerOutDwIdeal : Cert.MixerOutDwIdeal.Facts) (hMixerOutDwRefIdeal : Cert.MixerOutDwRefIdeal.Facts) (hMixerOut : Cert.MixerOut.Facts) (hMixerOutIdeal : Cert.MixerOutIdeal.Facts) (hMixerOutRefIdeal : Cert.MixerOutRefIdeal.Facts) (hAttnInDx : Cert.AttnInDx.Facts) (hAttnInDxIdeal : Cert.AttnInDxIdeal.Facts) (hAttnInDxRefIdeal : Cert.AttnInDxRefIdeal.Facts) (hAttnInDw : Cert.AttnInDw.Facts) (hAttnInDwIdeal : Cert.AttnInDwIdeal.Facts) (hAttnInDwRefIdeal : Cert.AttnInDwRefIdeal.Facts) (hAttnIn : Cert.AttnIn.Facts) (hAttnInIdeal : Cert.AttnInIdeal.Facts) (hAttnInRefIdeal : Cert.AttnInRefIdeal.Facts) (hRecInDx : Cert.RecInDx.Facts) (hRecInDxIdeal : Cert.RecInDxIdeal.Facts) (hRecInDxRefIdeal : Cert.RecInDxRefIdeal.Facts) (hRecInDw : Cert.RecInDw.Facts) (hRecInDwIdeal : Cert.RecInDwIdeal.Facts) (hRecInDwRefIdeal : Cert.RecInDwRefIdeal.Facts) (hRecIn : Cert.RecIn.Facts) (hRecInIdeal : Cert.RecInIdeal.Facts) (hRecInRefIdeal : Cert.RecInRefIdeal.Facts) (hPoolMixDx : Cert.PoolMixDx.Facts) (hPoolMixDxIdeal : Cert.PoolMixDxIdeal.Facts) (hPoolMixDxRefIdeal : Cert.PoolMixDxRefIdeal.Facts) (hPoolMixDw : Cert.PoolMixDw.Facts) (hPoolMixDwIdeal : Cert.PoolMixDwIdeal.Facts) (hPoolMixDwRefIdeal : Cert.PoolMixDwRefIdeal.Facts) (hPoolMix : Cert.PoolMix.Facts) (hPoolMixIdeal : Cert.PoolMixIdeal.Facts) (hPoolMixRefIdeal : Cert.PoolMixRefIdeal.Facts) (hRecGateDx : Cert.RecGateDx.Facts) (hRecGateDxIdeal : Cert.RecGateDxIdeal.Facts) (hRecGateDxRefIdeal : Cert.RecGateDxRefIdeal.Facts) (hRecGateDxAdd : Cert.RecGateDxAdd.Facts) (hRecGateDxAddIdeal : Cert.RecGateDxAddIdeal.Facts) (hRecGateDxAddRefIdeal : Cert.RecGateDxAddRefIdeal.Facts) (hRecGateDw : Cert.RecGateDw.Facts) (hRecGateDwIdeal : Cert.RecGateDwIdeal.Facts) (hRecGateDwRefIdeal : Cert.RecGateDwRefIdeal.Facts) (hRecGate : Cert.RecGate.Facts) (hRecGateIdeal : Cert.RecGateIdeal.Facts) (hRecGateRefIdeal : Cert.RecGateRefIdeal.Facts) (hLn : Cert.Ln.Facts) (hLnIdeal : Cert.LnIdeal.Facts) (hLnRefIdeal : Cert.LnRefIdeal.Facts) (hLnScaled : Cert.LnScaled.Facts) (hLnScaledIdeal : Cert.LnScaledIdeal.Facts) (hLnScaledRefIdeal : Cert.LnScaledRefIdeal.Facts) (hScaleBwd : Cert.ScaleBwd.Facts) (hScaleBwdIdeal : Cert.ScaleBwdIdeal.Facts) (hScaleBwdRefIdeal : Cert.ScaleBwdRefIdeal.Facts) (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_MixerOutDx (hMixerOutDx := hMixerOutDx)
    ∧ quiescent_MixerOutDxIdeal (hMixerOutDxIdeal := hMixerOutDxIdeal)
    ∧ quiescent_MixerOutDxRefIdeal (hMixerOutDxRefIdeal := hMixerOutDxRefIdeal)
    ∧ quiescent_MixerOutDw (hMixerOutDw := hMixerOutDw)
    ∧ quiescent_MixerOutDwIdeal (hMixerOutDwIdeal := hMixerOutDwIdeal)
    ∧ quiescent_MixerOutDwRefIdeal (hMixerOutDwRefIdeal := hMixerOutDwRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_AttnInDx (hAttnInDx := hAttnInDx)
    ∧ quiescent_AttnInDxIdeal (hAttnInDxIdeal := hAttnInDxIdeal)
    ∧ quiescent_AttnInDxRefIdeal (hAttnInDxRefIdeal := hAttnInDxRefIdeal)
    ∧ quiescent_AttnInDw (hAttnInDw := hAttnInDw)
    ∧ quiescent_AttnInDwIdeal (hAttnInDwIdeal := hAttnInDwIdeal)
    ∧ quiescent_AttnInDwRefIdeal (hAttnInDwRefIdeal := hAttnInDwRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_RecInDx (hRecInDx := hRecInDx)
    ∧ quiescent_RecInDxIdeal (hRecInDxIdeal := hRecInDxIdeal)
    ∧ quiescent_RecInDxRefIdeal (hRecInDxRefIdeal := hRecInDxRefIdeal)
    ∧ quiescent_RecInDw (hRecInDw := hRecInDw)
    ∧ quiescent_RecInDwIdeal (hRecInDwIdeal := hRecInDwIdeal)
    ∧ quiescent_RecInDwRefIdeal (hRecInDwRefIdeal := hRecInDwRefIdeal)
    ∧ quiescent_RecIn (hRecIn := hRecIn)
    ∧ quiescent_RecInIdeal (hRecInIdeal := hRecInIdeal)
    ∧ quiescent_RecInRefIdeal (hRecInRefIdeal := hRecInRefIdeal)
    ∧ quiescent_PoolMixDx (hPoolMixDx := hPoolMixDx)
    ∧ quiescent_PoolMixDxIdeal (hPoolMixDxIdeal := hPoolMixDxIdeal)
    ∧ quiescent_PoolMixDxRefIdeal (hPoolMixDxRefIdeal := hPoolMixDxRefIdeal)
    ∧ quiescent_PoolMixDw (hPoolMixDw := hPoolMixDw)
    ∧ quiescent_PoolMixDwIdeal (hPoolMixDwIdeal := hPoolMixDwIdeal)
    ∧ quiescent_PoolMixDwRefIdeal (hPoolMixDwRefIdeal := hPoolMixDwRefIdeal)
    ∧ quiescent_PoolMix (hPoolMix := hPoolMix)
    ∧ quiescent_PoolMixIdeal (hPoolMixIdeal := hPoolMixIdeal)
    ∧ quiescent_PoolMixRefIdeal (hPoolMixRefIdeal := hPoolMixRefIdeal)
    ∧ quiescent_RecGateDx (hRecGateDx := hRecGateDx)
    ∧ quiescent_RecGateDxIdeal (hRecGateDxIdeal := hRecGateDxIdeal)
    ∧ quiescent_RecGateDxRefIdeal (hRecGateDxRefIdeal := hRecGateDxRefIdeal)
    ∧ quiescent_RecGateDxAdd (hRecGateDxAdd := hRecGateDxAdd)
    ∧ quiescent_RecGateDxAddIdeal (hRecGateDxAddIdeal := hRecGateDxAddIdeal)
    ∧ quiescent_RecGateDxAddRefIdeal (hRecGateDxAddRefIdeal := hRecGateDxAddRefIdeal)
    ∧ quiescent_RecGateDw (hRecGateDw := hRecGateDw)
    ∧ quiescent_RecGateDwIdeal (hRecGateDwIdeal := hRecGateDwIdeal)
    ∧ quiescent_RecGateDwRefIdeal (hRecGateDwRefIdeal := hRecGateDwRefIdeal)
    ∧ quiescent_RecGate (hRecGate := hRecGate)
    ∧ quiescent_RecGateIdeal (hRecGateIdeal := hRecGateIdeal)
    ∧ quiescent_RecGateRefIdeal (hRecGateRefIdeal := hRecGateRefIdeal)
    ∧ quiescent_Ln (hLn := hLn)
    ∧ quiescent_LnIdeal (hLnIdeal := hLnIdeal)
    ∧ quiescent_LnRefIdeal (hLnRefIdeal := hLnRefIdeal)
    ∧ quiescent_LnScaled (hLnScaled := hLnScaled)
    ∧ quiescent_LnScaledIdeal (hLnScaledIdeal := hLnScaledIdeal)
    ∧ quiescent_LnScaledRefIdeal (hLnScaledRefIdeal := hLnScaledRefIdeal)
    ∧ quiescent_ScaleBwd (hScaleBwd := hScaleBwd)
    ∧ quiescent_ScaleBwdIdeal (hScaleBwdIdeal := hScaleBwdIdeal)
    ∧ quiescent_ScaleBwdRefIdeal (hScaleBwdRefIdeal := hScaleBwdRefIdeal)
    ∧ quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_MixerOutDx_MixerOutDxIdeal
    ∧ algebraic_MixerOutDxIdeal_MixerOutDxRefIdeal (hMixerOutDxIdeal := hMixerOutDxIdeal) (hMixerOutDxRefIdeal := hMixerOutDxRefIdeal)
    ∧ preserves_MixerOutDw_MixerOutDwIdeal
    ∧ algebraic_MixerOutDwIdeal_MixerOutDwRefIdeal (hMixerOutDwIdeal := hMixerOutDwIdeal) (hMixerOutDwRefIdeal := hMixerOutDwRefIdeal)
    ∧ preserves_MixerOut_MixerOutIdeal
    ∧ algebraic_MixerOutIdeal_MixerOutRefIdeal (hMixerOutIdeal := hMixerOutIdeal) (hMixerOutRefIdeal := hMixerOutRefIdeal)
    ∧ preserves_AttnInDx_AttnInDxIdeal
    ∧ algebraic_AttnInDxIdeal_AttnInDxRefIdeal (hAttnInDxIdeal := hAttnInDxIdeal) (hAttnInDxRefIdeal := hAttnInDxRefIdeal)
    ∧ preserves_AttnInDw_AttnInDwIdeal
    ∧ algebraic_AttnInDwIdeal_AttnInDwRefIdeal (hAttnInDwIdeal := hAttnInDwIdeal) (hAttnInDwRefIdeal := hAttnInDwRefIdeal)
    ∧ preserves_AttnIn_AttnInIdeal
    ∧ algebraic_AttnInIdeal_AttnInRefIdeal (hAttnInIdeal := hAttnInIdeal) (hAttnInRefIdeal := hAttnInRefIdeal)
    ∧ preserves_RecInDx_RecInDxIdeal
    ∧ algebraic_RecInDxIdeal_RecInDxRefIdeal (hRecInDxIdeal := hRecInDxIdeal) (hRecInDxRefIdeal := hRecInDxRefIdeal)
    ∧ preserves_RecInDw_RecInDwIdeal
    ∧ algebraic_RecInDwIdeal_RecInDwRefIdeal (hRecInDwIdeal := hRecInDwIdeal) (hRecInDwRefIdeal := hRecInDwRefIdeal)
    ∧ preserves_RecIn_RecInIdeal
    ∧ algebraic_RecInIdeal_RecInRefIdeal (hRecInIdeal := hRecInIdeal) (hRecInRefIdeal := hRecInRefIdeal)
    ∧ preserves_PoolMixDx_PoolMixDxIdeal
    ∧ algebraic_PoolMixDxIdeal_PoolMixDxRefIdeal (hPoolMixDxIdeal := hPoolMixDxIdeal) (hPoolMixDxRefIdeal := hPoolMixDxRefIdeal)
    ∧ preserves_PoolMixDw_PoolMixDwIdeal
    ∧ algebraic_PoolMixDwIdeal_PoolMixDwRefIdeal (hPoolMixDwIdeal := hPoolMixDwIdeal) (hPoolMixDwRefIdeal := hPoolMixDwRefIdeal)
    ∧ preserves_PoolMix_PoolMixIdeal
    ∧ algebraic_PoolMixIdeal_PoolMixRefIdeal (hPoolMixIdeal := hPoolMixIdeal) (hPoolMixRefIdeal := hPoolMixRefIdeal)
    ∧ preserves_RecGateDx_RecGateDxIdeal
    ∧ algebraic_RecGateDxIdeal_RecGateDxRefIdeal (hRecGateDxIdeal := hRecGateDxIdeal) (hRecGateDxRefIdeal := hRecGateDxRefIdeal)
    ∧ preserves_RecGateDxAdd_RecGateDxAddIdeal
    ∧ algebraic_RecGateDxAddIdeal_RecGateDxAddRefIdeal (hRecGateDxAddIdeal := hRecGateDxAddIdeal) (hRecGateDxAddRefIdeal := hRecGateDxAddRefIdeal)
    ∧ preserves_RecGateDw_RecGateDwIdeal
    ∧ algebraic_RecGateDwIdeal_RecGateDwRefIdeal (hRecGateDwIdeal := hRecGateDwIdeal) (hRecGateDwRefIdeal := hRecGateDwRefIdeal)
    ∧ preserves_RecGate_RecGateIdeal
    ∧ algebraic_RecGateIdeal_RecGateRefIdeal (hRecGateIdeal := hRecGateIdeal) (hRecGateRefIdeal := hRecGateRefIdeal)
    ∧ preserves_Ln_LnIdeal
    ∧ algebraic_LnIdeal_LnRefIdeal (hLnIdeal := hLnIdeal) (hLnRefIdeal := hLnRefIdeal)
    ∧ preserves_LnScaled_LnScaledIdeal
    ∧ algebraic_LnScaledIdeal_LnScaledRefIdeal (hLnScaledIdeal := hLnScaledIdeal) (hLnScaledRefIdeal := hLnScaledRefIdeal)
    ∧ preserves_ScaleBwd_ScaleBwdIdeal
    ∧ algebraic_ScaleBwdIdeal_ScaleBwdRefIdeal (hScaleBwdIdeal := hScaleBwdIdeal) (hScaleBwdRefIdeal := hScaleBwdRefIdeal)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
-- ==== Pre_finite.lean ====
abbrev S2048x6272 : Shape := ⟨2, ![2048, 6272]⟩
abbrev S2048x128 : Shape := ⟨2, ![2048, 128]⟩
abbrev S2048x2048 : Shape := ⟨2, ![2048, 2048]⟩
abbrev S2048x6144 : Shape := ⟨2, ![2048, 6144]⟩
abbrev S_ : Shape := ⟨0, ![]⟩
abbrev S2048x16 : Shape := ⟨2, ![2048, 16]⟩

class Facts : Prop where
  slices_S2048x6272_S2048x6144_0_0 : S2048x6272.Slices ![0, 0] S2048x6144
  bcast_S_S2048x6144 : S_.BroadcastsInDim S2048x6144 (![] : Fin 0 → Fin S2048x6144.rank)
  slices_S2048x128_S2048x16_0_0 : S2048x128.Slices ![0, 0] S2048x16
  bcast_S_S2048x16 : S_.BroadcastsInDim S2048x16 (![] : Fin 0 → Fin S2048x16.rank)
  bcast_S_S2048x2048 : S_.BroadcastsInDim S2048x2048 (![] : Fin 0 → Fin S2048x2048.rank)

variable [Facts]

def fn {F : FTy → Type} [FloatOps F] (main_arg0 : FVec F S2048x6272 .f32) (main_arg1 : FVec F S2048x128 .f32) (main_arg2 : FVec F S2048x2048 .f32) : IVec S2048x6144 1 × IVec S2048x16 1 × IVec S2048x2048 1 :=
  let main_v0 : FVec F S2048x6144 .f32 := (extractStridedSlice S2048x6144 ![0, 0] · slices_S2048x6272_S2048x6144_0_0) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S2048x16 .f32 := (extractStridedSlice S2048x16 ![0, 0] · slices_S2048x128_S2048x16_0_0) main_arg1
  let main_v5 : FVec F S2048x16 .f32 := Host.absf main_v4
  let main_cst_0 : FVec F S_ .f32 := constant S_ .f32 0x7F800000#32
  let main_v6 : FVec F S2048x16 .f32 := broadcastInDim S2048x16 ![] bcast_S_S2048x16 main_cst_0
  let main_v7 : IVec S2048x16 1 := cmpf .olt main_v5 main_v6
  let main_v8 : FVec F S2048x2048 .f32 := Host.absf main_arg2
  let main_cst_1 : FVec F S_ .f32 := constant S_ .f32 0x7F800000#32
  let main_v9 : FVec F S2048x2048 .f32 := broadcastInDim S2048x2048 ![] bcast_S_S2048x2048 main_cst_1
  let main_v10 : IVec S2048x2048 1 := cmpf .olt main_v8 main_v9
  (main_v3, main_v7, main_v10)
-- ==== Pre_finite_attn.lean ====
abbrev S2048x6272 : Shape := ⟨2, ![2048, 6272]⟩
abbrev S2048x128 : Shape := ⟨2, ![2048, 128]⟩
abbrev S2048x6144 : Shape := ⟨2, ![2048, 6144]⟩
abbrev S_ : Shape := ⟨0, ![]⟩
abbrev S2048x16 : Shape := ⟨2, ![2048, 16]⟩

class Facts : Prop where
  slices_S2048x6272_S2048x6144_0_0 : S2048x6272.Slices ![0, 0] S2048x6144
  bcast_S_S2048x6144 : S_.BroadcastsInDim S2048x6144 (![] : Fin 0 → Fin S2048x6144.rank)
  slices_S2048x128_S2048x16_0_0 : S2048x128.Slices ![0, 0] S2048x16
  bcast_S_S2048x16 : S_.BroadcastsInDim S2048x16 (![] : Fin 0 → Fin S2048x16.rank)

variable [Facts]

def fn {F : FTy → Type} [FloatOps F] (main_arg0 : FVec F S2048x6272 .f32) (main_arg1 : FVec F S2048x128 .f32) : IVec S2048x6144 1 × IVec S2048x16 1 :=
  let main_v0 : FVec F S2048x6144 .f32 := (extractStridedSlice S2048x6144 ![0, 0] · slices_S2048x6272_S2048x6144_0_0) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S2048x16 .f32 := (extractStridedSlice S2048x16 ![0, 0] · slices_S2048x128_S2048x16_0_0) main_arg1
  let main_v5 : FVec F S2048x16 .f32 := Host.absf main_v4
  let main_cst_0 : FVec F S_ .f32 := constant S_ .f32 0x7F800000#32
  let main_v6 : FVec F S2048x16 .f32 := broadcastInDim S2048x16 ![] bcast_S_S2048x16 main_cst_0
  let main_v7 : IVec S2048x16 1 := cmpf .olt main_v5 main_v6
  (main_v3, main_v7)
-- ==== Kernel.lean ====
abbrev S2048x6272 : Shape := ⟨2, ![2048, 6272]⟩
abbrev S2048x128 : Shape := ⟨2, ![2048, 128]⟩
abbrev S2048x2048 : Shape := ⟨2, ![2048, 2048]⟩
abbrev S2048x16 : Shape := ⟨2, ![2048, 16]⟩
abbrev S16x2048 : Shape := ⟨2, ![16, 2048]⟩
abbrev S16x2048x1 : Shape := ⟨3, ![16, 2048, 1]⟩
abbrev S16x1x2048 : Shape := ⟨3, ![16, 1, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S1x256x1 : Shape := ⟨3, ![1, 256, 1]⟩
abbrev S1x1x2048 : Shape := ⟨3, ![1, 1, 2048]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S256 : Shape := ⟨1, ![256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S768 : Shape := ⟨1, ![768]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1024 : Shape := ⟨1, ![1024]⟩
abbrev S1280x128 : Shape := ⟨2, ![1280, 128]⟩
abbrev S256x1280 : Shape := ⟨2, ![256, 1280]⟩
abbrev S1x1x1280 : Shape := ⟨3, ![1, 1, 1280]⟩
abbrev S1x1280 : Shape := ⟨2, ![1, 1280]⟩
abbrev S1280 : Shape := ⟨1, ![1280]⟩
abbrev S1536x128 : Shape := ⟨2, ![1536, 128]⟩
abbrev S256x1536 : Shape := ⟨2, ![256, 1536]⟩
abbrev S1x1x1536 : Shape := ⟨3, ![1, 1, 1536]⟩
abbrev S1x1536 : Shape := ⟨2, ![1, 1536]⟩
abbrev S1536 : Shape := ⟨1, ![1536]⟩
abbrev S1792x128 : Shape := ⟨2, ![1792, 128]⟩
abbrev S256x1792 : Shape := ⟨2, ![256, 1792]⟩
abbrev S1x1x1792 : Shape := ⟨3, ![1, 1, 1792]⟩
abbrev S1x1792 : Shape := ⟨2, ![1, 1792]⟩
abbrev S1792 : Shape := ⟨1, ![1792]⟩
abbrev S256x2048 : Shape := ⟨2, ![256, 2048]⟩

abbrev nBuf : Space → Nat
  | .hbm => 57
  | .vmem => 26
  | .smem => 0
  | _ => 0

abbrev bufTy : (tb : Table) → Fin (tcTables nBuf tb) → BufTy
  | .hbm, ⟨0, _⟩ => ⟨S2048x6272, .f32⟩
  | .hbm, ⟨1, _⟩ => ⟨S2048x128, .f32⟩
  | .hbm, ⟨2, _⟩ => ⟨S2048x2048, .f32⟩
  | .hbm, ⟨3, _⟩ => ⟨S2048x16, .f32⟩
  | .hbm, ⟨4, _⟩ => ⟨S16x2048, .f32⟩
  | .hbm, ⟨5, _⟩ => ⟨S16x2048x1, .f32⟩
  | .hbm, ⟨6, _⟩ => ⟨S16x1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x16x128, .f32⟩
  | .hbm, ⟨11, _⟩ => ⟨S16x2048x128, .f32⟩
  | .hbm, ⟨12, _⟩ => ⟨S2048x16x128, .f32⟩
  | .hbm, ⟨13, _⟩ => ⟨S16x2048x128, .f32⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S16x2048x2048, .i1⟩
  | .hbm, ⟨32, _⟩ => ⟨S16x2048x2048, .f32⟩
  | .hbm, ⟨33, _⟩ => ⟨S16x2048x2048, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S16x2048x2048, .f32⟩
  | .hbm, ⟨44, _⟩ => ⟨S16x2048x2048, .f32⟩
  | .hbm, ⟨45, _⟩ => ⟨S2048x16x128, .f32⟩
  | .hbm, ⟨46, _⟩ => ⟨S16x2048x128, .f32⟩
  | .hbm, ⟨47, _⟩ => ⟨S16x2048x128, .f32⟩
  | .hbm, ⟨48, _⟩ => ⟨S2048x16x128, .f32⟩
  | .hbm, ⟨49, _⟩ => ⟨S2048x2048, .f32⟩
  | .hbm, ⟨50, _⟩ => ⟨S16x2048x1, .f32⟩
  | .hbm, ⟨51, _⟩ => ⟨S16x2048x1, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S16x2048x1, .f32⟩
  | .hbm, ⟨56, _⟩ => ⟨S16x1x2048, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S1x1x2048, .f32⟩
  | .local _ .vmem, ⟨15, _⟩ => ⟨S1x1x2048, .f32⟩
  | .local _ .vmem, ⟨16, _⟩ => ⟨S256x128, .f32⟩
  | .local _ .vmem, ⟨17, _⟩ => ⟨S256x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x256x1, .f32⟩
  | .local _ .vmem, ⟨23, _⟩ => ⟨S1x256x1, .f32⟩
  | .local _ .vmem, ⟨24, _⟩ => ⟨S1x1x2048, .f32⟩
  | .local _ .vmem, ⟨25, _⟩ => ⟨S1x1x2048, .f32⟩
  | _, _ => ⟨S2048x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42_0 : Ref sig .tc := ⟨.hbm, 52, rfl⟩
abbrev main_v42_1 : Ref sig .tc := ⟨.hbm, 53, rfl⟩
abbrev main_v42_2 : Ref sig .tc := ⟨.hbm, 54, rfl⟩
abbrev main_v42_3 : Ref sig .tc := ⟨.hbm, 55, rfl⟩
abbrev main_v42_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg1 : BitVec 32 := BitVec.ofNat 32 (i 1).val
  let c6_i32 : BitVec 32 := 6#32
  let v21 : BitVec 1 := Scalar.cmpi .eq arg1 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_9 : BitVec 32 := 0#32
  let v26 : BitVec 1 := Scalar.cmpi .ne v25 c0_i32_9
  v26

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2048x6272 : Shape := ⟨2, ![2048, 6272]⟩
abbrev S2048x128 : Shape := ⟨2, ![2048, 128]⟩
abbrev S2048x2048 : Shape := ⟨2, ![2048, 2048]⟩
abbrev S2048x16 : Shape := ⟨2, ![2048, 16]⟩
abbrev S16x2048 : Shape := ⟨2, ![16, 2048]⟩
abbrev S16x2048x1 : Shape := ⟨3, ![16, 2048, 1]⟩
abbrev S16x1x2048 : Shape := ⟨3, ![16, 1, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S16x128x2048 : Shape := ⟨3, ![16, 128, 2048]⟩

abbrev nBuf : Space → Nat
  | .hbm => 119
  | .vmem => 0
  | .smem => 0
  | _ => 0

abbrev bufTy : (tb : Table) → Fin (tcTables nBuf tb) → BufTy
  | .hbm, ⟨0, _⟩ => ⟨S2048x6272, .f32⟩
  | .hbm, ⟨1, _⟩ => ⟨S2048x128, .f32⟩
  | .hbm, ⟨2, _⟩ => ⟨S2048x2048, .f32⟩
  | .hbm, ⟨3, _⟩ => ⟨S2048x16, .f32⟩
  | .hbm, ⟨4, _⟩ => ⟨S16x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S16x2048x1, .f32⟩
  | .hbm, ⟨9, _⟩ => ⟨S16x1x2048, .f32⟩
  | .hbm, ⟨10, _⟩ => ⟨S2048x16x128, .f32⟩
  | .hbm, ⟨11, _⟩ => ⟨S16x2048x128, .f32⟩
  | .hbm, ⟨12, _⟩ => ⟨S2048x16x128, .f32⟩
  | .hbm, ⟨13, _⟩ => ⟨S16x2048x128, .f32⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S16x2048x2048, .i1⟩
  | .hbm, ⟨32, _⟩ => ⟨S16x2048x2048, .f32⟩
  | .hbm, ⟨33, _⟩ => ⟨S16x2048x2048, .f32⟩
  | .hbm, ⟨34, _⟩ => ⟨S_, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .i1⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S_, .f32⟩
  | .hbm, ⟨45, _⟩ => ⟨S16x2048, .f32⟩
  | .hbm, ⟨46, _⟩ => ⟨S16x2048, .f32⟩
  | .hbm, ⟨47, _⟩ => ⟨S_, .f32⟩
  | .hbm, ⟨48, _⟩ => ⟨S16x2048, .f32⟩
  | .hbm, ⟨49, _⟩ => ⟨S16x2048, .i1⟩
  | .hbm, ⟨50, _⟩ => ⟨S_, .f32⟩
  | .hbm, ⟨51, _⟩ => ⟨S16x2048, .f32⟩
  | .hbm, ⟨52, _⟩ => ⟨S16x2048, .i1⟩
  | .hbm, ⟨53, _⟩ => ⟨S_, .f32⟩
  | .hbm, ⟨54, _⟩ => ⟨S16x2048, .f32⟩
  | .hbm, ⟨55, _⟩ => ⟨S_, .f32⟩
  | .hbm, ⟨56, _⟩ => ⟨S16x2048, .f32⟩
  | .hbm, ⟨57, _⟩ => ⟨S_, .f32⟩
  | .hbm, ⟨58, _⟩ => ⟨S16x2048, .f32⟩
  | .hbm, ⟨59, _⟩ => ⟨S16x2048, .f32⟩
  | .hbm, ⟨60, _⟩ => ⟨S16x2048, .f32⟩
  | .hbm, ⟨61, _⟩ => ⟨S16x2048x1, .f32⟩
  | .hbm, ⟨62, _⟩ => ⟨S16x2048x2048, .f32⟩
  | .hbm, ⟨63, _⟩ => ⟨S16x2048x2048, .f32⟩
  | .hbm, ⟨64, _⟩ => ⟨S16x2048x2048, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S16x2048x2048, .f32⟩
  | .hbm, ⟨69, _⟩ => ⟨S16x2048x2048, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S2048x16x128, .f32⟩
  | .hbm, ⟨75, _⟩ => ⟨S16x2048x128, .f32⟩
  | .hbm, ⟨76, _⟩ => ⟨S16x2048x128, .f32⟩
  | .hbm, ⟨77, _⟩ => ⟨S2048x16x128, .f32⟩
  | .hbm, ⟨78, _⟩ => ⟨S2048x2048, .f32⟩
  | .hbm, ⟨79, _⟩ => ⟨S2048x16x128, .f32⟩
  | .hbm, ⟨80, _⟩ => ⟨S16x2048x128, .f32⟩
  | .hbm, ⟨81, _⟩ => ⟨S16x128x2048, .f32⟩
  | .hbm, ⟨82, _⟩ => ⟨S16x2048x128, .f32⟩
  | .hbm, ⟨83, _⟩ => ⟨S16x2048x2048, .f32⟩
  | .hbm, ⟨84, _⟩ => ⟨S2048x16x128, .f32⟩
  | .hbm, ⟨85, _⟩ => ⟨S2048x2048, .f32⟩
  | .hbm, ⟨86, _⟩ => ⟨S16x2048x2048, .f32⟩
  | .hbm, ⟨87, _⟩ => ⟨S16x2048x2048, .f32⟩
  | .hbm, ⟨88, _⟩ => ⟨S16x2048x2048, .f32⟩
  | .hbm, ⟨89, _⟩ => ⟨S_, .f32⟩
  | .hbm, ⟨90, _⟩ => ⟨S16x2048, .f32⟩
  | .hbm, ⟨91, _⟩ => ⟨S16x2048x1, .f32⟩
  | .hbm, ⟨92, _⟩ => ⟨S16x2048x1, .f32⟩
  | .hbm, ⟨93, _⟩ => ⟨S16x2048x2048, .f32⟩
  | .hbm, ⟨94, _⟩ => ⟨S16x2048x2048, .f32⟩
  | .hbm, ⟨95, _⟩ => ⟨S_, .f32⟩
  | .hbm, ⟨96, _⟩ => ⟨S16x2048, .f32⟩
  | .hbm, ⟨97, _⟩ => ⟨S16x2048x2048, .f32⟩
  | .hbm, ⟨98, _⟩ => ⟨S16x2048x2048, .f32⟩
  | .hbm, ⟨99, _⟩ => ⟨S16x2048x2048, .f32⟩
  | .hbm, ⟨100, _⟩ => ⟨S_, .f32⟩
  | .hbm, ⟨101, _⟩ => ⟨S16x2048x2048, .f32⟩
  | .hbm, ⟨102, _⟩ => ⟨S16x2048x2048, .f32⟩
  | .hbm, ⟨103, _⟩ => ⟨S16x2048x2048, .f32⟩
  | .hbm, ⟨104, _⟩ => ⟨S_, .f32⟩
  | .hbm, ⟨105, _⟩ => ⟨S16x2048, .f32⟩
  | .hbm, ⟨106, _⟩ => ⟨S16x1x2048, .f32⟩
  | .hbm, ⟨107, _⟩ => ⟨S_, .f32⟩
  | .hbm, ⟨108, _⟩ => ⟨S16x2048, .f32⟩
  | .hbm, ⟨109, _⟩ => ⟨S16x2048x1, .f32⟩
  | .hbm, ⟨110, _⟩ => ⟨S_, .f32⟩
  | .hbm, ⟨111, _⟩ => ⟨S16x2048x2048, .f32⟩
  | .hbm, ⟨112, _⟩ => ⟨S16x2048x2048, .f32⟩
  | .hbm, ⟨113, _⟩ => ⟨S16x2048x128, .f32⟩
  | .hbm, ⟨114, _⟩ => ⟨S16x2048x128, .f32⟩
  | .hbm, ⟨115, _⟩ => ⟨S2048x16x128, .f32⟩
  | .hbm, ⟨116, _⟩ => ⟨S2048x2048, .f32⟩
  | .hbm, ⟨117, _⟩ => ⟨S2048x16x128, .f32⟩
  | .hbm, ⟨118, _⟩ => ⟨S2048x2048, .f32⟩
  | _, _ => ⟨S2048x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== UpDw.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2048x2816, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.divsi arg1 c22_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c22_i32 c0_i32_1
  let v7 : BitVec 32 := Scalar.extui v6
  let c0_i32_2 : BitVec 32 := 0#32
  let v8 : BitVec 1 := Scalar.cmpi .slt c22_i32 c0_i32_2
  let v9 : BitVec 32 := Scalar.extui v8
  let v10 : BitVec 32 := Scalar.subi v7 v9
  let v11 : BitVec 1 := Scalar.cmpi .ne v5 v10
  let v12 : BitVec 32 := Scalar.remsi arg1 c22_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32_4 : BitVec 32 := 22#32
  let c0_i32_5 : BitVec 32 := 0#32
  let v17 : BitVec 1 := Scalar.cmpi .eq c22_i32_4 c0_i32_5
  let c1_i32_6 : BitVec 32 := 1#32
  let v18 : BitVec 32 := Scalar.select v17 c1_i32_6 c22_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2x2048x5632 : Shape := ⟨3, ![2, 2048, 5632]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x2x5632 : Shape := ⟨3, ![2048, 2, 5632]⟩
abbrev S11264x2048 : Shape := ⟨2, ![11264, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S4x2048x2816, .f32⟩
  | .hbm, ⟨4, _⟩ => ⟨S2048x2048, .f32⟩
  | .hbm, ⟨5, _⟩ => ⟨S2048x4x2816, .f32⟩
  | .hbm, ⟨6, _⟩ => ⟨S2048x11264, .f32⟩
  | .hbm, ⟨7, _⟩ => ⟨S2048x11264, .f32⟩
  | .hbm, ⟨8, _⟩ => ⟨S2048x2x5632, .f32⟩
  | .hbm, ⟨9, _⟩ => ⟨S2x2048x5632, .f32⟩
  | .hbm, ⟨10, _⟩ => ⟨S2x2048x5632, .f32⟩
  | .hbm, ⟨11, _⟩ => ⟨S2048x2x5632, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S2048x4x2816, .f32⟩
  | .hbm, ⟨16, _⟩ => ⟨S4x2048x2816, .f32⟩
  | .hbm, ⟨17, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== UpDx.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x2048x2816 : Shape := ⟨3, ![1, 2048, 2816]⟩
abbrev S1x512x2816 : Shape := ⟨3, ![1, 512, 2816]⟩
abbrev S2048x512 : Shape := ⟨2, ![2048, 512]⟩
abbrev S2048x2816 : Shape := ⟨2, ![2048, 2816]⟩
abbrev S512x2816 : Shape := ⟨2, ![512, 2816]⟩

abbrev nBuf : Space → Nat
  | .hbm => 4
  | .vmem => 9
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .hbm, ⟨3, _⟩ => ⟨S2048x2048, .f32⟩
  | .local _ .vmem, ⟨0, _⟩ => ⟨S1x2048x2816, .bf16⟩
  | .local _ .vmem, ⟨1, _⟩ => ⟨S1x2048x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S_ : Shape := ⟨0, ![]⟩
abbrev S2048x4x2816 : Shape := ⟨3, ![2048, 4, 2816]⟩
abbrev S2048x11264 : Shape := ⟨2, ![2048, 11264]⟩
abbrev S2048x2x5632 : Shape := ⟨3, ![2048, 2, 5632]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S4x2048x2816, .f32⟩
  | .hbm, ⟨9, _⟩ => ⟨S2048x4x2816, .f32⟩
  | .hbm, ⟨10, _⟩ => ⟨S2048x11264, .f32⟩
  | .hbm, ⟨11, _⟩ => ⟨S2048x11264, .f32⟩
  | .hbm, ⟨12, _⟩ => ⟨S2048x2x5632, .f32⟩
  | .hbm, ⟨13, _⟩ => ⟨S2x2048x5632, .f32⟩
  | .hbm, ⟨14, _⟩ => ⟨S2x2048x5632, .f32⟩
  | .hbm, ⟨15, _⟩ => ⟨S2048x2x5632, .f32⟩
  | .hbm, ⟨16, _⟩ => ⟨S2048x11264, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S4x2048x2816 : Shape := ⟨3, ![4, 2048, 2816]⟩
abbrev S2x2048x5632 : Shape := ⟨3, ![2, 2048, 5632]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2x2048x5632, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .f32⟩
  | .local _ .vmem, ⟨4, _⟩ => ⟨S1x2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.divsi arg1 c22_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c22_i32 c0_i32_1
  let v7 : BitVec 32 := Scalar.extui v6
  let c0_i32_2 : BitVec 32 := 0#32
  let v8 : BitVec 1 := Scalar.cmpi .slt c22_i32 c0_i32_2
  let v9 : BitVec 32 := Scalar.extui v8
  let v10 : BitVec 32 := Scalar.subi v7 v9
  let v11 : BitVec 1 := Scalar.cmpi .ne v5 v10
  let v12 : BitVec 32 := Scalar.remsi arg1 c22_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32_4 : BitVec 32 := 22#32
  let c0_i32_5 : BitVec 32 := 0#32
  let v17 : BitVec 1 := Scalar.cmpi .eq c22_i32_4 c0_i32_5
  let c1_i32_6 : BitVec 32 := 1#32
  let v18 : BitVec 32 := Scalar.select v17 c1_i32_6 c22_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x2x5632 : Shape := ⟨3, ![2048, 2, 5632]⟩
abbrev S2x2048x5632 : Shape := ⟨3, ![2, 2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S2048x11264, .f32⟩
  | .hbm, ⟨7, _⟩ => ⟨S2048x2x5632, .f32⟩
  | .hbm, ⟨8, _⟩ => ⟨S2x2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S2048x2816 : Shape := ⟨2, ![2048, 2816]⟩
abbrev S2816x512 : Shape := ⟨2, ![2816, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S2048x2816, .bf16⟩
  | .local _ .vmem, ⟨1, _⟩ => ⟨S2048x2816, .bf16⟩
  | .local _ .vmem, ⟨2, _⟩ => ⟨S2816x512, .bf16⟩
  | .local _ .vmem, ⟨3, _⟩ => ⟨S2816x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixerOutDx.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerOutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixerOutDw.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerOutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixerOut.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerOutRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnInDx.lean ====
abbrev S2048x6272 : Shape := ⟨2, ![2048, 6272]⟩
abbrev S2048x2048 : Shape := ⟨2, ![2048, 2048]⟩
abbrev S2048x896 : Shape := ⟨2, ![2048, 896]⟩
abbrev S512x896 : Shape := ⟨2, ![512, 896]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x6272, .bf16⟩
  | .hbm, ⟨1, _⟩ => ⟨S2048x6272, .bf16⟩
  | .hbm, ⟨2, _⟩ => ⟨S2048x2048, .f32⟩
  | .hbm, ⟨3, _⟩ => ⟨S2048x2048, .f32⟩
  | .local _ .vmem, ⟨0, _⟩ => ⟨S2048x896, .bf16⟩
  | .local _ .vmem, ⟨1, _⟩ => ⟨S2048x896, .bf16⟩
  | .local _ .vmem, ⟨2, _⟩ => ⟨S512x896, .bf16⟩
  | .local _ .vmem, ⟨3, _⟩ => ⟨S512x896, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnInDxRefIdeal.lean ====
abbrev S2048x6272 : Shape := ⟨2, ![2048, 6272]⟩
abbrev S2048x2048 : Shape := ⟨2, ![2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x6272, .bf16⟩
  | .hbm, ⟨1, _⟩ => ⟨S2048x6272, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x6272, .f32⟩
  | .hbm, ⟨9, _⟩ => ⟨S2048x6272, .f32⟩
  | .hbm, ⟨10, _⟩ => ⟨S2048x6272, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | _, _ => ⟨S2048x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== AttnInDw.lean ====
abbrev S2048x2048 : Shape := ⟨2, ![2048, 2048]⟩
abbrev S2048x6272 : Shape := ⟨2, ![2048, 6272]⟩
abbrev S2048x896 : Shape := ⟨2, ![2048, 896]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .bf16⟩
  | .local _ .vmem, ⟨0, _⟩ => ⟨S2048x2048, .bf16⟩
  | .local _ .vmem, ⟨1, _⟩ => ⟨S2048x896, .bf16⟩
  | .local _ .vmem, ⟨2, _⟩ => ⟨S2048x896, .bf16⟩
  | .local _ .vmem, ⟨3, _⟩ => ⟨S2048x896, .bf16⟩
  | .local _ .vmem, ⟨4, _⟩ => ⟨S2048x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInDwRefIdeal.lean ====
abbrev S2048x2048 : Shape := ⟨2, ![2048, 2048]⟩
abbrev S2048x6272 : Shape := ⟨2, ![2048, 6272]⟩
abbrev S_ : Shape := ⟨0, ![]⟩
abbrev S6272x2048 : Shape := ⟨2, ![6272, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S_, .f32⟩
  | .hbm, ⟨3, _⟩ => ⟨S2048x6272, .f32⟩
  | .hbm, ⟨4, _⟩ => ⟨S2048x2048, .f32⟩
  | .hbm, ⟨5, _⟩ => ⟨S2048x6272, .f32⟩
  | .hbm, ⟨6, _⟩ => ⟨S2048x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnIn.lean ====
abbrev S2048x2048 : Shape := ⟨2, ![2048, 2048]⟩
abbrev S2048x6272 : Shape := ⟨2, ![2048, 6272]⟩
abbrev S2048x896 : Shape := ⟨2, ![2048, 896]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .f32⟩
  | .local _ .vmem, ⟨0, _⟩ => ⟨S2048x2048, .bf16⟩
  | .local _ .vmem, ⟨1, _⟩ => ⟨S2048x896, .bf16⟩
  | .local _ .vmem, ⟨2, _⟩ => ⟨S2048x896, .bf16⟩
  | .local _ .vmem, ⟨3, _⟩ => ⟨S2048x896, .f32⟩
  | .local _ .vmem, ⟨4, _⟩ => ⟨S2048x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInRefIdeal.lean ====
abbrev S2048x2048 : Shape := ⟨2, ![2048, 2048]⟩
abbrev S2048x6272 : Shape := ⟨2, ![2048, 6272]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x2048, .f32⟩
  | .hbm, ⟨3, _⟩ => ⟨S2048x6272, .f32⟩
  | .hbm, ⟨4, _⟩ => ⟨S2048x6272, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RecInDx.lean ====
abbrev S2x2048x2048 : Shape := ⟨3, ![2, 2048, 2048]⟩
abbrev S4x2048x1024 : Shape := ⟨3, ![4, 2048, 1024]⟩
abbrev S2048x2048 : Shape := ⟨2, ![2048, 2048]⟩
abbrev S1x2048x1024 : Shape := ⟨3, ![1, 2048, 1024]⟩
abbrev S1x512x1024 : Shape := ⟨3, ![1, 512, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2x2048x2048, .bf16⟩
  | .hbm, ⟨1, _⟩ => ⟨S4x2048x1024, .bf16⟩
  | .hbm, ⟨2, _⟩ => ⟨S2048x2048, .f32⟩
  | .hbm, ⟨3, _⟩ => ⟨S2048x2048, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RecInDxRefIdeal.lean ====
abbrev S2x2048x2048 : Shape := ⟨3, ![2, 2048, 2048]⟩
abbrev S4x2048x1024 : Shape := ⟨3, ![4, 2048, 1024]⟩
abbrev S2048x2048 : Shape := ⟨2, ![2048, 2048]⟩
abbrev S_ : Shape := ⟨0, ![]⟩
abbrev S2048x4x1024 : Shape := ⟨3, ![2048, 4, 1024]⟩
abbrev S2048x4096 : Shape := ⟨2, ![2048, 4096]⟩
abbrev S2048x2x2048 : Shape := ⟨3, ![2048, 2, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S4x2048x1024, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S4x2048x1024, .f32⟩
  | .hbm, ⟨9, _⟩ => ⟨S2048x4x1024, .f32⟩
  | .hbm, ⟨10, _⟩ => ⟨S2048x4096, .f32⟩
  | .hbm, ⟨11, _⟩ => ⟨S2048x4096, .f32⟩
  | .hbm, ⟨12, _⟩ => ⟨S2048x2x2048, .f32⟩
  | .hbm, ⟨13, _⟩ => ⟨S2x2048x2048, .f32⟩
  | .hbm, ⟨14, _⟩ => ⟨S2x2048x2048, .f32⟩
  | .hbm, ⟨15, _⟩ => ⟨S2048x2x2048, .f32⟩
  | .hbm, ⟨16, _⟩ => ⟨S2048x4096, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RecInDw.lean ====
abbrev S2048x2048 : Shape := ⟨2, ![2048, 2048]⟩
abbrev S2x2048x2048 : Shape := ⟨3, ![2, 2048, 2048]⟩
abbrev S4x2048x1024 : Shape := ⟨3, ![4, 2048, 1024]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S4x2048x1024, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInDwRefIdeal.lean ====
abbrev S2048x2048 : Shape := ⟨2, ![2048, 2048]⟩
abbrev S2x2048x2048 : Shape := ⟨3, ![2, 2048, 2048]⟩
abbrev S_ : Shape := ⟨0, ![]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S2048x2x2048 : Shape := ⟨3, ![2048, 2, 2048]⟩
abbrev S4096x2048 : Shape := ⟨2, ![4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S_, .f32⟩
  | .hbm, ⟨3, _⟩ => ⟨S4x2048x1024, .f32⟩
  | .hbm, ⟨4, _⟩ => ⟨S2048x2048, .f32⟩
  | .hbm, ⟨5, _⟩ => ⟨S2048x4x1024, .f32⟩
  | .hbm, ⟨6, _⟩ => ⟨S2048x4096, .f32⟩
  | .hbm, ⟨7, _⟩ => ⟨S2048x4096, .f32⟩
  | .hbm, ⟨8, _⟩ => ⟨S2048x2x2048, .f32⟩
  | .hbm, ⟨9, _⟩ => ⟨S2x2048x2048, .f32⟩
  | .hbm, ⟨10, _⟩ => ⟨S2x2048x2048, .f32⟩
  | .hbm, ⟨11, _⟩ => ⟨S2048x2x2048, .f32⟩
  | .hbm, ⟨12, _⟩ => ⟨S2048x4096, .f32⟩
  | .hbm, ⟨13, _⟩ => ⟨S4096x2048, .f32⟩
  | .hbm, ⟨14, _⟩ => ⟨S2048x4096, .f32⟩
  | .hbm, ⟨15, _⟩ => ⟨S2048x4x1024, .f32⟩
  | .hbm, ⟨16, _⟩ => ⟨S4x2048x1024, .f32⟩
  | .hbm, ⟨17, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== RecIn.lean ====
abbrev S2048x2048 : Shape := ⟨2, ![2048, 2048]⟩
abbrev S4x2048x1024 : Shape := ⟨3, ![4, 2048, 1024]⟩
abbrev S2x2048x2048 : Shape := ⟨3, ![2, 2048, 2048]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S2x2048x2048, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .f32⟩
  | .local _ .vmem, ⟨4, _⟩ => ⟨S1x2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInRefIdeal.lean ====
abbrev S2048x2048 : Shape := ⟨2, ![2048, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S2048x2x2048 : Shape := ⟨3, ![2048, 2, 2048]⟩
abbrev S2x2048x2048 : Shape := ⟨3, ![2, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S2048x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S2048x4096, .f32⟩
  | .hbm, ⟨7, _⟩ => ⟨S2048x2x2048, .f32⟩
  | .hbm, ⟨8, _⟩ => ⟨S2x2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== PoolMixDx.lean ====
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolMixDxRefIdeal.lean ====
abbrev S2048x2048 : Shape := ⟨2, ![2048, 2048]⟩
abbrev S4x512x512 : Shape := ⟨3, ![4, 512, 512]⟩
abbrev S_ : Shape := ⟨0, ![]⟩
abbrev S2048x4x512 : Shape := ⟨3, ![2048, 4, 512]⟩
abbrev S4x512x2048 : Shape := ⟨3, ![4, 512, 2048]⟩
abbrev S4x2048x512 : Shape := ⟨3, ![4, 2048, 512]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S_, .f32⟩
  | .hbm, ⟨3, _⟩ => ⟨S2048x2048, .f32⟩
  | .hbm, ⟨4, _⟩ => ⟨S4x512x512, .f32⟩
  | .hbm, ⟨5, _⟩ => ⟨S2048x4x512, .f32⟩
  | .hbm, ⟨6, _⟩ => ⟨S4x512x2048, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x4x512, .f32⟩
  | .hbm, ⟨11, _⟩ => ⟨S4x512x2048, .f32⟩
  | .hbm, ⟨12, _⟩ => ⟨S4x2048x512, .f32⟩
  | .hbm, ⟨13, _⟩ => ⟨S2048x4x512, .f32⟩
  | .hbm, ⟨14, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== PoolMixDw.lean ====
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolMixDwRefIdeal.lean ====
abbrev S2048x2048 : Shape := ⟨2, ![2048, 2048]⟩
abbrev S_ : Shape := ⟨0, ![]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S4x512x512, .f32⟩
  | .hbm, ⟨4, _⟩ => ⟨S2048x2048, .f32⟩
  | .hbm, ⟨5, _⟩ => ⟨S2048x4x512, .f32⟩
  | .hbm, ⟨6, _⟩ => ⟨S4x512x2048, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x4x512, .f32⟩
  | .hbm, ⟨11, _⟩ => ⟨S4x512x2048, .f32⟩
  | .hbm, ⟨12, _⟩ => ⟨S4x512x512, .f32⟩
  | .hbm, ⟨13, _⟩ => ⟨S4x512x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== PoolMix.lean ====
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolMixRefIdeal.lean ====
abbrev S2048x2048 : Shape := ⟨2, ![2048, 2048]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x2048, .f32⟩
  | .hbm, ⟨3, _⟩ => ⟨S4x512x512, .f32⟩
  | .hbm, ⟨4, _⟩ => ⟨S2048x4x512, .f32⟩
  | .hbm, ⟨5, _⟩ => ⟨S4x512x2048, .f32⟩
  | .hbm, ⟨6, _⟩ => ⟨S2048x4x512, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== RecGateDx.lean ====
abbrev S2048x2048 : Shape := ⟨2, ![2048, 2048]⟩
abbrev S16x128x128 : Shape := ⟨3, ![16, 128, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S16x128x128, .bf16⟩
  | .hbm, ⟨2, _⟩ => ⟨S2048x2048, .f32⟩
  | .local _ .vmem, ⟨0, _⟩ => ⟨S2048x128, .bf16⟩
  | .local _ .vmem, ⟨1, _⟩ => ⟨S2048x128, .bf16⟩
  | .local _ .vmem, ⟨2, _⟩ => ⟨S1x128x128, .bf16⟩
  | .local _ .vmem, ⟨3, _⟩ => ⟨S1x128x128, .bf16⟩
  | .local _ .vmem, ⟨4, _⟩ => ⟨S2048x128, .f32⟩
  | .local _ .vmem, ⟨5, _⟩ => ⟨S2048x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RecGateDxRefIdeal.lean ====
abbrev S2048x2048 : Shape := ⟨2, ![2048, 2048]⟩
abbrev S16x128x128 : Shape := ⟨3, ![16, 128, 128]⟩
abbrev S_ : Shape := ⟨0, ![]⟩
abbrev S2048x16x128 : Shape := ⟨3, ![2048, 16, 128]⟩
abbrev S16x128x2048 : Shape := ⟨3, ![16, 128, 2048]⟩
abbrev S16x2048x128 : Shape := ⟨3, ![16, 2048, 128]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S16x128x128, .bf16⟩
  | .hbm, ⟨2, _⟩ => ⟨S_, .f32⟩
  | .hbm, ⟨3, _⟩ => ⟨S2048x2048, .f32⟩
  | .hbm, ⟨4, _⟩ => ⟨S16x128x128, .f32⟩
  | .hbm, ⟨5, _⟩ => ⟨S2048x16x128, .f32⟩
  | .hbm, ⟨6, _⟩ => ⟨S16x128x2048, .f32⟩
  | .hbm, ⟨7, _⟩ => ⟨S2048x16x128, .f32⟩
  | .hbm, ⟨8, _⟩ => ⟨S2048x2048, .f32⟩
  | .hbm, ⟨9, _⟩ => ⟨S2048x2048, .f32⟩
  | .hbm, ⟨10, _⟩ => ⟨S2048x16x128, .f32⟩
  | .hbm, ⟨11, _⟩ => ⟨S16x128x2048, .f32⟩
  | .hbm, ⟨12, _⟩ => ⟨S16x2048x128, .f32⟩
  | .hbm, ⟨13, _⟩ => ⟨S2048x16x128, .f32⟩
  | .hbm, ⟨14, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== RecGateDxAdd.lean ====
abbrev S2048x2048 : Shape := ⟨2, ![2048, 2048]⟩
abbrev S16x128x128 : Shape := ⟨3, ![16, 128, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S16x128x128, .bf16⟩
  | .hbm, ⟨2, _⟩ => ⟨S2048x2048, .f32⟩
  | .hbm, ⟨3, _⟩ => ⟨S2048x2048, .f32⟩
  | .local _ .vmem, ⟨0, _⟩ => ⟨S2048x128, .bf16⟩
  | .local _ .vmem, ⟨1, _⟩ => ⟨S2048x128, .bf16⟩
  | .local _ .vmem, ⟨2, _⟩ => ⟨S1x128x128, .bf16⟩
  | .local _ .vmem, ⟨3, _⟩ => ⟨S1x128x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RecGateDxAddRefIdeal.lean ====
abbrev S2048x2048 : Shape := ⟨2, ![2048, 2048]⟩
abbrev S16x128x128 : Shape := ⟨3, ![16, 128, 128]⟩
abbrev S_ : Shape := ⟨0, ![]⟩
abbrev S2048x16x128 : Shape := ⟨3, ![2048, 16, 128]⟩
abbrev S16x128x2048 : Shape := ⟨3, ![16, 128, 2048]⟩
abbrev S16x2048x128 : Shape := ⟨3, ![16, 2048, 128]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S16x128x128, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S16x128x128, .f32⟩
  | .hbm, ⟨6, _⟩ => ⟨S2048x16x128, .f32⟩
  | .hbm, ⟨7, _⟩ => ⟨S16x128x2048, .f32⟩
  | .hbm, ⟨8, _⟩ => ⟨S2048x16x128, .f32⟩
  | .hbm, ⟨9, _⟩ => ⟨S2048x2048, .f32⟩
  | .hbm, ⟨10, _⟩ => ⟨S2048x2048, .f32⟩
  | .hbm, ⟨11, _⟩ => ⟨S2048x16x128, .f32⟩
  | .hbm, ⟨12, _⟩ => ⟨S16x128x2048, .f32⟩
  | .hbm, ⟨13, _⟩ => ⟨S16x2048x128, .f32⟩
  | .hbm, ⟨14, _⟩ => ⟨S2048x16x128, .f32⟩
  | .hbm, ⟨15, _⟩ => ⟨S2048x2048, .f32⟩
  | .hbm, ⟨16, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== RecGateDw.lean ====
abbrev S2048x2048 : Shape := ⟨2, ![2048, 2048]⟩
abbrev S16x128x128 : Shape := ⟨3, ![16, 128, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S16x128x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x128x128, .f32⟩
  | .local _ .vmem, ⟨5, _⟩ => ⟨S1x128x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RecGateDwRefIdeal.lean ====
abbrev S2048x2048 : Shape := ⟨2, ![2048, 2048]⟩
abbrev S_ : Shape := ⟨0, ![]⟩
abbrev S16x128x128 : Shape := ⟨3, ![16, 128, 128]⟩
abbrev S2048x16x128 : Shape := ⟨3, ![2048, 16, 128]⟩
abbrev S16x128x2048 : Shape := ⟨3, ![16, 128, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S16x128x128, .f32⟩
  | .hbm, ⟨4, _⟩ => ⟨S2048x2048, .f32⟩
  | .hbm, ⟨5, _⟩ => ⟨S2048x16x128, .f32⟩
  | .hbm, ⟨6, _⟩ => ⟨S16x128x2048, .f32⟩
  | .hbm, ⟨7, _⟩ => ⟨S2048x16x128, .f32⟩
  | .hbm, ⟨8, _⟩ => ⟨S2048x2048, .f32⟩
  | .hbm, ⟨9, _⟩ => ⟨S2048x2048, .f32⟩
  | .hbm, ⟨10, _⟩ => ⟨S2048x16x128, .f32⟩
  | .hbm, ⟨11, _⟩ => ⟨S16x128x2048, .f32⟩
  | .hbm, ⟨12, _⟩ => ⟨S16x128x128, .f32⟩
  | .hbm, ⟨13, _⟩ => ⟨S16x128x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== RecGate.lean ====
abbrev S2048x2048 : Shape := ⟨2, ![2048, 2048]⟩
abbrev S16x128x128 : Shape := ⟨3, ![16, 128, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S16x128x128, .bf16⟩
  | .hbm, ⟨2, _⟩ => ⟨S2048x2048, .f32⟩
  | .local _ .vmem, ⟨0, _⟩ => ⟨S2048x128, .bf16⟩
  | .local _ .vmem, ⟨1, _⟩ => ⟨S2048x128, .bf16⟩
  | .local _ .vmem, ⟨2, _⟩ => ⟨S1x128x128, .bf16⟩
  | .local _ .vmem, ⟨3, _⟩ => ⟨S1x128x128, .bf16⟩
  | .local _ .vmem, ⟨4, _⟩ => ⟨S2048x128, .f32⟩
  | .local _ .vmem, ⟨5, _⟩ => ⟨S2048x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RecGateRefIdeal.lean ====
abbrev S2048x2048 : Shape := ⟨2, ![2048, 2048]⟩
abbrev S16x128x128 : Shape := ⟨3, ![16, 128, 128]⟩
abbrev S2048x16x128 : Shape := ⟨3, ![2048, 16, 128]⟩
abbrev S16x128x2048 : Shape := ⟨3, ![16, 128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S16x128x128, .bf16⟩
  | .hbm, ⟨2, _⟩ => ⟨S2048x2048, .f32⟩
  | .hbm, ⟨3, _⟩ => ⟨S16x128x128, .f32⟩
  | .hbm, ⟨4, _⟩ => ⟨S2048x16x128, .f32⟩
  | .hbm, ⟨5, _⟩ => ⟨S16x128x2048, .f32⟩
  | .hbm, ⟨6, _⟩ => ⟨S2048x16x128, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ln.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== LnScaled.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 9
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | .local _ .vmem, ⟨13, _⟩ => ⟨S256x1, .f32⟩
  | .local _ .vmem, ⟨14, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnScaledRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== ScaleBwd.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ScaleBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Loss.lean ====
abbrev S2048x2048 : Shape := ⟨2, ![2048, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x2048, .f32⟩
  | .hbm, ⟨25, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Attn.lean ====
abbrev S2048x6272 : Shape := ⟨2, ![2048, 6272]⟩
abbrev S2048x128 : Shape := ⟨2, ![2048, 128]⟩
abbrev S2048x16 : Shape := ⟨2, ![2048, 16]⟩
abbrev S16x2048 : Shape := ⟨2, ![16, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S256x128 : Shape := ⟨2, ![256, 128]⟩
abbrev S1x256x1 : Shape := ⟨3, ![1, 256, 1]⟩
abbrev S1x1x2048 : Shape := ⟨3, ![1, 1, 2048]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S256 : Shape := ⟨1, ![256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1280x128 : Shape := ⟨2, ![1280, 128]⟩
abbrev S256x1280 : Shape := ⟨2, ![256, 1280]⟩
abbrev S1x1x1280 : Shape := ⟨3, ![1, 1, 1280]⟩
abbrev S1x1280 : Shape := ⟨2, ![1, 1280]⟩
abbrev S1536x128 : Shape := ⟨2, ![1536, 128]⟩
abbrev S256x1536 : Shape := ⟨2, ![256, 1536]⟩
abbrev S1x1x1536 : Shape := ⟨3, ![1, 1, 1536]⟩
abbrev S1x1536 : Shape := ⟨2, ![1, 1536]⟩
abbrev S1792x128 : Shape := ⟨2, ![1792, 128]⟩
abbrev S256x1792 : Shape := ⟨2, ![256, 1792]⟩
abbrev S1x1x1792 : Shape := ⟨3, ![1, 1, 1792]⟩
abbrev S1x1792 : Shape := ⟨2, ![1, 1792]⟩
abbrev S256x2048 : Shape := ⟨2, ![256, 2048]⟩
abbrev S1x2048 : Shape := ⟨2, ![1, 2048]⟩

abbrev nBuf : Space → Nat
  | .hbm => 9
  | .vmem => 16
  | .smem => 0
  | _ => 0

abbrev bufTy : (tb : Table) → Fin (tcTables nBuf tb) → BufTy
  | .hbm, ⟨0, _⟩ => ⟨S2048x6272, .f32⟩
  | .hbm, ⟨1, _⟩ => ⟨S2048x128, .f32⟩
  | .hbm, ⟨2, _⟩ => ⟨S2048x16, .f32⟩
  | .hbm, ⟨3, _⟩ => ⟨S16x2048, .f32⟩
  | .hbm, ⟨4, _⟩ => ⟨S16x2048x1, .f32⟩
  | .hbm, ⟨5, _⟩ => ⟨S16x1x2048, .f32⟩
  | .hbm, ⟨6, _⟩ => ⟨S2048x2048, .f32⟩
  | .hbm, ⟨7, _⟩ => ⟨S2048x2048, .bf16⟩
  | .hbm, ⟨8, _⟩ => ⟨S16x2048x1, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x256x1, .f32⟩
  | .local _ .vmem, ⟨7, _⟩ => ⟨S1x256x1, .f32⟩
  | .local _ .vmem, ⟨8, _⟩ => ⟨S1x1x2048, .f32⟩
  | .local _ .vmem, ⟨9, _⟩ => ⟨S1x1x2048, .f32⟩
  | .local _ .vmem, ⟨10, _⟩ => ⟨S256x128, .f32⟩
  | .local _ .vmem, ⟨11, _⟩ => ⟨S256x128, .f32⟩
  | .local _ .vmem, ⟨12, _⟩ => ⟨S256x128, .bf16⟩
  | .local _ .vmem, ⟨13, _⟩ => ⟨S256x128, .bf16⟩
  | .local _ .vmem, ⟨14, _⟩ => ⟨S1x256x1, .f32⟩
  | .local _ .vmem, ⟨15, _⟩ => ⟨S1x256x1, .f32⟩
  | _, _ => ⟨S2048x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S2048x6272 : Shape := ⟨2, ![2048, 6272]⟩
abbrev S2048x128 : Shape := ⟨2, ![2048, 128]⟩
abbrev S2048x16 : Shape := ⟨2, ![2048, 16]⟩
abbrev S16x2048 : Shape := ⟨2, ![16, 2048]⟩
abbrev S2048x2048 : Shape := ⟨2, ![2048, 2048]⟩
abbrev S16x2048x1 : Shape := ⟨3, ![16, 2048, 1]⟩
abbrev S16x1x2048 : Shape := ⟨3, ![16, 1, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2048x6272, .f32⟩
  | .hbm, ⟨1, _⟩ => ⟨S2048x128, .f32⟩
  | .hbm, ⟨2, _⟩ => ⟨S2048x16, .f32⟩
  | .hbm, ⟨3, _⟩ => ⟨S16x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S16x2048x1, .f32⟩
  | .hbm, ⟨8, _⟩ => ⟨S16x1x2048, .f32⟩
  | .hbm, ⟨9, _⟩ => ⟨S2048x16x128, .f32⟩
  | .hbm, ⟨10, _⟩ => ⟨S16x2048x128, .f32⟩
  | .hbm, ⟨11, _⟩ => ⟨S2048x16x128, .f32⟩
  | .hbm, ⟨12, _⟩ => ⟨S16x2048x128, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S16x2048x2048, .i1⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S_, .f32⟩
  | .hbm, ⟨36, _⟩ => ⟨S16x2048, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x2048, .f32⟩
  | .hbm, ⟨46, _⟩ => ⟨S16x2048x2048, .f32⟩
  | .hbm, ⟨47, _⟩ => ⟨S2048x16x128, .f32⟩
  | .hbm, ⟨48, _⟩ => ⟨S16x2048x128, .f32⟩
  | .hbm, ⟨49, _⟩ => ⟨S16x2048x128, .f32⟩
  | .hbm, ⟨50, _⟩ => ⟨S2048x16x128, .f32⟩
  | .hbm, ⟨51, _⟩ => ⟨S2048x2048, .f32⟩
  | .hbm, ⟨52, _⟩ => ⟨S16x2048x1, .f32⟩
  | .hbm, ⟨53, _⟩ => ⟨S16x1x2048, .f32⟩
  | .hbm, ⟨54, _⟩ => ⟨S2048x16x128, .f32⟩
  | .hbm, ⟨55, _⟩ => ⟨S16x2048x128, .f32⟩
  | .hbm, ⟨56, _⟩ => ⟨S2048x16x128, .f32⟩
  | .hbm, ⟨57, _⟩ => ⟨S16x2048x128, .f32⟩
  | .hbm, ⟨58, _⟩ => ⟨S16x2048x2048, .f32⟩
  | .hbm, ⟨59, _⟩ => ⟨S_, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S16x2048x2048, .f32⟩
  | .hbm, ⟨65, _⟩ => ⟨S16x2048x2048, .f32⟩
  | .hbm, ⟨66, _⟩ => ⟨S2048, .i32⟩
  | .hbm, ⟨67, _⟩ => ⟨S2048x1, .i32⟩
  | .hbm, ⟨68, _⟩ => ⟨S2048, .i32⟩
  | .hbm, ⟨69, _⟩ => ⟨S1x2048, .i32⟩
  | .hbm, ⟨70, _⟩ => ⟨S2048x2048, .i32⟩
  | .hbm, ⟨71, _⟩ => ⟨S2048x2048, .i32⟩
  | .hbm, ⟨72, _⟩ => ⟨S2048x2048, .i1⟩
  | .hbm, ⟨73, _⟩ => ⟨S_, .f32⟩
  | .hbm, ⟨74, _⟩ => ⟨S_, .f32⟩
  | .hbm, ⟨75, _⟩ => ⟨S16x2048x2048, .i1⟩
  | .hbm, ⟨76, _⟩ => ⟨S16x2048x2048, .f32⟩
  | .hbm, ⟨77, _⟩ => ⟨S16x2048x2048, .f32⟩
  | .hbm, ⟨78, _⟩ => ⟨S_, .f32⟩
  | .hbm, ⟨79, _⟩ => ⟨S16x2048, .f32⟩
  | .hbm, ⟨80, _⟩ => ⟨S16x2048x1, .f32⟩
  | .hbm, ⟨81, _⟩ => ⟨S2048x2048, .bf16⟩
  | .hbm, ⟨82, _⟩ => ⟨S16x2048x2048, .f32⟩
  | .hbm, ⟨83, _⟩ => ⟨S16x2048x2048, .f32⟩
  | .hbm, ⟨84, _⟩ => ⟨S16x2048x2048, .f32⟩
  | .hbm, ⟨85, _⟩ => ⟨S_, .f32⟩
  | .hbm, ⟨86, _⟩ => ⟨S16x2048, .f32⟩
  | .hbm, ⟨87, _⟩ => ⟨S16x2048x1, .f32⟩
  | .hbm, ⟨88, _⟩ => ⟨S16x2048x1, .f32⟩
  | .hbm, ⟨89, _⟩ => ⟨S16x2048x1, .f32⟩
  | _, _ => ⟨S2048x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v62 : Ref sig .tc := ⟨.hbm, 77, rfl⟩
abbrev main_cst_6 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Proof.Tile.lean ====
/- One step of the backward pass of the attention, as the kernel's body computes it on its staged blocks: a query block of
   256 rows against the `n` key rows it can see. The kernel prints this once for each of the eight query blocks; here it is
   written once, with the number of key rows a variable. -/
module

public import proofs.«01_k».proof.Proof.Gen.KernelIdeal.Skeleton
public import Idealize.ShloMosaic.Lib.VecWindow

@[expose] public section

noncomputable section

namespace Cert.FoxBwd

open Idealize.ShloMosaic Cert.KernelIdeal

variable {F : FTy → Type} [FloatOps F]

/-- An `M`-by-`N` matrix's shape. -/
abbrev Mat (M N : ℕ) : Shape := ⟨2, ![M, N]⟩
/-- A row of `n` entries under two unit axes. -/
abbrev Row (n : ℕ) : Shape := ⟨3, ![1, 1, n]⟩

/-- A row's elements under any number of leading unit axes are the same. -/
theorem casts_row (n : ℕ) : (Row n).ShapeCasts (Mat 1 n) := by simp [Shape.ShapeCasts, Shape.numel, Fin.prod_univ_succ]
theorem casts_row' (n : ℕ) : (Mat 1 n).ShapeCasts (Row n) := by simp [Shape.ShapeCasts, Shape.numel, Fin.prod_univ_succ]
theorem casts_vec (n : ℕ) : (⟨1, ![n]⟩ : Shape).ShapeCasts (Mat 1 n) := by simp [Shape.ShapeCasts, Shape.numel, Fin.prod_univ_succ]
theorem casts_col : S1x256x1.ShapeCasts S256x1 := by decide
theorem casts_col' : S256x1.ShapeCasts S1x256x1 := by decide
theorem casts_vec' : S256.ShapeCasts S256x1 := by decide
theorem narrower : FTy.bits .bf16 < FTy.bits .f32 := by decide
theorem casts_self (s : Shape) : s.ShapeCasts s := rfl
/-- A column is repeated along a row, and a row down a column. -/
theorem broadcasts_col (M n : ℕ) : (Mat M 1).Broadcasts (Mat M n) :=
  ⟨le_refl _, fun a => by fin_cases a; exacts [.inr fun _ => rfl, .inl rfl]⟩
theorem broadcasts_row (M n : ℕ) : (Mat 1 n).Broadcasts (Mat M n) :=
  ⟨le_refl _, fun a => by fin_cases a; exacts [.inl rfl, .inr fun _ => rfl]⟩
theorem iotas_rows (M n : ℕ) : (Mat M n).Iotas .tc 32 [0] := ⟨List.nodup_singleton _, fun _ => ⟨.inr rfl, le_refl _⟩, fun h => absurd rfl h⟩
theorem iotas_cols (M n : ℕ) : (Mat M n).Iotas .tc 32 [1] := ⟨List.nodup_singleton _, fun _ => ⟨.inr rfl, le_refl _⟩, fun h => absurd rfl h⟩
/-- A sum over the columns leaves a vector of the rows, and the other way round. -/
theorem reduces_cols (M n : ℕ) : (Mat M n).Reduces [1] ⟨1, ![M]⟩ :=
  ⟨rfl, Nat.one_pos, fun b => by fin_cases b; rfl⟩
theorem reduces_rows (M n : ℕ) : (Mat M n).Reduces [0] ⟨1, ![n]⟩ :=
  ⟨rfl, Nat.one_pos, fun b => by fin_cases b; rfl⟩

/-- The product of a transposed `K`-by-`M` matrix with a `K`-by-`N` one. -/
def transposedLhs (K M N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The softmax weights of 256 queries against `n` keys: the scaled products of queries and keys with the gates' differences added,
    −∞ where the key comes after the query (whose rows start at `off`), less the row's log-sum, exponentiated. -/
def weights (n : ℕ) (off : BitVec 32) (q : Vec F S256x128 .f32) (k : Vec F (Mat n 128) .f32) (cc : Vec F S1x256x1 .f32)
    (cr : Vec F (Row n) .f32) (lse : Vec F S1x256x1 .f32) : FVec F (Mat 256 n) .f32 :=
  exp (subf
    (select (cmpi .sle (iota .tc (Mat 256 n) 32 [1] (iotas_cols 256 n))
        (addi (broadcast (Mat 256 n) off) (iota .tc (Mat 256 n) 32 [0] (iotas_rows 256 n))))
      (subf
        (addf (mulf (matmul (DotDims.transposedRhs 256 128 n) none (truncf .bf16 q narrower) (truncf .bf16 k narrower)
            (constant (Mat 256 n) .f32 0x00000000#32)) (broadcast (Mat 256 n) (Scalar.ofBits .f32 0x3DB504F3#32)))
          (broadcastTo (Mat 256 n) (shapeCast S256x1 cc casts_col) (broadcasts_col 256 n)))
        (broadcastTo (Mat 256 n) (shapeCast (Mat 1 n) cr (casts_row n)) (broadcasts_row 256 n)))
      (broadcast (Mat 256 n) (Scalar.ofBits .f32 0xFF800000#32)))
    (broadcastTo (Mat 256 n) (shapeCast S256x1 lse casts_col) (broadcasts_col 256 n)))

/-- The cotangents of the weights: the output's cotangents against the values. -/
def weightCt (n : ℕ) (d : Vec F S256x128 .f32) (v : Vec F (Mat n 128) .f32) : FVec F (Mat 256 n) .f32 :=
  matmul (DotDims.transposedRhs 256 128 n) none (truncf .bf16 d narrower) (truncf .bf16 v narrower)
    (constant (Mat 256 n) .f32 0x00000000#32)

/-- The cotangents of the scores: the weights times (the weights' cotangents less the row's inner product of output and cotangent). -/
def scoreCt (n : ℕ) (p g : FVec F (Mat 256 n) .f32) (od : FVec F S256x128 .f32) : FVec F (Mat 256 n) .f32 :=
  mulf p (subf g (broadcastTo (Mat 256 n)
    (shapeCast S256x1 (multiReduction .add [1] S256 od 0x00000000#32 (reduces_cols 256 128) (.inl rfl) rfl) casts_vec')
    (broadcasts_col 256 n)))

/-- The queries' gradient. -/
def queryCt (n : ℕ) (s : FVec F (Mat 256 n) .f32) (k : Vec F (Mat n 128) .f32) : FVec F S256x128 .f32 :=
  mulf (matmul (DotDims.plain 256 n 128) none (truncf .bf16 s narrower) (truncf .bf16 k narrower)
    (constant S256x128 .f32 0x00000000#32)) (broadcast S256x128 (Scalar.ofBits .f32 0x3DB504F3#32))

/-- The keys' gradient so far, with this query block's share added. -/
def keyCt (n : ℕ) (s : FVec F (Mat 256 n) .f32) (q : Vec F S256x128 .f32) (y : Vec F (Mat n 128) .f32) : FVec F (Mat n 128) .f32 :=
  addf (shapeCast (Mat n 128) y (casts_self _))
    (mulf (matmul (transposedLhs 256 n 128) none (truncf .bf16 s narrower) (truncf .bf16 q narrower)
      (constant (Mat n 128) .f32 0x00000000#32)) (broadcast (Mat n 128) (Scalar.ofBits .f32 0x3DB504F3#32)))

/-- The values' gradient so far, with this query block's share added. -/
def valueCt (n : ℕ) (p : FVec F (Mat 256 n) .f32) (d : Vec F S256x128 .f32) (y : Vec F (Mat n 128) .f32) : FVec F (Mat n 128) .f32 :=
  addf (shapeCast (Mat n 128) y (casts_self _))
    (matmul (transposedLhs 256 n 128) none (truncf .bf16 p narrower) (truncf .bf16 d narrower)
      (constant (Mat n 128) .f32 0x00000000#32))

/-- The gradient of the queries' gate: the sums of the score cotangents along the rows. -/
def gateCt (n : ℕ) (s : FVec F (Mat 256 n) .f32) : FVec F S1x256x1 .f32 :=
  shapeCast S1x256x1 (shapeCast S256x1 (multiReduction .add [1] S256 s 0x00000000#32 (reduces_cols 256 n) (.inl rfl) rfl)
    casts_vec') casts_col'

/-- The gradient of the keys' gate so far, less the sums of the score cotangents down the columns. -/
def decayCt (n : ℕ) (s : FVec F (Mat 256 n) .f32) (y : Vec F (Row n) .f32) : FVec F (Row n) .f32 :=
  shapeCast (Row n) (subf (shapeCast (Mat 1 n) y (casts_row n))
    (shapeCast (Mat 1 n) (multiReduction .add [0] ⟨1, ![n]⟩ s 0x00000000#32 (reduces_rows 256 n) (.inl rfl) rfl) (casts_vec n)))
    (casts_row' n)

/-! ## The blocks staged for one grid point, and what the body leaves there -/

/-- The eight input blocks of a grid point. -/
structure Tile (F : FTy → Type) [FloatOps F] where
  q : Vec F S256x128 .f32
  k : Vec F S2048x128 .f32
  v : Vec F S2048x128 .f32
  o : Vec F S256x128 .f32
  d : Vec F S256x128 .f32
  lse : Vec F S1x256x1 .f32
  cc : Vec F S1x256x1 .f32
  cr : Vec F S1x1x2048 .f32

/-- Query block `b` sees this many keys. -/
abbrev seen (b : Fin 8) : ℕ := 256 * (b.val + 1)
theorem seen_le (b : Fin 8) : seen b ≤ 2048 := by have := b.isLt; unfold seen; omega
theorem inb_rows (b : Fin 8) : ∀ a, (![0, 0] : Fin 2 → ℕ) a + (Mat (seen b) 128).size a ≤ S2048x128.size a :=
  fun a => by fin_cases a; exacts [(Nat.zero_add _).trans_le (seen_le b), le_refl _]
theorem inb_cols (b : Fin 8) : ∀ a, (![0, 0, 0] : Fin 3 → ℕ) a + (Row (seen b)).size a ≤ S1x1x2048.size a :=
  fun a => by fin_cases a; exacts [le_refl _, le_refl _, (Nat.zero_add _).trans_le (seen_le b)]

/-- The rows of the keys block `b` sees, read out of the whole and put back over it. -/
def rowsOf (b : Fin 8) (x : Vec F S2048x128 .f32) : Vec F (Mat (seen b) 128) .f32 :=
  VecWindow.window x ![0, 0] (Mat (seen b) 128).size (inb_rows b)
def putRows (b : Fin 8) (x : Vec F S2048x128 .f32) (w : Vec F (Mat (seen b) 128) .f32) : Vec F S2048x128 .f32 :=
  VecWindow.put x ![0, 0] (Mat (seen b) 128).size w
/-- The same of a row over the keys. -/
def colsOf (b : Fin 8) (x : Vec F S1x1x2048 .f32) : Vec F (Row (seen b)) .f32 :=
  VecWindow.window x ![0, 0, 0] (Row (seen b)).size (inb_cols b)
def putCols (b : Fin 8) (x : Vec F S1x1x2048 .f32) (w : Vec F (Row (seen b)) .f32) : Vec F S1x1x2048 .f32 :=
  VecWindow.put x ![0, 0, 0] (Row (seen b)).size w

namespace Tile

variable (T : Tile F) (b : Fin 8)

def p : FVec F (Mat 256 (seen b)) .f32 :=
  weights (seen b) (BitVec.ofNat 32 (256 * b.val)) T.q (rowsOf b T.k) T.cc (colsOf b T.cr) T.lse
/-- The cotangents of the scores. -/
def ds : FVec F (Mat 256 (seen b)) .f32 :=
  scoreCt (seen b) (T.p b) (weightCt (seen b) T.d (rowsOf b T.v)) (mulf T.d (shapeCast S256x128 T.o (casts_self _)))
def dq : Vec F S256x128 .f32 := queryCt (seen b) (T.ds b) (rowsOf b T.k)
def dk (y : Vec F S2048x128 .f32) : Vec F S2048x128 .f32 := putRows b y (keyCt (seen b) (T.ds b) T.q (rowsOf b y))
def dv (y : Vec F S2048x128 .f32) : Vec F S2048x128 .f32 := putRows b y (valueCt (seen b) (T.p b) T.d (rowsOf b y))
def dci : Vec F S1x256x1 .f32 := gateCt (seen b) (T.ds b)
def dcj (y : Vec F S1x1x2048 .f32) : Vec F S1x1x2048 .f32 := putCols b y (decayCt (seen b) (T.ds b) (colsOf b y))

end Tile

end Cert.FoxBwd

end
-- ==== Proof.Step.lean ====
/- The kernel's body, whose eight printed branches (one per query block) are one program with the block a variable. -/
module

public import proofs.«01_k».proof.Proof.Tile
public import proofs.«01_k».proof.Proof.Gen.KernelIdeal.Frame
public import proofs.«01_k».proof.Proof.Gen.KernelIdeal.Skeleton

@[expose] public section

set_option maxRecDepth 16384

noncomputable section

namespace Cert.FoxBwd

open Idealize.ShloMosaic Idealize.ShloMosaic.TcCoe Idealize.ShloMosaic.Tactic
open Idealize.SL Idealize.SL.Sem
open Cert.KernelIdeal Cert.KernelIdeal.Gen

variable {F : FTy → Type} [FloatOps F]

/-- The thirteen staging buffers of a grid point, each a whole buffer. -/
structure Slots where
  arg2 : Memref sig .tc .vmem S256x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S256x128 .f32
  harg5 : arg5.IsWhole
  arg6 : Memref sig .tc .vmem S256x128 .f32
  harg6 : arg6.IsWhole
  arg7 : Memref sig .tc .vmem S1x256x1 .f32
  harg7 : arg7.IsWhole
  arg8 : Memref sig .tc .vmem S1x256x1 .f32
  harg8 : arg8.IsWhole
  arg9 : Memref sig .tc .vmem S1x1x2048 .f32
  harg9 : arg9.IsWhole
  arg10 : Memref sig .tc .vmem S256x128 .f32
  harg10 : arg10.IsWhole
  arg11 : Memref sig .tc .vmem S2048x128 .f32
  harg11 : arg11.IsWhole
  arg12 : Memref sig .tc .vmem S2048x128 .f32
  harg12 : arg12.IsWhole
  arg13 : Memref sig .tc .vmem S1x256x1 .f32
  harg13 : arg13.IsWhole
  arg14 : Memref sig .tc .vmem S1x1x2048 .f32
  harg14 : arg14.IsWhole

/-- The body on its buffers. -/
abbrev Slots.body (S : Slots) (i : grid0.Coords) : Prog (TpuEff nD τ sig (Elt F) Λ₀ .tc) PUnit :=
  cc0_fox_attn_bwd i S.arg2 S.harg2 S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14

theorem rows_pos (b : Fin 8) : 0 < (Mat (seen b) 128).numel := by
  simp [Shape.numel, Fin.prod_univ_succ, seen]
theorem cols_pos (b : Fin 8) : 0 < (Row (seen b)).numel := by
  simp [Shape.numel, Fin.prod_univ_succ, seen]

abbrev wholeQ : Rect S256x128 := Rect.unit (s := S256x128) ![0, 0] S256x128.size (fun _ => by decide +revert)
abbrev wholeK : Rect S2048x128 := Rect.unit (s := S2048x128) ![0, 0] S2048x128.size (fun _ => by decide +revert)
abbrev wholeG : Rect S1x256x1 := Rect.unit (s := S1x256x1) ![0, 0, 0] S1x256x1.size (fun _ => by decide +revert)
abbrev wholeR : Rect S1x1x2048 := Rect.unit (s := S1x1x2048) ![0, 0, 0] S1x1x2048.size (fun _ => by decide +revert)
abbrev rowsRect (b : Fin 8) : Rect S2048x128 := Rect.unit (s := S2048x128) ![0, 0] (Mat (seen b) 128).size (inb_rows b)
abbrev colsRect (b : Fin 8) : Rect S1x1x2048 := Rect.unit (s := S1x1x2048) ![0, 0, 0] (Row (seen b)).size (inb_cols b)

theorem posQ : 0 < S256x128.numel := by decide
theorem posK : 0 < S2048x128.numel := by decide
theorem posG : 0 < S1x256x1.numel := by decide
theorem posR : 0 < S1x1x2048.numel := by decide

/-- Before the first query block the three buffers that collect over the blocks are cleared. -/
def Slots.clear (S : Slots) : Prog (TpuEff nD τ sig (Elt F) Λ₀ .tc) PUnit := do
  let _ ← Prog.lift (.load S.arg11 wholeK.toLoadRect (View.loadsAt_vmem posK))
  Prog.lift (.store S.arg11 wholeK (k0_pay1 (F := F)) Finset.univ (View.stores_vmem_bits_univ posK rfl) (.inl rfl))
  let _ ← Prog.lift (.load S.arg12 wholeK.toLoadRect (View.loadsAt_vmem posK))
  Prog.lift (.store S.arg12 wholeK (k0_pay2 (F := F)) Finset.univ (View.stores_vmem_bits_univ posK rfl) (.inl rfl))
  let _ ← Prog.lift (.load S.arg14 wholeR.toLoadRect (View.loadsAt_vmem posR))
  Prog.lift (.store S.arg14 wholeR (k0_pay3 (F := F)) Finset.univ (View.stores_vmem_bits_univ posR rfl) (.inl rfl))

/-- What the body does for query block `b`. -/
def Slots.step (S : Slots) (b : Fin 8) : Prog (TpuEff nD τ sig (Elt F) Λ₀ .tc) PUnit := do
  let q : Vec F S256x128 .f32 ← Prog.lift (.load S.arg2 wholeQ.toLoadRect (View.loadsAt_vmem posQ))
  let k : Vec F (Mat (seen b) 128) .f32 ← Prog.lift (.load S.arg3 (rowsRect b).toLoadRect (View.loadsAt_vmem (rows_pos b)))
  let cc : Vec F S1x256x1 .f32 ← Prog.lift (.load S.arg8 wholeG.toLoadRect (View.loadsAt_vmem posG))
  let cr : Vec F (Row (seen b)) .f32 ← Prog.lift (.load S.arg9 (colsRect b).toLoadRect (View.loadsAt_vmem (cols_pos b)))
  let lse : Vec F S1x256x1 .f32 ← Prog.lift (.load S.arg7 wholeG.toLoadRect (View.loadsAt_vmem posG))
  let d : Vec F S256x128 .f32 ← Prog.lift (.load S.arg6 wholeQ.toLoadRect (View.loadsAt_vmem posQ))
  let v : Vec F (Mat (seen b) 128) .f32 ← Prog.lift (.load S.arg4 (rowsRect b).toLoadRect (View.loadsAt_vmem (rows_pos b)))
  let o : Vec F S256x128 .f32 ← Prog.lift (.load S.arg5 wholeQ.toLoadRect (View.loadsAt_vmem posQ))
  let k' : Vec F (Mat (seen b) 128) .f32 ← Prog.lift (.load S.arg3 (rowsRect b).toLoadRect (View.loadsAt_vmem (rows_pos b)))
  let _ ← Prog.lift (.load S.arg10 wholeQ.toLoadRect (View.loadsAt_vmem posQ))
  Prog.lift (.store S.arg10 wholeQ (queryCt (seen b) (scoreCt (seen b) (weights (seen b) (BitVec.ofNat 32 (256 * b.val)) q k cc cr lse)
    (weightCt (seen b) d v) (mulf d (shapeCast S256x128 o (casts_self _)))) k') Finset.univ (View.stores_vmem_bits_univ posQ rfl) (.inl rfl))
  let y1 : Vec F (Mat (seen b) 128) .f32 ← Prog.lift (.load S.arg11 (rowsRect b).toLoadRect (View.loadsAt_vmem (rows_pos b)))
  let q' : Vec F S256x128 .f32 ← Prog.lift (.load S.arg2 wholeQ.toLoadRect (View.loadsAt_vmem posQ))
  let _ ← Prog.lift (.load S.arg11 (rowsRect b).toLoadRect (View.loadsAt_vmem (rows_pos b)))
  Prog.lift (.store S.arg11 (rowsRect b) (keyCt (seen b) (scoreCt (seen b) (weights (seen b) (BitVec.ofNat 32 (256 * b.val)) q k cc cr lse)
    (weightCt (seen b) d v) (mulf d (shapeCast S256x128 o (casts_self _)))) q' y1) Finset.univ
    (View.stores_vmem_bits_univ (rows_pos b) rfl) (.inl rfl))
  let y2 : Vec F (Mat (seen b) 128) .f32 ← Prog.lift (.load S.arg12 (rowsRect b).toLoadRect (View.loadsAt_vmem (rows_pos b)))
  let _ ← Prog.lift (.load S.arg12 (rowsRect b).toLoadRect (View.loadsAt_vmem (rows_pos b)))
  Prog.lift (.store S.arg12 (rowsRect b) (valueCt (seen b) (weights (seen b) (BitVec.ofNat 32 (256 * b.val)) q k cc cr lse) d y2) Finset.univ
    (View.stores_vmem_bits_univ (rows_pos b) rfl) (.inl rfl))
  let _ ← Prog.lift (.load S.arg13 wholeG.toLoadRect (View.loadsAt_vmem posG))
  Prog.lift (.store S.arg13 wholeG (gateCt (seen b) (scoreCt (seen b) (weights (seen b) (BitVec.ofNat 32 (256 * b.val)) q k cc cr lse)
    (weightCt (seen b) d v) (mulf d (shapeCast S256x128 o (casts_self _))))) Finset.univ (View.stores_vmem_bits_univ posG rfl) (.inl rfl))
  let y4 : Vec F (Row (seen b)) .f32 ← Prog.lift (.load S.arg14 (colsRect b).toLoadRect (View.loadsAt_vmem (cols_pos b)))
  let _ ← Prog.lift (.load S.arg14 (colsRect b).toLoadRect (View.loadsAt_vmem (cols_pos b)))
  Prog.lift (.store S.arg14 (colsRect b) (decayCt (seen b) (scoreCt (seen b) (weights (seen b) (BitVec.ofNat 32 (256 * b.val)) q k cc cr lse)
    (weightCt (seen b) d v) (mulf d (shapeCast S256x128 o (casts_self _)))) y4) Finset.univ
    (View.stores_vmem_bits_univ (cols_pos b) rfl) (.inl rfl))

/-! ## The branches' conditions -/

/-- The coordinate along the query blocks. -/
abbrev blockOf (i : grid0.Coords) : Fin 8 := i 1

theorem cond1 (i : grid0.Coords) : k0_cond1 i = 1#1 ↔ (blockOf i).val = 0 := by
  have h := (blockOf i).isLt
  unfold k0_cond1; word_cmp
theorem cond2 (i : grid0.Coords) : k0_cond2 i = 1#1 ↔ (blockOf i).val = 0 := by
  have h := (blockOf i).isLt
  unfold k0_cond2; word_cmp
theorem cond3 (i : grid0.Coords) : k0_cond3 i = 1#1 ↔ (blockOf i).val = 1 := by
  have h := (blockOf i).isLt
  unfold k0_cond3; word_cmp
theorem cond4 (i : grid0.Coords) : k0_cond4 i = 1#1 ↔ (blockOf i).val = 2 := by
  have h := (blockOf i).isLt
  unfold k0_cond4; word_cmp
theorem cond5 (i : grid0.Coords) : k0_cond5 i = 1#1 ↔ (blockOf i).val = 3 := by
  have h := (blockOf i).isLt
  unfold k0_cond5; word_cmp
theorem cond6 (i : grid0.Coords) : k0_cond6 i = 1#1 ↔ (blockOf i).val = 4 := by
  have h := (blockOf i).isLt
  unfold k0_cond6; word_cmp
theorem cond7 (i : grid0.Coords) : k0_cond7 i = 1#1 ↔ (blockOf i).val = 5 := by
  have h := (blockOf i).isLt
  unfold k0_cond7; word_cmp
theorem cond8 (i : grid0.Coords) : k0_cond8 i = 1#1 ↔ (blockOf i).val = 6 := by
  have h := (blockOf i).isLt
  unfold k0_cond8; word_cmp
theorem cond9 (i : grid0.Coords) : k0_cond9 i = 1#1 ↔ (blockOf i).val = 7 := by
  have h := (blockOf i).isLt
  unfold k0_cond9; word_cmp

/-- The printed body at query block `b` clears the collecting buffers at the first block and runs the block's branch. -/
theorem body_eq (S : Slots) (i : grid0.Coords) (b : Fin 8) (hb : blockOf i = b) :
    S.body (F := F) i = (if b = 0 then S.clear else pure ⟨⟩) >>= fun _ => S.step b := by
  have hv : (blockOf i).val = b.val := congrArg Fin.val hb
  unfold Slots.body
  rw [cc0_fox_attn_bwd_eq_skeleton]
  unfold cc0_fox_attn_bwd_skel
  simp only [cond1, cond2, cond3, cond4, cond5, cond6, cond7, cond8, cond9, hv]
  fin_cases b
  all_goals
    repeat first | rw [dif_neg (by decide)] | rw [dif_pos (by decide)]
    first | rw [if_neg (by decide)] | rw [if_pos (by decide)]
    rfl

end Cert.FoxBwd

end
-- ==== Proof.Run.lean ====
/- One grid point's run: what the body leaves in its buffers. -/
module

public import proofs.«01_k».proof.Proof.Step

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The input buffers, holding a grid point's blocks. -/
def Slots.inputs (S : Slots) (c : Dev nD) (T : Tile F) : sProp 𝕄 :=
  iprop(owns (c : Thread nD τ) S.arg2 fullShare T.q ∗ owns (c : Thread nD τ) S.arg3 fullShare T.k ∗ owns (c : Thread nD τ) S.arg4 fullShare T.v
    ∗ owns (c : Thread nD τ) S.arg5 fullShare T.o ∗ owns (c : Thread nD τ) S.arg6 fullShare T.d ∗ owns (c : Thread nD τ) S.arg7 fullShare T.lse
    ∗ owns (c : Thread nD τ) S.arg8 fullShare T.cc ∗ owns (c : Thread nD τ) S.arg9 fullShare T.cr)

/-- The buffers that collect over the query blocks. -/
def Slots.sums (S : Slots) (c : Dev nD) (y1 y2 : Vec F S2048x128 .f32) (y4 : Vec F S1x1x2048 .f32) : sProp 𝕄 :=
  iprop(owns (c : Thread nD τ) S.arg11 fullShare y1 ∗ owns (c : Thread nD τ) S.arg12 fullShare y2 ∗ owns (c : Thread nD τ) S.arg14 fullShare y4)

/-- The buffers written whole at every point. -/
def Slots.outs (S : Slots) (c : Dev nD) (x : Vec F S256x128 .f32) (g : Vec F S1x256x1 .f32) : sProp 𝕄 :=
  iprop(owns (c : Thread nD τ) S.arg10 fullShare x ∗ owns (c : Thread nD τ) S.arg13 fullShare g)

/-! Reading a buffer through a branch's rectangles. -/

section
variable {arg : Memref sig .tc .vmem S256x128 .f32} (h : arg.IsWhole)
theorem read_whole (x : Vec F S256x128 .f32) : arg.view.readAt (Elt F) wholeQ.toLoadRect (h.unread x) = x :=
  (View.readAt_full arg.view _ _).trans (h.read_unread x)
end
section
variable {arg : Memref sig .tc .vmem S1x256x1 .f32} (h : arg.IsWhole)
theorem read_gate (x : Vec F S1x256x1 .f32) : arg.view.readAt (Elt F) wholeG.toLoadRect (h.unread x) = x :=
  (View.readAt_full arg.view _ _).trans (h.read_unread x)
end
section
variable {arg : Memref sig .tc .vmem S2048x128 .f32} (h : arg.IsWhole) (b : Fin 8)
theorem read_rows (x : Vec F S2048x128 .f32) : arg.view.readAt (Elt F) (rowsRect b).toLoadRect (h.unread x) = rowsOf b x :=
  (View.readAt_unit arg.view _ _ rfl (inb_rows b)).trans (by rw [h.read_unread]; rfl)
theorem read_put_rows (x : Vec F S2048x128 .f32) (w : Vec F (Mat (seen b) 128) .f32) :
    arg.view.read (Elt F) (arg.view.writes (Elt F) (h.unread x) [⟨rowsRect b, w⟩]) = putRows b x w :=
  (View.read_writes_cons_put arg.view _ (inb_rows b) w [] rfl).trans (by rw [View.writes_nil, h.read_unread]; rfl)
end
section
variable {arg : Memref sig .tc .vmem S1x1x2048 .f32} (h : arg.IsWhole) (b : Fin 8)
theorem read_cols (x : Vec F S1x1x2048 .f32) : arg.view.readAt (Elt F) (colsRect b).toLoadRect (h.unread x) = colsOf b x :=
  (View.readAt_unit arg.view _ _ rfl (inb_cols b)).trans (by rw [h.read_unread]; rfl)
theorem read_put_cols (x : Vec F S1x1x2048 .f32) (w : Vec F (Row (seen b)) .f32) :
    arg.view.read (Elt F) (arg.view.writes (Elt F) (h.unread x) [⟨colsRect b, w⟩]) = putCols b x w :=
  (View.read_writes_cons_put arg.view _ (inb_cols b) w [] rfl).trans (by rw [View.writes_nil, h.read_unread]; rfl)
end

set_option maxHeartbeats 1000000 in
/-- Query block `b`'s branch leaves the gradients of its queries and their gate, and adds its share to the keys', the values' and
    the keys' gate's. -/
theorem step_run (S : Slots) (c : Dev nD) (b : Fin 8) (T : Tile F) (x : Vec F S256x128 .f32) (g : Vec F S1x256x1 .f32)
    (y1 y2 : Vec F S2048x128 .f32) (y4 : Vec F S1x1x2048 .f32) (E : Set ℕ) (K : PUnit → sProp 𝕄) :
    iprop(S.inputs c T ∗ S.outs c x g ∗ S.sums c y1 y2 y4
        ∗ (iprop(S.inputs c T ∗ S.outs c (T.dq b) (T.dci b) ∗ S.sums c (T.dk b y1) (T.dv b y2) (T.dcj b y4)) -∗ K ⟨⟩))
      ⊢ wp frame (wpE (defs₀ (F := F)) Variants.none c none) E (S.step b) K := by
  obtain ⟨arg2, harg2, arg3, harg3, arg4, harg4, arg5, harg5, arg6, harg6, arg7, harg7, arg8, harg8, arg9, harg9, arg10, harg10, arg11, harg11,
    arg12, harg12, arg13, harg13, arg14, harg14⟩ := S
  obtain ⟨x0, x1, x2, x3, x4, x5, x6, x7⟩ := T
  unfold Slots.inputs Slots.outs Slots.sums Slots.step
  dsimp only
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%f8, %hf8, H8⟩, ⟨%f11, %hf11, H11⟩⟩, ⟨⟨%f9, %hf9, H9⟩, ⟨%f10, %hf10, H10⟩, ⟨%f12, %hf12, H12⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg14.eq_unread hf12
  sl_exec
  sl_step
  iapply Hk
  rw [read_whole, read_rows, read_gate, read_cols, read_gate, read_whole, read_rows, read_whole, read_rows, read_rows, read_cols]
  isplitl [H0 H1 H2 H3 H4 H5 H6 H7]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7
  isplitl [H8 H11]
  · isplitl [H8]
    · iexists _; isplitr; swap; · iexact H8
      ipureintro; exact View.read_writes_full _ _ _ _ _
    iexists _; isplitr; swap; · iexact H11
    ipureintro; exact View.read_writes_full _ _ _ _ _
  isplitl [H9]
  · iexists _; isplitr; swap; · iexact H9
    ipureintro; exact read_put_rows harg11 b y1 _
  isplitl [H10]
  · iexists _; isplitr; swap; · iexact H10
    ipureintro; exact read_put_rows harg12 b y2 _
  iexists _; isplitr; swap; · iexact H12
  ipureintro; exact read_put_cols harg14 b y4 _

set_option maxHeartbeats 1000000 in
/-- Before the first query block the collecting buffers are set to zero. -/
theorem clear_run (S : Slots) (c : Dev nD) (y1 y2 : Vec F S2048x128 .f32) (y4 : Vec F S1x1x2048 .f32) (E : Set ℕ) (K : PUnit → sProp 𝕄) :
    iprop(S.sums c y1 y2 y4 ∗ (S.sums c k0_pay1 k0_pay2 k0_pay3 -∗ K ⟨⟩))
      ⊢ wp frame (wpE (defs₀ (F := F)) Variants.none c none) E S.clear K := by
  obtain ⟨arg2, harg2, arg3, harg3, arg4, harg4, arg5, harg5, arg6, harg6, arg7, harg7, arg8, harg8, arg9, harg9, arg10, harg10, arg11, harg11,
    arg12, harg12, arg13, harg13, arg14, harg14⟩ := S
  unfold Slots.sums Slots.clear
  dsimp only
  unfold owns
  iintro ⟨⟨⟨%f9, %hf9, H9⟩, ⟨%f10, %hf10, H10⟩, ⟨%f12, %hf12, H12⟩⟩, Hk⟩
  sl_exec
  sl_step
  iapply Hk
  isplitl [H9]
  · iexists _; isplitr; swap; · iexact H9
    ipureintro; exact View.read_writes_full _ _ _ _ _
  isplitl [H10]
  · iexists _; isplitr; swap; · iexact H10
    ipureintro; exact View.read_writes_full _ _ _ _ _
  iexists _; isplitr; swap; · iexact H12
  ipureintro; exact View.read_writes_full _ _ _ _ _

end Cert.FoxBwd

end
-- ==== Proof.Grid.lean ====
/- What every window's buffer holds after each point. -/
module

public import proofs.«01_k».proof.Proof.Run
public import proofs.«01_k».proof.Proof.Gen.KernelIdeal.Frame

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the collecting buffers hold as query block `b`'s branch begins: zero for the first, else what the block before left. -/
def fresh {s : Shape} (b : Fin 8) (z y : Vec F s .f32) : Vec F s .f32 := if b = 0 then z else y

/-- A grid point's run. -/
theorem body_run (S : Slots) (c : Dev nD) (i : grid0.Coords) (b : Fin 8) (hb : blockOf i = b) (T : Tile F) (x : Vec F S256x128 .f32)
    (g : Vec F S1x256x1 .f32) (y1 y2 : Vec F S2048x128 .f32) (y4 : Vec F S1x1x2048 .f32) (E : Set ℕ) (K : PUnit → sProp 𝕄) :
    iprop(S.inputs c T ∗ S.outs c x g ∗ S.sums c y1 y2 y4
        ∗ (iprop(S.inputs c T ∗ S.outs c (T.dq b) (T.dci b)
            ∗ S.sums c (T.dk b (fresh b k0_pay1 y1)) (T.dv b (fresh b k0_pay2 y2)) (T.dcj b (fresh b k0_pay3 y4))) -∗ K ⟨⟩))
      ⊢ wp frame (wpE (defs₀ (F := F)) Variants.none c none) E (S.body i) K := by
  rw [body_eq S i b hb]
  by_cases h : b = 0
  · rw [if_pos h, wp_bind]
    iintro ⟨Hi, Ho, Hs, Hk⟩
    iapply clear_run S c y1 y2 y4 E
    isplitl [Hs]; · iexact Hs
    iintro Hs
    iapply step_run S c b T x g k0_pay1 k0_pay2 k0_pay3 E
    rw [fresh, fresh, fresh, if_pos h, if_pos h, if_pos h]
    isplitl [Hi]; · iexact Hi
    isplitl [Ho]; · iexact Ho
    isplitl [Hs]; · iexact Hs
    iexact Hk
  · rw [if_neg h, pure_bind, fresh, fresh, fresh, if_neg h, if_neg h, if_neg h]
    exact step_run S c b T x g y1 y2 y4 E K

/-! ## What the buffers hold after each point -/

variable (m : (ℓ : Loc nD τ sig) → Buf (Elt F) ℓ) (ρ : Dev nD → PrngReg)

/-- The query block of point `t`. -/
abbrev turn (t : Fin cfg0.N) : Fin 8 := blockOf (grid0.coords t)

/-- The blocks the body finds at point `t`. -/
def tile (c : Dev nD) (t : Fin cfg0.N) : Tile F :=
  ⟨iblk m c 0 t, iblk m c 1 t, iblk m c 2 t, iblk m c 3 t, iblk m c 4 t, iblk m c 5 t, iblk m c 6 t, iblk m c 7 t⟩

/-- A buffer the points add to in turn, `f` the addition of one point, from `z`. -/
def collect {α : Type} (f : Fin cfg0.N → α → α) (z : α) : (n : ℕ) → n < cfg0.N → α
  | 0, h => f ⟨0, h⟩ z
  | n + 1, h => f ⟨n + 1, h⟩ (collect f z n (Nat.lt_of_succ_lt h))

def addK (c : Dev nD) (t : Fin cfg0.N) (y : Vec F S2048x128 .f32) : Vec F S2048x128 .f32 := (tile m c t).dk (turn t) (fresh (turn t) k0_pay1 y)
def addV (c : Dev nD) (t : Fin cfg0.N) (y : Vec F S2048x128 .f32) : Vec F S2048x128 .f32 := (tile m c t).dv (turn t) (fresh (turn t) k0_pay2 y)
def addC (c : Dev nD) (t : Fin cfg0.N) (y : Vec F S1x1x2048 .f32) : Vec F S1x1x2048 .f32 := (tile m c t).dcj (turn t) (fresh (turn t) k0_pay3 y)

/-- The gradients of the keys, the values and the keys' gate collected up to point `t`. -/
def sumK (c : Dev nD) (t : Fin cfg0.N) : Vec F S2048x128 .f32 := collect (addK m c) k0_pay1 t.val t.isLt
def sumV (c : Dev nD) (t : Fin cfg0.N) : Vec F S2048x128 .f32 := collect (addV m c) k0_pay2 t.val t.isLt
def sumC (c : Dev nD) (t : Fin cfg0.N) : Vec F S1x1x2048 .f32 := collect (addC m c) k0_pay3 t.val t.isLt

theorem turn_val (t : Fin cfg0.N) : (turn t).val = t.val % 8 := by
  exact (Pipeline.Grid.coords_val (G := grid0) t 1 (S := 1) (B := 8) (by decide) rfl).trans (by rw [Nat.div_one])

theorem live (w : Fin 13) (i : grid0.Coords) : idle0 w i = false := by
  have h : ∀ b : Fin 8, b.val = 0 ∨ b.val = 1 ∨ b.val = 2 ∨ b.val = 3 ∨ b.val = 4 ∨ b.val = 5 ∨ b.val = 6 ∨ b.val = 7 := by decide
  have hc := h (blockOf i)
  rw [← cond2, ← cond3, ← cond4, ← cond5, ← cond6, ← cond7, ← cond8, ← cond9] at hc
  fin_cases w <;> first | rfl | (rcases hc with hc | hc | hc | hc | hc | hc | hc | hc <;> simp [idle0, hc])

/-- The proof data: the arrays as the region finds them, and each window's buffer after each point. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (tile m c t).dq (turn t)
    | ⟨9, _⟩ => sumK m c t
    | ⟨10, _⟩ => sumV m c t
    | ⟨11, _⟩ => (tile m c t).dci (turn t)
    | ⟨12, _⟩ => sumC m c t
    | ⟨_ + 13, h⟩ => absurd h (Nat.not_lt_of_le (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := rfl

/-! Each input buffer holds its block. -/

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m (dats m 0 c) (A_eq m c 7) (after_7 m c) t d

/-- A step from the contents the point before left, whatever they are at a head's first block. -/
theorem collect_step {α : Type} (f : Fin cfg0.N → α → α) (z y : α) (t : Fin cfg0.N) (h0 : turn t = 0 → ∀ a b, f t a = f t b)
    (hs : ∀ (n : ℕ) (h : n + 1 < cfg0.N), t.val = n + 1 → turn t ≠ 0 → y = collect f z n (Nat.lt_of_succ_lt h)) :
    f t y = collect f z t.val t.isLt := by
  obtain ⟨n, hn⟩ := t
  cases n with
  | zero => exact h0 (Fin.ext (by rw [turn_val]; rfl)) _ _
  | succ n =>
    show f ⟨n + 1, hn⟩ y = f ⟨n + 1, hn⟩ (collect f z n _)
    by_cases h : turn ⟨n + 1, hn⟩ = 0
    · exact h0 h _ _
    · rw [hs n hn rfl h]

theorem fresh_zero {s : Shape} {b : Fin 8} (h : b = 0) (z y y' : Vec F s .f32) : fresh b z y = fresh b z y' := by
  rw [fresh, fresh, if_pos h, if_pos h]

/-- Inside a head a collecting buffer is found as the point before left it. -/
theorem before_collecting (c : Dev nD) (w : Fin cfg0.W) (hw : (spec0 w).isOut = true) (hf : ∀ t : Fin cfg0.N, (cfg0.win w).flush t = true ↔ t.val % 8 = 7)
    (hc : ∀ i a, (cfg0.win w).clip i a = none)
    (t : Fin cfg0.N) (n : ℕ) (h : n + 1 < cfg0.N) (ht : t.val = n + 1) (hb : turn t ≠ 0) (d) :
    (dats m 0 c).before w t d = (dats m 0 c).after w ⟨n, Nat.lt_of_succ_lt h⟩ := by
  obtain ⟨k, hk⟩ := t
  obtain rfl : k = n + 1 := ht
  refine (dats m 0 c).before_out_kept w hw ⟨n + 1, hk⟩ (Nat.succ_ne_zero n) ?_ (fun i => live w i) hc d
  rw [Bool.eq_false_iff, ne_eq, hf]
  have h1 : ¬ (n + 1) % 8 = 0 := fun h1 => hb (Fin.ext ((turn_val _).trans h1))
  show ¬ (n + 1 - 1) % 8 = 7
  omega

theorem sumK_step (c : Dev nD) (t : Fin cfg0.N) (d) : addK m c t ((dats m 0 c).before 9 t d) = sumK m c t :=
  collect_step (addK m c) k0_pay1 _ t (fun h a b => congrArg ((tile m c t).dk (turn t)) (fresh_zero h _ a b))
    fun n hn ht hb => before_collecting m c 9 rfl flush0_9 (fun _ _ => rfl) t n hn ht hb d
theorem sumV_step (c : Dev nD) (t : Fin cfg0.N) (d) : addV m c t ((dats m 0 c).before 10 t d) = sumV m c t :=
  collect_step (addV m c) k0_pay2 _ t (fun h a b => congrArg ((tile m c t).dv (turn t)) (fresh_zero h _ a b))
    fun n hn ht hb => before_collecting m c 10 rfl flush0_10 (fun _ _ => rfl) t n hn ht hb d
theorem sumC_step (c : Dev nD) (t : Fin cfg0.N) (d) : addC m c t ((dats m 0 c).before 12 t d) = sumC m c t :=
  collect_step (addC m c) k0_pay3 _ t (fun h a b => congrArg ((tile m c t).dcj (turn t)) (fresh_zero h _ a b))
    fun n hn ht hb => before_collecting m c 12 rfl flush0_12 (fun _ _ => rfl) t n hn ht hb d

end Cert.FoxBwd

end
-- ==== Proof.Body.lean ====
/- The body at one point of the grid, between what the pipeline hands it and what it takes back. -/
module

public import proofs.«01_k».proof.Proof.Grid

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers the pipeline hands the body at point `t`. -/
abbrev slotsAt (t : Fin cfg0.N) : Slots :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12)⟩

variable (m : (ℓ : Loc nD τ sig) → Buf (Elt F) ℓ) (ρ : Dev nD → PrngReg)

theorem Φ_step (c : Dev nD) (t : Fin cfg0.N) : (dats m 0 c).Φ t.succ = (dats m 0 c).Φ t.castSucc := by dsimp only [dats]
theorem owes_step (c : Dev nD) (t : Fin cfg0.N) : (dats m 0 c).owesAt () t.succ = (dats m 0 c).owesAt () t.castSucc := rfl
theorem after_8 (c : Dev nD) (t : Fin cfg0.N) : (dats m 0 c).after 8 t = (tile m c t).dq (turn t) := by dsimp only [dats]
theorem after_9 (c : Dev nD) (t : Fin cfg0.N) : (dats m 0 c).after 9 t = sumK m c t := by dsimp only [dats]
theorem after_10 (c : Dev nD) (t : Fin cfg0.N) : (dats m 0 c).after 10 t = sumV m c t := by dsimp only [dats]
theorem after_11 (c : Dev nD) (t : Fin cfg0.N) : (dats m 0 c).after 11 t = (tile m c t).dci (turn t) := by dsimp only [dats]
theorem after_12 (c : Dev nD) (t : Fin cfg0.N) : (dats m 0 c).after 12 t = sumC m c t := by dsimp only [dats]

set_option maxHeartbeats 2000000 in
/-- The body's triple at point `t`, between the contents the pipeline hands over and takes back. -/
theorem sound_body (c : Dev nD) (t : Fin cfg0.N) :
    iprop((dats m 0 c).Φ t.castSucc ∗ (dats m 0 c).owesAt () t.castSucc
      ∗ (∃ d, owns c (st0_0 t) fullShare ((dats m 0 c).before 0 t d))
      ∗ (∃ d, owns c (st0_1 t) fullShare ((dats m 0 c).before 1 t d))
      ∗ (∃ d, owns c (st0_2 t) fullShare ((dats m 0 c).before 2 t d))
      ∗ (∃ d, owns c (st0_3 t) fullShare ((dats m 0 c).before 3 t d))
      ∗ (∃ d, owns c (st0_4 t) fullShare ((dats m 0 c).before 4 t d))
      ∗ (∃ d, owns c (st0_5 t) fullShare ((dats m 0 c).before 5 t d))
      ∗ (∃ d, owns c (st0_6 t) fullShare ((dats m 0 c).before 6 t d))
      ∗ (∃ d, owns c (st0_7 t) fullShare ((dats m 0 c).before 7 t d))
      ∗ (∃ d, owns c (st0_8 t) fullShare ((dats m 0 c).before 8 t d))
      ∗ (∃ d, owns c (st0_9 t) fullShare ((dats m 0 c).before 9 t d))
      ∗ (∃ d, owns c (st0_10 t) fullShare ((dats m 0 c).before 10 t d))
      ∗ (∃ d, owns c (st0_11 t) fullShare ((dats m 0 c).before 11 t d))
      ∗ (∃ d, owns c (st0_12 t) fullShare ((dats m 0 c).before 12 t d))
      )
      ⊢ wp frame (wpE (defs₀ (F := F)) Variants.none c none) Set.univ (bodyAt0 t) fun _ =>
        iprop((dats m 0 c).Φ t.succ ∗ (dats m 0 c).owesAt () t.succ
          ∗ owns c (st0_0 t) fullShare ((dats m 0 c).after 0 t)
          ∗ owns c (st0_1 t) fullShare ((dats m 0 c).after 1 t)
          ∗ owns c (st0_2 t) fullShare ((dats m 0 c).after 2 t)
          ∗ owns c (st0_3 t) fullShare ((dats m 0 c).after 3 t)
          ∗ owns c (st0_4 t) fullShare ((dats m 0 c).after 4 t)
          ∗ owns c (st0_5 t) fullShare ((dats m 0 c).after 5 t)
          ∗ owns c (st0_6 t) fullShare ((dats m 0 c).after 6 t)
          ∗ owns c (st0_7 t) fullShare ((dats m 0 c).after 7 t)
          ∗ owns c (st0_8 t) fullShare ((dats m 0 c).after 8 t)
          ∗ owns c (st0_9 t) fullShare ((dats m 0 c).after 9 t)
          ∗ owns c (st0_10 t) fullShare ((dats m 0 c).after 10 t)
          ∗ owns c (st0_11 t) fullShare ((dats m 0 c).after 11 t)
          ∗ owns c (st0_12 t) fullShare ((dats m 0 c).after 12 t)
          ) := by
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply body_run (slotsAt t) c (grid0.coords t) (turn t) rfl (tile m c t) _ _ _ _ _ Set.univ
  isplitl [H0 H1 H2 H3 H4 H5 H6 H7]
  · unfold Slots.inputs
    rw [before_0, before_1, before_2, before_3, before_4, before_5, before_6, before_7]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H11]
  · unfold Slots.outs
    isplitl [H8]; · iexact H8
    iexact H11
  isplitl [H9 H10 H12]
  · unfold Slots.sums
    isplitl [H9]; · iexact H9
    isplitl [H10]; · iexact H10
    iexact H12
  iintro ⟨Hi, Hx, Hs⟩
  rw [show (tile m c t).dk (turn t) (fresh (turn t) k0_pay1 ((dats m 0 c).before 9 t d9)) = sumK m c t from sumK_step m c t d9,
    show (tile m c t).dv (turn t) (fresh (turn t) k0_pay2 ((dats m 0 c).before 10 t d10)) = sumV m c t from sumV_step m c t d10,
    show (tile m c t).dcj (turn t) (fresh (turn t) k0_pay3 ((dats m 0 c).before 12 t d12)) = sumC m c t from sumC_step m c t d12]
  unfold Slots.inputs Slots.outs Slots.sums
  rw [Φ_step, owes_step, after_0, after_1, after_2, after_3, after_4, after_5, after_6, after_7, after_8, after_9, after_10, after_11, after_12]
  icases Hi with ⟨H0, H1, H2, H3, H4, H5, H6, H7⟩
  icases Hx with ⟨H8, H11⟩
  icases Hs with ⟨H9, H10, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.FoxBwd

end
-- ==== Proof.Frame.lean ====
/- The run over the grid: the program comes to rest with its arrays filled by what the points left. -/
module

public import proofs.«01_k».proof.Proof.Body
public import Idealize.ShloMosaic.Lib.Claim

@[expose] public section

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt0 t := by
  unfold defs₀
  rw [Defs.onTc_tc]

set_option maxHeartbeats 2000000 in
theorem body_obligation (c : Dev nD) : BodyObligation (dats m 0 c) (defs₀ (F := F)) Variants.none () Set.univ := fun t => by
  rw [bigSep_W0, bigSep_W0, defs₀_row]
  refine triple_restated (sound_body m c t) rfl .rfl fun _ => ?_
  dsimp only
  rw [live 8, live 9]

set_option backward.isDefEq.respectTransparency.types false in
/-- From any launch memory the program comes to rest, every array as the points left it and every semaphore at zero. -/
theorem run_main_quiescent :
    θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.FoxBwd

end
-- ==== Proof.Same.lean ====
/- The kernel as launched and as read over the reals is one program: the frame of one is the frame of the other. -/
module

public import proofs.«01_k».proof.Proof.Frame
public import proofs.«01_k».proof.Proof.Gen.Kernel
public import Idealize.ShloMosaic.Lib.Tactic
public import Idealize.ShloMosaic.PureOps.BitExact

@[expose] public section

namespace Cert.FoxBwd

open Idealize.ShloMosaic Idealize.SL.Sem

theorem main_same : Cert.Kernel.main (F := Bits) = Cert.KernelIdeal.main (F := Bits) := by
  sl_kernel_rfl

theorem bodies_same : Cert.Kernel.defs₀ (F := Bits) = Cert.KernelIdeal.defs₀ (F := Bits) := by
  unfold Cert.Kernel.defs₀ Cert.KernelIdeal.defs₀
  refine congrArg _ (funext fun l => funext fun x => ?_)
  match l with
  | 0 => sl_kernel_rfl

theorem defs_same : Cert.Kernel.defs (F := Bits) = Cert.KernelIdeal.defs (F := Bits) :=
  congrArg (Pipeline.defs Cert.KernelIdeal.pcfgs) bodies_same

theorem quiescent_launched (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [main_same, defs_same]
  exact quiescent (F := Bits) m g

end Cert.FoxBwd
-- ==== Proof.Spec.lean ====
/- The gradients of one head of the attention, over the real numbers: what both programs are shown to compute. -/
module

public import Idealize.ShloMosaic.Init
public import Mathlib.Analysis.SpecialFunctions.Log.Basic

@[expose] public section

noncomputable section

namespace Cert.FoxBwd

open scoped BigOperators

/-- Row `r` of query block `b`. -/
def rowIn (b : Fin 8) (r : Fin 256) : Fin 2048 := ⟨256 * b.val + r.val, by omega⟩

/-- Entry `a` of head `h`, among the columns of a matrix of all heads. -/
abbrev col (h : Fin 16) (a : Fin 128) : Fin 2048 := ⟨128 * h.val + a.val, by omega⟩
/-- The same of the `p`-th of the three matrices side by side in the projections. -/
abbrev projCol (p : Fin 3) (h : Fin 16) (a : Fin 128) : Fin 6272 := ⟨2048 * p.val + 128 * h.val + a.val, by omega⟩

/-- A sum over the rows is the sum over the blocks of the sums over their rows. -/
theorem sum_rows {M : Type*} [AddCommMonoid M] (f : Fin 2048 → M) : ∑ i, f i = ∑ b : Fin 8, ∑ r : Fin 256, f (rowIn b r) := by
  rw [← Fintype.sum_prod_type' (f := fun b r => f (rowIn b r))]
  refine (Fintype.sum_equiv (finProdFinEquiv (m := 8) (n := 256)) _ _ fun x => congrArg f (Fin.ext ?_)).symm
  simp only [rowIn, finProdFinEquiv_apply_val]; omega

/-- A sum over the first `n` of `N` indices of what vanishes at the others is the sum over them all. -/
theorem sum_first {M : Type*} [AddCommMonoid M] {n N : ℕ} (h : n ≤ N) (f : Fin N → M) (h0 : ∀ j : Fin N, n ≤ j.val → f j = 0) :
    ∑ j : Fin n, f (Fin.castLE h j) = ∑ j, f j := by
  refine (Finset.sum_map Finset.univ (Fin.castLEEmb h) f).symm.trans ?_
  refine Finset.sum_subset (Finset.subset_univ _) fun j _ hj => h0 j (not_lt.mp fun hlt => hj ?_)
  exact Finset.mem_map.mpr ⟨⟨j.val, hlt⟩, Finset.mem_univ _, Fin.ext rfl⟩

/-- A finite sum of reals is the same among the extended reals. -/
theorem coe_sum {ι : Type*} [Fintype ι] (f : ι → ℝ) : ((∑ i, f i : ℝ) : EReal) = ∑ i, (f i : EReal) := by
  classical
  induction (Finset.univ : Finset ι) using Finset.induction_on with
  | empty => simp
  | insert a s h ih => rw [Finset.sum_insert h, Finset.sum_insert h, EReal.coe_add, ih]

theorem coe_sum_mul {ι : Type*} [Fintype ι] (f g : ι → ℝ) : (∑ i, (f i : EReal) * (g i : EReal)) = ((∑ i, f i * g i : ℝ) : EReal) := by
  rw [coe_sum]; exact Finset.sum_congr rfl fun i _ => (EReal.coe_mul _ _).symm

/-- The scores' scale: the float next to 1/√128. -/
def scale : ℝ := 11863283 / 134217728

/-- One head's inputs: queries, keys, values, the output's cotangents, and the gates' running sums. -/
structure Head where
  q : Fin 2048 → Fin 128 → ℝ
  k : Fin 2048 → Fin 128 → ℝ
  v : Fin 2048 → Fin 128 → ℝ
  d : Fin 2048 → Fin 128 → ℝ
  c : Fin 2048 → ℝ

namespace Head

variable (H : Head)

/-- The score of query `i` against key `j`. -/
def s (i j : Fin 2048) : ℝ := (∑ a, H.q i a * H.k j a) * scale + H.c i - H.c j
/-- Its exponential, for the keys no later than the query. -/
def e (i j : Fin 2048) : ℝ := if j ≤ i then Real.exp (H.s i j) else 0
def z (i : Fin 2048) : ℝ := ∑ j, H.e i j
/-- The softmax weights. -/
def p (i j : Fin 2048) : ℝ := H.e i j / H.z i
/-- The attention's output. -/
def o (i : Fin 2048) (a : Fin 128) : ℝ := ∑ j, H.p i j * H.v j a
/-- The weights' cotangents. -/
def g (i j : Fin 2048) : ℝ := ∑ a, H.d i a * H.v j a
/-- The scores' cotangents. -/
def ds (i j : Fin 2048) : ℝ := H.p i j * (H.g i j - ∑ j', H.p i j' * H.g i j')
def dq (i : Fin 2048) (a : Fin 128) : ℝ := (∑ j, H.ds i j * H.k j a) * scale
def dk (j : Fin 2048) (a : Fin 128) : ℝ := (∑ i, H.ds i j * H.q i a) * scale
def dv (j : Fin 2048) (a : Fin 128) : ℝ := ∑ i, H.p i j * H.d i a
def dci (i : Fin 2048) : ℝ := ∑ j, H.ds i j
def dcj (j : Fin 2048) : ℝ := -∑ i, H.ds i j

theorem e_nonneg (i j : Fin 2048) : 0 ≤ H.e i j := by
  unfold e; split
  exacts [(Real.exp_pos _).le, le_refl _]

theorem z_pos (i : Fin 2048) : 0 < H.z i :=
  (show 0 < H.e i i by rw [e, if_pos (le_refl _)]; exact Real.exp_pos _).trans_le
    (Finset.single_le_sum (fun j _ => H.e_nonneg i j) (Finset.mem_univ i))

theorem p_later {i j : Fin 2048} (h : i < j) : H.p i j = 0 := by
  rw [p, e, if_neg (not_le.mpr h), zero_div]

theorem ds_later {i j : Fin 2048} (h : i < j) : H.ds i j = 0 := by
  rw [ds, H.p_later h, zero_mul]

/-- The weights from the logarithm of the row's sum. -/
theorem exp_sub_log (i j : Fin 2048) : (if j ≤ i then Real.exp (H.s i j - Real.log (H.z i)) else 0) = H.p i j := by
  unfold p e; split
  · rw [Real.exp_sub, Real.exp_log (H.z_pos i)]
  · rw [zero_div]

/-- Exponentials of the scores less any number, and their sum. -/
theorem exp_sub (M : ℝ) (i j : Fin 2048) : (if j ≤ i then Real.exp (H.s i j - M) else 0) = H.e i j * Real.exp (-M) := by
  unfold e; split
  · rw [sub_eq_add_neg, Real.exp_add]
  · rw [zero_mul]

theorem sum_exp_sub (M : ℝ) (i : Fin 2048) : ∑ j, H.e i j * Real.exp (-M) = H.z i * Real.exp (-M) := (Finset.sum_mul _ _ _).symm

theorem shifted_pos (M : ℝ) (i : Fin 2048) : 0 < H.z i * Real.exp (-M) := mul_pos (H.z_pos i) (Real.exp_pos _)

theorem shifted_ratio (M : ℝ) (i j : Fin 2048) : H.e i j * Real.exp (-M) / (H.z i * Real.exp (-M)) = H.p i j :=
  mul_div_mul_right _ _ (Real.exp_pos _).ne'

theorem add_log_shifted (M : ℝ) (i : Fin 2048) : M + Real.log (H.z i * Real.exp (-M)) = Real.log (H.z i) := by
  rw [Real.log_mul (H.z_pos i).ne' (Real.exp_pos _).ne', Real.log_exp]; ring

/-- A row's inner product of cotangent and output is the weighted mean of the weights' cotangents. -/
theorem inner_out (i : Fin 2048) : ∑ a, H.d i a * H.o i a = ∑ j, H.p i j * H.g i j := by
  simp only [o, g, Finset.mul_sum]
  rw [Finset.sum_comm]
  exact Finset.sum_congr rfl fun j _ => Finset.sum_congr rfl fun a _ => by ring

/-- The scores' cotangents as the quotient rule writes them, from exponentials less any number. -/
theorem ds_quotient (M : ℝ) (i j : Fin 2048) :
    (H.g i j / (H.z i * Real.exp (-M))
      + -∑ j', H.g i j' * (1 / (H.z i * Real.exp (-M) * (H.z i * Real.exp (-M)))) * (H.e i j' * Real.exp (-M)))
      * (H.e i j * Real.exp (-M)) = H.ds i j := by
  have hz := (H.z_pos i).ne'
  have hM := (Real.exp_pos (-M)).ne'
  have hs : ∑ j', H.g i j' * (1 / (H.z i * Real.exp (-M) * (H.z i * Real.exp (-M)))) * (H.e i j' * Real.exp (-M))
      = (∑ j', H.p i j' * H.g i j') / (H.z i * Real.exp (-M)) := by
    rw [div_eq_mul_inv (∑ j', H.p i j' * H.g i j'), Finset.sum_mul]
    refine Finset.sum_congr rfl fun j' _ => ?_
    unfold p; field_simp
  rw [hs]; unfold ds p; field_simp; ring

end Head

end Cert.FoxBwd

end
-- ==== Proof.Scores.lean ====
/- The forward pass of the reference over real inputs, entry by entry: the masked scores, their shifted exponentials, the weights
   and the output. -/
module

public import proofs.«01_k».proof.Proof.Spec
public import proofs.«01_k».proof.Proof.Gen.ReferenceIdeal.Read
public import Idealize.ShloMosaic.Lib.KernelVsHost
public import Idealize.ShloMosaic.Lib.IdealHost
public import Idealize.ShloMosaic.Lib.WordCmp

@[expose] public section

noncomputable section

namespace Cert.FoxBwd

open Idealize.ShloMosaic Idealize.ShloMosaic.ValueIdx Cert.ReferenceIdeal Cert.ReferenceIdeal.Gen Cert.ReferenceIdeal.Read
open scoped BigOperators

/-- Head `h`'s column of the gates. -/
abbrev gateCol (h : Fin 16) : Fin 128 := ⟨h.val, by omega⟩

/-- The three arguments hold the heads `I`. -/
structure Holds (I : Fin 16 → Head) (x0 : (⟨S2048x6272, .f32⟩ : BufTy).Contents (Elt Ideal)) (x1 : (⟨S2048x128, .f32⟩ : BufTy).Contents (Elt Ideal))
    (x2 : (⟨S2048x2048, .f32⟩ : BufTy).Contents (Elt Ideal)) : Prop where
  q : ∀ h i a, x0 (ix2 i (projCol 0 h a)) = ((I h).q i a : EReal)
  k : ∀ h i a, x0 (ix2 i (projCol 1 h a)) = ((I h).k i a : EReal)
  v : ∀ h i a, x0 (ix2 i (projCol 2 h a)) = ((I h).v i a : EReal)
  c : ∀ h i, x1 (ix2 i (gateCol h)) = ((I h).c i : EReal)
  d : ∀ h i a, x2 (ix2 i (col h a)) = ((I h).d i a : EReal)

theorem ext2 {a b : ℕ} {i j : (⟨2, ![a, b]⟩ : Shape).Idx} (h0 : (i 0).val = (j 0).val) (h1 : (i 1).val = (j 1).val) : i = j := by
  funext d; match d with | ⟨0, _⟩ => exact Fin.ext h0 | ⟨1, _⟩ => exact Fin.ext h1
theorem ext3 {a b c : ℕ} {i j : (⟨3, ![a, b, c]⟩ : Shape).Idx} (h0 : (i 0).val = (j 0).val) (h1 : (i 1).val = (j 1).val)
    (h2 : (i 2).val = (j 2).val) : i = j := by
  funext d; match d with | ⟨0, _⟩ => exact Fin.ext h0 | ⟨1, _⟩ => exact Fin.ext h1 | ⟨2, _⟩ => exact Fin.ext h2

theorem scale_value : Ideal.ofBits .f32 0x3DB504F3#32 = (scale : EReal) := by
  unfold scale; simp [Ideal.ofBits, Ideal.ieee, -EReal.coe_mul]; norm_num
theorem bot_value : Ideal.ofBits .f32 0xFF800000#32 = ⊥ := by simp [Ideal.ofBits, Ideal.ieee]

theorem at2 {a b : ℕ} {f : (⟨2, ![a, b]⟩ : Shape).Idx → EReal} {i j : (⟨2, ![a, b]⟩ : Shape).Idx} {x : EReal} (e : f j = x)
    (h0 : (i 0).val = (j 0).val) (h1 : (i 1).val = (j 1).val) : f i = x := (congrArg f (ext2 h0 h1)).trans e
theorem at3 {a b c : ℕ} {f : (⟨3, ![a, b, c]⟩ : Shape).Idx → EReal} {i j : (⟨3, ![a, b, c]⟩ : Shape).Idx} {x : EReal} (e : f j = x)
    (h0 : (i 0).val = (j 0).val) (h1 : (i 1).val = (j 1).val) (h2 : (i 2).val = (j 2).val) : f i = x := (congrArg f (ext3 h0 h1 h2)).trans e

/-- A row number split off a column number, and back. -/
theorem split_row (i h a : ℕ) (hh : h < 16) (ha : a < 128) : ((i * 16 + h) * 128 + a) / 2048 = i := by omega
theorem split_col (i h a : ℕ) (hh : h < 16) (ha : a < 128) : ((i * 16 + h) * 128 + a) % 2048 = 128 * h + a := by omega

/-- Among extended reals below ⊤ some of which is above ⊥, the greatest is a real. -/
theorem fold_max_real {n : ℕ} (f : Fin n → EReal) (hf : ∀ k, f k ≠ ⊤) (k₀ : Fin n) (h₀ : f k₀ ≠ ⊥) :
    ∃ M : ℝ, (Finset.univ : Finset (Fin n)).fold max ⊥ f = (M : EReal) := by
  have ht : (Finset.univ : Finset (Fin n)).fold max ⊥ f < ⊤ :=
    (Finset.fold_max_lt (s := Finset.univ) (f := f) (b := ⊥) ⊤).mpr ⟨bot_lt_top, fun k _ => lt_top_iff_ne_top.mpr (hf k)⟩
  have hb : f k₀ ≤ (Finset.univ : Finset (Fin n)).fold max ⊥ f :=
    (Finset.le_fold_max (s := Finset.univ) (f := f) (b := ⊥) (f k₀)).mpr (Or.inr ⟨k₀, Finset.mem_univ _, le_refl _⟩)
  exact ⟨_, (EReal.coe_toReal ht.ne (fun e => h₀ (le_bot_iff.mp (hb.trans e.le)))).symm⟩

namespace Holds

variable {I : Fin 16 → Head} {x0 : (⟨S2048x6272, .f32⟩ : BufTy).Contents (Elt Ideal)} {x1 : (⟨S2048x128, .f32⟩ : BufTy).Contents (Elt Ideal)}
  {x2 : (⟨S2048x2048, .f32⟩ : BufTy).Contents (Elt Ideal)} (H : Holds I x0 x1 x2)
include H

/-! ## The heads' inputs -/

theorem gate (h : Fin 16) (i : Fin 2048) : val_main_v1 (F := Ideal) x1 (ix2 h i) = ((I h).c i : EReal) := by
  rw [val_main_v1_apply, val_main_v0_apply]
  exact at2 (H.c h i) rfl rfl

theorem gate_col (h : Fin 16) (i : Fin 2048) : val_main_v5 (F := Ideal) x1 (ix3 h i 0) = ((I h).c i : EReal) := by
  rw [val_main_v5_apply]
  exact at2 (H.gate h i) rfl rfl

theorem gate_row (h : Fin 16) (j : Fin 2048) : val_main_v6 (F := Ideal) x1 (ix3 h 0 j) = ((I h).c j : EReal) := by
  rw [val_main_v6_apply]
  exact at2 (H.gate h j) rfl rfl

theorem queries (h : Fin 16) (i : Fin 2048) (a : Fin 128) : val_main_v8 (F := Ideal) x0 (ix3 h i a) = ((I h).q i a : EReal) := by
  rw [val_main_v8_apply, val_main_v7_apply, val_main_v2_apply]
  refine (congrArg x0 (ext2 ?_ ?_)).trans (H.q h i a)
  · exact split_row i h a h.isLt a.isLt
  · exact (split_col i h a h.isLt a.isLt).trans (by show _ = 2048 * 0 + 128 * h.val + a.val; omega)

theorem keys (h : Fin 16) (i : Fin 2048) (a : Fin 128) : val_main_v10 (F := Ideal) x0 (ix3 h i a) = ((I h).k i a : EReal) := by
  rw [val_main_v10_apply, val_main_v9_apply, val_main_v3_apply]
  refine (congrArg x0 (ext2 ?_ ?_)).trans (H.k h i a)
  · exact split_row i h a h.isLt a.isLt
  · show 2048 + ((i.val * 16 + h.val) * 128 + a.val) % 2048 = 2048 * 1 + 128 * h.val + a.val
    rw [split_col i h a h.isLt a.isLt]; omega

theorem values (h : Fin 16) (i : Fin 2048) (a : Fin 128) : val_main_v55 (F := Ideal) x0 (ix3 h i a) = ((I h).v i a : EReal) := by
  rw [val_main_v55_apply, val_main_v54_apply, val_main_v4_apply]
  refine (congrArg x0 (ext2 ?_ ?_)).trans (H.v h i a)
  · exact split_row i h a h.isLt a.isLt
  · show 4096 + ((i.val * 16 + h.val) * 128 + a.val) % 2048 = 2048 * 2 + 128 * h.val + a.val
    rw [split_col i h a h.isLt a.isLt]; omega

theorem outCts (h : Fin 16) (i : Fin 2048) (a : Fin 128) : val_main_v60 (F := Ideal) x2 (ix3 h i a) = ((I h).d i a : EReal) := by
  rw [val_main_v60_apply, val_main_v59_apply]
  refine (congrArg x2 (ext2 ?_ ?_)).trans (H.d h i a)
  · exact split_row i h a h.isLt a.isLt
  · exact split_col i h a h.isLt a.isLt

/-! ## The scores and their exponentials -/

theorem product (h : Fin 16) (i j : Fin 2048) : val_main_v11 (F := Ideal) x0 (ix3 h i j) = ((∑ a, (I h).q i a * (I h).k j a : ℝ) : EReal) := by
  rw [val_main_v11_apply, ← coe_sum_mul]
  refine Finset.sum_congr rfl fun a _ => congrArg₂ (· * ·) ?_ ?_
  · exact at3 (H.queries h i a) rfl rfl rfl
  · exact at3 (H.keys h j a) rfl rfl rfl

theorem score (h : Fin 16) (i j : Fin 2048) : val_main_v17 (F := Ideal) x0 x1 (ix3 h i j) = ((I h).s i j : EReal) := by
  rw [val_main_v17_apply, val_main_v15_apply, val_main_v13_apply, val_main_v16_apply, val_main_v14_apply, val_main_v12_apply,
    val_main_cst_apply, H.product]
  have e5 : val_main_v5 (F := Ideal) x1 (idx_main_v14 (ix3 h i j)) = _ := at3 (H.gate_col h i) rfl rfl rfl
  have e6 : val_main_v6 (F := Ideal) x1 (idx_main_v16 (ix3 h i j)) = _ := at3 (H.gate_row h j) rfl rfl rfl
  rw [e5, e6]
  refine (congrArg (fun x : EReal => ((∑ a, (I h).q i a * (I h).k j a : ℝ) : EReal) * x + ((I h).c i : EReal) - ((I h).c j : EReal)) scale_value).trans ?_
  rw [Head.s, ← EReal.coe_mul, ← EReal.coe_add, ← EReal.coe_sub]

omit H in
theorem masked_select (h : Fin 16) (i j : Fin 2048) (x y : EReal) :
    Scalar.select (val_main_v25_1 (F := Ideal) (ix3 h i j)) x y = if j ≤ i then x else y := by
  rw [val_main_v25_1_apply, val_main_v24_apply, val_main_v22_apply, val_main_v23_apply, val_main_v19_apply, val_main_v21_apply,
    val_main_v18_apply, val_main_v20_apply]
  have e : IntOp.cmpi .sge (BitVec.ofNat 32 i.val) (BitVec.ofNat 32 j.val) = BitVec.ofBool (decide ((j.val : ℤ) ≤ (i.val : ℤ))) := by
    rw [WordCmp.cmpi_sge_eq, WordCmp.toInt_ofNat_of_lt (by omega), WordCmp.toInt_ofNat_of_lt (by omega)]
  refine (congrArg (fun w => Scalar.select w x y) e).trans ?_
  unfold Scalar.select
  by_cases hji : j ≤ i
  · rw [if_pos hji, decide_eq_true (Nat.cast_le.mpr (show j.val ≤ i.val from hji))]; rfl
  · rw [if_neg hji, decide_eq_false (fun h' => hji (Nat.cast_le.mp h'))]; rfl

theorem maskedScore (h : Fin 16) (i j : Fin 2048) :
    val_main_v25_0 (F := Ideal) x0 x1 (ix3 h i j) = if j ≤ i then ((I h).s i j : EReal) else ⊥ := by
  rw [val_main_v25_0_apply, masked_select, H.score, val_main_call0_v2_apply, val_main_call0_v0_apply, val_main_cst_0_apply]
  exact congrArg (fun y : EReal => if j ≤ i then ((I h).s i j : EReal) else y) bot_value

/-- The greatest score of a row is a real. -/
theorem rowMax_real (h : Fin 16) (i : Fin 2048) : ∃ M : ℝ, val_main_v26 (F := Ideal) x0 x1 (ix2 h i) = (M : EReal) := by
  have hr : S16x2048x2048.Reduces [2] S16x2048 := by decide
  have e : val_main_v26 (F := Ideal) x0 x1 (ix2 h i)
      = (Finset.univ : Finset (Fin 2048)).fold max (Ideal.ofBits .f32 0xFF800000#32) (val_main_v25_0 (F := Ideal) x0 x1 ∘ hr.lift (ix2 h i)) := by
    unfold val_main_v26 val_main_cst_1
    refine (congrFun (hostReduce_maximumf_eq_multiReduction (F := Ideal) (val_main_v25_0 (F := Ideal) x0 x1) _ _ _ hr (.inl rfl) rfl) _).trans ?_
    exact Ideal.multiReduction_maximumf_single _ _ hr _ _ _
  have el (j : Fin 2048) : (val_main_v25_0 (F := Ideal) x0 x1 ∘ hr.lift (ix2 h i)) j = if j ≤ i then ((I h).s i j : EReal) else ⊥ :=
    at3 (H.maskedScore h i j) rfl rfl rfl
  rw [e, bot_value]
  refine fold_max_real _ (fun j => ?_) i ?_
  · refine ne_of_eq_of_ne (el j) ?_; split
    exacts [EReal.coe_ne_top _, bot_ne_top]
  · exact ne_of_eq_of_ne ((el i).trans (if_pos (le_refl _))) (EReal.coe_ne_bot _)

/-- It does not change against −∞. -/
theorem rowMax (h : Fin 16) (i : Fin 2048) : val_main_v33 (F := Ideal) x0 x1 (ix2 h i) = val_main_v26 (F := Ideal) x0 x1 (ix2 h i) := by
  rw [val_main_v33_apply, val_main_v32_apply, val_main_cst_3_apply]
  exact (congrArg (fun y : EReal => max y (val_main_v26 (F := Ideal) x0 x1 (ix2 h i))) bot_value).trans (max_eq_right bot_le)

/-- A row's greatest score. -/
def top (_ : Holds I x0 x1 x2) (h : Fin 16) (i : Fin 2048) : ℝ := (val_main_v26 (F := Ideal) x0 x1 (ix2 h i)).toReal

theorem top_eq (h : Fin 16) (i : Fin 2048) : val_main_v26 (F := Ideal) x0 x1 (ix2 h i) = (H.top h i : EReal) := by
  obtain ⟨M, hM⟩ := H.rowMax_real h i
  unfold top; rw [hM, EReal.toReal_coe]

theorem expo (h : Fin 16) (i j : Fin 2048) :
    val_main_v46 (F := Ideal) x0 x1 (ix3 h i j) = (((I h).e i j * Real.exp (-H.top h i) : ℝ) : EReal) := by
  rw [val_main_v46_apply, val_main_v45_apply, H.maskedScore, val_main_v44_apply, val_main_v43_apply]
  have e : val_main_v33 (F := Ideal) x0 x1 (idx_main_v43 (idx_main_v44 (ix3 h i j))) = (H.top h i : EReal) :=
    at2 ((H.rowMax h i).trans (H.top_eq h i)) rfl rfl
  rw [e, ← Head.exp_sub]
  show Ideal.exp ((if j ≤ i then ((I h).s i j : EReal) else ⊥) - (H.top h i : EReal)) = _
  split
  · rw [← EReal.coe_sub, Ideal.exp_coe]
  · rw [EReal.bot_sub, Ideal.exp_bot, EReal.coe_zero]

theorem expoSum (h : Fin 16) (i : Fin 2048) :
    val_main_v47 (F := Ideal) x0 x1 (ix2 h i) = (((I h).z i * Real.exp (-H.top h i) : ℝ) : EReal) := by
  rw [val_main_v47_apply, val_main_cst_9_apply]
  refine (congrArg (· + _) Ideal.ofBits_zero_f32).trans ((zero_add _).trans ?_)
  rw [← Head.sum_exp_sub, coe_sum]
  exact Finset.sum_congr rfl fun j _ => at3 (H.expo h i j) rfl rfl rfl

theorem expoSum_col (h : Fin 16) (i : Fin 2048) :
    val_main_v48 (F := Ideal) x0 x1 (ix3 h i 0) = (((I h).z i * Real.exp (-H.top h i) : ℝ) : EReal) := by
  rw [val_main_v48_apply]
  exact at2 (H.expoSum h i) rfl rfl

theorem weight (h : Fin 16) (i j : Fin 2048) : val_main_v50 (F := Ideal) x0 x1 (ix3 h i j) = ((I h).p i j : EReal) := by
  rw [val_main_v50_apply, val_main_v49_apply, H.expo]
  have e : val_main_v48 (F := Ideal) x0 x1 (idx_main_v49 (ix3 h i j)) = (((I h).z i * Real.exp (-H.top h i) : ℝ) : EReal) :=
    at3 (H.expoSum_col h i) rfl rfl rfl
  rw [e, ← (I h).shifted_ratio (H.top h i) i j, Ideal.hostDivf_def, Ideal.div_coe ((I h).shifted_pos _ i).ne', ← EReal.coe_mul, mul_one_div]

/-- The attention's output. -/
theorem output (h : Fin 16) (i : Fin 2048) (a : Fin 128) : val_main_v58 (F := Ideal) x0 x1 (ix2 i (col h a)) = ((I h).o i a : EReal) := by
  rw [val_main_v58_apply, val_main_v57_apply]
  refine (congrArg (val_main_v56 (F := Ideal) x0 x1) (ext3 ?_ ?_ ?_ : _ = ix3 h i a)).trans ?_
  · show ((i.val * 2048 + (128 * h.val + a.val)) / 128) % 16 = h.val
    omega
  · show (i.val * 2048 + (128 * h.val + a.val)) / 2048 = i.val
    omega
  · show (i.val * 2048 + (128 * h.val + a.val)) % 128 = a.val
    omega
  rw [val_main_v56_apply, Head.o, ← coe_sum_mul]
  refine Finset.sum_congr rfl fun j _ => congrArg₂ (· * ·) ?_ ?_
  · exact at3 (H.weight h i j) rfl rfl rfl
  · exact at3 (H.values h j a) rfl rfl rfl

end Holds

end Cert.FoxBwd

end
-- ==== Proof.Gradients.lean ====
/- The backward pass of the reference over real inputs, entry by entry: its five results are the gradients of `Head`. -/
module

public import proofs.«01_k».proof.Proof.Scores

@[expose] public section

noncomputable section

namespace Cert.FoxBwd

open Idealize.ShloMosaic Idealize.ShloMosaic.ValueIdx Cert.ReferenceIdeal Cert.ReferenceIdeal.Gen Cert.ReferenceIdeal.Read
open scoped BigOperators

namespace Holds

variable {I : Fin 16 → Head} {x0 : (⟨S2048x6272, .f32⟩ : BufTy).Contents (Elt Ideal)} {x1 : (⟨S2048x128, .f32⟩ : BufTy).Contents (Elt Ideal)}
  {x2 : (⟨S2048x2048, .f32⟩ : BufTy).Contents (Elt Ideal)} (H : Holds I x0 x1 x2)
include H

/-- The value product of each output cotangent. -/
theorem weightCt (h : Fin 16) (i j : Fin 2048) : val_main_v63 (F := Ideal) x0 x2 (ix3 h i j) = ((I h).g i j : EReal) := by
  rw [val_main_v63_apply, Head.g, ← coe_sum_mul]
  refine Finset.sum_congr rfl fun a _ => congrArg₂ (· * ·) ?_ ?_
  · exact at3 (H.outCts h i a) rfl rfl rfl
  · exact at3 (H.values h j a) rfl rfl rfl

/-- A row's exponentials summed, as it is used below. -/
def total (H : Holds I x0 x1 x2) (h : Fin 16) (i : Fin 2048) : ℝ := (I h).z i * Real.exp (-H.top h i)

theorem total_ne (h : Fin 16) (i : Fin 2048) : H.total h i ≠ 0 := ((I h).shifted_pos _ i).ne'

theorem inverseSquare (h : Fin 16) (i : Fin 2048) :
    val_main_v53 (F := Ideal) x0 x1 (ix3 h i 0) = ((1 / (H.total h i * H.total h i) : ℝ) : EReal) := by
  rw [val_main_v53_apply, val_main_v51_apply, val_main_v52_apply, val_main_cst_10_apply, H.expoSum_col]
  refine (congrArg (fun y : EReal => Ideal.div y (((H.total h i : ℝ) : EReal) * ((H.total h i : ℝ) : EReal))) Ideal.ofBits_one_f32).trans ?_
  rw [← EReal.coe_mul, Ideal.div_coe (mul_ne_zero (H.total_ne h i) (H.total_ne h i)), one_mul]

/-- What the quotient rule sums along a row. -/
theorem quotientSum (h : Fin 16) (i : Fin 2048) : val_main_v70 (F := Ideal) x0 x1 x2 (ix3 h i 0)
    = ((∑ j, (I h).g i j * (1 / (H.total h i * H.total h i)) * ((I h).e i j * Real.exp (-H.top h i)) : ℝ) : EReal) := by
  rw [val_main_v70_apply]
  refine at2 (j := ix2 h i) ?_ (by show ((h.val * 2048 + i.val) * 1 + 0) / 2048 = h.val; omega) (by show ((h.val * 2048 + i.val) * 1 + 0) % 2048 = i.val; omega)
  rw [val_main_v69_apply, val_main_cst_11_apply]
  refine (congrArg (· + _) Ideal.ofBits_zero_f32).trans ((zero_add _).trans ?_)
  rw [coe_sum]
  refine Finset.sum_congr rfl fun j _ => at3 (j := ix3 h i j) ?_ rfl rfl rfl
  rw [val_main_v68_apply, val_main_v67_apply, val_main_v66_apply, H.weightCt, H.expo]
  have e : val_main_v53 (F := Ideal) x0 x1 (idx_main_v66 (ix3 h i j)) = _ := at3 (H.inverseSquare h i) rfl rfl rfl
  rw [e]
  exact (congrArg (· * _) (EReal.coe_mul _ _).symm).trans (EReal.coe_mul _ _).symm

theorem quotientSum_neg (h : Fin 16) (i : Fin 2048) : val_main_v74 (F := Ideal) x0 x1 x2 (ix2 h i)
    = ((-∑ j, (I h).g i j * (1 / (H.total h i * H.total h i)) * ((I h).e i j * Real.exp (-H.top h i)) : ℝ) : EReal) := by
  rw [val_main_v74_apply, val_main_cst_12_apply]
  refine (congrArg (· + _) Ideal.ofBits_zero_f32).trans ((zero_add _).trans ?_)
  rw [Fin.sum_univ_one]
  refine at3 (j := ix3 h i 0) ?_ rfl rfl rfl
  rw [val_main_v71_apply, H.quotientSum]
  exact (EReal.coe_neg _).symm

/-- The scores' cotangents. -/
theorem scoreCt (h : Fin 16) (i j : Fin 2048) : val_main_v78 (F := Ideal) x0 x1 x2 (ix3 h i j) = ((I h).ds i j : EReal) := by
  rw [val_main_v78_apply, masked_select]
  split
  · rw [val_main_v77_apply, val_main_v76_apply, val_main_v73_apply, val_main_v72_apply, val_main_v75_apply, H.weightCt, H.expo]
    have e₁ : val_main_v48 (F := Ideal) x0 x1 (idx_main_v72 (ix3 h i j)) = ((H.total h i : ℝ) : EReal) := at3 (H.expoSum_col h i) rfl rfl rfl
    have e₂ : val_main_v74 (F := Ideal) x0 x1 x2 (idx_main_v75 (ix3 h i j)) = _ := at2 (H.quotientSum_neg h i) rfl rfl
    rw [e₁, e₂, ← (I h).ds_quotient (H.top h i) i j, Ideal.hostDivf_def, Ideal.div_coe (H.total_ne h i), ← EReal.coe_mul, mul_one_div]
    exact (congrArg (· * _) (EReal.coe_add _ _).symm).trans (EReal.coe_mul _ _).symm
  · rename_i hji
    rw [(I h).ds_later (not_le.mp hji), val_main_call1_v0_apply]
    exact Ideal.ofBits_zero_f32

theorem scaledCt (h : Fin 16) (i j : Fin 2048) : val_main_v85 (F := Ideal) x0 x1 x2 (ix3 h i j) = (((I h).ds i j * scale : ℝ) : EReal) := by
  rw [val_main_v85_apply, H.scoreCt, val_main_v84_apply, val_main_cst_15_apply]
  exact (congrArg (fun y : EReal => ((I h).ds i j : EReal) * y) scale_value).trans (EReal.coe_mul _ _).symm

omit H in
/-- Where an entry of a matrix of all heads lies in the heads' stack. -/
theorem place_row (i h a : ℕ) (hh : h < 16) (ha : a < 128) : (i * 2048 + (128 * h + a)) / 2048 = i := by omega
omit H in
theorem place_head (i h a : ℕ) (hh : h < 16) (ha : a < 128) : ((i * 2048 + (128 * h + a)) / 128) % 16 = h := by omega
omit H in
theorem place_col (i h a : ℕ) (hh : h < 16) (ha : a < 128) : (i * 2048 + (128 * h + a)) % 128 = a := by omega

/-! ## The five results -/

theorem queryGrad (h : Fin 16) (i : Fin 2048) (a : Fin 128) : val_main_v91 (F := Ideal) x0 x1 x2 (ix2 i (col h a)) = ((I h).dq i a : EReal) := by
  rw [val_main_v91_apply, val_main_v90_apply]
  refine at3 (j := ix3 h i a) ?_ (place_head i h a h.isLt a.isLt) (place_row i h a h.isLt a.isLt) (place_col i h a h.isLt a.isLt)
  rw [val_main_v87_apply, Head.dq, Finset.sum_mul, coe_sum]
  refine Finset.sum_congr rfl fun j _ => ?_
  rw [mul_right_comm, EReal.coe_mul]
  exact congrArg₂ (· * ·) (at3 (H.scaledCt h i j) rfl rfl rfl) (at3 (H.keys h j a) rfl rfl rfl)

theorem keyGrad (h : Fin 16) (j : Fin 2048) (a : Fin 128) : val_main_v89 (F := Ideal) x0 x1 x2 (ix2 j (col h a)) = ((I h).dk j a : EReal) := by
  rw [val_main_v89_apply, val_main_v88_apply]
  refine at3 (j := ix3 h j a) ?_ (place_head j h a h.isLt a.isLt) (place_row j h a h.isLt a.isLt) (place_col j h a h.isLt a.isLt)
  rw [val_main_v86_apply, Head.dk, Finset.sum_mul, coe_sum]
  refine Finset.sum_congr rfl fun i _ => ?_
  rw [mul_right_comm, EReal.coe_mul]
  exact congrArg₂ (· * ·) (at3 (H.scaledCt h i j) rfl rfl rfl) (at3 (H.queries h i a) rfl rfl rfl)

theorem valueGrad (h : Fin 16) (j : Fin 2048) (a : Fin 128) : val_main_v65 (F := Ideal) x0 x1 x2 (ix2 j (col h a)) = ((I h).dv j a : EReal) := by
  rw [val_main_v65_apply, val_main_v64_apply]
  refine at3 (j := ix3 h j a) ?_ (place_head j h a h.isLt a.isLt) (place_row j h a h.isLt a.isLt) (place_col j h a h.isLt a.isLt)
  rw [val_main_v62_apply]
  refine at3 (j := ix3 h a j) ?_ rfl rfl rfl
  rw [val_main_v61_apply, Head.dv, coe_sum]
  refine Finset.sum_congr rfl fun i _ => ?_
  rw [mul_comm ((I h).p i j), EReal.coe_mul]
  exact congrArg₂ (· * ·) (at3 (H.outCts h i a) rfl rfl rfl) (at3 (H.weight h i j) rfl rfl rfl)

theorem gateRowGrad (h : Fin 16) (i : Fin 2048) : val_main_v83 (F := Ideal) x0 x1 x2 (ix3 h i 0) = ((I h).dci i : EReal) := by
  rw [val_main_v83_apply]
  refine at2 (j := ix2 h i) ?_ (by show ((h.val * 2048 + i.val) * 1 + 0) / 2048 = h.val; omega) (by show ((h.val * 2048 + i.val) * 1 + 0) % 2048 = i.val; omega)
  rw [val_main_v82_apply, val_main_cst_14_apply]
  refine (congrArg (· + _) Ideal.ofBits_zero_f32).trans ((zero_add _).trans ?_)
  rw [Head.dci, coe_sum]
  exact Finset.sum_congr rfl fun j _ => at3 (H.scoreCt h i j) rfl rfl rfl

theorem gateColGrad (h : Fin 16) (j : Fin 2048) : val_main_v81 (F := Ideal) x0 x1 x2 (ix3 h 0 j) = ((I h).dcj j : EReal) := by
  rw [val_main_v81_apply]
  refine at2 (j := ix2 h j) ?_ (by show ((h.val * 1 + 0) * 2048 + j.val) / 2048 = h.val; omega) (by show ((h.val * 1 + 0) * 2048 + j.val) % 2048 = j.val; omega)
  rw [val_main_v80_apply, val_main_cst_13_apply]
  refine (congrArg (· + _) Ideal.ofBits_zero_f32).trans ((zero_add _).trans ?_)
  rw [Head.dcj, ← Finset.sum_neg_distrib, coe_sum]
  refine Finset.sum_congr rfl fun i _ => at3 (j := ix3 h i j) ?_ rfl rfl rfl
  rw [val_main_v79_apply, H.scoreCt]
  exact (EReal.coe_neg _).symm

end Holds

end Cert.FoxBwd

end
-- ==== Proof.Entries.lean ====
/- The operations of one step read entry by entry over the extended reals, where the blocks hold real numbers. -/
module

public import proofs.«01_k».proof.Proof.Tile
public import proofs.«01_k».proof.Proof.Spec
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.WordCmp
public import Idealize.ShloMosaic.PureOps.Ideal.Laws

@[expose] public section

noncomputable section

namespace Cert.FoxBwd

open Idealize.ShloMosaic Idealize.ShloMosaic.ValueIdx Cert.KernelIdeal
open scoped BigOperators

theorem scale_eq : Ideal.ofBits .f32 0x3DB504F3#32 = (scale : EReal) := by
  unfold scale; simp [Ideal.ofBits, Ideal.ieee, -EReal.coe_mul]; norm_num

theorem bot_eq : Ideal.ofBits .f32 0xFF800000#32 = ⊥ := by simp [Ideal.ofBits, Ideal.ieee]

/-! ## Layouts and the product with a transposed left side -/

section layout
variable {α : Type}

/-- A column repeated along the rows. -/
theorem broadcastTo_col_apply {a b : ℕ} (v : (Mat a 1).Idx → α) (h : (Mat a 1).Broadcasts (Mat a b)) (r : Fin a) (c : Fin b) :
    broadcastTo (Mat a b) v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem casts_col_apply {a : ℕ} (x : (⟨3, ![1, a, 1]⟩ : Shape).Idx → α) (h : (⟨3, ![1, a, 1]⟩ : Shape).ShapeCasts (Mat a 1)) (r : Fin a) :
    shapeCast (Mat a 1) x h (ix2 r (0 : Fin 1)) = x (ix3 (0 : Fin 1) r (0 : Fin 1)) :=
  shapeCast_1ab_ab_apply x h r 0

end layout

theorem transposedLhs_rank (K M N : ℕ) : (transposedLhs K M N).contr.rank = 1 := rfl
theorem transposedLhs_size (K M N : ℕ) : (transposedLhs K M N).contr.size ⟨0, by rw [transposedLhs_rank]; exact Nat.one_pos⟩ = K := rfl

/-- The product of a transposed matrix with another, at (r, c): the sum over the rows they share. -/
theorem matmul_transposedLhs_apply {K M N : ℕ} {φ₁ φ₂ : FTy} (prec : Option ContractPrecision) (lhs : FVec Ideal (Mat K M) φ₁)
    (rhs : FVec Ideal (Mat K N) φ₂) (acc : FVec Ideal (Mat M N) .f32) (r : Fin M) (c : Fin N) :
    FloatOps.matmul (transposedLhs K M N) prec lhs rhs acc (ix2 r c) = acc (ix2 r c) + ∑ k : Fin K, lhs (ix2 k r) * rhs (ix2 k c) := by
  rw [Ideal.matmul_apply, ← Equiv.sum_comp (contrEquiv1 _ K (transposedLhs_rank K M N) (transposedLhs_size K M N)).symm]
  refine congrArg (acc (ix2 r c) + ·) (Finset.sum_congr rfl fun k _ => ?_)
  have hk := contrEquiv1_symm_val _ K (transposedLhs_rank K M N) (transposedLhs_size K M N) k
  have el : (transposedLhs K M N).lhsIdx (ix2 r c) ((contrEquiv1 _ K (transposedLhs_rank K M N) (transposedLhs_size K M N)).symm k)
      = ix2 k r := by
    funext a; apply Fin.ext
    match a with
    | ⟨0, _⟩ => exact hk
    | ⟨1, _⟩ => rfl
  have er : (transposedLhs K M N).rhsIdx (ix2 r c) ((contrEquiv1 _ K (transposedLhs_rank K M N) (transposedLhs_size K M N)).symm k)
      = ix2 k c := by
    funext a; apply Fin.ext
    match a with
    | ⟨0, _⟩ => exact hk
    | ⟨1, _⟩ => rfl
  rw [el, er]

/-! ## The step's operations, the number of keys a variable -/

variable {n : ℕ} {q d od : Vec Ideal S256x128 .f32} {k v y : Vec Ideal (Mat n 128) .f32} {cc lse : Vec Ideal S1x256x1 .f32}
  {cr : Vec Ideal (Row n) .f32} {p g s : FVec Ideal (Mat 256 n) .f32}
  {Q D OD : Fin 256 → Fin 128 → ℝ} {K V : Fin n → Fin 128 → ℝ} {A L : Fin 256 → ℝ} {C : Fin n → ℝ} {P G S : Fin 256 → Fin n → ℝ}

/-- The comparison of two row numbers as words. -/
theorem masked {off r j : ℕ} (ho : off ≤ 2048) (hr : r < 256) (hj : j < 2048) {α : Type} (a b : α) :
    Scalar.select (IntOp.cmpi .sle (BitVec.ofNat 32 j) (IntOp.addi (BitVec.ofNat 32 off) (BitVec.ofNat 32 r))) a b
      = if j ≤ off + r then a else b := by
  rw [show IntOp.addi (BitVec.ofNat 32 off) (BitVec.ofNat 32 r) = BitVec.ofNat 32 (off + r) from
    (BitVec.ofNat_add _ _).symm, WordCmp.cmpi_sle_eq, WordCmp.toInt_ofNat_of_lt (by omega), WordCmp.toInt_ofNat_of_lt (by omega)]
  unfold Scalar.select
  by_cases h : j ≤ off + r
  · rw [if_pos h, decide_eq_true (Nat.cast_le.mpr h)]; rfl
  · rw [if_neg h, decide_eq_false (fun h' => h (Nat.cast_le.mp h'))]; rfl

theorem iota_col (r : Fin 256) (j : Fin n) : iota .tc (Mat 256 n) 32 [1] (iotas_cols 256 n) (ix2 r j) = BitVec.ofNat 32 j.val :=
  congrArg (BitVec.ofNat 32) (by show 0 * n + j.val = j.val; rw [Nat.zero_mul, Nat.zero_add])
theorem iota_row (r : Fin 256) (j : Fin n) : iota .tc (Mat 256 n) 32 [0] (iotas_rows 256 n) (ix2 r j) = BitVec.ofNat 32 r.val :=
  congrArg (BitVec.ofNat 32) (by show 0 * 256 + r.val = r.val; rw [Nat.zero_mul, Nat.zero_add])

theorem weights_apply {off : ℕ} (ho : off ≤ 2048) (hn : n ≤ 2048) (hq : ∀ r a, q (ix2 r a) = (Q r a : EReal))
    (hk : ∀ j a, k (ix2 j a) = (K j a : EReal)) (hA : ∀ r, cc (ix3 0 r 0) = (A r : EReal)) (hC : ∀ j, cr (ix3 0 0 j) = (C j : EReal))
    (hL : ∀ r, lse (ix3 0 r 0) = (L r : EReal)) (r : Fin 256) (j : Fin n) :
    weights n (BitVec.ofNat 32 off) q k cc cr lse (ix2 r j)
      = ((if j.val ≤ off + r.val then Real.exp ((∑ a, Q r a * K j a) * scale + A r - C j - L r) else 0 : ℝ) : EReal) := by
  have e : weights n (BitVec.ofNat 32 off) q k cc cr lse (ix2 r j) = Ideal.exp (Scalar.select
      (IntOp.cmpi .sle (iota .tc (Mat 256 n) 32 [1] (iotas_cols 256 n) (ix2 r j))
        (IntOp.addi (BitVec.ofNat 32 off) (iota .tc (Mat 256 n) 32 [0] (iotas_rows 256 n) (ix2 r j))))
      ((FloatOps.matmul (DotDims.transposedRhs 256 128 n) none (truncf .bf16 q narrower) (truncf .bf16 k narrower)
        (constant (Mat 256 n) .f32 0x00000000#32) (ix2 r j) * Ideal.ofBits .f32 0x3DB504F3#32
        + broadcastTo (Mat 256 n) (shapeCast S256x1 cc casts_col) (broadcasts_col 256 n) (ix2 r j))
        - broadcastTo (Mat 256 n) (shapeCast (Mat 1 n) cr (casts_row n)) (broadcasts_row 256 n) (ix2 r j))
      (Ideal.ofBits .f32 0xFF800000#32)
      - broadcastTo (Mat 256 n) (shapeCast S256x1 lse casts_col) (broadcasts_col 256 n) (ix2 r j)) := rfl
  rw [e, iota_col, iota_row, masked ho r.isLt (by omega), Ideal.matmul_transposedRhs_apply, broadcastTo_col_apply, broadcastTo_col_apply, casts_col_apply,
    casts_col_apply, broadcastTo_1b_ab_apply, shapeCast_1ab_ab_apply, hA, hC, hL, scale_eq, bot_eq, constant_apply, Ideal.ofBits_zero_f32,
    zero_add]
  simp only [truncf_apply, hq, hk, coe_sum_mul]
  split
  · rw [← EReal.coe_mul, ← EReal.coe_add, ← EReal.coe_sub, ← EReal.coe_sub, Ideal.exp_coe]
  · rw [EReal.bot_sub, Ideal.exp_bot, EReal.coe_zero]

theorem weightCt_apply (hd : ∀ r a, d (ix2 r a) = (D r a : EReal)) (hv : ∀ j a, v (ix2 j a) = (V j a : EReal)) (r : Fin 256) (j : Fin n) :
    weightCt n d v (ix2 r j) = ((∑ a, D r a * V j a : ℝ) : EReal) := by
  refine (Ideal.matmul_transposedRhs_apply _ _ _ _ r j).trans ?_
  rw [constant_apply, Ideal.ofBits_zero_f32, zero_add]
  simp only [truncf_apply, hd, hv, coe_sum_mul]

/-- A sum along a row, kept as a column. -/
theorem rowSum_apply {n : ℕ} {s : FVec Ideal (Mat 256 n) .f32} {S : Fin 256 → Fin n → ℝ} (hs : ∀ r j, s (ix2 r j) = (S r j : EReal)) (r : Fin 256) :
    shapeCast S256x1 (multiReduction .add [1] S256 s 0x00000000#32 (reduces_cols 256 n) (.inl rfl) rfl) casts_vec' (ix2 r (0 : Fin 1))
      = ((∑ j, S r j : ℝ) : EReal) := by
  rw [shapeCast_a_a1_apply, coe_sum]
  refine (Ideal.multiReduction_add_single s _ (reduces_cols 256 n) _ _ _).trans ?_
  refine Finset.sum_congr rfl fun j _ => (congrArg s ?_).trans (hs r j)
  funext a; match a with
  | ⟨0, _⟩ => rfl
  | ⟨1, _⟩ => rfl

theorem scoreCt_apply (hp : ∀ r j, p (ix2 r j) = (P r j : EReal)) (hg : ∀ r j, g (ix2 r j) = (G r j : EReal))
    (ho : ∀ r a, od (ix2 r a) = (OD r a : EReal)) (r : Fin 256) (j : Fin n) :
    scoreCt n p g od (ix2 r j) = ((P r j * (G r j - ∑ a, OD r a) : ℝ) : EReal) := by
  unfold scoreCt
  rw [mulf_apply, subf_apply, broadcastTo_col_apply, rowSum_apply ho, hp, hg, ← EReal.coe_sub, ← EReal.coe_mul]

theorem queryCt_apply (hs : ∀ r j, s (ix2 r j) = (S r j : EReal)) (hk : ∀ j a, k (ix2 j a) = (K j a : EReal)) (r : Fin 256) (a : Fin 128) :
    queryCt n s k (ix2 r a) = (((∑ j, S r j * K j a) * scale : ℝ) : EReal) := by
  unfold queryCt
  rw [mulf_apply]
  refine (congrArg₂ (· * ·) (Ideal.matmul_plain_apply _ _ _ _ r a) scale_eq).trans ?_
  rw [constant_apply, Ideal.ofBits_zero_f32, zero_add]
  simp only [truncf_apply, hs, hk, coe_sum_mul]
  rw [EReal.coe_mul]

theorem keyCt_apply (hs : ∀ r j, s (ix2 r j) = (S r j : EReal)) (hq : ∀ r a, q (ix2 r a) = (Q r a : EReal)) (j : Fin n) (a : Fin 128) :
    keyCt n s q y (ix2 j a) = y (ix2 j a) + (((∑ r, S r j * Q r a) * scale : ℝ) : EReal) := by
  unfold keyCt
  rw [addf_apply, mulf_apply, shapeCast_self]
  refine congrArg (y (ix2 j a) + ·) ((congrArg₂ (· * ·) (matmul_transposedLhs_apply _ _ _ _ j a) scale_eq).trans ?_)
  rw [constant_apply, Ideal.ofBits_zero_f32, zero_add]
  simp only [truncf_apply, hs, hq, coe_sum_mul]
  rw [EReal.coe_mul]

theorem valueCt_apply (hp : ∀ r j, p (ix2 r j) = (P r j : EReal)) (hd : ∀ r a, d (ix2 r a) = (D r a : EReal)) (j : Fin n) (a : Fin 128) :
    valueCt n p d y (ix2 j a) = y (ix2 j a) + ((∑ r, P r j * D r a : ℝ) : EReal) := by
  unfold valueCt
  rw [addf_apply, shapeCast_self]
  refine congrArg (y (ix2 j a) + ·) ((matmul_transposedLhs_apply _ _ _ _ j a).trans ?_)
  rw [constant_apply, Ideal.ofBits_zero_f32, zero_add]
  simp only [truncf_apply, hp, hd, coe_sum_mul]

theorem gateCt_apply (hs : ∀ r j, s (ix2 r j) = (S r j : EReal)) (r : Fin 256) :
    gateCt n s (ix3 0 r 0) = ((∑ j, S r j : ℝ) : EReal) := by
  unfold gateCt
  exact (shapeCast_ab_1ab_apply _ _ 0 r 0).trans (rowSum_apply hs r)

theorem decayCt_apply {y : Vec Ideal (Row n) .f32} (hs : ∀ r j, s (ix2 r j) = (S r j : EReal)) (j : Fin n) :
    decayCt n s y (ix3 0 0 j) = y (ix3 0 0 j) - ((∑ r, S r j : ℝ) : EReal) := by
  unfold decayCt
  refine (shapeCast_ab_1ab_apply _ _ 0 0 j).trans ?_
  rw [subf_apply, shapeCast_1ab_ab_apply, shapeCast_a_1a_apply, coe_sum]
  refine congrArg (y (ix3 0 0 j) - ·) ((Ideal.multiReduction_add_single s _ (reduces_rows 256 n) _ _ _).trans ?_)
  refine (Finset.sum_congr rfl fun r _ => (congrArg s ?_).trans (hs r j))
  funext a; match a with
  | ⟨0, _⟩ => rfl
  | ⟨1, _⟩ => rfl

end Cert.FoxBwd

end
-- ==== Proof.Block.lean ====
/- One step of the backward pass where its blocks hold a head's real numbers: what it leaves, entry by entry. -/
module

public import proofs.«01_k».proof.Proof.Entries

@[expose] public section

noncomputable section

namespace Cert.FoxBwd

open Idealize.ShloMosaic Idealize.ShloMosaic.ValueIdx Cert.KernelIdeal
open scoped BigOperators

/-! ## Windows at the origin, entry by entry -/

section windows
variable {F : FTy → Type} [FloatOps F] (b : Fin 8)

/-- A key that block `b` sees, among them all. -/
abbrev key (j : Fin (seen b)) : Fin 2048 := Fin.castLE (seen_le b) j

theorem rowsOf_apply (x : Vec F S2048x128 .f32) (j : Fin (seen b)) (a : Fin 128) : rowsOf b x (ix2 j a) = x (ix2 (key b j) a) :=
  congrArg x (funext fun ax => Fin.ext (by
    match ax with
    | ⟨0, _⟩ => show 0 + 1 * j.val = j.val; omega
    | ⟨1, _⟩ => show 0 + 1 * a.val = a.val; omega))

theorem colsOf_apply (x : Vec F S1x1x2048 .f32) (j : Fin (seen b)) : colsOf b x (ix3 0 0 j) = x (ix3 0 0 (key b j)) :=
  congrArg x (funext fun ax => Fin.ext (by
    match ax with
    | ⟨0, _⟩ => rfl
    | ⟨1, _⟩ => rfl
    | ⟨2, _⟩ => show 0 + 1 * j.val = j.val; omega))

theorem putRows_seen (x : Vec F S2048x128 .f32) (w : Vec F (Mat (seen b) 128) .f32) (j : Fin (seen b)) (a : Fin 128) :
    putRows b x w (ix2 (key b j) a) = w (ix2 j a) :=
  (rowsOf_apply b (putRows b x w) j a).symm.trans (congrFun (VecWindow.window_put_same x ![0, 0] (Mat (seen b) 128).size (inb_rows b) w) (ix2 j a))

theorem putRows_unseen (x : Vec F S2048x128 .f32) (w : Vec F (Mat (seen b) 128) .f32) (j : Fin 2048) (hj : seen b ≤ j.val) (a : Fin 128) :
    putRows b x w (ix2 j a) = x (ix2 j a) :=
  dif_neg fun h => absurd ((h 0).2 : j.val < 0 + seen b) (by omega)

theorem putCols_seen (x : Vec F S1x1x2048 .f32) (w : Vec F (Row (seen b)) .f32) (j : Fin (seen b)) :
    putCols b x w (ix3 0 0 (key b j)) = w (ix3 0 0 j) :=
  (colsOf_apply b (putCols b x w) j).symm.trans (congrFun (VecWindow.window_put_same x ![0, 0, 0] (Row (seen b)).size (inb_cols b) w) (ix3 0 0 j))

theorem putCols_unseen (x : Vec F S1x1x2048 .f32) (w : Vec F (Row (seen b)) .f32) (j : Fin 2048) (hj : seen b ≤ j.val) :
    putCols b x w (ix3 0 0 j) = x (ix3 0 0 j) :=
  dif_neg fun h => absurd ((h 2).2 : j.val < 0 + seen b) (by omega)

end windows

/-- The tile holds the blocks of head `H` for query block `b`, the attention's output and the logarithms of its rows' sums among them. -/
structure Tile.Holds (T : Tile Ideal) (H : Head) (b : Fin 8) : Prop where
  q : ∀ r a, T.q (ix2 r a) = (H.q (rowIn b r) a : EReal)
  k : ∀ j a, T.k (ix2 j a) = (H.k j a : EReal)
  v : ∀ j a, T.v (ix2 j a) = (H.v j a : EReal)
  o : ∀ r a, T.o (ix2 r a) = (H.o (rowIn b r) a : EReal)
  d : ∀ r a, T.d (ix2 r a) = (H.d (rowIn b r) a : EReal)
  lse : ∀ r, T.lse (ix3 0 r 0) = (Real.log (H.z (rowIn b r)) : EReal)
  cc : ∀ r, T.cc (ix3 0 r 0) = (H.c (rowIn b r) : EReal)
  cr : ∀ j, T.cr (ix3 0 0 j) = (H.c j : EReal)

namespace Tile.Holds

variable {T : Tile Ideal} {H : Head} {b : Fin 8} (h : T.Holds H b)
include h

theorem later {j : Fin 2048} (hj : seen b ≤ j.val) (r : Fin 256) : rowIn b r < j := by
  show 256 * b.val + r.val < j.val
  have := r.isLt; unfold seen at hj; omega

theorem p_apply (r : Fin 256) (j : Fin (seen b)) : T.p b (ix2 r j) = (H.p (rowIn b r) (key b j) : EReal) := by
  refine (weights_apply (Q := fun r => H.q (rowIn b r)) (K := fun j => H.k (key b j)) (A := fun r => H.c (rowIn b r))
    (C := fun j => H.c (key b j)) (L := fun r => Real.log (H.z (rowIn b r))) (by have := b.isLt; omega) (seen_le b) h.q
    (fun j a => (rowsOf_apply b T.k j a).trans (h.k _ a)) h.cc (fun j => (colsOf_apply b T.cr j).trans (h.cr _)) h.lse r j).trans ?_
  rw [← H.exp_sub_log (rowIn b r) (key b j)]
  rfl

theorem ds_apply (r : Fin 256) (j : Fin (seen b)) : T.ds b (ix2 r j) = (H.ds (rowIn b r) (key b j) : EReal) := by
  refine (scoreCt_apply (P := fun r j => H.p (rowIn b r) (key b j)) (G := fun r j => H.g (rowIn b r) (key b j))
    (OD := fun r a => H.d (rowIn b r) a * H.o (rowIn b r) a) h.p_apply
    (weightCt_apply h.d (fun j a => (rowsOf_apply b T.v j a).trans (h.v _ a))) (fun r a => ?_) r j).trans ?_
  · rw [mulf_apply, shapeCast_self, h.d, h.o, ← EReal.coe_mul]
  · rw [H.inner_out]; rfl

theorem dq_apply (r : Fin 256) (a : Fin 128) : T.dq b (ix2 r a) = (H.dq (rowIn b r) a : EReal) := by
  refine (queryCt_apply (S := fun r j => H.ds (rowIn b r) (key b j)) h.ds_apply
    (fun j a => (rowsOf_apply b T.k j a).trans (h.k _ a)) r a).trans ?_
  rw [Head.dq, ← sum_first (seen_le b) (fun j => H.ds (rowIn b r) j * H.k j a) fun j hj => by rw [H.ds_later (h.later hj r), zero_mul]]

theorem dci_apply (r : Fin 256) : T.dci b (ix3 0 r 0) = (H.dci (rowIn b r) : EReal) := by
  refine (gateCt_apply (S := fun r j => H.ds (rowIn b r) (key b j)) h.ds_apply r).trans ?_
  rw [Head.dci, ← sum_first (seen_le b) (fun j => H.ds (rowIn b r) j) fun j hj => H.ds_later (h.later hj r)]

/-- What block `b` adds to the keys' gradient; for a key it does not see, nothing. -/
theorem dk_apply (y : Vec Ideal S2048x128 .f32) (j : Fin 2048) (a : Fin 128) :
    T.dk b y (ix2 j a) = y (ix2 j a) + (((∑ r, H.ds (rowIn b r) j * H.q (rowIn b r) a) * scale : ℝ) : EReal) := by
  by_cases hj : j.val < seen b
  · refine (putRows_seen b _ _ ⟨j.val, hj⟩ a).trans ((keyCt_apply (S := fun r j => H.ds (rowIn b r) (key b j)) h.ds_apply h.q _ a).trans ?_)
    rw [rowsOf_apply]; rfl
  · refine (putRows_unseen b _ _ j (not_lt.mp hj) a).trans ?_
    rw [Finset.sum_eq_zero fun r _ => by rw [H.ds_later (h.later (not_lt.mp hj) r), zero_mul], zero_mul, EReal.coe_zero, add_zero]

theorem dv_apply (y : Vec Ideal S2048x128 .f32) (j : Fin 2048) (a : Fin 128) :
    T.dv b y (ix2 j a) = y (ix2 j a) + ((∑ r, H.p (rowIn b r) j * H.d (rowIn b r) a : ℝ) : EReal) := by
  by_cases hj : j.val < seen b
  · refine (putRows_seen b _ _ ⟨j.val, hj⟩ a).trans ((valueCt_apply (P := fun r j => H.p (rowIn b r) (key b j)) h.p_apply h.d _ a).trans ?_)
    rw [rowsOf_apply]; rfl
  · refine (putRows_unseen b _ _ j (not_lt.mp hj) a).trans ?_
    rw [Finset.sum_eq_zero fun r _ => by rw [H.p_later (h.later (not_lt.mp hj) r), zero_mul], EReal.coe_zero, add_zero]

theorem dcj_apply (y : Vec Ideal S1x1x2048 .f32) (j : Fin 2048) :
    T.dcj b y (ix3 0 0 j) = y (ix3 0 0 j) - ((∑ r, H.ds (rowIn b r) j : ℝ) : EReal) := by
  by_cases hj : j.val < seen b
  · refine (putCols_seen b _ _ ⟨j.val, hj⟩).trans ((decayCt_apply (S := fun r j => H.ds (rowIn b r) (key b j)) h.ds_apply _).trans ?_)
    rw [colsOf_apply]; rfl
  · refine (putCols_unseen b _ _ j (not_lt.mp hj)).trans ?_
    rw [Finset.sum_eq_zero fun r _ => H.ds_later (h.later (not_lt.mp hj) r), EReal.coe_zero, sub_zero]

end Tile.Holds

end Cert.FoxBwd

end
-- ==== Proof.Arrays.lean ====
/- The kernel's five result arrays, entry by entry, where its inputs hold real numbers. -/
module

public import proofs.«01_k».proof.Proof.Grid
public import proofs.«01_k».proof.Proof.Block
public import Idealize.ShloMosaic.Lib.Pipeline.ValueKit

@[expose] public section

set_option maxRecDepth 16384

noncomputable section

namespace Cert.FoxBwd

open Idealize.ShloMosaic hiding ix2 ix3
open Idealize.ShloMosaic.ValueIdx (ix2 ix3)
open Cert.KernelIdeal Cert.KernelIdeal.Gen
open Idealize.SL Idealize.SL.Sem
open scoped BigOperators

variable (m : (ℓ : Loc nD τ sig) → Buf (Elt Ideal) ℓ) (I : Fin 16 → Head)

/-- The arrays the call finds on device `c` hold the heads `I`: the three arguments as launched, and the four the host prepares. -/
structure Finds (c : Dev nD) : Prop where
  q : ∀ h i a, V m c main_arg0 (ix2 i (projCol 0 h a)) = ((I h).q i a : EReal)
  k : ∀ h i a, V m c main_arg0 (ix2 i (projCol 1 h a)) = ((I h).k i a : EReal)
  v : ∀ h i a, V m c main_arg0 (ix2 i (projCol 2 h a)) = ((I h).v i a : EReal)
  d : ∀ h i a, V m c main_arg2 (ix2 i (col h a)) = ((I h).d i a : EReal)
  o : ∀ h i a, V m c main_v39 (ix2 i (col h a)) = ((I h).o i a : EReal)
  lse : ∀ h i, V m c main_v41 (ix3 h i 0) = (Real.log ((I h).z i) : EReal)
  cc : ∀ h i, V m c main_v2 (ix3 h i 0) = ((I h).c i : EReal)
  cr : ∀ h j, V m c main_v3 (ix3 h 0 j) = ((I h).c j : EReal)

/-- The head of point `t`. -/
def headOf (t : Fin cfg0.N) : Fin 16 := ⟨t.val / 8, by have : t.val < 128 := t.isLt; omega⟩

theorem idx (t : Fin cfg0.N) :
    win0_0.index t = ![t.val % 8, t.val / 8] ∧ win0_1.index t = ![0, 16 + t.val / 8] ∧ win0_2.index t = ![0, 32 + t.val / 8]
    ∧ win0_3.index t = ![t.val % 8, t.val / 8] ∧ win0_4.index t = ![t.val % 8, t.val / 8] ∧ win0_5.index t = ![t.val / 8, t.val % 8, 0]
    ∧ win0_6.index t = ![t.val / 8, t.val % 8, 0] ∧ win0_7.index t = ![t.val / 8, 0, 0] ∧ win0_8.index t = ![t.val % 8, t.val / 8]
    ∧ win0_9.index t = ![0, t.val / 8] ∧ win0_10.index t = ![0, t.val / 8] ∧ win0_11.index t = ![t.val / 8, t.val % 8, 0]
    ∧ win0_12.index t = ![t.val / 8, 0, 0] := by
  revert t; decide +kernel

variable {m I}

/-! Each window's block of an array, read at an entry. -/

section reads
variable (t : Fin cfg0.N) (r : Fin 256) (j : Fin 2048) (a : Fin 128)

theorem read_0 (X : (⟨S2048x6272, .f32⟩ : BufTy).Contents (Elt Ideal)) :
    ((cfg0.win 0).blk t).view.read (Elt Ideal) X (Idealize.ShloMosaic.ix2 r a) = X (Idealize.ShloMosaic.ix2 (rowIn (turn t) r) (projCol 0 (headOf t) a)) := by
  have := turn_val t
  blk_ext [idx t, rowIn, headOf, projCol]
theorem read_1 (X : (⟨S2048x6272, .f32⟩ : BufTy).Contents (Elt Ideal)) :
    ((cfg0.win 1).blk t).view.read (Elt Ideal) X (Idealize.ShloMosaic.ix2 j a) = X (Idealize.ShloMosaic.ix2 j (projCol 1 (headOf t) a)) := by
  blk_ext [idx t, headOf, projCol]
theorem read_2 (X : (⟨S2048x6272, .f32⟩ : BufTy).Contents (Elt Ideal)) :
    ((cfg0.win 2).blk t).view.read (Elt Ideal) X (Idealize.ShloMosaic.ix2 j a) = X (Idealize.ShloMosaic.ix2 j (projCol 2 (headOf t) a)) := by
  blk_ext [idx t, headOf, projCol]
theorem read_3 (X : (⟨S2048x2048, .f32⟩ : BufTy).Contents (Elt Ideal)) :
    ((cfg0.win 3).blk t).view.read (Elt Ideal) X (Idealize.ShloMosaic.ix2 r a) = X (Idealize.ShloMosaic.ix2 (rowIn (turn t) r) (col (headOf t) a)) := by
  have := turn_val t
  blk_ext [idx t, rowIn, headOf, col]
theorem read_4 (X : (⟨S2048x2048, .f32⟩ : BufTy).Contents (Elt Ideal)) :
    ((cfg0.win 4).blk t).view.read (Elt Ideal) X (Idealize.ShloMosaic.ix2 r a) = X (Idealize.ShloMosaic.ix2 (rowIn (turn t) r) (col (headOf t) a)) := by
  have := turn_val t
  blk_ext [idx t, rowIn, headOf, col]
theorem read_5 (X : (⟨S16x2048x1, .f32⟩ : BufTy).Contents (Elt Ideal)) :
    ((cfg0.win 5).blk t).view.read (Elt Ideal) X (Idealize.ShloMosaic.ix3 0 r 0) = X (Idealize.ShloMosaic.ix3 (headOf t) (rowIn (turn t) r) 0) := by
  have := turn_val t
  blk_ext [idx t, rowIn, headOf]
theorem read_6 (X : (⟨S16x2048x1, .f32⟩ : BufTy).Contents (Elt Ideal)) :
    ((cfg0.win 6).blk t).view.read (Elt Ideal) X (Idealize.ShloMosaic.ix3 0 r 0) = X (Idealize.ShloMosaic.ix3 (headOf t) (rowIn (turn t) r) 0) := by
  have := turn_val t
  blk_ext [idx t, rowIn, headOf]
theorem read_7 (X : (⟨S16x1x2048, .f32⟩ : BufTy).Contents (Elt Ideal)) :
    ((cfg0.win 7).blk t).view.read (Elt Ideal) X (Idealize.ShloMosaic.ix3 0 0 j) = X (Idealize.ShloMosaic.ix3 (headOf t) 0 j) := by
  blk_ext [idx t, headOf]

end reads

theorem tile_eq (c : Dev nD) (t : Fin cfg0.N) : tile m c t =
    ⟨((cfg0.win 0).blk t).view.read (Elt Ideal) (V m c main_arg0), ((cfg0.win 1).blk t).view.read (Elt Ideal) (V m c main_arg0),
      ((cfg0.win 2).blk t).view.read (Elt Ideal) (V m c main_arg0), ((cfg0.win 3).blk t).view.read (Elt Ideal) (V m c main_v39),
      ((cfg0.win 4).blk t).view.read (Elt Ideal) (V m c main_arg2), ((cfg0.win 5).blk t).view.read (Elt Ideal) (V m c main_v41),
      ((cfg0.win 6).blk t).view.read (Elt Ideal) (V m c main_v2), ((cfg0.win 7).blk t).view.read (Elt Ideal) (V m c main_v3)⟩ := rfl

theorem tile_holds {c : Dev nD} (hF : Finds m I c) (t : Fin cfg0.N) : (tile m c t).Holds (I (headOf t)) (turn t) := by
  obtain ⟨q, k, v, d, o, lse, cc, cr⟩ := hF
  rw [tile_eq]
  generalize V m c main_arg0 = x0 at *
  generalize V m c main_arg2 = x2 at *
  generalize V m c main_v39 = x3 at *
  generalize V m c main_v41 = x5 at *
  generalize V m c main_v2 = x6 at *
  generalize V m c main_v3 = x7 at *
  exact ⟨fun r a => (read_0 t r a x0).trans (q _ _ a), fun j a => (read_1 t j a x0).trans (k _ j a),
    fun j a => (read_2 t j a x0).trans (v _ j a), fun r a => (read_3 t r a x3).trans (o _ _ a),
    fun r a => (read_4 t r a x2).trans (d _ _ a), fun r => (read_5 t r x5).trans (lse _ _),
    fun r => (read_6 t r x6).trans (cc _ _), fun j => (read_7 t j x7).trans (cr _ j)⟩

/-! ## The three gradients collected over a head's query blocks -/

/-- The sum of what the first `n` of the eight blocks add. -/
def upTo (n : ℕ) (f : Fin 8 → ℝ) : ℝ := ∑ b ∈ Finset.univ.filter fun b : Fin 8 => b.val < n, f b

theorem upTo_succ (b : Fin 8) (f : Fin 8 → ℝ) : upTo (b.val + 1) f = upTo b.val f + f b := by
  unfold upTo
  rw [show (Finset.univ.filter fun b' : Fin 8 => b'.val < b.val + 1) = insert b (Finset.univ.filter fun b' : Fin 8 => b'.val < b.val) by
    ext b'; simp only [Finset.mem_filter, Finset.mem_univ, true_and, Finset.mem_insert, Fin.ext_iff]; omega,
    Finset.sum_insert (by simp), add_comm]
theorem upTo_zero (f : Fin 8 → ℝ) : upTo 0 f = 0 := by simp [upTo]
theorem upTo_all (f : Fin 8 → ℝ) : upTo 8 f = ∑ b, f b := by
  unfold upTo; rw [Finset.filter_true_of_mem fun b _ => b.isLt]

/-- A buffer cleared at a head's first block and added to at each holds the sum so far. -/
theorem collect_apply {α : Type} (add : Fin cfg0.N → α → α) (z : α) (read : α → EReal) (term : Fin 16 → Fin 8 → ℝ)
    (first : ∀ t y, (turn t) = 0 → read (add t y) = (term (headOf t) (turn t) : EReal))
    (next : ∀ t y, (turn t) ≠ 0 → read (add t y) = read y + (term (headOf t) (turn t) : EReal)) :
    ∀ (n : ℕ) (h : n < cfg0.N), read (collect add z n h) = (upTo (n % 8 + 1) (term (headOf ⟨n, h⟩)) : EReal) := by
  have tv (n : ℕ) (h : n < cfg0.N) : (turn ⟨n, h⟩).val = n % 8 := turn_val ⟨n, h⟩
  have base (n : ℕ) (h : n < cfg0.N) (h0 : n % 8 = 0) : (term (headOf ⟨n, h⟩) (turn ⟨n, h⟩) : EReal)
      = (upTo (n % 8 + 1) (term (headOf ⟨n, h⟩)) : EReal) := by
    rw [← tv n h, upTo_succ, tv n h, h0, upTo_zero, zero_add]
  intro n
  induction n with
  | zero => exact fun h => (first _ _ (Fin.ext (tv 0 h))).trans (base 0 h rfl)
  | succ n ih =>
    intro h
    by_cases h0 : (n + 1) % 8 = 0
    · exact (first _ _ (Fin.ext ((tv (n + 1) h).trans h0))).trans (base (n + 1) h h0)
    · refine (next _ _ fun e => h0 ((tv (n + 1) h).symm.trans (congrArg Fin.val e))).trans ?_
      rw [ih (Nat.lt_of_succ_lt h), ← tv (n + 1) h, upTo_succ, EReal.coe_add, tv (n + 1) h,
        show n % 8 + 1 = (n + 1) % 8 by omega,
        show headOf ⟨n, Nat.lt_of_succ_lt h⟩ = headOf ⟨n + 1, h⟩ from Fin.ext (show n / 8 = (n + 1) / 8 by omega)]

theorem sumK_apply {c : Dev nD} (hF : Finds m I c) (t : Fin cfg0.N) (ht : t.val % 8 = 7) (j : Fin 2048) (a : Fin 128) :
    sumK m c t (ix2 j a) = ((I (headOf t)).dk j a : EReal) := by
  refine (collect_apply (addK m c) (k0_pay1  (F := Ideal)) (fun y => y (ix2 j a))
    (fun h b => (∑ r, (I h).ds (rowIn b r) j * (I h).q (rowIn b r) a) * scale) (fun t y h0 => ?_) (fun t y h0 => ?_) t.val t.isLt).trans ?_
  · refine ((tile_holds hF t).dk_apply _ j a).trans ?_
    rw [fresh, if_pos h0]
    exact (congrArg (· + _) Ideal.ofBits_zero_f32).trans (zero_add _)
  · exact ((tile_holds hF t).dk_apply _ j a).trans (by rw [fresh, if_neg h0])
  · rw [ht, upTo_all, Head.dk, sum_rows, Finset.sum_mul]

theorem sumV_apply {c : Dev nD} (hF : Finds m I c) (t : Fin cfg0.N) (ht : t.val % 8 = 7) (j : Fin 2048) (a : Fin 128) :
    sumV m c t (ix2 j a) = ((I (headOf t)).dv j a : EReal) := by
  refine (collect_apply (addV m c) (k0_pay2  (F := Ideal)) (fun y => y (ix2 j a))
    (fun h b => ∑ r, (I h).p (rowIn b r) j * (I h).d (rowIn b r) a) (fun t y h0 => ?_) (fun t y h0 => ?_) t.val t.isLt).trans ?_
  · refine ((tile_holds hF t).dv_apply _ j a).trans ?_
    rw [fresh, if_pos h0]
    exact (congrArg (· + _) Ideal.ofBits_zero_f32).trans (zero_add _)
  · exact ((tile_holds hF t).dv_apply _ j a).trans (by rw [fresh, if_neg h0])
  · rw [ht, upTo_all, Head.dv, sum_rows]

theorem sumC_apply {c : Dev nD} (hF : Finds m I c) (t : Fin cfg0.N) (ht : t.val % 8 = 7) (j : Fin 2048) :
    sumC m c t (ix3 0 0 j) = ((I (headOf t)).dcj j : EReal) := by
  refine (collect_apply (addC m c) (k0_pay3  (F := Ideal)) (fun y => y (ix3 0 0 j))
    (fun h b => -∑ r, (I h).ds (rowIn b r) j) (fun t y h0 => ?_) (fun t y h0 => ?_) t.val t.isLt).trans ?_
  · refine ((tile_holds hF t).dcj_apply _ j).trans ?_
    rw [fresh, if_pos h0, EReal.coe_neg]
    exact (congrArg (· - _) Ideal.ofBits_zero_f32).trans (zero_sub _)
  · exact ((tile_holds hF t).dcj_apply _ j).trans (by rw [fresh, if_neg h0, EReal.coe_neg, sub_eq_add_neg])
  · rw [ht, upTo_all, Head.dcj, sum_rows, Finset.sum_neg_distrib]

end Cert.FoxBwd

end
-- ==== Proof.Host.lean ====
/- What the host hands the kernel besides the arguments: the attention's output, its rows' log sums and the gates, each the value the
   reference computes on its own way forward. -/
module

public import proofs.«01_k».proof.Proof.Gradients
public import proofs.«01_k».proof.Proof.Arrays
public import Idealize.ShloMosaic.Lib.StableHlo.RunRead

@[expose] public section

set_option maxRecDepth 16384

noncomputable section

namespace Cert.FoxBwd

open Idealize.ShloMosaic hiding ix2 ix3
open Idealize.ShloMosaic.ValueIdx (ix2 ix3)
open Idealize.SL.Sem Idealize.ShloMosaic.TcCoe
open Cert.ReferenceIdeal.Read
open Cert.KernelIdeal Cert.KernelIdeal.Gen

theorem rowMax_eq (x0 : (⟨Cert.ReferenceIdeal.S2048x6272, .f32⟩ : BufTy).Contents (Elt Ideal))
    (x1 : (⟨Cert.ReferenceIdeal.S2048x128, .f32⟩ : BufTy).Contents (Elt Ideal)) : val_main_v33 (F := Ideal) x0 x1 = val_main_v26 (F := Ideal) x0 x1 := by
  funext i
  rw [val_main_v33_apply, val_main_v32_apply, val_main_cst_3_apply]
  exact (congrArg (fun y : EReal => max y (val_main_v26 (F := Ideal) x0 x1 i)) bot_value).trans (max_eq_right bot_le)

variable (m : (ℓ : Loc nD τ sig) → Buf (Elt Ideal) ℓ) (c : Dev nD)

/-- The projections and the gates, at the reference's types. -/
abbrev projs : (⟨Cert.ReferenceIdeal.S2048x6272, .f32⟩ : BufTy).Contents (Elt Ideal) := m (c.tc.loc main_arg0)
abbrev gates : (⟨Cert.ReferenceIdeal.S2048x128, .f32⟩ : BufTy).Contents (Elt Ideal) := m (c.tc.loc main_arg1)
abbrev outCt : (⟨Cert.ReferenceIdeal.S2048x2048, .f32⟩ : BufTy).Contents (Elt Ideal) := m (c.tc.loc main_arg2)

theorem entry_gate_col : (V m c main_v2 : (⟨S16x2048x1, .f32⟩ : BufTy).Contents (Elt Ideal)) = val_main_v5 (F := Ideal) (gates m c) := by
  entry_read
  rfl

theorem entry_gate_row : (V m c main_v3 : (⟨S16x1x2048, .f32⟩ : BufTy).Contents (Elt Ideal)) = val_main_v6 (F := Ideal) (gates m c) := by
  entry_read
  rfl

/-- The masked scores. -/
theorem entry_scores : (V m c main_v25 : (⟨S16x2048x2048, .f32⟩ : BufTy).Contents (Elt Ideal)) = val_main_v25_0 (F := Ideal) (projs m c) (gates m c) := by
  unfold val_main_v25_0 val_main_v25_1 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6
    val_main_v5 val_main_v3 val_main_v2 val_main_v1 val_main_v0 val_main_call0_v2 val_main_call0_v0 val_main_cst val_main_cst_0
  unfold V
  simp only [hostOps0, hostOps0_1, hostOps0_2, List.flatten_cons, List.flatten_nil, List.append_nil, List.cons_append, List.nil_append]
  after_reads_simp
  rfl

theorem entry_values : (V m c main_v36 : (⟨S16x2048x128, .f32⟩ : BufTy).Contents (Elt Ideal)) = val_main_v55 (F := Ideal) (projs m c) := by
  unfold val_main_v55 val_main_v54 val_main_v4
  unfold V
  simp only [hostOps0, hostOps0_1, hostOps0_2, List.flatten_cons, List.flatten_nil, List.append_nil, List.cons_append, List.nil_append]
  after_reads_simp
  rfl

/-! The host's lines after the scores, each from the values the lines before it left. -/

theorem line_max : @Eq (FVec Ideal S16x2048x1 .f32) (V m c main_v27)
    (broadcastInDim S16x2048x1 ![0, 1] bcast_S16x2048_S16x2048x1_0_1
      (Host.reduce FloatOps.maximumf (V m c main_v25) (constant S_ .f32 0xFF800000#32) reducesTo_S16x2048x2048_S16x2048_d2 h_S_ : FVec Ideal S16x2048 .f32)) := by
  unfold V
  simp only [hostOps0, hostOps0_1, hostOps0_2, List.flatten_cons, List.flatten_nil, List.append_nil, List.cons_append, List.nil_append]
  after_reads_simp

theorem line_exp : @Eq (FVec Ideal S16x2048x2048 .f32) (V m c main_v30)
    (Host.exp (subf (V m c main_v25) (broadcastInDim S16x2048x2048 ![0, 1, 2] bcast_S16x2048x1_S16x2048x2048_0_1_2 (V m c main_v27) : FVec Ideal S16x2048x2048 .f32))) := by
  unfold V
  simp only [hostOps0, hostOps0_1, hostOps0_2, List.flatten_cons, List.flatten_nil, List.append_nil, List.cons_append, List.nil_append]
  after_reads_simp

theorem line_sum : @Eq (FVec Ideal S16x2048x1 .f32) (V m c main_v32)
    (broadcastInDim S16x2048x1 ![0, 1] bcast_S16x2048_S16x2048x1_0_1
      (Host.reduceAdd (V m c main_v30) (constant S_ .f32 0x00000000#32) reducesTo_S16x2048x2048_S16x2048_d2 h_S_ : FVec Ideal S16x2048 .f32)) := by
  unfold V
  simp only [hostOps0, hostOps0_1, hostOps0_2, List.flatten_cons, List.flatten_nil, List.append_nil, List.cons_append, List.nil_append]
  after_reads_simp

theorem line_weights : @Eq (FVec Ideal S16x2048x2048 .f32) (V m c main_v34)
    (Host.divf (V m c main_v30) (broadcastInDim S16x2048x2048 ![0, 1, 2] bcast_S16x2048x1_S16x2048x2048_0_1_2 (V m c main_v32) : FVec Ideal S16x2048x2048 .f32)) := by
  unfold V
  simp only [hostOps0, hostOps0_1, hostOps0_2, List.flatten_cons, List.flatten_nil, List.append_nil, List.cons_append, List.nil_append]
  after_reads_simp

theorem line_logSum : @Eq (FVec Ideal S16x2048x1 .f32) (V m c main_v41)
    (addf (V m c main_v27) (Host.log (V m c main_v32) : FVec Ideal S16x2048x1 .f32)) := by
  unfold V
  simp only [hostOps0, hostOps0_1, hostOps0_2, List.flatten_cons, List.flatten_nil, List.append_nil, List.cons_append, List.nil_append]
  after_reads_simp

theorem line_output : @Eq (FVec Ideal S2048x2048 .f32) (V m c main_v39)
    (shapeCast S2048x2048 (transpose S2048x16x128 [1, 0, 2] (Host.dotGeneral (φ₁ := .f32) (φ₂ := .f32) dot_S16x2048x2048_S16x2048x128_S16x2048x128_2_1_1_2_0_0 none (V m c main_v34) (V m c main_v36) : FVec Ideal S16x2048x128 .f32) transposes_S16x2048x128_S2048x16x128_1_0_2) shapeCasts_S2048x16x128_S2048x2048) := by
  unfold V
  simp only [hostOps0, hostOps0_1, hostOps0_2, List.flatten_cons, List.flatten_nil, List.append_nil, List.cons_append, List.nil_append]
  after_reads_simp
  rfl

/-! The same values on the reference's way. -/

theorem entry_max : @Eq (FVec Ideal S16x2048x1 .f32) (V m c main_v27) (val_main_v43 (F := Ideal) (projs m c) (gates m c)) := by
  have e0 := entry_scores m c
  refine (line_max m c).trans ?_
  unfold val_main_v43
  rw [rowMax_eq]
  unfold val_main_v26 val_main_cst_1
  generalize V m c main_v25 = X0 at e0 ⊢
  subst e0
  generalize val_main_v25_0 (F := Ideal) (projs m c) (gates m c) = Y0
  rfl

theorem entry_exp : @Eq (FVec Ideal S16x2048x2048 .f32) (V m c main_v30) (val_main_v46 (F := Ideal) (projs m c) (gates m c)) := by
  have e0 := entry_scores m c
  have e1 := entry_max m c
  refine (line_exp m c).trans ?_
  unfold val_main_v46 val_main_v45 val_main_v44
  generalize V m c main_v25 = X0 at e0 ⊢
  subst e0
  generalize val_main_v25_0 (F := Ideal) (projs m c) (gates m c) = Y0
  generalize V m c main_v27 = X1 at e1 ⊢
  subst e1
  generalize val_main_v43 (F := Ideal) (projs m c) (gates m c) = Y1
  rfl

theorem entry_sum : @Eq (FVec Ideal S16x2048x1 .f32) (V m c main_v32) (val_main_v48 (F := Ideal) (projs m c) (gates m c)) := by
  have e0 := entry_exp m c
  refine (line_sum m c).trans ?_
  unfold val_main_v48 val_main_v47 val_main_cst_9
  generalize V m c main_v30 = X0 at e0 ⊢
  subst e0
  generalize val_main_v46 (F := Ideal) (projs m c) (gates m c) = Y0
  rfl

theorem entry_weights : @Eq (FVec Ideal S16x2048x2048 .f32) (V m c main_v34) (val_main_v50 (F := Ideal) (projs m c) (gates m c)) := by
  have e0 := entry_exp m c
  have e1 := entry_sum m c
  refine (line_weights m c).trans ?_
  unfold val_main_v50 val_main_v49
  generalize V m c main_v30 = X0 at e0 ⊢
  subst e0
  generalize val_main_v46 (F := Ideal) (projs m c) (gates m c) = Y0
  generalize V m c main_v32 = X1 at e1 ⊢
  subst e1
  generalize val_main_v48 (F := Ideal) (projs m c) (gates m c) = Y1
  rfl

theorem entry_output : @Eq (FVec Ideal S2048x2048 .f32) (V m c main_v39) (val_main_v58 (F := Ideal) (projs m c) (gates m c)) := by
  have e0 := entry_weights m c
  have e1 := entry_values m c
  refine (line_output m c).trans ?_
  unfold val_main_v58 val_main_v57 val_main_v56
  generalize V m c main_v34 = X0 at e0 ⊢
  subst e0
  generalize val_main_v50 (F := Ideal) (projs m c) (gates m c) = Y0
  generalize V m c main_v36 = X1 at e1 ⊢
  subst e1
  generalize val_main_v55 (F := Ideal) (projs m c) = Y1
  rfl

theorem entry_logSum : @Eq (FVec Ideal S16x2048x1 .f32) (V m c main_v41) (addf (val_main_v43 (F := Ideal) (projs m c) (gates m c)) (Host.log (val_main_v48 (F := Ideal) (projs m c) (gates m c)))) := by
  have e0 := entry_max m c
  have e1 := entry_sum m c
  refine (line_logSum m c).trans ?_
  generalize V m c main_v27 = X0 at e0 ⊢
  subst e0
  generalize val_main_v43 (F := Ideal) (projs m c) (gates m c) = Y0
  generalize V m c main_v32 = X1 at e1 ⊢
  subst e1
  generalize val_main_v48 (F := Ideal) (projs m c) (gates m c) = Y1
  rfl

variable {m c} {I : Fin 16 → Head}

/-- A row's log sum from its greatest score and its shifted exponentials. -/
theorem logSum_value {M L : FVec Ideal S16x2048x1 .f32} {y : S16x2048x1.Idx} (J : Head) (u : ℝ) (i : Fin 2048) (e₁ : M y = (u : EReal))
    (e₂ : L y = ((J.z i * Real.exp (-u) : ℝ) : EReal)) : (addf M (Host.log L) : FVec Ideal S16x2048x1 .f32) y = (Real.log (J.z i) : EReal) := by
  show M y + Ideal.log (L y) = _
  rw [e₁, e₂, Ideal.log_coe, if_neg (not_le.mpr (J.shifted_pos _ i)), ← J.add_log_shifted u i, EReal.coe_add]

theorem top_col (H : Holds I (projs m c) (gates m c) (outCt m c)) (h : Fin 16) (i : Fin 2048) :
    val_main_v43 (F := Ideal) (projs m c) (gates m c) (ix3 h i 0) = (H.top h i : EReal) := by
  rw [val_main_v43_apply]
  exact at2 ((H.rowMax h i).trans (H.top_eq h i)) rfl rfl

/-- Where the arguments hold the heads `I`, so does everything the kernel reads. -/
theorem finds (H : Holds I (projs m c) (gates m c) (outCt m c)) : Finds m I c where
  q h i a := by
    have e := V_main_arg0 m c
    generalize V m c main_arg0 = X at e ⊢
    subst e
    exact H.q h i a
  k h i a := by
    have e := V_main_arg0 m c
    generalize V m c main_arg0 = X at e ⊢
    subst e
    exact H.k h i a
  v h i a := by
    have e := V_main_arg0 m c
    generalize V m c main_arg0 = X at e ⊢
    subst e
    exact H.v h i a
  d h i a := by
    have e := V_main_arg2 m c
    generalize V m c main_arg2 = X at e ⊢
    subst e
    exact H.d h i a
  o h i a := by
    have e := entry_output m c
    generalize V m c main_v39 = X at e ⊢
    subst e
    exact H.output h i a
  lse h i := by
    have e := entry_logSum m c
    have e₁ := top_col H h i
    have e₂ := H.expoSum_col h i
    generalize V m c main_v41 = X at e ⊢
    generalize val_main_v43 (F := Ideal) (projs m c) (gates m c) = M at e e₁
    generalize val_main_v48 (F := Ideal) (projs m c) (gates m c) = L at e e₂
    subst e
    exact logSum_value (I h) _ i e₁ e₂
  cc h i := by
    have e := entry_gate_col m c
    generalize V m c main_v2 = X at e ⊢
    subst e
    exact H.gate_col h i
  cr h j := by
    have e := entry_gate_row m c
    generalize V m c main_v3 = X at e ⊢
    subst e
    exact H.gate_row h j

end Cert.FoxBwd

end
-- ==== Proof.Results.lean ====
/- The kernel's five result arrays are the reference's. -/
module

public import proofs.«01_k».proof.Proof.Host
public import proofs.«01_k».proof.Proof.Body

@[expose] public section

set_option maxRecDepth 16384

noncomputable section

namespace Cert.FoxBwd

open Idealize.ShloMosaic hiding ix2 ix3
open Idealize.ShloMosaic.ValueIdx (ix2 ix3)
open Idealize.SL.Sem Idealize.ShloMosaic.TcCoe
open Cert.ReferenceIdeal.Read
open Cert.KernelIdeal Cert.KernelIdeal.Gen

section Places

variable (t : Fin cfg0.N)

theorem place_8 (X : (⟨S2048x2048, .f32⟩ : BufTy).Contents (Elt Ideal)) (r : Fin 256) (a : Fin 128) :
    X (((cfg0.win 8).blk t).view.emb (Idealize.ShloMosaic.ix2 r a)) = X (Idealize.ShloMosaic.ix2 (rowIn (turn t) r) (col (headOf t) a)) := by
  have := turn_val t
  blk_ext [idx t, rowIn, headOf, col]
theorem place_9 (X : (⟨S2048x2048, .f32⟩ : BufTy).Contents (Elt Ideal)) (j : Fin 2048) (a : Fin 128) :
    X (((cfg0.win 9).blk t).view.emb (Idealize.ShloMosaic.ix2 j a)) = X (Idealize.ShloMosaic.ix2 j (col (headOf t) a)) := by
  blk_ext [idx t, headOf, col]
theorem place_10 (X : (⟨S2048x2048, .f32⟩ : BufTy).Contents (Elt Ideal)) (j : Fin 2048) (a : Fin 128) :
    X (((cfg0.win 10).blk t).view.emb (Idealize.ShloMosaic.ix2 j a)) = X (Idealize.ShloMosaic.ix2 j (col (headOf t) a)) := by
  blk_ext [idx t, headOf, col]
theorem place_11 (X : (⟨S16x2048x1, .f32⟩ : BufTy).Contents (Elt Ideal)) (r : Fin 256) :
    X (((cfg0.win 11).blk t).view.emb (Idealize.ShloMosaic.ix3 0 r 0)) = X (Idealize.ShloMosaic.ix3 (headOf t) (rowIn (turn t) r) 0) := by
  have := turn_val t
  blk_ext [idx t, rowIn, headOf]
theorem place_12 (X : (⟨S16x1x2048, .f32⟩ : BufTy).Contents (Elt Ideal)) (j : Fin 2048) :
    X (((cfg0.win 12).blk t).view.emb (Idealize.ShloMosaic.ix3 0 0 j)) = X (Idealize.ShloMosaic.ix3 (headOf t) 0 j) := by
  blk_ext [idx t, headOf]

end Places

/-- The points that write back the arrays collected over a head's blocks. -/
theorem last_of_flush (t : Fin cfg0.N) : ((cfg0.win 9).flush t = true → t.val % 8 = 7) ∧ ((cfg0.win 10).flush t = true → t.val % 8 = 7)
    ∧ ((cfg0.win 12).flush t = true → t.val % 8 = 7) := by
  revert t; decide +kernel

variable {m : (ℓ : Loc nD τ sig) → Buf (Elt Ideal) ℓ} {c : Dev nD} {I : Fin 16 → Head}

theorem index₂ {a b : ℕ} (y : (⟨2, ![a, b]⟩ : Shape).Idx) : ∃ r j, y = Idealize.ShloMosaic.ix2 r j := ⟨y 0, y 1, ext2 rfl rfl⟩
/-- An index into one column, and into one row. -/
theorem index_col {n : ℕ} (y : (⟨3, ![1, n, 1]⟩ : Shape).Idx) : ∃ r, y = Idealize.ShloMosaic.ix3 0 r 0 :=
  ⟨y 1, ext3 (by have : (y 0).val < 1 := (y 0).isLt; show (y 0).val = 0; omega) rfl (by have : (y 2).val < 1 := (y 2).isLt; show (y 2).val = 0; omega)⟩
theorem index_row {n : ℕ} (y : (⟨3, ![1, 1, n]⟩ : Shape).Idx) : ∃ r, y = Idealize.ShloMosaic.ix3 0 0 r :=
  ⟨y 2, ext3 (by have : (y 0).val < 1 := (y 0).isLt; show (y 0).val = 0; omega) (by have : (y 1).val < 1 := (y 1).isLt; show (y 1).val = 0; omega) rfl⟩

theorem result_dq (H : Holds I (projs m c) (gates m c) (outCt m c)) :
    @Eq (FVec Ideal S2048x2048 .f32) ((dats m 0 c).arrAt 8 cfg0.N) (val_main_v91 (F := Ideal) (projs m c) (gates m c) (outCt m c)) := by
  have hg := H.queryGrad
  generalize val_main_v91 (F := Ideal) (projs m c) (gates m c) (outCt m c) = G at hg ⊢
  refine (dats m 0 c).arrAt_eq_of_covers 8 _ (by decide +kernel) fun t hf y => ?_
  blk_simp
  rw [after_8]
  frame_out
  obtain ⟨r, a, rfl⟩ := index₂ (a := 256) (b := 128) y
  exact ((tile_holds (finds H) t).dq_apply r a).trans ((place_8 t G r a).trans (hg (headOf t) (rowIn (turn t) r) a)).symm

theorem result_dk (H : Holds I (projs m c) (gates m c) (outCt m c)) :
    @Eq (FVec Ideal S2048x2048 .f32) ((dats m 0 c).arrAt 9 cfg0.N) (val_main_v89 (F := Ideal) (projs m c) (gates m c) (outCt m c)) := by
  have hg := H.keyGrad
  generalize val_main_v89 (F := Ideal) (projs m c) (gates m c) (outCt m c) = G at hg ⊢
  refine (dats m 0 c).arrAt_eq_of_covers 9 _ (by decide +kernel) fun t hf y => ?_
  blk_simp
  rw [after_9]
  frame_out
  obtain ⟨r, a, rfl⟩ := index₂ (a := 2048) (b := 128) y
  exact (sumK_apply (finds H) t ((last_of_flush t).1 hf) r a).trans ((place_9 t G r a).trans (hg (headOf t) r a)).symm

theorem result_dv (H : Holds I (projs m c) (gates m c) (outCt m c)) :
    @Eq (FVec Ideal S2048x2048 .f32) ((dats m 0 c).arrAt 10 cfg0.N) (val_main_v65 (F := Ideal) (projs m c) (gates m c) (outCt m c)) := by
  have hg := H.valueGrad
  generalize val_main_v65 (F := Ideal) (projs m c) (gates m c) (outCt m c) = G at hg ⊢
  refine (dats m 0 c).arrAt_eq_of_covers 10 _ (by decide +kernel) fun t hf y => ?_
  blk_simp
  rw [after_10]
  frame_out
  obtain ⟨r, a, rfl⟩ := index₂ (a := 2048) (b := 128) y
  exact (sumV_apply (finds H) t ((last_of_flush t).2.1 hf) r a).trans ((place_10 t G r a).trans (hg (headOf t) r a)).symm

theorem result_dci (H : Holds I (projs m c) (gates m c) (outCt m c)) :
    @Eq (FVec Ideal S16x2048x1 .f32) ((dats m 0 c).arrAt 11 cfg0.N) (val_main_v83 (F := Ideal) (projs m c) (gates m c) (outCt m c)) := by
  have hg := H.gateRowGrad
  generalize val_main_v83 (F := Ideal) (projs m c) (gates m c) (outCt m c) = G at hg ⊢
  refine (dats m 0 c).arrAt_eq_of_covers 11 _ (by decide +kernel) fun t hf y => ?_
  blk_simp
  rw [after_11]
  frame_out
  obtain ⟨r, rfl⟩ := index_col (n := 256) y
  exact ((tile_holds (finds H) t).dci_apply r).trans ((place_11 t G r).trans (hg (headOf t) (rowIn (turn t) r))).symm

theorem result_dcj (H : Holds I (projs m c) (gates m c) (outCt m c)) :
    @Eq (FVec Ideal S16x1x2048 .f32) ((dats m 0 c).arrAt 12 cfg0.N) (val_main_v81 (F := Ideal) (projs m c) (gates m c) (outCt m c)) := by
  have hg := H.gateColGrad
  generalize val_main_v81 (F := Ideal) (projs m c) (gates m c) (outCt m c) = G at hg ⊢
  refine (dats m 0 c).arrAt_eq_of_covers 12 _ (by decide +kernel) fun t hf y => ?_
  blk_simp
  rw [after_12]
  frame_out
  obtain ⟨r, rfl⟩ := index_row (n := 2048) y
  exact (sumC_apply (finds H) t ((last_of_flush t).2.2 hf) r).trans ((place_12 t G r).trans (hg (headOf t) r)).symm

end Cert.FoxBwd

end
-- ==== Proof.Finite.lean ====
/- The precondition read: the arguments hold real numbers, so they hold heads. -/
module

public import proofs.«01_k».proof.Proof.Host
public import proofs.«01_k».proof.Proof.Gen.Pre_finite

@[expose] public section

noncomputable section

namespace Cert.FoxBwd

open Idealize.ShloMosaic hiding ix2 ix3
open Idealize.ShloMosaic.ValueIdx (ix2 ix3)

theorem infinity_value : Ideal.ofBits .f32 0x7F800000#32 = ⊤ := by simp [Ideal.ofBits, Ideal.ieee]

/-- An extended real whose absolute value is below ⊤ is a real. -/
theorem real_of_abs (x : Ideal .f32)
    (h : FloatOps.cmpf .olt (FloatOps.hostAbsf x : Ideal .f32) (FloatOps.ofBits .f32 0x7F800000#32 : Ideal .f32) = 1#1) : x = ((EReal.toReal x : ℝ) : EReal) := by
  have h' : Ideal.cmp .olt (max x (-x)) (Ideal.ofBits .f32 0x7F800000#32) = 1#1 := h
  rw [infinity_value] at h'
  refine (EReal.coe_toReal ?_ ?_).symm
  · rintro rfl; simp [Ideal.cmp] at h'
  · rintro rfl; simp [Ideal.cmp] at h'

/-- The heads the three arguments hold. -/
def headsOf (x0 : FVec Ideal Cert.Pre_finite.S2048x6272 .f32) (x1 : FVec Ideal Cert.Pre_finite.S2048x128 .f32)
    (x2 : FVec Ideal Cert.Pre_finite.S2048x2048 .f32) (h : Fin 16) : Head where
  q i a := EReal.toReal (x0 (ix2 i (projCol 0 h a)))
  k i a := EReal.toReal (x0 (ix2 i (projCol 1 h a)))
  v i a := EReal.toReal (x0 (ix2 i (projCol 2 h a)))
  d i a := EReal.toReal (x2 (ix2 i (col h a)))
  c i := EReal.toReal (x1 (ix2 i (gateCol h)))

variable {x0 : FVec Ideal Cert.Pre_finite.S2048x6272 .f32} {x1 : FVec Ideal Cert.Pre_finite.S2048x128 .f32}
  {x2 : FVec Ideal Cert.Pre_finite.S2048x2048 .f32}

theorem real_proj (h₀ : (Cert.Pre_finite.fn (F := Ideal) x0 x1 x2).1 = fun _ => 1#1) (p : Fin 3) (h : Fin 16) (i : Fin 2048) (a : Fin 128) :
    x0 (ix2 i (projCol p h a)) = ((EReal.toReal (x0 (ix2 i (projCol p h a))) : ℝ) : EReal) := by
  refine real_of_abs _ ?_
  have e := congrFun h₀ (ix2 i (⟨2048 * p.val + 128 * h.val + a.val, by omega⟩ : Fin 6144))
  refine (congrArg (fun z : Ideal .f32 => FloatOps.cmpf .olt (FloatOps.hostAbsf z : Ideal .f32) (FloatOps.ofBits .f32 0x7F800000#32 : Ideal .f32)) ?_).trans e
  exact congrArg x0 (ext2 (Nat.zero_add _).symm (Nat.zero_add _).symm)

theorem real_gate (h₁ : (Cert.Pre_finite.fn (F := Ideal) x0 x1 x2).2.1 = fun _ => 1#1) (h : Fin 16) (i : Fin 2048) :
    x1 (ix2 i (gateCol h)) = ((EReal.toReal (x1 (ix2 i (gateCol h))) : ℝ) : EReal) := by
  refine real_of_abs _ ?_
  have e := congrFun h₁ (ix2 i h)
  refine (congrArg (fun z : Ideal .f32 => FloatOps.cmpf .olt (FloatOps.hostAbsf z : Ideal .f32) (FloatOps.ofBits .f32 0x7F800000#32 : Ideal .f32)) ?_).trans e
  exact congrArg x1 (ext2 (Nat.zero_add _).symm (Nat.zero_add _).symm)

theorem real_ct (h₂ : (Cert.Pre_finite.fn (F := Ideal) x0 x1 x2).2.2 = fun _ => 1#1) (i j : Fin 2048) :
    x2 (ix2 i j) = ((EReal.toReal (x2 (ix2 i j)) : ℝ) : EReal) :=
  real_of_abs _ (congrFun h₂ (ix2 i j))

theorem holds_of_finite (h₀ : (Cert.Pre_finite.fn (F := Ideal) x0 x1 x2).1 = fun _ => 1#1)
    (h₁ : (Cert.Pre_finite.fn (F := Ideal) x0 x1 x2).2.1 = fun _ => 1#1) (h₂ : (Cert.Pre_finite.fn (F := Ideal) x0 x1 x2).2.2 = fun _ => 1#1) :
    Holds (headsOf x0 x1 x2) x0 x1 x2 where
  q h i a := real_proj h₀ 0 h i a
  k h i a := real_proj h₀ 1 h i a
  v h i a := real_proj h₀ 2 h i a
  c h i := real_gate h₁ h i
  d h i a := real_ct h₂ i (col h a)

end Cert.FoxBwd

end
-- ==== Proof.Agree.lean ====
/- Both programs run from memories that hold the same real arguments, and their five results agree. -/
module

public import proofs.«01_k».proof.Proof.Results
public import proofs.«01_k».proof.Proof.Finite
public import proofs.«01_k».proof.Proof.Frame
public import proofs.«01_k».proof.Proof.Gen.ReferenceIdeal.Run

@[expose] public section

noncomputable section

namespace Cert.FoxBwd

open Idealize.ShloMosaic Idealize.SL.Sem
open Cert.ReferenceIdeal.Read

theorem apply_three {α β γ δ : Type*} (f : α → β → γ → δ) {a a' : α} {b b' : β} {c c' : γ} (ha : a' = a) (hb : b' = b) (hc : c' = c) :
    f a' b' c' = f a b c := by rw [ha, hb, hc]

open Cert.KernelIdeal Cert.KernelIdeal.Gen in
/-- The kernel's run, with its results named. -/
theorem run_results (m : (ℓ : Loc nD τ sig) → Buf (Elt Ideal) ℓ) (g : Dev nD → PrngReg) (I : Dev nD → Fin 16 → Head)
    (H : ∀ c, Holds (I c) (projs m c) (gates m c) (outCt m c)) :
    θ_run (defs (F := Ideal)) (onTc (τ := τ) (main (F := Ideal))) ⟨m, fun _ => 0, g⟩ (fun r => ∀ c : Dev nD,
      r.2.mem ((c.tc : Thread nD τ).loc main_v42_0) = val_main_v91 (F := Ideal) (projs m c) (gates m c) (outCt m c)
      ∧ r.2.mem ((c.tc : Thread nD τ).loc main_v42_1) = val_main_v89 (F := Ideal) (projs m c) (gates m c) (outCt m c)
      ∧ r.2.mem ((c.tc : Thread nD τ).loc main_v42_2) = val_main_v65 (F := Ideal) (projs m c) (gates m c) (outCt m c)
      ∧ r.2.mem ((c.tc : Thread nD τ).loc main_v42_3) = val_main_v83 (F := Ideal) (projs m c) (gates m c) (outCt m c)
      ∧ r.2.mem ((c.tc : Thread nD τ).loc main_v42_4) = val_main_v81 (F := Ideal) (projs m c) (gates m c) (outCt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 8).trans (result_dq (H c)), ((h.1 c).1 9).trans (result_dk (H c)),
      ((h.1 c).1 10).trans (result_dv (H c)), ((h.1 c).1 11).trans (result_dci (H c)), ((h.1 c).1 12).trans (result_dcj (H c)), h.2.1 c⟩)
    (θ_run_and (run_main m g) (quiescent m g))

open Cert.ReferenceIdeal in
/-- The reference's run, with its results named at arguments that its memory holds. -/
theorem run_reference (m : (ℓ : Loc nD τ sig) → Buf (Elt Ideal) ℓ) (g : Dev nD → PrngReg)
    (x0 : Dev nD → (⟨S2048x6272, .f32⟩ : BufTy).Contents (Elt Ideal)) (x1 : Dev nD → (⟨S2048x128, .f32⟩ : BufTy).Contents (Elt Ideal))
    (x2 : Dev nD → (⟨S2048x2048, .f32⟩ : BufTy).Contents (Elt Ideal)) (h0 : ∀ c : Dev nD, m ((c.tc : Thread nD τ).loc main_arg0) = x0 c)
    (h1 : ∀ c : Dev nD, m ((c.tc : Thread nD τ).loc main_arg1) = x1 c) (h2 : ∀ c : Dev nD, m ((c.tc : Thread nD τ).loc main_arg2) = x2 c) :
    θ_run (defs (F := Ideal)) (onTc (τ := τ) (main (F := Ideal))) ⟨m, fun _ => 0, g⟩ (fun r => ∀ c : Dev nD,
      r.2.mem ((c.tc : Thread nD τ).loc main_v91) = val_main_v91 (F := Ideal) (x0 c) (x1 c) (x2 c)
      ∧ r.2.mem ((c.tc : Thread nD τ).loc main_v89) = val_main_v89 (F := Ideal) (x0 c) (x1 c) (x2 c)
      ∧ r.2.mem ((c.tc : Thread nD τ).loc main_v65) = val_main_v65 (F := Ideal) (x0 c) (x1 c) (x2 c)
      ∧ r.2.mem ((c.tc : Thread nD τ).loc main_v83) = val_main_v83 (F := Ideal) (x0 c) (x1 c) (x2 c)
      ∧ r.2.mem ((c.tc : Thread nD τ).loc main_v81) = val_main_v81 (F := Ideal) (x0 c) (x1 c) (x2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans ((val_main_v91_eq m c).trans (apply_three _ (h0 c) (h1 c) (h2 c))),
        (h c).2.1.trans ((val_main_v89_eq m c).trans (apply_three _ (h0 c) (h1 c) (h2 c))),
        (h c).2.2.1.trans ((val_main_v65_eq m c).trans (apply_three _ (h0 c) (h1 c) (h2 c))),
        (h c).2.2.2.1.trans ((val_main_v83_eq m c).trans (apply_three _ (h0 c) (h1 c) (h2 c))),
        (h c).2.2.2.2.1.trans ((val_main_v81_eq m c).trans (apply_three _ (h0 c) (h1 c) (h2 c))), (h c).2.2.2.2.2⟩)
    (Cert.ReferenceIdeal.Value.run m g)

end Cert.FoxBwd

end
-- ==== Proof.UpDw.lean ====
/- The gradient of the feed-forward layer's up projection: the transpose of the layer's input times the gradient of the two halves, laid out as the
   four shards of the weight's columns. -/
module

public import proofs.«01_k».proof.Defs
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDwRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.UpDwIdeal.Product

open Idealize.ShloMosaic Idealize.ShloMosaic.TcCoe Idealize.SL.Sem
open Cert.UpDwRefIdeal.Read
open Cert.UpDwIdeal Cert.UpDwIdeal.Gen
open scoped BigOperators

theorem idx (t : Fin cfg0.N) : win0_0.index t = ![0, 0] ∧ win0_1.index t = ![t.val / 22, 0, t.val % 22] ∧ win0_2.index t = ![t.val / 11, 0, t.val % 11] := by
  revert t; decide +kernel

/-- Column `j` of shard `s` is column `s * 2816 + j` of the weight, which lies in one of the two halves. -/
def half (s : Fin 4) (j : Fin 2816) : Fin 2 := ⟨(s.val * 2816 + j.val) / 5632, by omega⟩
def place (s : Fin 4) (j : Fin 2816) : Fin 5632 := ⟨(s.val * 2816 + j.val) % 5632, by omega⟩

/-- What a point computes, at an entry. -/
theorem pay_apply (v0 : Vec Ideal S2048x2048 .bf16) (v1 : Vec Ideal S1x2048x256 .bf16) (y : S1x2048x256.Idx) :
    k0_pay1 v0 v1 y = ∑ k : Fin 2048, v0 (ix2 k (y 1)) * v1 (ix3 0 k (y 2)) := by
  unfold k0_pay1
  pointwise

/-- The reference's gradient, at an entry. -/
theorem ref_apply (x0 : Vec Ideal S2048x2048 .bf16) (x1 : Vec Ideal S2x2048x5632 .bf16) (i : S4x2048x2816.Idx) :
    val_main_v14 (F := Ideal) x0 x1 i = ∑ k : Fin 2048, x0 (ix2 k (i 1)) * x1 (ix3 (half (i 0) (i 2)) k (place (i 0) (i 2))) := by
  refine (val_main_v14_apply x0 x1 i).trans ?_
  refine ((((val_main_v13_apply x0 x1 i).trans (val_main_v12_apply x0 x1 _)).trans (val_main_v11_apply x0 x1 _)).trans (val_main_v10_apply x0 x1 _)).trans ?_
  refine Finset.sum_congr rfl fun k _ => ?_
  rw [val_main_v9_apply, val_main_v8_apply, val_main_v7_apply, val_main_v1_apply, mul_comm]
  refine congrArg₂ (· * ·) (congrArg x0 ?_) (congrArg x1 ?_) <;> blk_ext [half, place]

variable (m : (ℓ : Loc nD τ sig) → Buf (Elt Ideal) ℓ)

theorem result (c : Dev nD) : @Eq (FVec Ideal S4x2048x2816 .bf16) ((dats m 0 c).arrAt 2 cfg0.N)
    (val_main_v14 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, half, place]

/-- The two runs end with equal results. -/
theorem agree : Cert.algebraic_UpDwIdeal_UpDwRefIdeal := fun m g m' g' _ hargs =>
  ⟨fun c => val_main_v14 (F := Ideal) (m ((c : Thread nD τ).loc main_arg0)) (m ((c : Thread nD τ).loc main_arg1)),
    (θ_run defs _ _).mono (fun _ h c => ⟨(h c).1.trans (result m c), (h c).2⟩) (Cert.UpDwIdeal.Value.run_blocks m g),
    (θ_run Cert.UpDwRefIdeal.defs _ _).mono (fun _ h c => ⟨(h c).1.trans ((val_main_v14_eq _ _).trans
      (congrArg₂ (val_main_v14 (F := Ideal)) (hargs c).1 (hargs c).2)), (h c).2⟩) (Cert.UpDwRefIdeal.Value.run m' g')⟩

theorem frame_launched : Cert.quiescent_UpDw := fun m g _ => Cert.UpDw.Gen.frame m g
theorem frame : Cert.quiescent_UpDwIdeal := fun m g _ => Cert.UpDwIdeal.Gen.frame m g
theorem frame_reference : Cert.quiescent_UpDwRefIdeal := fun m g _ =>
  (θ_run Cert.UpDwRefIdeal.defs _ _).mono (fun r h => ⟨fun c => (h c).2, sem_eq_zero_of_no_sems (by decide) r.2⟩)
    (Cert.UpDwRefIdeal.Value.run (F := Ideal) m g)

end Cert.UpDwIdeal.Product

end
-- ==== Proof.UpDx.lean ====
/- The gradient of the feed-forward layer's input: the gradient of the two halves times the transpose of the up projection, summed over the four
   shards of the weight in a scratch buffer, plus the scaled gradient that came through the residual. -/
module

public import proofs.«01_k».proof.Defs
public import proofs.«01_k».proof.Proof.Gen.UpDx.Frame
public import proofs.«01_k».proof.Proof.Gen.UpDxIdeal.Value
public import proofs.«01_k».proof.Proof.Gen.UpDxRefIdeal.Run
public import proofs.«01_k».proof.Proof.Gen.UpDxRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.UpDxIdeal.Product

open Idealize.ShloMosaic Idealize.ShloMosaic.TcCoe Idealize.SL.Sem
open Cert.UpDxRefIdeal.Read
open Cert.UpDxIdeal Cert.UpDxIdeal.Gen
open scoped BigOperators

theorem idx (t : Fin cfg0.N) : win0_0.index t = ![t.val % 4 / 2, 0, t.val % 2] ∧ win0_1.index t = ![t.val % 4, t.val / 4, 0]
    ∧ win0_2.index t = ![0, t.val / 4] ∧ win0_3.index t = ![0, t.val / 4] := by
  revert t; decide +kernel

/-- The product of two blocks, at an entry. -/
theorem pay_apply (v0 : Vec Ideal S1x2048x2816 .bf16) (v1 : Vec Ideal S1x512x2816 .bf16) (y : S2048x512.Idx) :
    k0_pay1 v0 v1 y = ∑ k : Fin 2816, v0 (ix3 0 (y 0) k) * v1 (ix3 0 (y 1) k) := by
  unfold k0_pay1
  pointwise

/-- What the first of four points stores is the product of its blocks, what the others store adds theirs to it. -/
theorem start_apply (v0 : Vec Ideal S1x2048x2816 .bf16) (v1 : Vec Ideal S1x512x2816 .bf16) (y : S2048x512.Idx) :
    k0_pay2 v0 v1 y = k0_pay1 v0 v1 y := by
  unfold k0_pay2
  rw [shapeCast_self]

theorem add_apply (v0 : Vec Ideal S1x2048x2816 .bf16) (v1 : Vec Ideal S1x512x2816 .bf16) (v2 : Vec Ideal S2048x512 .f32) (y : S2048x512.Idx) :
    k0_pay3 v0 v1 v2 y = v2 y + k0_pay1 v0 v1 y := by
  unfold k0_pay3
  pointwise

/-- The scale of the residual. -/
def scale : Ideal .f32 := FloatOps.ofBits .f32 0x3FD744FD#32

theorem finish_apply (v0 v1 : Vec Ideal S2048x512 .f32) (y : S2048x512.Idx) : k0_pay4 v0 v1 y = v0 y + scale * v1 y := by
  unfold k0_pay4
  pointwise
  rfl

/-- The product of shard `s` of the weight with the columns of the gradient that belong to it. -/
def part (x0 : Vec Ideal S2x2048x5632 .bf16) (x1 : Vec Ideal S4x2048x2816 .bf16) (i : S2048x2048.Idx) (s : Fin 4) : Ideal .f32 :=
  ∑ k : Fin 2816, x0 (ix3 ⟨s.val / 2, by omega⟩ (i 0) ⟨s.val % 2 * 2816 + k.val, by omega⟩) * x1 (ix3 s (i 1) k)

/-- The reference's gradient, at an entry, shard by shard. -/
theorem ref_apply (x0 : Vec Ideal S2x2048x5632 .bf16) (x1 : Vec Ideal S4x2048x2816 .bf16) (x2 : Vec Ideal S2048x2048 .f32) (i : S2048x2048.Idx) :
    val_main_v15 (F := Ideal) x0 x1 x2 i =
      (((part x0 x1 i 0 + part x0 x1 i 1) + part x0 x1 i 2) + part x0 x1 i 3) + scale * x2 i := by
  refine (val_main_v15_apply x0 x1 x2 i).trans ?_
  refine congrArg₂ (· + ·) (((val_main_v12_apply x0 x1 i).trans ?_).trans (Fin.sum_univ_four (part x0 x1 i))) ?_
  · refine ((Equiv.sum_comp (finProdFinEquiv (m := 4) (n := 2816)) _).symm.trans (Fintype.sum_prod_type _)).trans ?_
    refine Finset.sum_congr rfl fun s _ => Finset.sum_congr rfl fun k _ => ?_
    have hs : (finProdFinEquiv (s, k)).val = k.val + 2816 * s.val := rfl
    have h4 := s.isLt
    have hk := k.isLt
    rw [val_main_v11_apply, val_main_v10_apply, val_main_v9_apply, val_main_v5_apply, val_main_v4_apply, val_main_v3_apply]
    refine congrArg₂ (· * ·) (congrArg x0 ?_) (congrArg x1 ?_) <;> blk_ext [hs]
  · exact congrArg (· * x2 i) (val_main_v13_apply i)

variable (m : (ℓ : Loc nD τ sig) → Buf (Elt Ideal) ℓ)

theorem below (t : Fin cfg0.N) : t.val - 1 < cfg0.N := Nat.lt_of_le_of_lt (Nat.sub_le _ _) t.isLt

/-- What the scratch holds after the first of four points. -/
theorem first (c : Dev nD) (t : Fin cfg0.N) (h : t.val % 4 = 0) (y : S2048x512.Idx) :
    (outsAt0 m c t.val t.isLt).2 y = k0_pay1 (iblk m c 0 t) (iblk m c 1 t) y := by
  rw [outsAt0_A m c t h (by omega) (by omega)]
  frame_out
  exact start_apply _ _ y

/-- What it holds after the second and the third. -/
theorem middle (c : Dev nD) (t : Fin cfg0.N) (h : 1 ≤ t.val % 4) (h' : ¬t.val % 4 = 3) (y : S2048x512.Idx) :
    (outsAt0 m c t.val t.isLt).2 y = (outsAt0 m c (t.val - 1) (below t)).2 y + k0_pay1 (iblk m c 0 t) (iblk m c 1 t) y := by
  rw [outsAt0_B m c t (by omega) h h']
  frame_out
  refine (add_apply _ _ _ y).trans ?_
  rw [(Memref.isWhole_whole _).read_unread]

/-- What the fourth writes back. -/
theorem last (c : Dev nD) (t : Fin cfg0.N) (h : t.val % 4 = 3) (y : S2048x512.Idx) :
    (outsAt0 m c t.val t.isLt).1 y = ((outsAt0 m c (t.val - 1) (below t)).2 y + k0_pay1 (iblk m c 0 t) (iblk m c 1 t) y)
      + scale * (iblk m c 2 t : Vec Ideal S2048x512 .f32) y := by
  rw [outsAt0_C m c t (by omega) (by omega) h]
  frame_out
  refine (finish_apply _ _ y).trans ?_
  refine congrArg (· + _) ((add_apply _ _ _ y).trans ?_)
  rw [(Memref.isWhole_whole _).read_unread]

/-- What a point computes is its shard's part. -/
theorem pay_part (c : Dev nD) (t : Fin cfg0.N) (s : Fin 4) (h : t.val % 4 = s.val) (y : S2048x512.Idx) (i : S2048x2048.Idx)
    (h0 : (i 0).val = (y 0).val) (h1 : (i 1).val = t.val / 4 * 512 + (y 1).val) :
    k0_pay1 (iblk m c 0 t) (iblk m c 1 t) y = part (m ((c : Thread nD τ).loc main_arg0)) (m ((c : Thread nD τ).loc main_arg1)) i s := by
  refine (pay_apply _ _ y).trans (Finset.sum_congr rfl fun k _ => ?_)
  have h2 : t.val % 2 = s.val % 2 := by omega
  congr 1 <;> blk_ext [iblk, V, idx t, h, h0, h1, h2]

theorem result (c : Dev nD) : @Eq (FVec Ideal S2048x2048 .f32) ((dats m 0 c).arrAt 3 cfg0.N)
    (val_main_v15 (F := Ideal) (m ((c : Thread nD τ).loc main_arg0)) (m ((c : Thread nD τ).loc main_arg1)) (m ((c : Thread nD τ).loc main_arg2))) := by
  refine (dats m 0 c).arrAt_eq_of_covers 3 _ (by decide +kernel) fun t hf y => ?_
  have h3 : t.val % 4 = 3 := (flush0_3 t).mp hf
  have e2 := middle m c ⟨t.val - 1, below t⟩ (by dsimp only; omega) (by dsimp only; omega)
  have e1 := middle m c ⟨t.val - 1 - 1, below ⟨t.val - 1, below t⟩⟩ (by dsimp only; omega) (by dsimp only; omega)
  have e0 := first m c ⟨t.val - 1 - 1 - 1, below ⟨t.val - 1 - 1, below ⟨t.val - 1, below t⟩⟩⟩ (by dsimp only; omega)
  blk_simp
  rw [after0_3]
  refine (last m c t h3 y).trans (.trans ?_ (ref_apply _ _ _ _).symm)
  refine congrArg₂ (· + ·) (congrArg₂ (· + ·) ((e2 y).trans (congrArg₂ (· + ·) ((e1 y).trans (congrArg₂ (· + ·) ((e0 y).trans ?_) ?_)) ?_)) ?_) ?_
  · exact pay_part m c _ 0 (by dsimp only; omega) y _ (by blk_ext [idx t])
      (.trans (b := t.val / 4 * 512 + (y 1).val) (by blk_ext [idx t]) (by dsimp only; omega))
  · exact pay_part m c _ 1 (by dsimp only; omega) y _ (by blk_ext [idx t])
      (.trans (b := t.val / 4 * 512 + (y 1).val) (by blk_ext [idx t]) (by dsimp only; omega))
  · exact pay_part m c _ 2 (by dsimp only; omega) y _ (by blk_ext [idx t])
      (.trans (b := t.val / 4 * 512 + (y 1).val) (by blk_ext [idx t]) (by dsimp only; omega))
  · exact pay_part m c _ 3 h3 y _ (by blk_ext [idx t]) (by blk_ext [idx t])
  · refine congrArg (scale * ·) ?_
    blk_ext [iblk, V, idx t]

/-- The two runs end with equal results. -/
theorem agree : Cert.algebraic_UpDxIdeal_UpDxRefIdeal := fun m g m' g' _ hargs =>
  ⟨fun c => val_main_v15 (F := Ideal) (m ((c : Thread nD τ).loc main_arg0)) (m ((c : Thread nD τ).loc main_arg1)) (m ((c : Thread nD τ).loc main_arg2)),
    (θ_run defs _ _).mono (fun _ h c => ⟨(h c).1.trans (result m c), (h c).2⟩) (Cert.UpDxIdeal.Value.run_blocks m g),
    (θ_run Cert.UpDxRefIdeal.defs _ _).mono (fun _ h c => ⟨(h c).1.trans ((val_main_v15_eq _ _ _).trans
      (congr (congrArg₂ (val_main_v15 (F := Ideal)) (hargs c).1 (hargs c).2.1) (hargs c).2.2)), (h c).2⟩) (Cert.UpDxRefIdeal.Value.run m' g')⟩

theorem frame_launched : Cert.quiescent_UpDx := fun m g _ => Cert.UpDx.Gen.frame m g
theorem frame : Cert.quiescent_UpDxIdeal := fun m g _ => Cert.UpDxIdeal.Gen.frame m g
theorem frame_reference : Cert.quiescent_UpDxRefIdeal := fun m g _ =>
  (θ_run Cert.UpDxRefIdeal.defs _ _).mono (fun r h => ⟨fun c => (h c).2, sem_eq_zero_of_no_sems (by decide) r.2⟩)
    (Cert.UpDxRefIdeal.Value.run (F := Ideal) m g)

end Cert.UpDxIdeal.Product

end
-- ==== Proof.DownDx.lean ====
/- The gradient of the feed-forward layer's activation: `dz` times the transpose of the down projection. -/
module

public import proofs.«01_k».proof.Defs
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.DownDxIdeal.Product

open Idealize.ShloMosaic Idealize.ShloMosaic.TcCoe Idealize.SL.Sem
open Cert.DownDxRefIdeal.Read
open Cert.DownDxIdeal Cert.DownDxIdeal.Gen
open scoped BigOperators

theorem idx (t : Fin cfg0.N) : win0_0.index t = ![0, 0] ∧ win0_1.index t = ![t.val, 0] ∧ win0_2.index t = ![0, t.val] := by
  revert t; decide +kernel

variable (m : (ℓ : Loc nD τ sig) → Buf (Elt Ideal) ℓ)

/-- What a point computes, at an entry. -/
theorem pay_apply (v0 : Vec Ideal S2048x2048 .bf16) (v1 : Vec Ideal S512x2048 .bf16) (y : S2048x512.Idx) :
    k0_pay1 v0 v1 y = ∑ k : Fin 2048, v0 (ix2 (y 0) k) * v1 (ix2 (y 1) k) := by
  unfold k0_pay1
  pointwise

theorem result (c : Dev nD) : @Eq (FVec Ideal S2048x5632 .f32) ((dats m 0 c).arrAt 2 cfg0.N)
    (val_main_v4 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (val_main_v4_apply _ _ _).symm)
  refine Finset.sum_congr rfl fun k _ => ?_
  congr 1 <;> blk_ext [iblk, V, idx t]

/-- The two runs end with equal results. -/
theorem agree : Cert.algebraic_DownDxIdeal_DownDxRefIdeal := fun m g m' g' _ hargs =>
  ⟨fun c => val_main_v4 (F := Ideal) (m ((c : Thread nD τ).loc main_arg0)) (m ((c : Thread nD τ).loc main_arg1)),
    (θ_run defs _ _).mono (fun _ h c => ⟨(h c).1.trans (result m c), (h c).2⟩) (Cert.DownDxIdeal.Value.run_blocks m g),
    (θ_run Cert.DownDxRefIdeal.defs _ _).mono (fun _ h c => ⟨(h c).1.trans ((val_main_v4_eq _ _).trans
      (congrArg₂ (val_main_v4 (F := Ideal)) (hargs c).1 (hargs c).2)), (h c).2⟩) (Cert.DownDxRefIdeal.Value.run m' g')⟩

theorem frame_launched : Cert.quiescent_DownDx := fun m g _ => Cert.DownDx.Gen.frame m g
theorem frame : Cert.quiescent_DownDxIdeal := fun m g _ => Cert.DownDxIdeal.Gen.frame m g
theorem frame_reference : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run (F := Ideal) m g)

end Cert.DownDxIdeal.Product

end
-- ==== Proof.DownDw.lean ====
/- The gradient of the feed-forward layer's down projection: the transpose of the activation times the gradient of the product. -/
module

public import proofs.«01_k».proof.Defs
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.DownDwIdeal.Product

open Idealize.ShloMosaic Idealize.ShloMosaic.TcCoe Idealize.SL.Sem
open Cert.DownDwRefIdeal.Read
open Cert.DownDwIdeal Cert.DownDwIdeal.Gen
open scoped BigOperators

theorem idx (t : Fin cfg0.N) : win0_0.index t = ![0, t.val / 4] ∧ win0_1.index t = ![0, t.val % 4] ∧ win0_2.index t = ![t.val / 4, t.val % 4] := by
  revert t; decide +kernel

/-- What a point computes, at an entry. -/
theorem pay_apply (v0 : Vec Ideal S2048x1408 .bf16) (v1 : Vec Ideal S2048x512 .bf16) (y : S1408x512.Idx) :
    k0_pay1 v0 v1 y = ∑ k : Fin 2048, v0 (ix2 k (y 0)) * v1 (ix2 k (y 1)) := by
  unfold k0_pay1
  pointwise

/-- The reference's gradient, at an entry. -/
theorem ref_apply (x0 : Vec Ideal S2048x5632 .bf16) (x1 : Vec Ideal S2048x2048 .bf16) (i : S5632x2048.Idx) :
    val_main_v6 (F := Ideal) x0 x1 i = ∑ k : Fin 2048, x0 (ix2 k (i 0)) * x1 (ix2 k (i 1)) := by
  refine (val_main_v6_apply x0 x1 i).trans ?_
  refine ((val_main_v5_apply x0 x1 i).trans (val_main_v4_apply x0 x1 _)).trans ?_
  refine Finset.sum_congr rfl fun k _ => ?_
  rw [val_main_v3_apply, val_main_v1_apply, mul_comm]
  refine congrArg₂ (· * ·) (congrArg x0 ?_) (congrArg x1 ?_) <;> blk_ext

variable (m : (ℓ : Loc nD τ sig) → Buf (Elt Ideal) ℓ)

theorem result (c : Dev nD) : @Eq (FVec Ideal S5632x2048 .bf16) ((dats m 0 c).arrAt 2 cfg0.N)
    (val_main_v6 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t]

/-- The two runs end with equal results. -/
theorem agree : Cert.algebraic_DownDwIdeal_DownDwRefIdeal := fun m g m' g' _ hargs =>
  ⟨fun c => val_main_v6 (F := Ideal) (m ((c : Thread nD τ).loc main_arg0)) (m ((c : Thread nD τ).loc main_arg1)),
    (θ_run defs _ _).mono (fun _ h c => ⟨(h c).1.trans (result m c), (h c).2⟩) (Cert.DownDwIdeal.Value.run_blocks m g),
    (θ_run Cert.DownDwRefIdeal.defs _ _).mono (fun _ h c => ⟨(h c).1.trans ((val_main_v6_eq _ _).trans
      (congrArg₂ (val_main_v6 (F := Ideal)) (hargs c).1 (hargs c).2)), (h c).2⟩) (Cert.DownDwRefIdeal.Value.run m' g')⟩

theorem frame_launched : Cert.quiescent_DownDw := fun m g _ => Cert.DownDw.Gen.frame m g
theorem frame : Cert.quiescent_DownDwIdeal := fun m g _ => Cert.DownDwIdeal.Gen.frame m g
theorem frame_reference : Cert.quiescent_DownDwRefIdeal := fun m g _ =>
  (θ_run Cert.DownDwRefIdeal.defs _ _).mono (fun r h => ⟨fun c => (h c).2, sem_eq_zero_of_no_sems (by decide) r.2⟩)
    (Cert.DownDwRefIdeal.Value.run (F := Ideal) m g)

end Cert.DownDwIdeal.Product

end
-- ==== Proof.Up.lean ====
/- The feed-forward layer's up projection: the input times the two halves of the weight's columns, which arrive as four shards. -/
module

public import proofs.«01_k».proof.Defs
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.UpIdeal.Product

open Idealize.ShloMosaic Idealize.ShloMosaic.TcCoe Idealize.SL.Sem
open Cert.UpRefIdeal.Read
open Cert.UpIdeal Cert.UpIdeal.Gen
open scoped BigOperators

theorem idx (t : Fin cfg0.N) : win0_0.index t = ![0, 0] ∧ win0_1.index t = ![t.val / 11, 0, t.val % 11] ∧ win0_2.index t = ![t.val / 22, 0, t.val % 22] := by
  revert t; decide +kernel

/-- Column `j` of half `h` is column `h * 5632 + j` of the weight, which lies in one of the four shards. -/
def shard (h : Fin 2) (j : Fin 5632) : Fin 4 := ⟨(h.val * 5632 + j.val) / 2816, by omega⟩
def place (h : Fin 2) (j : Fin 5632) : Fin 2816 := ⟨(h.val * 5632 + j.val) % 2816, by omega⟩

/-- What a point computes, at an entry. -/
theorem pay_apply (v0 : Vec Ideal S2048x2048 .bf16) (v1 : Vec Ideal S1x2048x256 .bf16) (y : S1x2048x256.Idx) :
    k0_pay1 v0 v1 y = ∑ k : Fin 2048, v0 (ix2 (y 1) k) * v1 (ix3 0 k (y 2)) := by
  unfold k0_pay1
  pointwise

/-- The reference's product, at an entry. -/
theorem ref_apply (x0 : Vec Ideal S2048x2048 .bf16) (x1 : Vec Ideal S4x2048x2816 .bf16) (i : S2x2048x5632.Idx) :
    val_main_v6 (F := Ideal) x0 x1 i = ∑ k : Fin 2048, x0 (ix2 (i 1) k) * x1 (ix3 (shard (i 0) (i 2)) k (place (i 0) (i 2))) := by
  refine (((val_main_v6_apply x0 x1 i).trans (val_main_v5_apply x0 x1 _)).trans (val_main_v4_apply x0 x1 _)).trans ?_
  refine Finset.sum_congr rfl fun k _ => ?_
  rw [val_main_v0_apply, val_main_v3_apply, val_main_v2_apply, val_main_v1_apply]
  refine congrArg₂ (· * ·) (congrArg x0 ?_) (congrArg x1 ?_) <;> blk_ext [shard, place]

variable (m : (ℓ : Loc nD τ sig) → Buf (Elt Ideal) ℓ)

theorem result (c : Dev nD) : @Eq (FVec Ideal S2x2048x5632 .f32) ((dats m 0 c).arrAt 2 cfg0.N)
    (val_main_v6 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, shard, place]

/-- The two runs end with equal results. -/
theorem agree : Cert.algebraic_UpIdeal_UpRefIdeal := fun m g m' g' _ hargs =>
  ⟨fun c => val_main_v6 (F := Ideal) (m ((c : Thread nD τ).loc main_arg0)) (m ((c : Thread nD τ).loc main_arg1)),
    (θ_run defs _ _).mono (fun _ h c => ⟨(h c).1.trans (result m c), (h c).2⟩) (Cert.UpIdeal.Value.run_blocks m g),
    (θ_run Cert.UpRefIdeal.defs _ _).mono (fun _ h c => ⟨(h c).1.trans ((val_main_v6_eq _ _).trans
      (congrArg₂ (val_main_v6 (F := Ideal)) (hargs c).1 (hargs c).2)), (h c).2⟩) (Cert.UpRefIdeal.Value.run m' g')⟩

theorem frame_launched : Cert.quiescent_Up := fun m g _ => Cert.Up.Gen.frame m g
theorem frame : Cert.quiescent_UpIdeal := fun m g _ => Cert.UpIdeal.Gen.frame m g
theorem frame_reference : Cert.quiescent_UpRefIdeal := fun m g _ =>
  (θ_run Cert.UpRefIdeal.defs _ _).mono (fun r h => ⟨fun c => (h c).2, sem_eq_zero_of_no_sems (by decide) r.2⟩)
    (Cert.UpRefIdeal.Value.run (F := Ideal) m g)

end Cert.UpIdeal.Product

end
-- ==== Proof.Down.lean ====
/- The feed-forward layer's down projection: the activation times the weight, summed over two blocks of 2816 columns in a scratch buffer. -/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.DownIdeal.Product

open Idealize.ShloMosaic Idealize.ShloMosaic.TcCoe Idealize.SL.Sem
open Cert.DownRefIdeal.Read
open Cert.DownIdeal Cert.DownIdeal.Gen
open scoped BigOperators

theorem idx (t : Fin cfg0.N) : win0_0.index t = ![0, t.val % 2] ∧ win0_1.index t = ![t.val % 2, t.val / 2] ∧ win0_2.index t = ![0, t.val / 2] := by
  revert t; decide +kernel

/-- The product of two blocks, at an entry. -/
theorem pay_apply (v0 : Vec Ideal S2048x2816 .bf16) (v1 : Vec Ideal S2816x512 .bf16) (y : S2048x512.Idx) :
    k0_pay1 v0 v1 y = ∑ k : Fin 2816, v0 (ix2 (y 0) k) * v1 (ix2 k (y 1)) := by
  unfold k0_pay1
  pointwise

/-- What the first point of a pair stores is the product of its blocks, and what the second adds to. -/
theorem start_apply (v0 : Vec Ideal S2048x2816 .bf16) (v1 : Vec Ideal S2816x512 .bf16) (y : S2048x512.Idx) :
    k0_pay2 v0 v1 y = k0_pay1 v0 v1 y := by
  unfold k0_pay2
  rw [shapeCast_self]

theorem add_apply (v0 : Vec Ideal S2048x2816 .bf16) (v1 : Vec Ideal S2816x512 .bf16) (v2 : Vec Ideal S2048x512 .f32) (y : S2048x512.Idx) :
    k0_pay3 v0 v1 v2 y = v2 y + k0_pay1 v0 v1 y := by
  unfold k0_pay3
  pointwise

/-- The reference's product, at an entry, in two halves of the sum. -/
theorem ref_apply (x0 : Vec Ideal S2048x5632 .bf16) (x1 : Vec Ideal S5632x2048 .bf16) (i : S2048x2048.Idx) :
    val_main_v2 (F := Ideal) x0 x1 i =
      (∑ k : Fin 2816, x0 (ix2 (i 0) ⟨k.val, by omega⟩) * x1 (ix2 ⟨k.val, by omega⟩ (i 1)))
        + ∑ k : Fin 2816, x0 (ix2 (i 0) ⟨2816 + k.val, by omega⟩) * x1 (ix2 ⟨2816 + k.val, by omega⟩ (i 1)) := by
  refine (val_main_v2_apply x0 x1 i).trans ?_
  refine (Fin.sum_univ_add (a := 2816) (b := 2816) _).trans ?_
  refine congrArg₂ (· + ·) (Finset.sum_congr rfl fun k _ => ?_) (Finset.sum_congr rfl fun k _ => ?_) <;>
    (rw [val_main_v0_apply, val_main_v1_apply]
     refine congrArg₂ (· * ·) (congrArg x0 ?_) (congrArg x1 ?_) <;> blk_ext <;> rfl)

variable (m : (ℓ : Loc nD τ sig) → Buf (Elt Ideal) ℓ)

/-- What the scratch holds after the first point of a pair. -/
theorem first (c : Dev nD) (t : Fin cfg0.N) (h : t.val % 2 = 0) (y : S2048x512.Idx) :
    (outsAt0 m c t.val t.isLt).2 y = k0_pay1 (iblk m c 0 t) (iblk m c 1 t) y := by
  rw [outsAt0_A m c t h (by omega) (by omega)]
  frame_out
  exact start_apply _ _ y

/-- What a pair's second point writes back. -/
theorem second (c : Dev nD) (t : Fin cfg0.N) (h : t.val % 2 = 1) (y : S2048x512.Idx) :
    (outsAt0 m c t.val t.isLt).1 y = (outsAt0 m c (t.val - 1) (Nat.lt_of_le_of_lt (Nat.sub_le _ _) t.isLt)).2 y
      + k0_pay1 (iblk m c 0 t) (iblk m c 1 t) y := by
  rw [outsAt0_B m c t (by omega) h h]
  frame_out
  refine (add_apply _ _ _ y).trans ?_
  rw [(Memref.isWhole_whole _).read_unread]

theorem result (c : Dev nD) : @Eq (FVec Ideal S2048x2048 .f32) ((dats m 0 c).arrAt 2 cfg0.N)
    (val_main_v2 (F := Ideal) (m ((c : Thread nD τ).loc main_arg0)) (m ((c : Thread nD τ).loc main_arg1))) := by
  refine (dats m 0 c).arrAt_eq_of_covers 2 _ (by decide +kernel) fun t hf y => ?_
  have h1 : t.val % 2 = 1 := (flush0_2 t).mp hf
  have hp : t.val - 1 < cfg0.N := Nat.lt_of_le_of_lt (Nat.sub_le _ _) t.isLt
  have h0 : (⟨t.val - 1, hp⟩ : Fin cfg0.N).val % 2 = 0 := by dsimp only; omega
  blk_simp
  rw [after0_2]
  refine (second m c t h1 y).trans (.trans ?_ (ref_apply _ _ _).symm)
  refine congrArg₂ (· + ·) ((first m c ⟨t.val - 1, hp⟩ h0 y).trans ?_) ?_ <;>
    (rw [pay_apply]
     refine Finset.sum_congr rfl fun k _ => ?_
     congr 1 <;> blk_ext [iblk, V, idx t, idx ⟨t.val - 1, hp⟩])

/-- The two runs end with equal results. -/
theorem agree : Cert.algebraic_DownIdeal_DownRefIdeal := fun m g m' g' _ hargs =>
  ⟨fun c => val_main_v2 (F := Ideal) (m ((c : Thread nD τ).loc main_arg0)) (m ((c : Thread nD τ).loc main_arg1)),
    (θ_run defs _ _).mono (fun _ h c => ⟨(h c).1.trans (result m c), (h c).2⟩) (Cert.DownIdeal.Value.run_blocks m g),
    (θ_run Cert.DownRefIdeal.defs _ _).mono (fun _ h c => ⟨(h c).1.trans ((val_main_v2_eq _ _).trans
      (congrArg₂ (val_main_v2 (F := Ideal)) (hargs c).1 (hargs c).2)), (h c).2⟩) (Cert.DownRefIdeal.Value.run m' g')⟩

theorem frame_launched : Cert.quiescent_Down := fun m g _ => Cert.Down.Gen.frame m g
theorem frame : Cert.quiescent_DownIdeal := fun m g _ => Cert.DownIdeal.Gen.frame m g
theorem frame_reference : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

end Cert.DownIdeal.Product

end
-- ==== Proof.MixerOutDx.lean ====
/- The gradient of what a mixer hands to its output projection: `dz` times the transpose of the weight. -/
module

public import proofs.«01_k».proof.Defs
public import proofs.«01_k».proof.Proof.Gen.MixerOutDx.Frame
public import proofs.«01_k».proof.Proof.Gen.MixerOutDxIdeal.Value
public import proofs.«01_k».proof.Proof.Gen.MixerOutDxRefIdeal.Run
public import proofs.«01_k».proof.Proof.Gen.MixerOutDxRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.MixerOutDxIdeal.Product

open Idealize.ShloMosaic Idealize.ShloMosaic.TcCoe Idealize.SL.Sem
open Cert.MixerOutDxRefIdeal.Read
open Cert.MixerOutDxIdeal Cert.MixerOutDxIdeal.Gen
open scoped BigOperators

theorem idx (t : Fin cfg0.N) : win0_0.index t = ![0, 0] ∧ win0_1.index t = ![t.val, 0] ∧ win0_2.index t = ![0, t.val] := by
  revert t; decide +kernel

/-- What a point computes, at an entry. -/
theorem pay_apply (v0 : Vec Ideal S2048x2048 .bf16) (v1 : Vec Ideal S512x2048 .bf16) (y : S2048x512.Idx) :
    k0_pay1 v0 v1 y = ∑ k : Fin 2048, v0 (ix2 (y 0) k) * v1 (ix2 (y 1) k) := by
  unfold k0_pay1
  pointwise

/-- The reference's gradient, at an entry. -/
theorem ref_apply (x0 : Vec Ideal S2048x2048 .bf16) (x1 : Vec Ideal S2048x2048 .bf16) (i : S2048x2048.Idx) :
    val_main_v4 (F := Ideal) x0 x1 i = ∑ k : Fin 2048, x0 (ix2 (i 0) k) * x1 (ix2 (i 1) k) := by
  refine (val_main_v4_apply x0 x1 i).trans ?_
  refine Finset.sum_congr rfl fun k _ => ?_
  rw [val_main_v3_apply, val_main_v1_apply]
  refine congrArg₂ (· * ·) (congrArg x0 ?_) (congrArg x1 ?_) <;> blk_ext

variable (m : (ℓ : Loc nD τ sig) → Buf (Elt Ideal) ℓ)

theorem result (c : Dev nD) : @Eq (FVec Ideal S2048x2048 .f32) ((dats m 0 c).arrAt 2 cfg0.N)
    (val_main_v4 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t]

/-- The two runs end with equal results. -/
theorem agree : Cert.algebraic_MixerOutDxIdeal_MixerOutDxRefIdeal := fun m g m' g' _ hargs =>
  ⟨fun c => val_main_v4 (F := Ideal) (m ((c : Thread nD τ).loc main_arg0)) (m ((c : Thread nD τ).loc main_arg1)),
    (θ_run defs _ _).mono (fun _ h c => ⟨(h c).1.trans (result m c), (h c).2⟩) (Cert.MixerOutDxIdeal.Value.run_blocks m g),
    (θ_run Cert.MixerOutDxRefIdeal.defs _ _).mono (fun _ h c => ⟨(h c).1.trans ((val_main_v4_eq _ _).trans
      (congrArg₂ (val_main_v4 (F := Ideal)) (hargs c).1 (hargs c).2)), (h c).2⟩) (Cert.MixerOutDxRefIdeal.Value.run m' g')⟩

theorem frame_launched : Cert.quiescent_MixerOutDx := fun m g _ => Cert.MixerOutDx.Gen.frame m g
theorem frame : Cert.quiescent_MixerOutDxIdeal := fun m g _ => Cert.MixerOutDxIdeal.Gen.frame m g
theorem frame_reference : Cert.quiescent_MixerOutDxRefIdeal := fun m g _ =>
  (θ_run Cert.MixerOutDxRefIdeal.defs _ _).mono (fun r h => ⟨fun c => (h c).2, sem_eq_zero_of_no_sems (by decide) r.2⟩)
    (Cert.MixerOutDxRefIdeal.Value.run (F := Ideal) m g)

end Cert.MixerOutDxIdeal.Product

end
-- ==== Proof.MixerOutDw.lean ====
/- The gradient of a mixer's output projection: the transpose of what goes into it times the gradient of the product. -/
module

public import proofs.«01_k».proof.Defs
public import proofs.«01_k».proof.Proof.Gen.MixerOutDw.Frame
public import proofs.«01_k».proof.Proof.Gen.MixerOutDwIdeal.Value
public import proofs.«01_k».proof.Proof.Gen.MixerOutDwRefIdeal.Run
public import proofs.«01_k».proof.Proof.Gen.MixerOutDwRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.MixerOutDwIdeal.Product

open Idealize.ShloMosaic Idealize.ShloMosaic.TcCoe Idealize.SL.Sem
open Cert.MixerOutDwRefIdeal.Read
open Cert.MixerOutDwIdeal Cert.MixerOutDwIdeal.Gen
open scoped BigOperators

theorem idx (t : Fin cfg0.N) : win0_0.index t = ![0, 0] ∧ win0_1.index t = ![0, t.val] ∧ win0_2.index t = ![0, t.val] := by
  revert t; decide +kernel

/-- What a point computes, at an entry. -/
theorem pay_apply (v0 : Vec Ideal S2048x2048 .bf16) (v1 : Vec Ideal S2048x512 .bf16) (y : S2048x512.Idx) :
    k0_pay1 v0 v1 y = ∑ k : Fin 2048, v0 (ix2 k (y 0)) * v1 (ix2 k (y 1)) := by
  unfold k0_pay1
  pointwise

/-- The reference's gradient, at an entry. -/
theorem ref_apply (x0 : Vec Ideal S2048x2048 .bf16) (x1 : Vec Ideal S2048x2048 .bf16) (i : S2048x2048.Idx) :
    val_main_v6 (F := Ideal) x0 x1 i = ∑ k : Fin 2048, x0 (ix2 k (i 0)) * x1 (ix2 k (i 1)) := by
  refine (((val_main_v6_apply x0 x1 i).trans (val_main_v5_apply x0 x1 _)).trans (val_main_v4_apply x0 x1 _)).trans ?_
  refine Finset.sum_congr rfl fun k _ => ?_
  rw [val_main_v3_apply, val_main_v1_apply, mul_comm]
  refine congrArg₂ (· * ·) (congrArg x0 ?_) (congrArg x1 ?_) <;> blk_ext

variable (m : (ℓ : Loc nD τ sig) → Buf (Elt Ideal) ℓ)

theorem result (c : Dev nD) : @Eq (FVec Ideal S2048x2048 .bf16) ((dats m 0 c).arrAt 2 cfg0.N)
    (val_main_v6 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t]

/-- The two runs end with equal results. -/
theorem agree : Cert.algebraic_MixerOutDwIdeal_MixerOutDwRefIdeal := fun m g m' g' _ hargs =>
  ⟨fun c => val_main_v6 (F := Ideal) (m ((c : Thread nD τ).loc main_arg0)) (m ((c : Thread nD τ).loc main_arg1)),
    (θ_run defs _ _).mono (fun _ h c => ⟨(h c).1.trans (result m c), (h c).2⟩) (Cert.MixerOutDwIdeal.Value.run_blocks m g),
    (θ_run Cert.MixerOutDwRefIdeal.defs _ _).mono (fun _ h c => ⟨(h c).1.trans ((val_main_v6_eq _ _).trans
      (congrArg₂ (val_main_v6 (F := Ideal)) (hargs c).1 (hargs c).2)), (h c).2⟩) (Cert.MixerOutDwRefIdeal.Value.run m' g')⟩

theorem frame_launched : Cert.quiescent_MixerOutDw := fun m g _ => Cert.MixerOutDw.Gen.frame m g
theorem frame : Cert.quiescent_MixerOutDwIdeal := fun m g _ => Cert.MixerOutDwIdeal.Gen.frame m g
theorem frame_reference : Cert.quiescent_MixerOutDwRefIdeal := fun m g _ =>
  (θ_run Cert.MixerOutDwRefIdeal.defs _ _).mono (fun r h => ⟨fun c => (h c).2, sem_eq_zero_of_no_sems (by decide) r.2⟩)
    (Cert.MixerOutDwRefIdeal.Value.run (F := Ideal) m g)

end Cert.MixerOutDwIdeal.Product

end
-- ==== Proof.MixerOut.lean ====
/- A mixer's output projection. -/
module

public import proofs.«01_k».proof.Defs
public import proofs.«01_k».proof.Proof.Gen.MixerOut.Frame
public import proofs.«01_k».proof.Proof.Gen.MixerOutIdeal.Value
public import proofs.«01_k».proof.Proof.Gen.MixerOutRefIdeal.Run
public import proofs.«01_k».proof.Proof.Gen.MixerOutRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.MixerOutIdeal.Product

open Idealize.ShloMosaic Idealize.ShloMosaic.TcCoe Idealize.SL.Sem
open Cert.MixerOutRefIdeal.Read
open Cert.MixerOutIdeal Cert.MixerOutIdeal.Gen
open scoped BigOperators

theorem idx (t : Fin cfg0.N) : win0_0.index t = ![0, 0] ∧ win0_1.index t = ![0, t.val] ∧ win0_2.index t = ![0, t.val] := by
  revert t; decide +kernel

/-- What a point computes, at an entry. -/
theorem pay_apply (v0 : Vec Ideal S2048x2048 .bf16) (v1 : Vec Ideal S2048x512 .bf16) (y : S2048x512.Idx) :
    k0_pay1 v0 v1 y = ∑ k : Fin 2048, v0 (ix2 (y 0) k) * v1 (ix2 k (y 1)) := by
  unfold k0_pay1
  pointwise

/-- The reference's product, at an entry. -/
theorem ref_apply (x0 : Vec Ideal S2048x2048 .bf16) (x1 : Vec Ideal S2048x2048 .bf16) (i : S2048x2048.Idx) :
    val_main_v2 (F := Ideal) x0 x1 i = ∑ k : Fin 2048, x0 (ix2 (i 0) k) * x1 (ix2 k (i 1)) := by
  refine (val_main_v2_apply x0 x1 i).trans ?_
  refine Finset.sum_congr rfl fun k _ => ?_
  rw [val_main_v0_apply, val_main_v1_apply]
  refine congrArg₂ (· * ·) (congrArg x0 ?_) (congrArg x1 ?_) <;> blk_ext

variable (m : (ℓ : Loc nD τ sig) → Buf (Elt Ideal) ℓ)

theorem result (c : Dev nD) : @Eq (FVec Ideal S2048x2048 .f32) ((dats m 0 c).arrAt 2 cfg0.N)
    (val_main_v2 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t]

/-- The two runs end with equal results. -/
theorem agree : Cert.algebraic_MixerOutIdeal_MixerOutRefIdeal := fun m g m' g' _ hargs =>
  ⟨fun c => val_main_v2 (F := Ideal) (m ((c : Thread nD τ).loc main_arg0)) (m ((c : Thread nD τ).loc main_arg1)),
    (θ_run defs _ _).mono (fun _ h c => ⟨(h c).1.trans (result m c), (h c).2⟩) (Cert.MixerOutIdeal.Value.run_blocks m g),
    (θ_run Cert.MixerOutRefIdeal.defs _ _).mono (fun _ h c => ⟨(h c).1.trans ((val_main_v2_eq _ _).trans
      (congrArg₂ (val_main_v2 (F := Ideal)) (hargs c).1 (hargs c).2)), (h c).2⟩) (Cert.MixerOutRefIdeal.Value.run m' g')⟩

theorem frame_launched : Cert.quiescent_MixerOut := fun m g _ => Cert.MixerOut.Gen.frame m g
theorem frame : Cert.quiescent_MixerOutIdeal := fun m g _ => Cert.MixerOutIdeal.Gen.frame m g
theorem frame_reference : Cert.quiescent_MixerOutRefIdeal := fun m g _ =>
  (θ_run Cert.MixerOutRefIdeal.defs _ _).mono (fun r h => ⟨fun c => (h c).2, sem_eq_zero_of_no_sems (by decide) r.2⟩)
    (Cert.MixerOutRefIdeal.Value.run (F := Ideal) m g)

end Cert.MixerOutIdeal.Product

end
-- ==== Proof.AttnInDx.lean ====
/- The gradient of the attention's input: the gradient of the projection times the transpose of its weight, summed over seven blocks of columns in a
   scratch buffer, plus the scaled gradient that came through the residual. -/
module

public import proofs.«01_k».proof.Defs
public import proofs.«01_k».proof.Proof.Gen.AttnInDx.Frame
public import proofs.«01_k».proof.Proof.Gen.AttnInDxIdeal.Value
public import proofs.«01_k».proof.Proof.Gen.AttnInDxRefIdeal.Run
public import proofs.«01_k».proof.Proof.Gen.AttnInDxRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.AttnInDxIdeal.Product

open Idealize.ShloMosaic Idealize.ShloMosaic.TcCoe Idealize.SL.Sem
open Cert.AttnInDxRefIdeal.Read
open Cert.AttnInDxIdeal Cert.AttnInDxIdeal.Gen
open scoped BigOperators

theorem idx (t : Fin cfg0.N) : win0_0.index t = ![0, t.val % 7] ∧ win0_1.index t = ![t.val / 7, t.val % 7]
    ∧ win0_2.index t = ![0, t.val / 7] ∧ win0_3.index t = ![0, t.val / 7] := by
  revert t; decide +kernel

/-- The product of two blocks, at an entry. -/
theorem pay_apply (v0 : Vec Ideal S2048x896 .bf16) (v1 : Vec Ideal S512x896 .bf16) (y : S2048x512.Idx) :
    k0_pay1 v0 v1 y = ∑ k : Fin 896, v0 (ix2 (y 0) k) * v1 (ix2 (y 1) k) := by
  unfold k0_pay1
  pointwise

/-- What the first of seven points stores is the product of its blocks, what the others store adds theirs to it. -/
theorem start_apply (v0 : Vec Ideal S2048x896 .bf16) (v1 : Vec Ideal S512x896 .bf16) (y : S2048x512.Idx) :
    k0_pay2 v0 v1 y = k0_pay1 v0 v1 y := by
  unfold k0_pay2
  rw [shapeCast_self]

theorem add_apply (v0 : Vec Ideal S2048x896 .bf16) (v1 : Vec Ideal S512x896 .bf16) (v2 : Vec Ideal S2048x512 .f32) (y : S2048x512.Idx) :
    k0_pay3 v0 v1 v2 y = v2 y + k0_pay1 v0 v1 y := by
  unfold k0_pay3
  pointwise

/-- The scale of the residual. -/
def scale : Ideal .f32 := FloatOps.ofBits .f32 0x3FD744FD#32

theorem finish_apply (v0 v1 : Vec Ideal S2048x512 .f32) (y : S2048x512.Idx) : k0_pay4 v0 v1 y = v0 y + scale * v1 y := by
  unfold k0_pay4
  pointwise
  rfl

/-- The part of the sum that belongs to block `s` of the columns. -/
def part (x0 x1 : Vec Ideal S2048x6272 .bf16) (i : S2048x2048.Idx) (s : ℕ) : Ideal .f32 :=
  ∑ k : Fin 896, x0 (ix2 (i 0) ⟨(s * 896 + k.val) % 6272, Nat.mod_lt _ (by decide)⟩) * x1 (ix2 (i 1) ⟨(s * 896 + k.val) % 6272, Nat.mod_lt _ (by decide)⟩)

/-- The reference's gradient, at an entry, block by block. -/
theorem ref_apply (x0 x1 : Vec Ideal S2048x6272 .bf16) (x2 : Vec Ideal S2048x2048 .f32) (i : S2048x2048.Idx) :
    val_main_v9 (F := Ideal) x0 x1 x2 i = (∑ s ∈ Finset.range 7, part x0 x1 i s) + scale * x2 i := by
  refine (val_main_v9_apply x0 x1 x2 i).trans ?_
  refine congrArg₂ (· + ·) (((val_main_v6_apply x0 x1 i).trans ?_).trans (Finset.sum_range (part x0 x1 i)).symm) ?_
  · refine ((Equiv.sum_comp (finProdFinEquiv (m := 7) (n := 896)) _).symm.trans (Fintype.sum_prod_type _)).trans ?_
    refine Finset.sum_congr rfl fun s _ => Finset.sum_congr rfl fun k _ => ?_
    have hs : (finProdFinEquiv (s, k)).val = k.val + 896 * s.val := rfl
    have h7 := s.isLt
    have hk := k.isLt
    rw [val_main_v5_apply, val_main_v3_apply]
    refine congrArg₂ (· * ·) (congrArg x0 ?_) (congrArg x1 ?_) <;> blk_ext [hs]
  · exact congrArg (· * x2 i) (val_main_v7_apply i)

variable (m : (ℓ : Loc nD τ sig) → Buf (Elt Ideal) ℓ)

theorem below (t : Fin cfg0.N) : t.val - 1 < cfg0.N := Nat.lt_of_le_of_lt (Nat.sub_le _ _) t.isLt

/-- What the scratch holds after the first of seven points. -/
theorem first (c : Dev nD) (t : Fin cfg0.N) (h : t.val % 7 = 0) (y : S2048x512.Idx) :
    (outsAt0 m c t.val t.isLt).2 y = k0_pay1 (iblk m c 0 t) (iblk m c 1 t) y := by
  rw [outsAt0_A m c t h (by omega) (by omega)]
  frame_out
  exact start_apply _ _ y

/-- What it holds after each of the next five. -/
theorem middle (c : Dev nD) (t : Fin cfg0.N) (h : 1 ≤ t.val % 7) (h' : ¬t.val % 7 = 6) (y : S2048x512.Idx) :
    (outsAt0 m c t.val t.isLt).2 y = (outsAt0 m c (t.val - 1) (below t)).2 y + k0_pay1 (iblk m c 0 t) (iblk m c 1 t) y := by
  rw [outsAt0_B m c t (by omega) h h']
  frame_out
  refine (add_apply _ _ _ y).trans ?_
  rw [(Memref.isWhole_whole _).read_unread]

/-- What the seventh writes back. -/
theorem last (c : Dev nD) (t : Fin cfg0.N) (h : t.val % 7 = 6) (y : S2048x512.Idx) :
    (outsAt0 m c t.val t.isLt).1 y = ((outsAt0 m c (t.val - 1) (below t)).2 y + k0_pay1 (iblk m c 0 t) (iblk m c 1 t) y)
      + scale * (iblk m c 2 t : Vec Ideal S2048x512 .f32) y := by
  rw [outsAt0_C m c t (by omega) (by omega) h]
  frame_out
  refine (finish_apply _ _ y).trans ?_
  refine congrArg (· + _) ((add_apply _ _ _ y).trans ?_)
  rw [(Memref.isWhole_whole _).read_unread]

/-- What a point computes is its block's part. -/
theorem pay_part (c : Dev nD) (t : Fin cfg0.N) (s : ℕ) (h : t.val % 7 = s) (y : S2048x512.Idx) (i : S2048x2048.Idx)
    (h0 : (i 0).val = (y 0).val) (h1 : (i 1).val = t.val / 7 * 512 + (y 1).val) :
    k0_pay1 (iblk m c 0 t) (iblk m c 1 t) y = part (m ((c : Thread nD τ).loc main_arg0)) (m ((c : Thread nD τ).loc main_arg1)) i s := by
  refine (pay_apply _ _ y).trans (Finset.sum_congr rfl fun k _ => ?_)
  subst h
  congr 1 <;> blk_ext [iblk, V, idx t, h0, h1]

/-- What the scratch holds after the first six points: the sum of their parts. -/
theorem running (c : Dev nD) (y : S2048x512.Idx) (i : S2048x2048.Idx) (h0 : (i 0).val = (y 0).val) (s : ℕ) (hs : s < 6) (t : Fin cfg0.N)
    (h : t.val % 7 = s) (h1 : (i 1).val = t.val / 7 * 512 + (y 1).val) :
    (outsAt0 m c t.val t.isLt).2 y
      = ∑ r ∈ Finset.range (s + 1), part (m ((c : Thread nD τ).loc main_arg0)) (m ((c : Thread nD τ).loc main_arg1)) i r := by
  induction s generalizing t with
  | zero => exact (first m c t h y).trans ((pay_part m c t 0 h y i h0 h1).trans (Finset.sum_range_one _).symm)
  | succ s ih =>
    refine (middle m c t (by omega) (by omega) y).trans (.trans ?_ (Finset.sum_range_succ _ _).symm)
    exact congrArg₂ (· + ·) (ih (by omega) ⟨t.val - 1, below t⟩ (by dsimp only; omega) (by dsimp only; omega)) (pay_part m c t (s + 1) h y i h0 h1)

theorem result (c : Dev nD) : @Eq (FVec Ideal S2048x2048 .f32) ((dats m 0 c).arrAt 3 cfg0.N)
    (val_main_v9 (F := Ideal) (m ((c : Thread nD τ).loc main_arg0)) (m ((c : Thread nD τ).loc main_arg1)) (m ((c : Thread nD τ).loc main_arg2))) := by
  refine (dats m 0 c).arrAt_eq_of_covers 3 _ (by decide +kernel) fun t hf y => ?_
  have h6 : t.val % 7 = 6 := (flush0_3 t).mp hf
  blk_simp
  rw [after0_3]
  refine (last m c t h6 y).trans (.trans ?_ (ref_apply _ _ _ _).symm)
  refine congrArg₂ (· + ·) (.trans (congrArg₂ (· + ·) (running m c y _ ?_ 5 (by decide) ⟨t.val - 1, below t⟩ (by dsimp only; omega) ?_)
    (pay_part m c t 6 h6 y _ ?_ ?_)) (Finset.sum_range_succ _ _).symm) ?_
  · blk_ext [idx t]
  · exact .trans (b := t.val / 7 * 512 + (y 1).val) (by blk_ext [idx t]) (by dsimp only; omega)
  · blk_ext [idx t]
  · blk_ext [idx t]
  · refine congrArg (scale * ·) ?_
    blk_ext [iblk, V, idx t]

/-- The two runs end with equal results. -/
theorem agree : Cert.algebraic_AttnInDxIdeal_AttnInDxRefIdeal := fun m g m' g' _ hargs =>
  ⟨fun c => val_main_v9 (F := Ideal) (m ((c : Thread nD τ).loc main_arg0)) (m ((c : Thread nD τ).loc main_arg1)) (m ((c : Thread nD τ).loc main_arg2)),
    (θ_run defs _ _).mono (fun _ h c => ⟨(h c).1.trans (result m c), (h c).2⟩) (Cert.AttnInDxIdeal.Value.run_blocks m g),
    (θ_run Cert.AttnInDxRefIdeal.defs _ _).mono (fun _ h c => ⟨(h c).1.trans ((val_main_v9_eq _ _ _).trans
      (congr (congrArg₂ (val_main_v9 (F := Ideal)) (hargs c).1 (hargs c).2.1) (hargs c).2.2)), (h c).2⟩) (Cert.AttnInDxRefIdeal.Value.run m' g')⟩

theorem frame_launched : Cert.quiescent_AttnInDx := fun m g _ => Cert.AttnInDx.Gen.frame m g
theorem frame : Cert.quiescent_AttnInDxIdeal := fun m g _ => Cert.AttnInDxIdeal.Gen.frame m g
theorem frame_reference : Cert.quiescent_AttnInDxRefIdeal := fun m g _ =>
  (θ_run Cert.AttnInDxRefIdeal.defs _ _).mono (fun r h => ⟨fun c => (h c).2, sem_eq_zero_of_no_sems (by decide) r.2⟩)
    (Cert.AttnInDxRefIdeal.Value.run (F := Ideal) m g)

end Cert.AttnInDxIdeal.Product

end
-- ==== Proof.AttnInDw.lean ====
/- The gradient of the attention's input projection: the transpose of the layer's input times the gradient of the projection. -/
module

public import proofs.«01_k».proof.Defs
public import proofs.«01_k».proof.Proof.Gen.AttnInDw.Frame
public import proofs.«01_k».proof.Proof.Gen.AttnInDwIdeal.Value
public import proofs.«01_k».proof.Proof.Gen.AttnInDwRefIdeal.Run
public import proofs.«01_k».proof.Proof.Gen.AttnInDwRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.AttnInDwIdeal.Product

open Idealize.ShloMosaic Idealize.ShloMosaic.TcCoe Idealize.SL.Sem
open Cert.AttnInDwRefIdeal.Read
open Cert.AttnInDwIdeal Cert.AttnInDwIdeal.Gen
open scoped BigOperators

theorem idx (t : Fin cfg0.N) : win0_0.index t = ![0, 0] ∧ win0_1.index t = ![0, t.val] ∧ win0_2.index t = ![0, t.val] := by
  revert t; decide +kernel

/-- What a point computes, at an entry. -/
theorem pay_apply (v0 : Vec Ideal S2048x2048 .bf16) (v1 : Vec Ideal S2048x896 .bf16) (y : S2048x896.Idx) :
    k0_pay1 v0 v1 y = ∑ k : Fin 2048, v0 (ix2 k (y 0)) * v1 (ix2 k (y 1)) := by
  unfold k0_pay1
  pointwise

/-- The reference's gradient, at an entry. -/
theorem ref_apply (x0 : Vec Ideal S2048x2048 .bf16) (x1 : Vec Ideal S2048x6272 .bf16) (i : S2048x6272.Idx) :
    val_main_v6 (F := Ideal) x0 x1 i = ∑ k : Fin 2048, x0 (ix2 k (i 0)) * x1 (ix2 k (i 1)) := by
  refine (((val_main_v6_apply x0 x1 i).trans (val_main_v5_apply x0 x1 _)).trans (val_main_v4_apply x0 x1 _)).trans ?_
  refine Finset.sum_congr rfl fun k _ => ?_
  rw [val_main_v3_apply, val_main_v1_apply, mul_comm]
  refine congrArg₂ (· * ·) (congrArg x0 ?_) (congrArg x1 ?_) <;> blk_ext

variable (m : (ℓ : Loc nD τ sig) → Buf (Elt Ideal) ℓ)

theorem result (c : Dev nD) : @Eq (FVec Ideal S2048x6272 .bf16) ((dats m 0 c).arrAt 2 cfg0.N)
    (val_main_v6 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t]

/-- The two runs end with equal results. -/
theorem agree : Cert.algebraic_AttnInDwIdeal_AttnInDwRefIdeal := fun m g m' g' _ hargs =>
  ⟨fun c => val_main_v6 (F := Ideal) (m ((c : Thread nD τ).loc main_arg0)) (m ((c : Thread nD τ).loc main_arg1)),
    (θ_run defs _ _).mono (fun _ h c => ⟨(h c).1.trans (result m c), (h c).2⟩) (Cert.AttnInDwIdeal.Value.run_blocks m g),
    (θ_run Cert.AttnInDwRefIdeal.defs _ _).mono (fun _ h c => ⟨(h c).1.trans ((val_main_v6_eq _ _).trans
      (congrArg₂ (val_main_v6 (F := Ideal)) (hargs c).1 (hargs c).2)), (h c).2⟩) (Cert.AttnInDwRefIdeal.Value.run m' g')⟩

theorem frame_launched : Cert.quiescent_AttnInDw := fun m g _ => Cert.AttnInDw.Gen.frame m g
theorem frame : Cert.quiescent_AttnInDwIdeal := fun m g _ => Cert.AttnInDwIdeal.Gen.frame m g
theorem frame_reference : Cert.quiescent_AttnInDwRefIdeal := fun m g _ =>
  (θ_run Cert.AttnInDwRefIdeal.defs _ _).mono (fun r h => ⟨fun c => (h c).2, sem_eq_zero_of_no_sems (by decide) r.2⟩)
    (Cert.AttnInDwRefIdeal.Value.run (F := Ideal) m g)

end Cert.AttnInDwIdeal.Product

end
-- ==== Proof.AttnIn.lean ====
/- The attention's input projection. -/
module

public import proofs.«01_k».proof.Defs
public import proofs.«01_k».proof.Proof.Gen.AttnIn.Frame
public import proofs.«01_k».proof.Proof.Gen.AttnInIdeal.Value
public import proofs.«01_k».proof.Proof.Gen.AttnInRefIdeal.Run
public import proofs.«01_k».proof.Proof.Gen.AttnInRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.AttnInIdeal.Product

open Idealize.ShloMosaic Idealize.ShloMosaic.TcCoe Idealize.SL.Sem
open Cert.AttnInRefIdeal.Read
open Cert.AttnInIdeal Cert.AttnInIdeal.Gen
open scoped BigOperators

theorem idx (t : Fin cfg0.N) : win0_0.index t = ![0, 0] ∧ win0_1.index t = ![0, t.val] ∧ win0_2.index t = ![0, t.val] := by
  revert t; decide +kernel

/-- What a point computes, at an entry. -/
theorem pay_apply (v0 : Vec Ideal S2048x2048 .bf16) (v1 : Vec Ideal S2048x896 .bf16) (y : S2048x896.Idx) :
    k0_pay1 v0 v1 y = ∑ k : Fin 2048, v0 (ix2 (y 0) k) * v1 (ix2 k (y 1)) := by
  unfold k0_pay1
  pointwise

/-- The reference's product, at an entry. -/
theorem ref_apply (x0 : Vec Ideal S2048x2048 .bf16) (x1 : Vec Ideal S2048x6272 .bf16) (i : S2048x6272.Idx) :
    val_main_v2 (F := Ideal) x0 x1 i = ∑ k : Fin 2048, x0 (ix2 (i 0) k) * x1 (ix2 k (i 1)) := by
  refine (val_main_v2_apply x0 x1 i).trans ?_
  refine Finset.sum_congr rfl fun k _ => ?_
  rw [val_main_v0_apply, val_main_v1_apply]
  refine congrArg₂ (· * ·) (congrArg x0 ?_) (congrArg x1 ?_) <;> blk_ext

variable (m : (ℓ : Loc nD τ sig) → Buf (Elt Ideal) ℓ)

theorem result (c : Dev nD) : @Eq (FVec Ideal S2048x6272 .f32) ((dats m 0 c).arrAt 2 cfg0.N)
    (val_main_v2 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t]

/-- The two runs end with equal results. -/
theorem agree : Cert.algebraic_AttnInIdeal_AttnInRefIdeal := fun m g m' g' _ hargs =>
  ⟨fun c => val_main_v2 (F := Ideal) (m ((c : Thread nD τ).loc main_arg0)) (m ((c : Thread nD τ).loc main_arg1)),
    (θ_run defs _ _).mono (fun _ h c => ⟨(h c).1.trans (result m c), (h c).2⟩) (Cert.AttnInIdeal.Value.run_blocks m g),
    (θ_run Cert.AttnInRefIdeal.defs _ _).mono (fun _ h c => ⟨(h c).1.trans ((val_main_v2_eq _ _).trans
      (congrArg₂ (val_main_v2 (F := Ideal)) (hargs c).1 (hargs c).2)), (h c).2⟩) (Cert.AttnInRefIdeal.Value.run m' g')⟩

theorem frame_launched : Cert.quiescent_AttnIn := fun m g _ => Cert.AttnIn.Gen.frame m g
theorem frame : Cert.quiescent_AttnInIdeal := fun m g _ => Cert.AttnInIdeal.Gen.frame m g
theorem frame_reference : Cert.quiescent_AttnInRefIdeal := fun m g _ =>
  (θ_run Cert.AttnInRefIdeal.defs _ _).mono (fun r h => ⟨fun c => (h c).2, sem_eq_zero_of_no_sems (by decide) r.2⟩)
    (Cert.AttnInRefIdeal.Value.run (F := Ideal) m g)

end Cert.AttnInIdeal.Product

end
-- ==== Proof.RecInDx.lean ====
/- The gradient of the recurrence's input: the gradient of the two halves times the transpose of the input projection, summed over the four
   shards of the weight in a scratch buffer, plus the scaled gradient that came through the residual. -/
module

public import proofs.«01_k».proof.Defs
public import proofs.«01_k».proof.Proof.Gen.RecInDx.Frame
public import proofs.«01_k».proof.Proof.Gen.RecInDxIdeal.Value
public import proofs.«01_k».proof.Proof.Gen.RecInDxRefIdeal.Run
public import proofs.«01_k».proof.Proof.Gen.RecInDxRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.RecInDxIdeal.Product

open Idealize.ShloMosaic Idealize.ShloMosaic.TcCoe Idealize.SL.Sem
open Cert.RecInDxRefIdeal.Read
open Cert.RecInDxIdeal Cert.RecInDxIdeal.Gen
open scoped BigOperators

theorem idx (t : Fin cfg0.N) : win0_0.index t = ![t.val % 4 / 2, 0, t.val % 2] ∧ win0_1.index t = ![t.val % 4, t.val / 4, 0]
    ∧ win0_2.index t = ![0, t.val / 4] ∧ win0_3.index t = ![0, t.val / 4] := by
  revert t; decide +kernel

/-- The product of two blocks, at an entry. -/
theorem pay_apply (v0 : Vec Ideal S1x2048x1024 .bf16) (v1 : Vec Ideal S1x512x1024 .bf16) (y : S2048x512.Idx) :
    k0_pay1 v0 v1 y = ∑ k : Fin 1024, v0 (ix3 0 (y 0) k) * v1 (ix3 0 (y 1) k) := by
  unfold k0_pay1
  pointwise

/-- What the first of four points stores is the product of its blocks, what the others store adds theirs to it. -/
theorem start_apply (v0 : Vec Ideal S1x2048x1024 .bf16) (v1 : Vec Ideal S1x512x1024 .bf16) (y : S2048x512.Idx) :
    k0_pay2 v0 v1 y = k0_pay1 v0 v1 y := by
  unfold k0_pay2
  rw [shapeCast_self]

theorem add_apply (v0 : Vec Ideal S1x2048x1024 .bf16) (v1 : Vec Ideal S1x512x1024 .bf16) (v2 : Vec Ideal S2048x512 .f32) (y : S2048x512.Idx) :
    k0_pay3 v0 v1 v2 y = v2 y + k0_pay1 v0 v1 y := by
  unfold k0_pay3
  pointwise

/-- The scale of the residual. -/
def scale : Ideal .f32 := FloatOps.ofBits .f32 0x3FD744FD#32

theorem finish_apply (v0 v1 : Vec Ideal S2048x512 .f32) (y : S2048x512.Idx) : k0_pay4 v0 v1 y = v0 y + scale * v1 y := by
  unfold k0_pay4
  pointwise
  rfl

/-- The product of shard `s` of the weight with the columns of the gradient that belong to it. -/
def part (x0 : Vec Ideal S2x2048x2048 .bf16) (x1 : Vec Ideal S4x2048x1024 .bf16) (i : S2048x2048.Idx) (s : Fin 4) : Ideal .f32 :=
  ∑ k : Fin 1024, x0 (ix3 ⟨s.val / 2, by omega⟩ (i 0) ⟨s.val % 2 * 1024 + k.val, by omega⟩) * x1 (ix3 s (i 1) k)

/-- The reference's gradient, at an entry, shard by shard. -/
theorem ref_apply (x0 : Vec Ideal S2x2048x2048 .bf16) (x1 : Vec Ideal S4x2048x1024 .bf16) (x2 : Vec Ideal S2048x2048 .f32) (i : S2048x2048.Idx) :
    val_main_v15 (F := Ideal) x0 x1 x2 i =
      (((part x0 x1 i 0 + part x0 x1 i 1) + part x0 x1 i 2) + part x0 x1 i 3) + scale * x2 i := by
  refine (val_main_v15_apply x0 x1 x2 i).trans ?_
  refine congrArg₂ (· + ·) (((val_main_v12_apply x0 x1 i).trans ?_).trans (Fin.sum_univ_four (part x0 x1 i))) ?_
  · refine ((Equiv.sum_comp (finProdFinEquiv (m := 4) (n := 1024)) _).symm.trans (Fintype.sum_prod_type _)).trans ?_
    refine Finset.sum_congr rfl fun s _ => Finset.sum_congr rfl fun k _ => ?_
    have hs : (finProdFinEquiv (s, k)).val = k.val + 1024 * s.val := rfl
    have h4 := s.isLt
    have hk := k.isLt
    rw [val_main_v11_apply, val_main_v10_apply, val_main_v9_apply, val_main_v5_apply, val_main_v4_apply, val_main_v3_apply]
    refine congrArg₂ (· * ·) (congrArg x0 ?_) (congrArg x1 ?_) <;> blk_ext [hs]
  · exact congrArg (· * x2 i) (val_main_v13_apply i)

variable (m : (ℓ : Loc nD τ sig) → Buf (Elt Ideal) ℓ)

theorem below (t : Fin cfg0.N) : t.val - 1 < cfg0.N := Nat.lt_of_le_of_lt (Nat.sub_le _ _) t.isLt

/-- What the scratch holds after the first of four points. -/
theorem first (c : Dev nD) (t : Fin cfg0.N) (h : t.val % 4 = 0) (y : S2048x512.Idx) :
    (outsAt0 m c t.val t.isLt).2 y = k0_pay1 (iblk m c 0 t) (iblk m c 1 t) y := by
  rw [outsAt0_A m c t h (by omega) (by omega)]
  frame_out
  exact start_apply _ _ y

/-- What it holds after the second and the third. -/
theorem middle (c : Dev nD) (t : Fin cfg0.N) (h : 1 ≤ t.val % 4) (h' : ¬t.val % 4 = 3) (y : S2048x512.Idx) :
    (outsAt0 m c t.val t.isLt).2 y = (outsAt0 m c (t.val - 1) (below t)).2 y + k0_pay1 (iblk m c 0 t) (iblk m c 1 t) y := by
  rw [outsAt0_B m c t (by omega) h h']
  frame_out
  refine (add_apply _ _ _ y).trans ?_
  rw [(Memref.isWhole_whole _).read_unread]

/-- What the fourth writes back. -/
theorem last (c : Dev nD) (t : Fin cfg0.N) (h : t.val % 4 = 3) (y : S2048x512.Idx) :
    (outsAt0 m c t.val t.isLt).1 y = ((outsAt0 m c (t.val - 1) (below t)).2 y + k0_pay1 (iblk m c 0 t) (iblk m c 1 t) y)
      + scale * (iblk m c 2 t : Vec Ideal S2048x512 .f32) y := by
  rw [outsAt0_C m c t (by omega) (by omega) h]
  frame_out
  refine (finish_apply _ _ y).trans ?_
  refine congrArg (· + _) ((add_apply _ _ _ y).trans ?_)
  rw [(Memref.isWhole_whole _).read_unread]

/-- What a point computes is its shard's part. -/
theorem pay_part (c : Dev nD) (t : Fin cfg0.N) (s : Fin 4) (h : t.val % 4 = s.val) (y : S2048x512.Idx) (i : S2048x2048.Idx)
    (h0 : (i 0).val = (y 0).val) (h1 : (i 1).val = t.val / 4 * 512 + (y 1).val) :
    k0_pay1 (iblk m c 0 t) (iblk m c 1 t) y = part (m ((c : Thread nD τ).loc main_arg0)) (m ((c : Thread nD τ).loc main_arg1)) i s := by
  refine (pay_apply _ _ y).trans (Finset.sum_congr rfl fun k _ => ?_)
  have h2 : t.val % 2 = s.val % 2 := by omega
  congr 1 <;> blk_ext [iblk, V, idx t, h, h0, h1, h2]

theorem result (c : Dev nD) : @Eq (FVec Ideal S2048x2048 .f32) ((dats m 0 c).arrAt 3 cfg0.N)
    (val_main_v15 (F := Ideal) (m ((c : Thread nD τ).loc main_arg0)) (m ((c : Thread nD τ).loc main_arg1)) (m ((c : Thread nD τ).loc main_arg2))) := by
  refine (dats m 0 c).arrAt_eq_of_covers 3 _ (by decide +kernel) fun t hf y => ?_
  have h3 : t.val % 4 = 3 := (flush0_3 t).mp hf
  have e2 := middle m c ⟨t.val - 1, below t⟩ (by dsimp only; omega) (by dsimp only; omega)
  have e1 := middle m c ⟨t.val - 1 - 1, below ⟨t.val - 1, below t⟩⟩ (by dsimp only; omega) (by dsimp only; omega)
  have e0 := first m c ⟨t.val - 1 - 1 - 1, below ⟨t.val - 1 - 1, below ⟨t.val - 1, below t⟩⟩⟩ (by dsimp only; omega)
  blk_simp
  rw [after0_3]
  refine (last m c t h3 y).trans (.trans ?_ (ref_apply _ _ _ _).symm)
  refine congrArg₂ (· + ·) (congrArg₂ (· + ·) ((e2 y).trans (congrArg₂ (· + ·) ((e1 y).trans (congrArg₂ (· + ·) ((e0 y).trans ?_) ?_)) ?_)) ?_) ?_
  · exact pay_part m c _ 0 (by dsimp only; omega) y _ (by blk_ext [idx t])
      (.trans (b := t.val / 4 * 512 + (y 1).val) (by blk_ext [idx t]) (by dsimp only; omega))
  · exact pay_part m c _ 1 (by dsimp only; omega) y _ (by blk_ext [idx t])
      (.trans (b := t.val / 4 * 512 + (y 1).val) (by blk_ext [idx t]) (by dsimp only; omega))
  · exact pay_part m c _ 2 (by dsimp only; omega) y _ (by blk_ext [idx t])
      (.trans (b := t.val / 4 * 512 + (y 1).val) (by blk_ext [idx t]) (by dsimp only; omega))
  · exact pay_part m c _ 3 h3 y _ (by blk_ext [idx t]) (by blk_ext [idx t])
  · refine congrArg (scale * ·) ?_
    blk_ext [iblk, V, idx t]

/-- The two runs end with equal results. -/
theorem agree : Cert.algebraic_RecInDxIdeal_RecInDxRefIdeal := fun m g m' g' _ hargs =>
  ⟨fun c => val_main_v15 (F := Ideal) (m ((c : Thread nD τ).loc main_arg0)) (m ((c : Thread nD τ).loc main_arg1)) (m ((c : Thread nD τ).loc main_arg2)),
    (θ_run defs _ _).mono (fun _ h c => ⟨(h c).1.trans (result m c), (h c).2⟩) (Cert.RecInDxIdeal.Value.run_blocks m g),
    (θ_run Cert.RecInDxRefIdeal.defs _ _).mono (fun _ h c => ⟨(h c).1.trans ((val_main_v15_eq _ _ _).trans
      (congr (congrArg₂ (val_main_v15 (F := Ideal)) (hargs c).1 (hargs c).2.1) (hargs c).2.2)), (h c).2⟩) (Cert.RecInDxRefIdeal.Value.run m' g')⟩

theorem frame_launched : Cert.quiescent_RecInDx := fun m g _ => Cert.RecInDx.Gen.frame m g
theorem frame : Cert.quiescent_RecInDxIdeal := fun m g _ => Cert.RecInDxIdeal.Gen.frame m g
theorem frame_reference : Cert.quiescent_RecInDxRefIdeal := fun m g _ =>
  (θ_run Cert.RecInDxRefIdeal.defs _ _).mono (fun r h => ⟨fun c => (h c).2, sem_eq_zero_of_no_sems (by decide) r.2⟩)
    (Cert.RecInDxRefIdeal.Value.run (F := Ideal) m g)

end Cert.RecInDxIdeal.Product

end
-- ==== Proof.RecInDw.lean ====
/- The gradient of the recurrence's input projection: the transpose of the layer's input times the gradient of the two halves, laid out as the
   four shards of the weight's columns. -/
module

public import proofs.«01_k».proof.Defs
public import proofs.«01_k».proof.Proof.Gen.RecInDw.Frame
public import proofs.«01_k».proof.Proof.Gen.RecInDwIdeal.Value
public import proofs.«01_k».proof.Proof.Gen.RecInDwRefIdeal.Run
public import proofs.«01_k».proof.Proof.Gen.RecInDwRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.RecInDwIdeal.Product

open Idealize.ShloMosaic Idealize.ShloMosaic.TcCoe Idealize.SL.Sem
open Cert.RecInDwRefIdeal.Read
open Cert.RecInDwIdeal Cert.RecInDwIdeal.Gen
open scoped BigOperators

theorem idx (t : Fin cfg0.N) : win0_0.index t = ![0, 0] ∧ win0_1.index t = ![t.val / 4, 0, t.val % 4] ∧ win0_2.index t = ![t.val / 2, 0, t.val % 2] := by
  revert t; decide +kernel

/-- Column `j` of shard `s` is column `s * 1024 + j` of the weight, which lies in one of the two halves. -/
def half (s : Fin 4) (j : Fin 1024) : Fin 2 := ⟨(s.val * 1024 + j.val) / 2048, by omega⟩
def place (s : Fin 4) (j : Fin 1024) : Fin 2048 := ⟨(s.val * 1024 + j.val) % 2048, by omega⟩

/-- What a point computes, at an entry. -/
theorem pay_apply (v0 : Vec Ideal S2048x2048 .bf16) (v1 : Vec Ideal S1x2048x512 .bf16) (y : S1x2048x512.Idx) :
    k0_pay1 v0 v1 y = ∑ k : Fin 2048, v0 (ix2 k (y 1)) * v1 (ix3 0 k (y 2)) := by
  unfold k0_pay1
  pointwise

/-- The reference's gradient, at an entry. -/
theorem ref_apply (x0 : Vec Ideal S2048x2048 .bf16) (x1 : Vec Ideal S2x2048x2048 .bf16) (i : S4x2048x1024.Idx) :
    val_main_v14 (F := Ideal) x0 x1 i = ∑ k : Fin 2048, x0 (ix2 k (i 1)) * x1 (ix3 (half (i 0) (i 2)) k (place (i 0) (i 2))) := by
  refine (((((val_main_v14_apply x0 x1 i).trans (val_main_v13_apply x0 x1 _)).trans (val_main_v12_apply x0 x1 _)).trans (val_main_v11_apply x0 x1 _)).trans (val_main_v10_apply x0 x1 _)).trans ?_
  refine Finset.sum_congr rfl fun k _ => ?_
  rw [val_main_v9_apply, val_main_v8_apply, val_main_v7_apply, val_main_v1_apply, mul_comm]
  refine congrArg₂ (· * ·) (congrArg x0 ?_) (congrArg x1 ?_) <;> blk_ext [half, place]

variable (m : (ℓ : Loc nD τ sig) → Buf (Elt Ideal) ℓ)

theorem result (c : Dev nD) : @Eq (FVec Ideal S4x2048x1024 .bf16) ((dats m 0 c).arrAt 2 cfg0.N)
    (val_main_v14 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, half, place]

/-- The two runs end with equal results. -/
theorem agree : Cert.algebraic_RecInDwIdeal_RecInDwRefIdeal := fun m g m' g' _ hargs =>
  ⟨fun c => val_main_v14 (F := Ideal) (m ((c : Thread nD τ).loc main_arg0)) (m ((c : Thread nD τ).loc main_arg1)),
    (θ_run defs _ _).mono (fun _ h c => ⟨(h c).1.trans (result m c), (h c).2⟩) (Cert.RecInDwIdeal.Value.run_blocks m g),
    (θ_run Cert.RecInDwRefIdeal.defs _ _).mono (fun _ h c => ⟨(h c).1.trans ((val_main_v14_eq _ _).trans
      (congrArg₂ (val_main_v14 (F := Ideal)) (hargs c).1 (hargs c).2)), (h c).2⟩) (Cert.RecInDwRefIdeal.Value.run m' g')⟩

theorem frame_launched : Cert.quiescent_RecInDw := fun m g _ => Cert.RecInDw.Gen.frame m g
theorem frame : Cert.quiescent_RecInDwIdeal := fun m g _ => Cert.RecInDwIdeal.Gen.frame m g
theorem frame_reference : Cert.quiescent_RecInDwRefIdeal := fun m g _ =>
  (θ_run Cert.RecInDwRefIdeal.defs _ _).mono (fun r h => ⟨fun c => (h c).2, sem_eq_zero_of_no_sems (by decide) r.2⟩)
    (Cert.RecInDwRefIdeal.Value.run (F := Ideal) m g)

end Cert.RecInDwIdeal.Product

end
-- ==== Proof.RecIn.lean ====
/- The recurrence's input projection: the input times the two halves of the weight's columns, which arrive as four shards. -/
module

public import proofs.«01_k».proof.Defs
public import proofs.«01_k».proof.Proof.Gen.RecIn.Frame
public import proofs.«01_k».proof.Proof.Gen.RecInIdeal.Value
public import proofs.«01_k».proof.Proof.Gen.RecInRefIdeal.Run
public import proofs.«01_k».proof.Proof.Gen.RecInRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.RecInIdeal.Product

open Idealize.ShloMosaic Idealize.ShloMosaic.TcCoe Idealize.SL.Sem
open Cert.RecInRefIdeal.Read
open Cert.RecInIdeal Cert.RecInIdeal.Gen
open scoped BigOperators

theorem idx (t : Fin cfg0.N) : win0_0.index t = ![0, 0] ∧ win0_1.index t = ![t.val / 2, 0, t.val % 2] ∧ win0_2.index t = ![t.val / 4, 0, t.val % 4] := by
  revert t; decide +kernel

/-- Column `j` of half `h` is column `h * 2048 + j` of the weight, which lies in one of the four shards. -/
def shard (h : Fin 2) (j : Fin 2048) : Fin 4 := ⟨(h.val * 2048 + j.val) / 1024, by omega⟩
def place (h : Fin 2) (j : Fin 2048) : Fin 1024 := ⟨(h.val * 2048 + j.val) % 1024, by omega⟩

/-- What a point computes, at an entry. -/
theorem pay_apply (v0 : Vec Ideal S2048x2048 .bf16) (v1 : Vec Ideal S1x2048x512 .bf16) (y : S1x2048x512.Idx) :
    k0_pay1 v0 v1 y = ∑ k : Fin 2048, v0 (ix2 (y 1) k) * v1 (ix3 0 k (y 2)) := by
  unfold k0_pay1
  pointwise

/-- The reference's product, at an entry. -/
theorem ref_apply (x0 : Vec Ideal S2048x2048 .bf16) (x1 : Vec Ideal S4x2048x1024 .bf16) (i : S2x2048x2048.Idx) :
    val_main_v6 (F := Ideal) x0 x1 i = ∑ k : Fin 2048, x0 (ix2 (i 1) k) * x1 (ix3 (shard (i 0) (i 2)) k (place (i 0) (i 2))) := by
  refine (((val_main_v6_apply x0 x1 i).trans (val_main_v5_apply x0 x1 _)).trans (val_main_v4_apply x0 x1 _)).trans ?_
  refine Finset.sum_congr rfl fun k _ => ?_
  rw [val_main_v0_apply, val_main_v3_apply, val_main_v2_apply, val_main_v1_apply]
  refine congrArg₂ (· * ·) (congrArg x0 ?_) (congrArg x1 ?_) <;> blk_ext [shard, place]

variable (m : (ℓ : Loc nD τ sig) → Buf (Elt Ideal) ℓ)

theorem result (c : Dev nD) : @Eq (FVec Ideal S2x2048x2048 .f32) ((dats m 0 c).arrAt 2 cfg0.N)
    (val_main_v6 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, shard, place]

/-- The two runs end with equal results. -/
theorem agree : Cert.algebraic_RecInIdeal_RecInRefIdeal := fun m g m' g' _ hargs =>
  ⟨fun c => val_main_v6 (F := Ideal) (m ((c : Thread nD τ).loc main_arg0)) (m ((c : Thread nD τ).loc main_arg1)),
    (θ_run defs _ _).mono (fun _ h c => ⟨(h c).1.trans (result m c), (h c).2⟩) (Cert.RecInIdeal.Value.run_blocks m g),
    (θ_run Cert.RecInRefIdeal.defs _ _).mono (fun _ h c => ⟨(h c).1.trans ((val_main_v6_eq _ _).trans
      (congrArg₂ (val_main_v6 (F := Ideal)) (hargs c).1 (hargs c).2)), (h c).2⟩) (Cert.RecInRefIdeal.Value.run m' g')⟩

theorem frame_launched : Cert.quiescent_RecIn := fun m g _ => Cert.RecIn.Gen.frame m g
theorem frame : Cert.quiescent_RecInIdeal := fun m g _ => Cert.RecInIdeal.Gen.frame m g
theorem frame_reference : Cert.quiescent_RecInRefIdeal := fun m g _ =>
  (θ_run Cert.RecInRefIdeal.defs _ _).mono (fun r h => ⟨fun c => (h c).2, sem_eq_zero_of_no_sems (by decide) r.2⟩)
    (Cert.RecInRefIdeal.Value.run (F := Ideal) m g)

end Cert.RecInIdeal.Product

end
-- ==== Proof.PoolMixDx.lean ====
/- The gradient of the pooling's groups: the gradient of the product times the transpose of the group's weight. -/
module

public import proofs.«01_k».proof.Defs
public import proofs.«01_k».proof.Proof.Gen.PoolMixDx.Frame
public import proofs.«01_k».proof.Proof.Gen.PoolMixDxIdeal.Value
public import proofs.«01_k».proof.Proof.Gen.PoolMixDxRefIdeal.Run
public import proofs.«01_k».proof.Proof.Gen.PoolMixDxRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.PoolMixDxIdeal.Product

open Idealize.ShloMosaic Idealize.ShloMosaic.TcCoe Idealize.SL.Sem
open Cert.PoolMixDxRefIdeal.Read
open Cert.PoolMixDxIdeal Cert.PoolMixDxIdeal.Gen
open scoped BigOperators

theorem idx (t : Fin cfg0.N) : win0_0.index t = ![0, t.val] ∧ win0_1.index t = ![t.val, 0, 0] ∧ win0_2.index t = ![0, t.val] := by
  revert t; decide +kernel

/-- Column `n` belongs to group `n / 512`, where it is column `n % 512`. -/
def group (n : Fin 2048) : Fin 4 := ⟨n.val / 512, by omega⟩
def place (n : Fin 2048) : Fin 512 := ⟨n.val % 512, by omega⟩
def column (g : Fin 4) (k : Fin 512) : Fin 2048 := ⟨g.val * 512 + k.val, by omega⟩

/-- What a point computes, at an entry. -/
theorem pay_apply (v0 : Vec Ideal S2048x512 .bf16) (v1 : Vec Ideal S1x512x512 .bf16) (y : S2048x512.Idx) :
    k0_pay1 v0 v1 y = ∑ k : Fin 512, v0 (ix2 (y 0) k) * v1 (ix3 0 (y 1) k) := by
  unfold k0_pay1
  pointwise

/-- The reference's gradient, at an entry. -/
theorem ref_apply (x0 : Vec Ideal S2048x2048 .bf16) (x1 : Vec Ideal S4x512x512 .bf16) (i : S2048x2048.Idx) :
    val_main_v11 (F := Ideal) x0 x1 i = ∑ k : Fin 512, x0 (ix2 (i 0) (column (group (i 1)) k)) * x1 (ix3 (group (i 1)) (place (i 1)) k) := by
  refine (((val_main_v11_apply x0 x1 i).trans (val_main_v10_apply x0 x1 _)).trans (val_main_v9_apply x0 x1 _)).trans ?_
  refine Finset.sum_congr rfl fun k _ => ?_
  rw [val_main_v8_apply, val_main_v7_apply, val_main_v6_apply, val_main_v1_apply]
  refine congrArg₂ (· * ·) (congrArg x0 ?_) (congrArg x1 ?_) <;> blk_ext [group, place, column]

variable (m : (ℓ : Loc nD τ sig) → Buf (Elt Ideal) ℓ)

theorem result (c : Dev nD) : @Eq (FVec Ideal S2048x2048 .f32) ((dats m 0 c).arrAt 2 cfg0.N)
    (val_main_v11 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, group, place, column]

/-- The two runs end with equal results. -/
theorem agree : Cert.algebraic_PoolMixDxIdeal_PoolMixDxRefIdeal := fun m g m' g' _ hargs =>
  ⟨fun c => val_main_v11 (F := Ideal) (m ((c : Thread nD τ).loc main_arg0)) (m ((c : Thread nD τ).loc main_arg1)),
    (θ_run defs _ _).mono (fun _ h c => ⟨(h c).1.trans (result m c), (h c).2⟩) (Cert.PoolMixDxIdeal.Value.run_blocks m g),
    (θ_run Cert.PoolMixDxRefIdeal.defs _ _).mono (fun _ h c => ⟨(h c).1.trans ((val_main_v11_eq _ _).trans
      (congrArg₂ (val_main_v11 (F := Ideal)) (hargs c).1 (hargs c).2)), (h c).2⟩) (Cert.PoolMixDxRefIdeal.Value.run m' g')⟩

theorem frame_launched : Cert.quiescent_PoolMixDx := fun m g _ => Cert.PoolMixDx.Gen.frame m g
theorem frame : Cert.quiescent_PoolMixDxIdeal := fun m g _ => Cert.PoolMixDxIdeal.Gen.frame m g
theorem frame_reference : Cert.quiescent_PoolMixDxRefIdeal := fun m g _ =>
  (θ_run Cert.PoolMixDxRefIdeal.defs _ _).mono (fun r h => ⟨fun c => (h c).2, sem_eq_zero_of_no_sems (by decide) r.2⟩)
    (Cert.PoolMixDxRefIdeal.Value.run (F := Ideal) m g)

end Cert.PoolMixDxIdeal.Product

end
-- ==== Proof.PoolMixDw.lean ====
/- The gradient of the weights of the pooling's groups. -/
module

public import proofs.«01_k».proof.Defs
public import proofs.«01_k».proof.Proof.Gen.PoolMixDw.Frame
public import proofs.«01_k».proof.Proof.Gen.PoolMixDwIdeal.Value
public import proofs.«01_k».proof.Proof.Gen.PoolMixDwRefIdeal.Run
public import proofs.«01_k».proof.Proof.Gen.PoolMixDwRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.PoolMixDwIdeal.Product

open Idealize.ShloMosaic Idealize.ShloMosaic.TcCoe Idealize.SL.Sem
open Cert.PoolMixDwRefIdeal.Read
open Cert.PoolMixDwIdeal Cert.PoolMixDwIdeal.Gen
open scoped BigOperators

theorem idx (t : Fin cfg0.N) : win0_0.index t = ![0, t.val] ∧ win0_1.index t = ![0, t.val] ∧ win0_2.index t = ![t.val, 0, 0] := by
  revert t; decide +kernel

/-- Column `k` of group `g`, among all. -/
def column (g : Fin 4) (k : Fin 512) : Fin 2048 := ⟨g.val * 512 + k.val, by omega⟩

/-- What a point computes, at an entry. -/
theorem pay_apply (v0 : Vec Ideal S2048x512 .bf16) (v1 : Vec Ideal S2048x512 .bf16) (y : S1x512x512.Idx) :
    k0_pay1 v0 v1 y = ∑ k : Fin 2048, v0 (ix2 k (y 1)) * v1 (ix2 k (y 2)) := by
  unfold k0_pay1
  pointwise

/-- The reference's gradient, at an entry. -/
theorem ref_apply (x0 : Vec Ideal S2048x2048 .bf16) (x1 : Vec Ideal S2048x2048 .bf16) (i : S4x512x512.Idx) :
    val_main_v10 (F := Ideal) x0 x1 i = ∑ k : Fin 2048, x0 (ix2 k (column (i 0) (i 1))) * x1 (ix2 k (column (i 0) (i 2))) := by
  refine ((val_main_v10_apply x0 x1 i).trans (val_main_v9_apply x0 x1 _)).trans ?_
  refine Finset.sum_congr rfl fun k _ => ?_
  rw [val_main_v8_apply, val_main_v7_apply, val_main_v6_apply, val_main_v2_apply, val_main_v1_apply, mul_comm]
  refine congrArg₂ (· * ·) (congrArg x0 ?_) (congrArg x1 ?_) <;> blk_ext [column]

variable (m : (ℓ : Loc nD τ sig) → Buf (Elt Ideal) ℓ)

theorem result (c : Dev nD) : @Eq (FVec Ideal S4x512x512 .f32) ((dats m 0 c).arrAt 2 cfg0.N)
    (val_main_v10 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, column]

/-- The two runs end with equal results. -/
theorem agree : Cert.algebraic_PoolMixDwIdeal_PoolMixDwRefIdeal := fun m g m' g' _ hargs =>
  ⟨fun c => val_main_v10 (F := Ideal) (m ((c : Thread nD τ).loc main_arg0)) (m ((c : Thread nD τ).loc main_arg1)),
    (θ_run defs _ _).mono (fun _ h c => ⟨(h c).1.trans (result m c), (h c).2⟩) (Cert.PoolMixDwIdeal.Value.run_blocks m g),
    (θ_run Cert.PoolMixDwRefIdeal.defs _ _).mono (fun _ h c => ⟨(h c).1.trans ((val_main_v10_eq _ _).trans
      (congrArg₂ (val_main_v10 (F := Ideal)) (hargs c).1 (hargs c).2)), (h c).2⟩) (Cert.PoolMixDwRefIdeal.Value.run m' g')⟩

theorem frame_launched : Cert.quiescent_PoolMixDw := fun m g _ => Cert.PoolMixDw.Gen.frame m g
theorem frame : Cert.quiescent_PoolMixDwIdeal := fun m g _ => Cert.PoolMixDwIdeal.Gen.frame m g
theorem frame_reference : Cert.quiescent_PoolMixDwRefIdeal := fun m g _ =>
  (θ_run Cert.PoolMixDwRefIdeal.defs _ _).mono (fun r h => ⟨fun c => (h c).2, sem_eq_zero_of_no_sems (by decide) r.2⟩)
    (Cert.PoolMixDwRefIdeal.Value.run (F := Ideal) m g)

end Cert.PoolMixDwIdeal.Product

end
-- ==== Proof.PoolMix.lean ====
/- The product of the pooling's groups, each with a weight of its own. -/
module

public import proofs.«01_k».proof.Defs
public import proofs.«01_k».proof.Proof.Gen.PoolMix.Frame
public import proofs.«01_k».proof.Proof.Gen.PoolMixIdeal.Value
public import proofs.«01_k».proof.Proof.Gen.PoolMixRefIdeal.Run
public import proofs.«01_k».proof.Proof.Gen.PoolMixRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.PoolMixIdeal.Product

open Idealize.ShloMosaic Idealize.ShloMosaic.TcCoe Idealize.SL.Sem
open Cert.PoolMixRefIdeal.Read
open Cert.PoolMixIdeal Cert.PoolMixIdeal.Gen
open scoped BigOperators

theorem idx (t : Fin cfg0.N) : win0_0.index t = ![0, t.val] ∧ win0_1.index t = ![t.val, 0, 0] ∧ win0_2.index t = ![0, t.val] := by
  revert t; decide +kernel

/-- Column `n` belongs to group `n / 512`, where it is column `n % 512`. -/
def group (n : Fin 2048) : Fin 4 := ⟨n.val / 512, by omega⟩
def place (n : Fin 2048) : Fin 512 := ⟨n.val % 512, by omega⟩
def column (g : Fin 4) (k : Fin 512) : Fin 2048 := ⟨g.val * 512 + k.val, by omega⟩

/-- What a point computes, at an entry. -/
theorem pay_apply (v0 : Vec Ideal S2048x512 .bf16) (v1 : Vec Ideal S1x512x512 .bf16) (y : S2048x512.Idx) :
    k0_pay1 v0 v1 y = ∑ k : Fin 512, v0 (ix2 (y 0) k) * v1 (ix3 0 k (y 1)) := by
  unfold k0_pay1
  pointwise

/-- The reference's product, at an entry. -/
theorem ref_apply (x0 : Vec Ideal S2048x2048 .bf16) (x1 : Vec Ideal S4x512x512 .bf16) (i : S2048x2048.Idx) :
    val_main_v5 (F := Ideal) x0 x1 i = ∑ k : Fin 512, x0 (ix2 (i 0) (column (group (i 1)) k)) * x1 (ix3 (group (i 1)) k (place (i 1))) := by
  refine (((val_main_v5_apply x0 x1 i).trans (val_main_v4_apply x0 x1 _)).trans (val_main_v3_apply x0 x1 _)).trans ?_
  refine Finset.sum_congr rfl fun k _ => ?_
  rw [val_main_v2_apply, val_main_v0_apply, val_main_v1_apply, mul_comm]
  refine congrArg₂ (· * ·) (congrArg x0 ?_) (congrArg x1 ?_) <;> blk_ext [group, place, column]

variable (m : (ℓ : Loc nD τ sig) → Buf (Elt Ideal) ℓ)

theorem result (c : Dev nD) : @Eq (FVec Ideal S2048x2048 .f32) ((dats m 0 c).arrAt 2 cfg0.N)
    (val_main_v5 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, group, place, column]

/-- The two runs end with equal results. -/
theorem agree : Cert.algebraic_PoolMixIdeal_PoolMixRefIdeal := fun m g m' g' _ hargs =>
  ⟨fun c => val_main_v5 (F := Ideal) (m ((c : Thread nD τ).loc main_arg0)) (m ((c : Thread nD τ).loc main_arg1)),
    (θ_run defs _ _).mono (fun _ h c => ⟨(h c).1.trans (result m c), (h c).2⟩) (Cert.PoolMixIdeal.Value.run_blocks m g),
    (θ_run Cert.PoolMixRefIdeal.defs _ _).mono (fun _ h c => ⟨(h c).1.trans ((val_main_v5_eq _ _).trans
      (congrArg₂ (val_main_v5 (F := Ideal)) (hargs c).1 (hargs c).2)), (h c).2⟩) (Cert.PoolMixRefIdeal.Value.run m' g')⟩

theorem frame_launched : Cert.quiescent_PoolMix := fun m g _ => Cert.PoolMix.Gen.frame m g
theorem frame : Cert.quiescent_PoolMixIdeal := fun m g _ => Cert.PoolMixIdeal.Gen.frame m g
theorem frame_reference : Cert.quiescent_PoolMixRefIdeal := fun m g _ =>
  (θ_run Cert.PoolMixRefIdeal.defs _ _).mono (fun r h => ⟨fun c => (h c).2, sem_eq_zero_of_no_sems (by decide) r.2⟩)
    (Cert.PoolMixRefIdeal.Value.run (F := Ideal) m g)

end Cert.PoolMixIdeal.Product

end
-- ==== Proof.RecGateDx.lean ====
/- The gradient of the recurrence's heads: the gradient of the product times the transpose of the group's weight. -/
module

public import proofs.«01_k».proof.Defs
public import proofs.«01_k».proof.Proof.Gen.RecGateDx.Frame
public import proofs.«01_k».proof.Proof.Gen.RecGateDxIdeal.Value
public import proofs.«01_k».proof.Proof.Gen.RecGateDxRefIdeal.Run
public import proofs.«01_k».proof.Proof.Gen.RecGateDxRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.RecGateDxIdeal.Product

open Idealize.ShloMosaic Idealize.ShloMosaic.TcCoe Idealize.SL.Sem
open Cert.RecGateDxRefIdeal.Read
open Cert.RecGateDxIdeal Cert.RecGateDxIdeal.Gen
open scoped BigOperators

theorem idx (t : Fin cfg0.N) : win0_0.index t = ![0, t.val] ∧ win0_1.index t = ![t.val, 0, 0] ∧ win0_2.index t = ![0, t.val] := by
  revert t; decide +kernel

/-- Column `n` belongs to group `n / 128`, where it is column `n % 128`. -/
def group (n : Fin 2048) : Fin 16 := ⟨n.val / 128, by omega⟩
def place (n : Fin 2048) : Fin 128 := ⟨n.val % 128, by omega⟩
def column (g : Fin 16) (k : Fin 128) : Fin 2048 := ⟨g.val * 128 + k.val, by omega⟩

/-- What a point computes, at an entry. -/
theorem pay_apply (v0 : Vec Ideal S2048x128 .bf16) (v1 : Vec Ideal S1x128x128 .bf16) (y : S2048x128.Idx) :
    k0_pay1 v0 v1 y = ∑ k : Fin 128, v0 (ix2 (y 0) k) * v1 (ix3 0 (y 1) k) := by
  unfold k0_pay1
  pointwise

/-- The reference's gradient, at an entry. -/
theorem ref_apply (x0 : Vec Ideal S2048x2048 .bf16) (x1 : Vec Ideal S16x128x128 .bf16) (i : S2048x2048.Idx) :
    val_main_v11 (F := Ideal) x0 x1 i = ∑ k : Fin 128, x0 (ix2 (i 0) (column (group (i 1)) k)) * x1 (ix3 (group (i 1)) (place (i 1)) k) := by
  refine (((val_main_v11_apply x0 x1 i).trans (val_main_v10_apply x0 x1 _)).trans (val_main_v9_apply x0 x1 _)).trans ?_
  refine Finset.sum_congr rfl fun k _ => ?_
  rw [val_main_v8_apply, val_main_v7_apply, val_main_v6_apply, val_main_v1_apply]
  refine congrArg₂ (· * ·) (congrArg x0 ?_) (congrArg x1 ?_) <;> blk_ext [group, place, column]

variable (m : (ℓ : Loc nD τ sig) → Buf (Elt Ideal) ℓ)

theorem result (c : Dev nD) : @Eq (FVec Ideal S2048x2048 .f32) ((dats m 0 c).arrAt 2 cfg0.N)
    (val_main_v11 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, group, place, column]

/-- The two runs end with equal results. -/
theorem agree : Cert.algebraic_RecGateDxIdeal_RecGateDxRefIdeal := fun m g m' g' _ hargs =>
  ⟨fun c => val_main_v11 (F := Ideal) (m ((c : Thread nD τ).loc main_arg0)) (m ((c : Thread nD τ).loc main_arg1)),
    (θ_run defs _ _).mono (fun _ h c => ⟨(h c).1.trans (result m c), (h c).2⟩) (Cert.RecGateDxIdeal.Value.run_blocks m g),
    (θ_run Cert.RecGateDxRefIdeal.defs _ _).mono (fun _ h c => ⟨(h c).1.trans ((val_main_v11_eq _ _).trans
      (congrArg₂ (val_main_v11 (F := Ideal)) (hargs c).1 (hargs c).2)), (h c).2⟩) (Cert.RecGateDxRefIdeal.Value.run m' g')⟩

theorem frame_launched : Cert.quiescent_RecGateDx := fun m g _ => Cert.RecGateDx.Gen.frame m g
theorem frame : Cert.quiescent_RecGateDxIdeal := fun m g _ => Cert.RecGateDxIdeal.Gen.frame m g
theorem frame_reference : Cert.quiescent_RecGateDxRefIdeal := fun m g _ =>
  (θ_run Cert.RecGateDxRefIdeal.defs _ _).mono (fun r h => ⟨fun c => (h c).2, sem_eq_zero_of_no_sems (by decide) r.2⟩)
    (Cert.RecGateDxRefIdeal.Value.run (F := Ideal) m g)

end Cert.RecGateDxIdeal.Product

end
-- ==== Proof.RecGateDxAdd.lean ====
/- The gradient of the recurrence's heads through the second gate, added to what came through the first. -/
module

public import proofs.«01_k».proof.Defs
public import proofs.«01_k».proof.Proof.Gen.RecGateDxAdd.Frame
public import proofs.«01_k».proof.Proof.Gen.RecGateDxAddIdeal.Value
public import proofs.«01_k».proof.Proof.Gen.RecGateDxAddRefIdeal.Run
public import proofs.«01_k».proof.Proof.Gen.RecGateDxAddRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.RecGateDxAddIdeal.Product

open Idealize.ShloMosaic Idealize.ShloMosaic.TcCoe Idealize.SL.Sem
open Cert.RecGateDxAddRefIdeal.Read
open Cert.RecGateDxAddIdeal Cert.RecGateDxAddIdeal.Gen
open scoped BigOperators

theorem idx (t : Fin cfg0.N) : win0_0.index t = ![0, t.val] ∧ win0_1.index t = ![t.val, 0, 0] ∧ win0_2.index t = ![0, t.val] ∧ win0_3.index t = ![0, t.val] := by
  revert t; decide +kernel

/-- Column `n` belongs to group `n / 128`, where it is column `n % 128`. -/
def group (n : Fin 2048) : Fin 16 := ⟨n.val / 128, by omega⟩
def place (n : Fin 2048) : Fin 128 := ⟨n.val % 128, by omega⟩
def column (g : Fin 16) (k : Fin 128) : Fin 2048 := ⟨g.val * 128 + k.val, by omega⟩

/-- What a point computes, at an entry. -/
theorem pay_apply (v0 : Vec Ideal S2048x128 .bf16) (v1 : Vec Ideal S1x128x128 .bf16) (v2 : Vec Ideal S2048x128 .f32) (y : S2048x128.Idx) :
    k0_pay1 v0 v1 v2 y = (∑ k : Fin 128, v0 (ix2 (y 0) k) * v1 (ix3 0 (y 1) k)) + v2 y := by
  unfold k0_pay1
  pointwise

/-- The reference's gradient, at an entry. -/
theorem product_apply (x0 : Vec Ideal S2048x2048 .bf16) (x1 : Vec Ideal S16x128x128 .bf16) (i : S2048x2048.Idx) :
    val_main_v11 (F := Ideal) x0 x1 i = ∑ k : Fin 128, x0 (ix2 (i 0) (column (group (i 1)) k)) * x1 (ix3 (group (i 1)) (place (i 1)) k) := by
  refine (((val_main_v11_apply x0 x1 i).trans (val_main_v10_apply x0 x1 _)).trans (val_main_v9_apply x0 x1 _)).trans ?_
  refine Finset.sum_congr rfl fun k _ => ?_
  rw [val_main_v8_apply, val_main_v7_apply, val_main_v6_apply, val_main_v1_apply]
  refine congrArg₂ (· * ·) (congrArg x0 ?_) (congrArg x1 ?_) <;> blk_ext [group, place, column]

theorem ref_apply (x0 : Vec Ideal S2048x2048 .bf16) (x1 : Vec Ideal S16x128x128 .bf16) (x2 : Vec Ideal S2048x2048 .f32) (i : S2048x2048.Idx) :
    val_main_v12 (F := Ideal) x0 x1 x2 i =
      (∑ k : Fin 128, x0 (ix2 (i 0) (column (group (i 1)) k)) * x1 (ix3 (group (i 1)) (place (i 1)) k)) + x2 i := by
  refine (val_main_v12_apply x0 x1 x2 i).trans ((add_comm _ _).trans ?_)
  exact congrArg (· + x2 i) (product_apply x0 x1 i)

variable (m : (ℓ : Loc nD τ sig) → Buf (Elt Ideal) ℓ)

theorem result (c : Dev nD) : @Eq (FVec Ideal S2048x2048 .f32) ((dats m 0 c).arrAt 3 cfg0.N)
    (val_main_v12 (F := Ideal) (m ((c : Thread nD τ).loc main_arg0)) (m ((c : Thread nD τ).loc main_arg1)) (m ((c : Thread nD τ).loc main_arg2))) := by
  refine (dats m 0 c).arrAt_eq_of_covers 3 _ (by decide +kernel) fun t hf y => ?_
  blk_simp
  rw [after0_3]
  frame_out
  refine (pay_apply _ _ _ y).trans (.trans ?_ (ref_apply _ _ _ _).symm)
  refine congrArg₂ (· + ·) (Finset.sum_congr rfl fun k _ => ?_) ?_
  · congr 1 <;> blk_ext [iblk, V, idx t, group, place, column]
  · blk_ext [iblk, V, idx t]

/-- The two runs end with equal results. -/
theorem agree : Cert.algebraic_RecGateDxAddIdeal_RecGateDxAddRefIdeal := fun m g m' g' _ hargs =>
  ⟨fun c => val_main_v12 (F := Ideal) (m ((c : Thread nD τ).loc main_arg0)) (m ((c : Thread nD τ).loc main_arg1)) (m ((c : Thread nD τ).loc main_arg2)),
    (θ_run defs _ _).mono (fun _ h c => ⟨(h c).1.trans (result m c), (h c).2⟩) (Cert.RecGateDxAddIdeal.Value.run_blocks m g),
    (θ_run Cert.RecGateDxAddRefIdeal.defs _ _).mono (fun _ h c => ⟨(h c).1.trans ((val_main_v12_eq _ _ _).trans
      (congr (congrArg₂ (val_main_v12 (F := Ideal)) (hargs c).1 (hargs c).2.1) (hargs c).2.2)), (h c).2⟩) (Cert.RecGateDxAddRefIdeal.Value.run m' g')⟩

theorem frame_launched : Cert.quiescent_RecGateDxAdd := fun m g _ => Cert.RecGateDxAdd.Gen.frame m g
theorem frame : Cert.quiescent_RecGateDxAddIdeal := fun m g _ => Cert.RecGateDxAddIdeal.Gen.frame m g
theorem frame_reference : Cert.quiescent_RecGateDxAddRefIdeal := fun m g _ =>
  (θ_run Cert.RecGateDxAddRefIdeal.defs _ _).mono (fun r h => ⟨fun c => (h c).2, sem_eq_zero_of_no_sems (by decide) r.2⟩)
    (Cert.RecGateDxAddRefIdeal.Value.run (F := Ideal) m g)

end Cert.RecGateDxAddIdeal.Product

end
-- ==== Proof.RecGateDw.lean ====
/- The gradient of the weights of the recurrence's heads. -/
module

public import proofs.«01_k».proof.Defs
public import proofs.«01_k».proof.Proof.Gen.RecGateDw.Frame
public import proofs.«01_k».proof.Proof.Gen.RecGateDwIdeal.Value
public import proofs.«01_k».proof.Proof.Gen.RecGateDwRefIdeal.Run
public import proofs.«01_k».proof.Proof.Gen.RecGateDwRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.RecGateDwIdeal.Product

open Idealize.ShloMosaic Idealize.ShloMosaic.TcCoe Idealize.SL.Sem
open Cert.RecGateDwRefIdeal.Read
open Cert.RecGateDwIdeal Cert.RecGateDwIdeal.Gen
open scoped BigOperators

theorem idx (t : Fin cfg0.N) : win0_0.index t = ![0, t.val] ∧ win0_1.index t = ![0, t.val] ∧ win0_2.index t = ![t.val, 0, 0] := by
  revert t; decide +kernel

/-- Column `k` of group `g`, among all. -/
def column (g : Fin 16) (k : Fin 128) : Fin 2048 := ⟨g.val * 128 + k.val, by omega⟩

/-- What a point computes, at an entry. -/
theorem pay_apply (v0 : Vec Ideal S2048x128 .bf16) (v1 : Vec Ideal S2048x128 .bf16) (y : S1x128x128.Idx) :
    k0_pay1 v0 v1 y = ∑ k : Fin 2048, v0 (ix2 k (y 1)) * v1 (ix2 k (y 2)) := by
  unfold k0_pay1
  pointwise

/-- The reference's gradient, at an entry. -/
theorem ref_apply (x0 : Vec Ideal S2048x2048 .bf16) (x1 : Vec Ideal S2048x2048 .bf16) (i : S16x128x128.Idx) :
    val_main_v10 (F := Ideal) x0 x1 i = ∑ k : Fin 2048, x0 (ix2 k (column (i 0) (i 1))) * x1 (ix2 k (column (i 0) (i 2))) := by
  refine ((val_main_v10_apply x0 x1 i).trans (val_main_v9_apply x0 x1 _)).trans ?_
  refine Finset.sum_congr rfl fun k _ => ?_
  rw [val_main_v8_apply, val_main_v7_apply, val_main_v6_apply, val_main_v2_apply, val_main_v1_apply, mul_comm]
  refine congrArg₂ (· * ·) (congrArg x0 ?_) (congrArg x1 ?_) <;> blk_ext [column]

variable (m : (ℓ : Loc nD τ sig) → Buf (Elt Ideal) ℓ)

theorem result (c : Dev nD) : @Eq (FVec Ideal S16x128x128 .f32) ((dats m 0 c).arrAt 2 cfg0.N)
    (val_main_v10 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, column]

/-- The two runs end with equal results. -/
theorem agree : Cert.algebraic_RecGateDwIdeal_RecGateDwRefIdeal := fun m g m' g' _ hargs =>
  ⟨fun c => val_main_v10 (F := Ideal) (m ((c : Thread nD τ).loc main_arg0)) (m ((c : Thread nD τ).loc main_arg1)),
    (θ_run defs _ _).mono (fun _ h c => ⟨(h c).1.trans (result m c), (h c).2⟩) (Cert.RecGateDwIdeal.Value.run_blocks m g),
    (θ_run Cert.RecGateDwRefIdeal.defs _ _).mono (fun _ h c => ⟨(h c).1.trans ((val_main_v10_eq _ _).trans
      (congrArg₂ (val_main_v10 (F := Ideal)) (hargs c).1 (hargs c).2)), (h c).2⟩) (Cert.RecGateDwRefIdeal.Value.run m' g')⟩

theorem frame_launched : Cert.quiescent_RecGateDw := fun m g _ => Cert.RecGateDw.Gen.frame m g
theorem frame : Cert.quiescent_RecGateDwIdeal := fun m g _ => Cert.RecGateDwIdeal.Gen.frame m g
theorem frame_reference : Cert.quiescent_RecGateDwRefIdeal := fun m g _ =>
  (θ_run Cert.RecGateDwRefIdeal.defs _ _).mono (fun r h => ⟨fun c => (h c).2, sem_eq_zero_of_no_sems (by decide) r.2⟩)
    (Cert.RecGateDwRefIdeal.Value.run (F := Ideal) m g)

end Cert.RecGateDwIdeal.Product

end
-- ==== Proof.RecGate.lean ====
/- The product of the recurrence's heads, each with a weight of its own. -/
module

public import proofs.«01_k».proof.Defs
public import proofs.«01_k».proof.Proof.Gen.RecGate.Frame
public import proofs.«01_k».proof.Proof.Gen.RecGateIdeal.Value
public import proofs.«01_k».proof.Proof.Gen.RecGateRefIdeal.Run
public import proofs.«01_k».proof.Proof.Gen.RecGateRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.RecGateIdeal.Product

open Idealize.ShloMosaic Idealize.ShloMosaic.TcCoe Idealize.SL.Sem
open Cert.RecGateRefIdeal.Read
open Cert.RecGateIdeal Cert.RecGateIdeal.Gen
open scoped BigOperators

theorem idx (t : Fin cfg0.N) : win0_0.index t = ![0, t.val] ∧ win0_1.index t = ![t.val, 0, 0] ∧ win0_2.index t = ![0, t.val] := by
  revert t; decide +kernel

/-- Column `n` belongs to group `n / 128`, where it is column `n % 128`. -/
def group (n : Fin 2048) : Fin 16 := ⟨n.val / 128, by omega⟩
def place (n : Fin 2048) : Fin 128 := ⟨n.val % 128, by omega⟩
def column (g : Fin 16) (k : Fin 128) : Fin 2048 := ⟨g.val * 128 + k.val, by omega⟩

/-- What a point computes, at an entry. -/
theorem pay_apply (v0 : Vec Ideal S2048x128 .bf16) (v1 : Vec Ideal S1x128x128 .bf16) (y : S2048x128.Idx) :
    k0_pay1 v0 v1 y = ∑ k : Fin 128, v0 (ix2 (y 0) k) * v1 (ix3 0 k (y 1)) := by
  unfold k0_pay1
  pointwise

/-- The reference's product, at an entry. -/
theorem ref_apply (x0 : Vec Ideal S2048x2048 .bf16) (x1 : Vec Ideal S16x128x128 .bf16) (i : S2048x2048.Idx) :
    val_main_v5 (F := Ideal) x0 x1 i = ∑ k : Fin 128, x0 (ix2 (i 0) (column (group (i 1)) k)) * x1 (ix3 (group (i 1)) k (place (i 1))) := by
  refine (((val_main_v5_apply x0 x1 i).trans (val_main_v4_apply x0 x1 _)).trans (val_main_v3_apply x0 x1 _)).trans ?_
  refine Finset.sum_congr rfl fun k _ => ?_
  rw [val_main_v2_apply, val_main_v0_apply, val_main_v1_apply, mul_comm]
  refine congrArg₂ (· * ·) (congrArg x0 ?_) (congrArg x1 ?_) <;> blk_ext [group, place, column]

variable (m : (ℓ : Loc nD τ sig) → Buf (Elt Ideal) ℓ)

theorem result (c : Dev nD) : @Eq (FVec Ideal S2048x2048 .f32) ((dats m 0 c).arrAt 2 cfg0.N)
    (val_main_v5 (F := Ideal) (m ((c : Thread nD τ).loc main_arg0)) (m ((c : Thread nD τ).loc main_arg1))) := by
  refine (dats m 0 c).arrAt_eq_of_covers 2 _ (by decide +kernel) fun t hf y => ?_
  blk_simp
  rw [after0_2]
  frame_out
  refine (pay_apply _ _ y).trans (.trans ?_ (ref_apply _ _ _).symm)
  refine Finset.sum_congr rfl fun k _ => ?_
  congr 1 <;> blk_ext [iblk, V, idx t, group, place, column]

/-- The two runs end with equal results. -/
theorem agree : Cert.algebraic_RecGateIdeal_RecGateRefIdeal := fun m g m' g' _ hargs =>
  ⟨fun c => val_main_v5 (F := Ideal) (m ((c : Thread nD τ).loc main_arg0)) (m ((c : Thread nD τ).loc main_arg1)),
    (θ_run defs _ _).mono (fun _ h c => ⟨(h c).1.trans (result m c), (h c).2⟩) (Cert.RecGateIdeal.Value.run_blocks m g),
    (θ_run Cert.RecGateRefIdeal.defs _ _).mono (fun _ h c => ⟨(h c).1.trans ((val_main_v5_eq _ _).trans
      (congrArg₂ (val_main_v5 (F := Ideal)) (hargs c).1 (hargs c).2)), (h c).2⟩) (Cert.RecGateRefIdeal.Value.run m' g')⟩

theorem frame_launched : Cert.quiescent_RecGate := fun m g _ => Cert.RecGate.Gen.frame m g
theorem frame : Cert.quiescent_RecGateIdeal := fun m g _ => Cert.RecGateIdeal.Gen.frame m g
theorem frame_reference : Cert.quiescent_RecGateRefIdeal := fun m g _ =>
  (θ_run Cert.RecGateRefIdeal.defs _ _).mono (fun r h => ⟨fun c => (h c).2, sem_eq_zero_of_no_sems (by decide) r.2⟩)
    (Cert.RecGateRefIdeal.Value.run (F := Ideal) m g)

end Cert.RecGateIdeal.Product

end
-- ==== Proof.Rows.lean ====
/- The normalization of one row of 2048 entries over the reals: what both layer norms and their references compute of a row. -/
module

public import Idealize.ShloMosaic.Lib.Pointwise
public import Idealize.ShloMosaic.Lib.Pipeline.ValueKit

@[expose] public section

noncomputable section

namespace Cert.Rows

open Idealize.ShloMosaic
open scoped BigOperators

variable (f : Fin 2048 → Ideal .f32)

/-- The mean of a row. -/
def mean : Ideal .f32 := Ideal.div (∑ k, f k) (Ideal.ofBits .f32 0x45000000#32)
/-- An entry less the mean. -/
def centred (j : Fin 2048) : Ideal .f32 := f j - mean f
/-- One over the square root of the variance, to which 10⁻⁵ is added. -/
def scaling : Ideal .f32 :=
  Ideal.rsqrt (Ideal.div (∑ k, centred f k * centred f k) (Ideal.ofBits .f32 0x45000000#32) + Ideal.ofBits .f32 0x3727C5AC#32)
/-- A normalized entry. -/
def normal (j : Fin 2048) : Ideal .f32 := centred f j * scaling f

/-- A sum from zero, over the entries given by any function that names the row's. -/
theorem mean_of {g : Fin 2048 → Ideal .f32} (h : ∀ k, g k = f k) :
    Ideal.div (Ideal.ofBits .f32 0x00000000#32 + ∑ k, g k) (Ideal.ofBits .f32 0x45000000#32) = mean f := by
  rw [mean, Ideal.ofBits_zero_f32, zero_add, Finset.sum_congr rfl fun k _ => h k]

theorem scaling_of {g : Fin 2048 → Ideal .f32} (h : ∀ k, g k = centred f k * centred f k) :
    Ideal.rsqrt (Ideal.div (Ideal.ofBits .f32 0x00000000#32 + ∑ k, g k) (Ideal.ofBits .f32 0x45000000#32)
      + Ideal.ofBits .f32 0x3727C5AC#32) = scaling f := by
  rw [scaling, Ideal.ofBits_zero_f32, zero_add, Finset.sum_congr rfl fun k _ => h k]

end Cert.Rows

end
-- ==== Proof.Ln.lean ====
/- The forward layer norm of a residual sum: eight blocks of 256 rows, each normalized row by row. -/
module

public import proofs.«01_k».proof.Defs
public import proofs.«01_k».proof.Proof.Rows
public import proofs.«01_k».proof.Proof.Gen.Ln.Frame
public import proofs.«01_k».proof.Proof.Gen.LnIdeal.Value
public import proofs.«01_k».proof.Proof.Gen.LnRefIdeal.Run
public import proofs.«01_k».proof.Proof.Gen.LnRefIdeal.Read
public import Idealize.ShloMosaic.Lib.Quiescent

@[expose] public section

set_option maxRecDepth 16384

noncomputable section

namespace Cert.LnIdeal.Norm

open Idealize.ShloMosaic Idealize.ShloMosaic.TcCoe Idealize.SL.Sem
open Cert.LnRefIdeal.Read Cert.Rows
open Cert.LnIdeal Cert.LnIdeal.Gen
open scoped BigOperators

theorem idx (t : Fin cfg0.N) : win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] := by
  revert t; decide +kernel

/-- A row of the residual sum, in arrays of any number of rows. -/
def mix {R : ℕ} (x m : Vec Ideal ⟨2, ![R, 2048]⟩ .f32) (r : Fin R) (k : Fin 2048) : Ideal .f32 :=
  Ideal.ofBits .f32 0x3FD744FD#32 * x (ix2 r k) + m (ix2 r k)

/-! ## What a point computes -/

theorem centred_apply (v0 v1 : Vec Ideal S256x2048 .f32) (r : Fin 256) (j : Fin 2048) :
    k0_pay1 v0 v1 (ix2 r j) = centred (mix v1 v0 r) j := by
  unfold k0_pay1
  pointwise
  rfl

theorem scaling_apply (v0 v1 : Vec Ideal S256x2048 .f32) (r : Fin 256) (j : Fin 1) :
    k0_pay2 v0 v1 (ix2 r j) = scaling (mix v1 v0 r) := by
  unfold k0_pay2
  pointwise
  simp only [scaling, ← centred_apply]

theorem normal_apply (v0 v1 : Vec Ideal S256x2048 .f32) (r : Fin 256) (j : Fin 2048) :
    k0_pay3 v0 v1 (ix2 r j) = normal (mix v1 v0 r) j := by
  rw [normal, ← centred_apply, ← scaling_apply v0 v1 r 0]
  unfold k0_pay3
  pointwise

theorem out_apply (v0 v1 : Vec Ideal S256x2048 .f32) (v2 v3 : Vec Ideal S1x2048 .f32) (r : Fin 256) (j : Fin 2048) :
    k0_pay4 v0 v1 v2 v3 (ix2 r j) = normal (mix v1 v0 r) j * v2 (ix2 0 j) + v3 (ix2 0 j) := by
  rw [← normal_apply]
  unfold k0_pay4
  pointwise

/-! ## What the reference computes -/

section
variable (x0 x1 : Vec Ideal S2048x2048 .f32) (x2 x3 : Vec Ideal S1x2048 .f32)

theorem ref_mix (i : S2048x2048.Idx) : val_main_v2 (F := Ideal) x0 x1 i = mix x0 x1 (i 0) (i 1) := by
  rw [val_main_v2_apply, val_main_v1_apply, val_main_v0_apply, val_main_cst_apply]
  exact congrArg (fun j => Ideal.ofBits .f32 0x3FD744FD#32 * x0 j + x1 j) (by blk_ext)

theorem ref_mean (i : S2048x1.Idx) : val_main_v6 (F := Ideal) x0 x1 i = mean (mix x0 x1 (i 0)) := by
  rw [val_main_v6_apply, val_main_v4_apply, val_main_v3_apply, val_main_v5_apply, val_main_cst_0_apply, val_main_cst_1_apply]
  exact mean_of _ fun k => (ref_mix x0 x1 _).trans (by congr 1)

theorem ref_centred (i : S2048x2048.Idx) : val_main_v8 (F := Ideal) x0 x1 i = centred (mix x0 x1 (i 0)) (i 1) := by
  rw [val_main_v8_apply, val_main_v7_apply, ref_mean, ref_mix]
  rfl

theorem ref_scaling (i : S2048x1.Idx) : val_main_v16 (F := Ideal) x0 x1 i = scaling (mix x0 x1 (i 0)) := by
  rw [val_main_v16_apply, val_main_v15_apply, val_main_v14_apply, val_main_v13_apply, val_main_v12_apply, val_main_v11_apply,
    val_main_v10_apply, val_main_cst_2_apply, val_main_cst_3_apply, val_main_cst_4_apply]
  exact scaling_of _ fun k => (val_main_v9_apply x0 x1 _).trans (congrArg₂ (· * ·) (ref_centred x0 x1 _) (ref_centred x0 x1 _))

theorem ref_normal (i : S2048x2048.Idx) : val_main_v20 (F := Ideal) x0 x1 i = normal (mix x0 x1 (i 0)) (i 1) := by
  rw [val_main_v20_apply, val_main_v19_apply, ref_scaling]
  exact congrArg (· * _) (ref_centred x0 x1 i)

theorem ref_out (i : S2048x2048.Idx) : val_main_v24 (F := Ideal) x0 x1 x2 x3 i
    = normal (mix x0 x1 (i 0)) (i 1) * x2 (ix2 0 (i 1)) + x3 (ix2 0 (i 1)) := by
  rw [val_main_v24_apply, val_main_v23_apply, val_main_v22_apply, val_main_v21_apply, ref_normal]
  exact congrArg₂ (fun a b => normal (mix x0 x1 (i 0)) (i 1) * x2 a + x3 b) (by blk_ext) (by blk_ext)

end

/-! ## The results -/

variable (m : (ℓ : Loc nD τ sig) → Buf (Elt Ideal) ℓ)

/-- The row of the arrays where a row of point `t`'s blocks lies. -/
def rowOf (t : Fin cfg0.N) (r : Fin 256) : Fin 2048 := ⟨t.val * 256 + r.val, by have := t.isLt; have := r.isLt; have : cfg0.N = 8 := rfl; omega⟩

/-- A row of a point's blocks is that row of the arrays. -/
theorem mix_blocks (c : Dev nD) (t : Fin cfg0.N) (r : Fin 256) : mix (iblk m c 0 t) (iblk m c 1 t) r
    = mix (R := 2048) (m ((c : Thread nD τ).loc main_arg0)) (m ((c : Thread nD τ).loc main_arg1)) (rowOf t r) := by
  funext k
  unfold mix
  congr 1
  · congr 1
    blk_ext [iblk, V, idx t, rowOf]
  · blk_ext [iblk, V, idx t, rowOf]

/-- The first result, of which the second is the copy in a narrower format: what a point computes, at an entry, is the reference's. -/
theorem out_block (c : Dev nD) (t : Fin cfg0.N) (y : S256x2048.Idx) (i : S2048x2048.Idx) (hi : i = ix2 (rowOf t (y 0)) (y 1)) :
    k0_pay4 (iblk m c 1 t) (iblk m c 0 t) (iblk m c 2 t) (iblk m c 3 t) y
      = val_main_v24 (F := Ideal) (m ((c : Thread nD τ).loc main_arg0)) (m ((c : Thread nD τ).loc main_arg1))
        (m ((c : Thread nD τ).loc main_arg2)) (m ((c : Thread nD τ).loc main_arg3)) i := by
  subst hi
  refine .trans (b := k0_pay4 (iblk m c 1 t) (iblk m c 0 t) (iblk m c 2 t) (iblk m c 3 t) (ix2 (y 0) (y 1))) (congrArg _ (by blk_ext)) ?_
  refine (out_apply _ _ _ _ _ _).trans (.trans ?_ (ref_out _ _ _ _ _).symm)
  rw [mix_blocks m c t (y 0)]
  refine congrArg₂ (fun a b : Ideal .f32 => normal _ (y 1) * a + b) ?_ ?_ <;> blk_ext [iblk, V, idx t]

theorem result_out (c : Dev nD) : @Eq (FVec Ideal S2048x2048 .f32) ((dats m 0 c).arrAt 4 cfg0.N)
    (val_main_v24 (F := Ideal) (m ((c : Thread nD τ).loc main_arg0)) (m ((c : Thread nD τ).loc main_arg1))
      (m ((c : Thread nD τ).loc main_arg2)) (m ((c : Thread nD τ).loc main_arg3))) := by
  refine (dats m 0 c).arrAt_eq_of_covers 4 _ (by decide +kernel) fun t hf y => ?_
  blk_simp
  rw [after0_4]
  frame_out
  exact out_block m c t y _ (by blk_ext [idx t, rowOf])

theorem result_narrow (c : Dev nD) : @Eq (FVec Ideal S2048x2048 .bf16) ((dats m 0 c).arrAt 5 cfg0.N)
    (val_main_v29 (F := Ideal) (m ((c : Thread nD τ).loc main_arg0)) (m ((c : Thread nD τ).loc main_arg1))
      (m ((c : Thread nD τ).loc main_arg2)) (m ((c : Thread nD τ).loc main_arg3))) := by
  refine (dats m 0 c).arrAt_eq_of_covers 5 _ (by decide +kernel) fun t hf y => ?_
  blk_simp
  rw [after0_5]
  frame_out
  exact out_block m c t y _ (by blk_ext [idx t, rowOf])

theorem result_normal (c : Dev nD) : @Eq (FVec Ideal S2048x2048 .f32) ((dats m 0 c).arrAt 6 cfg0.N)
    (val_main_v28 (F := Ideal) (m ((c : Thread nD τ).loc main_arg0)) (m ((c : Thread nD τ).loc main_arg1))) := by
  refine (dats m 0 c).arrAt_eq_of_covers 6 _ (by decide +kernel) fun t hf y => ?_
  blk_simp
  rw [after0_6]
  frame_out
  refine .trans (b := k0_pay3 (iblk m c 1 t) (iblk m c 0 t) (ix2 (y 0) (y 1))) (congrArg _ (by blk_ext)) ?_
  refine (normal_apply _ _ _ _).trans (.trans ?_ (ref_normal _ _ _).symm)
  rw [mix_blocks m c t (y 0)]
  refine congrArg₂ (fun a b => normal (mix (R := 2048) _ _ a) b) (Fin.ext ?_) (Fin.ext ?_) <;> blk_simp [idx t, rowOf]

theorem result_scaling (c : Dev nD) : @Eq (FVec Ideal S2048x1 .f32) ((dats m 0 c).arrAt 7 cfg0.N)
    (val_main_v16 (F := Ideal) (m ((c : Thread nD τ).loc main_arg0)) (m ((c : Thread nD τ).loc main_arg1))) := by
  refine (dats m 0 c).arrAt_eq_of_covers 7 _ (by decide +kernel) fun t hf y => ?_
  blk_simp
  rw [after0_7]
  frame_out
  refine .trans (b := k0_pay2 (iblk m c 1 t) (iblk m c 0 t) (ix2 (y 0) (y 1))) (congrArg _ (by blk_ext)) ?_
  refine (scaling_apply _ _ _ _).trans (.trans ?_ (ref_scaling _ _ _).symm)
  rw [mix_blocks m c t (y 0)]
  refine congrArg (fun a => scaling (mix (R := 2048) _ _ a)) (Fin.ext ?_)
  blk_simp [idx t, rowOf]

/-- The two runs end with equal results. -/
theorem agree : Cert.algebraic_LnIdeal_LnRefIdeal := fun m g m' g' _ hargs =>
  ⟨fun c => val_main_v24 (F := Ideal) (m ((c : Thread nD τ).loc main_arg0)) (m ((c : Thread nD τ).loc main_arg1))
      (m ((c : Thread nD τ).loc main_arg2)) (m ((c : Thread nD τ).loc main_arg3)),
    fun c => val_main_v29 (F := Ideal) (m ((c : Thread nD τ).loc main_arg0)) (m ((c : Thread nD τ).loc main_arg1))
      (m ((c : Thread nD τ).loc main_arg2)) (m ((c : Thread nD τ).loc main_arg3)),
    fun c => val_main_v28 (F := Ideal) (m ((c : Thread nD τ).loc main_arg0)) (m ((c : Thread nD τ).loc main_arg1)),
    fun c => val_main_v16 (F := Ideal) (m ((c : Thread nD τ).loc main_arg0)) (m ((c : Thread nD τ).loc main_arg1)),
    (θ_run defs _ _).mono (fun _ h c => ⟨(h c).1.trans (result_out m c), (h c).2.1.trans (result_narrow m c),
      (h c).2.2.1.trans (result_normal m c), (h c).2.2.2.1.trans (result_scaling m c), (h c).2.2.2.2⟩)
      (Cert.LnIdeal.Value.run_blocks m g),
    (θ_run Cert.LnRefIdeal.defs _ _).mono (fun _ h c =>
      have ⟨h0, h1, h2, h3⟩ := hargs c
      ⟨(h c).1.trans ((val_main_v24_eq _ _ _ _).trans (by rw [h0, h1, h2, h3])),
        (h c).2.1.trans ((val_main_v29_eq _ _ _ _).trans (by rw [h0, h1, h2, h3])),
        (h c).2.2.1.trans ((val_main_v28_eq _ _).trans (by rw [h0, h1])),
        (h c).2.2.2.1.trans ((val_main_v16_eq _ _).trans (by rw [h0, h1])), (h c).2.2.2.2⟩)
      (Cert.LnRefIdeal.Value.run m' g')⟩

theorem frame_launched : Cert.quiescent_Ln := fun m g _ => Cert.Ln.Gen.frame m g
theorem frame : Cert.quiescent_LnIdeal := fun m g _ => Cert.LnIdeal.Gen.frame m g
theorem frame_reference : Cert.quiescent_LnRefIdeal := fun m g _ =>
  (θ_run Cert.LnRefIdeal.defs _ _).mono (fun r h => ⟨fun c => (h c).2.2.2.2, sem_eq_zero_of_no_sems (by decide) r.2⟩)
    (Cert.LnRefIdeal.Value.run (F := Ideal) m g)

end Cert.LnIdeal.Norm

end
-- ==== Proof.LnScaled.lean ====
/- The forward layer norm of a residual sum whose second term is scaled column by column: eight blocks of 256 rows, each normalized row by row. -/
module

public import proofs.«01_k».proof.Defs
public import proofs.«01_k».proof.Proof.Rows
public import proofs.«01_k».proof.Proof.Gen.LnScaled.Frame
public import proofs.«01_k».proof.Proof.Gen.LnScaledIdeal.Value
public import proofs.«01_k».proof.Proof.Gen.LnScaledRefIdeal.Run
public import proofs.«01_k».proof.Proof.Gen.LnScaledRefIdeal.Read
public import Idealize.ShloMosaic.Lib.Quiescent

@[expose] public section

set_option maxRecDepth 16384

noncomputable section

namespace Cert.LnScaledIdeal.Norm

open Idealize.ShloMosaic Idealize.ShloMosaic.TcCoe Idealize.SL.Sem
open Cert.LnScaledRefIdeal.Read Cert.Rows
open Cert.LnScaledIdeal Cert.LnScaledIdeal.Gen
open scoped BigOperators

theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] := by
  revert t; decide +kernel

/-- A row of the residual sum, in arrays of any number of rows. -/
def mix {R : ℕ} (x m : Vec Ideal ⟨2, ![R, 2048]⟩ .f32) (s : Vec Ideal S1x2048 .f32) (r : Fin R) (k : Fin 2048) : Ideal .f32 :=
  Ideal.ofBits .f32 0x3FD744FD#32 * x (ix2 r k) + m (ix2 r k) * s (ix2 0 k)

/-! ## What a point computes -/

theorem centred_apply (v0 : Vec Ideal S256x2048 .f32) (v1 : Vec Ideal S1x2048 .f32) (v4 : Vec Ideal S256x2048 .f32) (r : Fin 256) (j : Fin 2048) :
    k0_pay1 v0 v1 v4 (ix2 r j) = centred (mix v4 v0 v1 r) j := by
  unfold k0_pay1
  pointwise
  rfl

theorem scaling_apply (v0 : Vec Ideal S256x2048 .f32) (v1 : Vec Ideal S1x2048 .f32) (v4 : Vec Ideal S256x2048 .f32) (r : Fin 256) (j : Fin 1) :
    k0_pay2 v0 v1 v4 (ix2 r j) = scaling (mix v4 v0 v1 r) := by
  unfold k0_pay2
  pointwise
  simp only [scaling, ← centred_apply]

theorem normal_apply (v0 : Vec Ideal S256x2048 .f32) (v1 : Vec Ideal S1x2048 .f32) (v4 : Vec Ideal S256x2048 .f32) (r : Fin 256) (j : Fin 2048) :
    k0_pay3 v0 v1 v4 (ix2 r j) = normal (mix v4 v0 v1 r) j := by
  rw [normal, ← centred_apply, ← scaling_apply v0 v1 v4 r 0]
  unfold k0_pay3
  pointwise

theorem out_apply (v0 : Vec Ideal S256x2048 .f32) (v1 : Vec Ideal S1x2048 .f32) (v4 : Vec Ideal S256x2048 .f32) (v2 v3 : Vec Ideal S1x2048 .f32) (r : Fin 256) (j : Fin 2048) :
    k0_pay4 v0 v1 v4 v2 v3 (ix2 r j) = normal (mix v4 v0 v1 r) j * v2 (ix2 0 j) + v3 (ix2 0 j) := by
  rw [← normal_apply]
  unfold k0_pay4
  pointwise

/-! ## What the reference computes -/

section
variable (x0 x1 : Vec Ideal S2048x2048 .f32) (x2 x3 x4 : Vec Ideal S1x2048 .f32)

theorem ref_mix (i : S2048x2048.Idx) : val_main_v4 (F := Ideal) x0 x1 x4 i = mix x0 x1 x4 (i 0) (i 1) := by
  rw [val_main_v4_apply, val_main_v1_apply, val_main_v0_apply, val_main_v3_apply, val_main_v2_apply, val_main_cst_apply]
  exact congrArg₂ (fun j l => Ideal.ofBits .f32 0x3FD744FD#32 * x0 j + x1 j * x4 l) (by blk_ext) (by blk_ext)

theorem ref_mean (i : S2048x1.Idx) : val_main_v8 (F := Ideal) x0 x1 x4 i = mean (mix x0 x1 x4 (i 0)) := by
  rw [val_main_v8_apply, val_main_v6_apply, val_main_v5_apply, val_main_v7_apply, val_main_cst_0_apply, val_main_cst_1_apply]
  exact mean_of _ fun k => (ref_mix x0 x1 x4 _).trans (by congr 1)

theorem ref_centred (i : S2048x2048.Idx) : val_main_v10 (F := Ideal) x0 x1 x4 i = centred (mix x0 x1 x4 (i 0)) (i 1) := by
  rw [val_main_v10_apply, val_main_v9_apply, ref_mean, ref_mix]
  rfl

theorem ref_scaling (i : S2048x1.Idx) : val_main_v18 (F := Ideal) x0 x1 x4 i = scaling (mix x0 x1 x4 (i 0)) := by
  rw [val_main_v18_apply, val_main_v17_apply, val_main_v16_apply, val_main_v15_apply, val_main_v14_apply, val_main_v13_apply,
    val_main_v12_apply, val_main_cst_2_apply, val_main_cst_3_apply, val_main_cst_4_apply]
  exact scaling_of _ fun k => (val_main_v11_apply x0 x1 x4 _).trans (congrArg₂ (· * ·) (ref_centred x0 x1 x4 _) (ref_centred x0 x1 x4 _))

theorem ref_normal (i : S2048x2048.Idx) : val_main_v22 (F := Ideal) x0 x1 x4 i = normal (mix x0 x1 x4 (i 0)) (i 1) := by
  rw [val_main_v22_apply, val_main_v21_apply, ref_scaling]
  exact congrArg (· * _) (ref_centred x0 x1 x4 i)

theorem ref_out (i : S2048x2048.Idx) : val_main_v26 (F := Ideal) x0 x1 x2 x3 x4 i
    = normal (mix x0 x1 x4 (i 0)) (i 1) * x2 (ix2 0 (i 1)) + x3 (ix2 0 (i 1)) := by
  rw [val_main_v26_apply, val_main_v25_apply, val_main_v24_apply, val_main_v23_apply, ref_normal]
  exact congrArg₂ (fun a b => normal (mix x0 x1 x4 (i 0)) (i 1) * x2 a + x3 b) (by blk_ext) (by blk_ext)

end

/-! ## The results -/

variable (m : (ℓ : Loc nD τ sig) → Buf (Elt Ideal) ℓ)

/-- The row of the arrays where a row of point `t`'s blocks lies. -/
def rowOf (t : Fin cfg0.N) (r : Fin 256) : Fin 2048 := ⟨t.val * 256 + r.val, by have := t.isLt; have := r.isLt; have : cfg0.N = 8 := rfl; omega⟩

/-- A row of a point's blocks is that row of the arrays. -/
theorem mix_blocks (c : Dev nD) (t : Fin cfg0.N) (r : Fin 256) : mix (iblk m c 0 t) (iblk m c 1 t) (iblk m c 4 t) r
    = mix (R := 2048) (m ((c : Thread nD τ).loc main_arg0)) (m ((c : Thread nD τ).loc main_arg1)) (m ((c : Thread nD τ).loc main_arg4)) (rowOf t r) := by
  funext k
  unfold mix
  refine congrArg₂ (· + ·) (congrArg _ ?_) (congrArg₂ (· * ·) ?_ ?_) <;> blk_ext [iblk, V, idx t, rowOf]

/-- The first result, of which the second is the copy in a narrower format: what a point computes, at an entry, is the reference's. -/
theorem out_block (c : Dev nD) (t : Fin cfg0.N) (y : S256x2048.Idx) (i : S2048x2048.Idx) (hi : i = ix2 (rowOf t (y 0)) (y 1)) :
    k0_pay4 (iblk m c 1 t) (iblk m c 4 t) (iblk m c 0 t) (iblk m c 2 t) (iblk m c 3 t) y
      = val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) i := by
  subst hi
  refine .trans (b := k0_pay4 (iblk m c 1 t) (iblk m c 4 t) (iblk m c 0 t) (iblk m c 2 t) (iblk m c 3 t) (ix2 (y 0) (y 1))) (congrArg _ (by blk_ext)) ?_
  refine (out_apply _ _ _ _ _ _ _).trans (.trans ?_ (ref_out _ _ _ _ _ _).symm)
  rw [mix_blocks m c t (y 0)]
  refine congrArg₂ (fun a b : Ideal .f32 => normal _ (y 1) * a + b) ?_ ?_ <;> blk_ext [iblk, V, idx t]

theorem result_out (c : Dev nD) : @Eq (FVec Ideal S2048x2048 .f32) ((dats m 0 c).arrAt 5 cfg0.N)
    (val_main_v26 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) := by
  refine (dats m 0 c).arrAt_eq_of_covers 5 _ (by decide +kernel) fun t hf y => ?_
  blk_simp
  rw [after0_5]
  frame_out
  exact out_block m c t y _ (by blk_ext [idx t, rowOf])

theorem result_narrow (c : Dev nD) : @Eq (FVec Ideal S2048x2048 .bf16) ((dats m 0 c).arrAt 6 cfg0.N)
    (val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) := by
  refine (dats m 0 c).arrAt_eq_of_covers 6 _ (by decide +kernel) fun t hf y => ?_
  blk_simp
  rw [after0_6]
  frame_out
  exact out_block m c t y _ (by blk_ext [idx t, rowOf])

theorem result_normal (c : Dev nD) : @Eq (FVec Ideal S2048x2048 .f32) ((dats m 0 c).arrAt 7 cfg0.N)
    (val_main_v30 (F := Ideal) (m ((c : Thread nD τ).loc main_arg0)) (m ((c : Thread nD τ).loc main_arg1)) (m ((c : Thread nD τ).loc main_arg4))) := by
  refine (dats m 0 c).arrAt_eq_of_covers 7 _ (by decide +kernel) fun t hf y => ?_
  blk_simp
  rw [after0_7]
  frame_out
  refine .trans (b := k0_pay3 (iblk m c 1 t) (iblk m c 4 t) (iblk m c 0 t) (ix2 (y 0) (y 1))) (congrArg _ (by blk_ext)) ?_
  refine (normal_apply _ _ _ _ _).trans (.trans ?_ (ref_normal _ _ _ _).symm)
  rw [mix_blocks m c t (y 0)]
  refine congrArg₂ (fun a b => normal (mix (R := 2048) _ _ _ a) b) (Fin.ext ?_) (Fin.ext ?_) <;> blk_simp [idx t, rowOf]

theorem result_scaling (c : Dev nD) : @Eq (FVec Ideal S2048x1 .f32) ((dats m 0 c).arrAt 8 cfg0.N)
    (val_main_v18 (F := Ideal) (m ((c : Thread nD τ).loc main_arg0)) (m ((c : Thread nD τ).loc main_arg1)) (m ((c : Thread nD τ).loc main_arg4))) := by
  refine (dats m 0 c).arrAt_eq_of_covers 8 _ (by decide +kernel) fun t hf y => ?_
  blk_simp
  rw [after0_8]
  frame_out
  refine .trans (b := k0_pay2 (iblk m c 1 t) (iblk m c 4 t) (iblk m c 0 t) (ix2 (y 0) (y 1))) (congrArg _ (by blk_ext)) ?_
  refine (scaling_apply _ _ _ _ _).trans (.trans ?_ (ref_scaling _ _ _ _).symm)
  rw [mix_blocks m c t (y 0)]
  refine congrArg (fun a => scaling (mix (R := 2048) _ _ _ a)) (Fin.ext ?_)
  blk_simp [idx t, rowOf]

/-- The two runs end with equal results. -/
theorem agree : Cert.algebraic_LnScaledIdeal_LnScaledRefIdeal := fun m g m' g' _ hargs =>
  ⟨fun c => val_main_v26 (F := Ideal) (m ((c : Thread nD τ).loc main_arg0)) (m ((c : Thread nD τ).loc main_arg1))
      (m ((c : Thread nD τ).loc main_arg2)) (m ((c : Thread nD τ).loc main_arg3)) (m ((c : Thread nD τ).loc main_arg4)),
    fun c => val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4)),
    fun c => val_main_v30 (F := Ideal) (m ((c : Thread nD τ).loc main_arg0)) (m ((c : Thread nD τ).loc main_arg1)) (m ((c : Thread nD τ).loc main_arg4)),
    fun c => val_main_v18 (F := Ideal) (m ((c : Thread nD τ).loc main_arg0)) (m ((c : Thread nD τ).loc main_arg1)) (m ((c : Thread nD τ).loc main_arg4)),
    (θ_run defs _ _).mono (fun _ h c => ⟨(h c).1.trans (result_out m c), (h c).2.1.trans (result_narrow m c),
      (h c).2.2.1.trans (result_normal m c), (h c).2.2.2.1.trans (result_scaling m c), (h c).2.2.2.2⟩)
      (Cert.LnScaledIdeal.Value.run_blocks m g),
    (θ_run Cert.LnScaledRefIdeal.defs _ _).mono (fun _ h c =>
      have ⟨h0, h1, h2, h3, h4⟩ := hargs c
      ⟨(h c).1.trans ((val_main_v26_eq _ _ _ _ _).trans (by rw [h0, h1, h2, h3, h4])),
        (h c).2.1.trans ((val_main_v31_eq _ _ _ _ _).trans (by rw [h0, h1, h2, h3, h4])),
        (h c).2.2.1.trans ((val_main_v30_eq _ _ _).trans (by rw [h0, h1, h4])),
        (h c).2.2.2.1.trans ((val_main_v18_eq _ _ _).trans (by rw [h0, h1, h4])), (h c).2.2.2.2⟩)
      (Cert.LnScaledRefIdeal.Value.run m' g')⟩

theorem frame_launched : Cert.quiescent_LnScaled := fun m g _ => Cert.LnScaled.Gen.frame m g
theorem frame : Cert.quiescent_LnScaledIdeal := fun m g _ => Cert.LnScaledIdeal.Gen.frame m g
theorem frame_reference : Cert.quiescent_LnScaledRefIdeal := fun m g _ =>
  (θ_run Cert.LnScaledRefIdeal.defs _ _).mono (fun r h => ⟨fun c => (h c).2.2.2.2, sem_eq_zero_of_no_sems (by decide) r.2⟩)
    (Cert.LnScaledRefIdeal.Value.run (F := Ideal) m g)

end Cert.LnScaledIdeal.Norm

end
-- ==== Proof.ScaleBwd.lean ====
/- The gradient of the pooling's scale and of what it scales: a product entry by entry, and a sum down the rows, which the kernel takes over eight
   blocks of rows, adding each to what the one before left. -/
module

public import proofs.«01_k».proof.Defs
public import proofs.«01_k».proof.Proof.Gen.ScaleBwd.Frame
public import proofs.«01_k».proof.Proof.Gen.ScaleBwdIdeal.Value
public import proofs.«01_k».proof.Proof.Gen.ScaleBwdRefIdeal.Run
public import proofs.«01_k».proof.Proof.Gen.ScaleBwdRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.ScaleBwdIdeal.Columns

open Idealize.ShloMosaic Idealize.ShloMosaic.TcCoe Idealize.SL.Sem
open Cert.ScaleBwdRefIdeal.Read
open Cert.ScaleBwdIdeal Cert.ScaleBwdIdeal.Gen
open scoped BigOperators

theorem idx (t : Fin cfg0.N) : win0_0.index t = ![t.val, 0] ∧ win0_1.index t = ![t.val, 0] ∧ win0_2.index t = ![0, 0]
    ∧ win0_3.index t = ![t.val, 0] ∧ win0_4.index t = ![0, 0] := by
  revert t; decide +kernel

/-- What a point computes of the scaled gradient, at an entry. -/
theorem scaled_apply (v0 : Vec Ideal S256x2048 .f32) (v1 : Vec Ideal S1x2048 .f32) (y : S256x2048.Idx) :
    k0_pay1 v0 v1 y = v0 y * v1 (ix2 0 (y 1)) := by
  unfold k0_pay1
  pointwise

/-- Its sum down the rows of its block. -/
theorem column_apply (v0 v6 : Vec Ideal S256x2048 .f32) (y : S1x2048.Idx) :
    k0_pay2 v0 v6 y = ∑ r : Fin 256, v0 (ix2 r (y 1)) * v6 (ix2 r (y 1)) := by
  unfold k0_pay2
  pointwise

theorem add_apply (v0 v6 : Vec Ideal S256x2048 .f32) (v16 : Vec Ideal S1x2048 .f32) (y : S1x2048.Idx) :
    k0_pay3 v0 v6 v16 y = v16 y + k0_pay2 v0 v6 y := by
  unfold k0_pay3
  pointwise

/-- The part of the sum down the rows that belongs to block `s`. -/
def part (x0 x1 : Vec Ideal S2048x2048 .f32) (j : Fin 2048) (s : ℕ) : Ideal .f32 :=
  ∑ r : Fin 256, x0 (ix2 ⟨(s * 256 + r.val) % 2048, Nat.mod_lt _ (by decide)⟩ j) * x1 (ix2 ⟨(s * 256 + r.val) % 2048, Nat.mod_lt _ (by decide)⟩ j)

/-- The reference's scaled gradient, at an entry. -/
theorem ref_scaled (x0 : Vec Ideal S2048x2048 .f32) (x2 : Vec Ideal S1x2048 .f32) (i : S2048x2048.Idx) :
    val_main_v7 (F := Ideal) x0 x2 i = x0 i * x2 (ix2 0 (i 1)) := by
  rw [val_main_v7_apply, val_main_v6_apply, val_main_v5_apply]
  exact congrArg (fun j => x0 i * x2 j) (by blk_ext)

/-- The reference's gradient of the scale, at an entry, block by block. -/
theorem ref_column (x0 x1 : Vec Ideal S2048x2048 .f32) (i : S1x2048.Idx) :
    val_main_v4 (F := Ideal) x0 x1 i = ∑ s ∈ Finset.range 8, part x0 x1 (i 1) s := by
  rw [val_main_v4_apply, val_main_v3_apply, val_main_cst_apply]
  refine (congrArg (· + _) Ideal.ofBits_zero_f32).trans ((zero_add _).trans (.trans ?_ (Finset.sum_range (part x0 x1 (i 1))).symm))
  refine ((Equiv.sum_comp (finProdFinEquiv (m := 8) (n := 256)) _).symm.trans (Fintype.sum_prod_type _)).trans ?_
  refine Finset.sum_congr rfl fun s _ => Finset.sum_congr rfl fun r _ => ?_
  have hs : (finProdFinEquiv (s, r)).val = r.val + 256 * s.val := rfl
  have h8 := s.isLt
  have hr := r.isLt
  rw [val_main_v2_apply]
  refine (mul_comm _ _).trans (congrArg₂ (· * ·) (congrArg x0 ?_) (congrArg x1 ?_)) <;> blk_ext [hs]

variable (m : (ℓ : Loc nD τ sig) → Buf (Elt Ideal) ℓ)

theorem below (t : Fin cfg0.N) : t.val - 1 < cfg0.N := Nat.lt_of_le_of_lt (Nat.sub_le _ _) t.isLt

/-- What a point leaves of the scaled gradient. -/
theorem scaled (c : Dev nD) (t : Fin cfg0.N) (y : S256x2048.Idx) :
    (outsAt0 m c t.val t.isLt).1 y = k0_pay1 (iblk m c 0 t) (iblk m c 2 t) y := by
  by_cases h : t.val = 0
  · rw [outsAt0_A m c t (by omega) (by omega)]
    frame_out
  · have := t.isLt
    rw [outsAt0_B m c t (by have : cfg0.N = 8 := rfl; omega) (by omega)]
    frame_out

/-- What the first point leaves of the sum down the rows, and what each of the others adds to it. -/
theorem first (c : Dev nD) (t : Fin cfg0.N) (h : t.val = 0) (y : S1x2048.Idx) :
    (outsAt0 m c t.val t.isLt).2 y = k0_pay2 (iblk m c 0 t) (iblk m c 1 t) y := by
  rw [outsAt0_A m c t (by omega) (by omega)]
  frame_out

theorem later (c : Dev nD) (t : Fin cfg0.N) (h : t.val ≠ 0) (y : S1x2048.Idx) :
    (outsAt0 m c t.val t.isLt).2 y = (outsAt0 m c (t.val - 1) (below t)).2 y + k0_pay2 (iblk m c 0 t) (iblk m c 1 t) y := by
  have := t.isLt
  rw [outsAt0_B m c t (by have : cfg0.N = 8 := rfl; omega) (by omega)]
  frame_out
  exact add_apply _ _ _ y

/-- What a point computes is its block's part. -/
theorem column_part (c : Dev nD) (t : Fin cfg0.N) (s : ℕ) (h : t.val = s) (y : S1x2048.Idx) :
    k0_pay2 (iblk m c 0 t) (iblk m c 1 t) y = part (m ((c : Thread nD τ).loc main_arg0)) (m ((c : Thread nD τ).loc main_arg1)) (y 1) s := by
  refine (column_apply _ _ y).trans (Finset.sum_congr rfl fun k _ => ?_)
  have := t.isLt
  have : cfg0.N = 8 := rfl
  subst h
  congr 1 <;> blk_ext [iblk, V, idx t]

theorem running (c : Dev nD) (y : S1x2048.Idx) (s : ℕ) (t : Fin cfg0.N) (h : t.val = s) : (outsAt0 m c t.val t.isLt).2 y
      = ∑ r ∈ Finset.range (s + 1), part (m ((c : Thread nD τ).loc main_arg0)) (m ((c : Thread nD τ).loc main_arg1)) (y 1) r := by
  induction s generalizing t with
  | zero => exact (first m c t h y).trans ((column_part m c t 0 h y).trans (Finset.sum_range_one _).symm)
  | succ s ih =>
    refine (later m c t (by omega) y).trans (.trans ?_ (Finset.sum_range_succ _ _).symm)
    exact congrArg₂ (· + ·) (ih ⟨t.val - 1, below t⟩ (by dsimp only; omega)) (column_part m c t (s + 1) h y)

theorem result_scaled (c : Dev nD) : @Eq (FVec Ideal S2048x2048 .bf16) ((dats m 0 c).arrAt 3 cfg0.N)
    (val_main_v7 (F := Ideal) (m ((c : Thread nD τ).loc main_arg0)) (m ((c : Thread nD τ).loc main_arg2))) := by
  refine (dats m 0 c).arrAt_eq_of_covers 3 _ (by decide +kernel) fun t hf y => ?_
  blk_simp
  rw [after0_3]
  refine (scaled m c t y).trans ((scaled_apply _ _ y).trans (.trans ?_ (ref_scaled _ _ _).symm))
  congr 1 <;> blk_ext [iblk, V, idx t]

theorem result_column (c : Dev nD) : @Eq (FVec Ideal S1x2048 .f32) ((dats m 0 c).arrAt 4 cfg0.N)
    (val_main_v4 (F := Ideal) (m ((c : Thread nD τ).loc main_arg0)) (m ((c : Thread nD τ).loc main_arg1))) := by
  refine (dats m 0 c).arrAt_eq_of_covers 4 _ (by decide +kernel) fun t hf y => ?_
  have h7 : t.val = 7 := by have := (flush0_4 t).mp hf; have := t.isLt; have : cfg0.N = 8 := rfl; omega
  blk_simp
  rw [after0_4]
  refine (running m c y 7 t h7).trans (.trans ?_ (ref_column _ _ _).symm)
  refine Finset.sum_congr rfl fun s _ => congrArg (part _ _ · s) (Fin.ext ?_)
  blk_simp [idx t]

/-- The two runs end with equal results. -/
theorem agree : Cert.algebraic_ScaleBwdIdeal_ScaleBwdRefIdeal := fun m g m' g' _ hargs =>
  ⟨fun c => val_main_v7 (F := Ideal) (m ((c : Thread nD τ).loc main_arg0)) (m ((c : Thread nD τ).loc main_arg2)),
    fun c => val_main_v4 (F := Ideal) (m ((c : Thread nD τ).loc main_arg0)) (m ((c : Thread nD τ).loc main_arg1)),
    (θ_run defs _ _).mono (fun _ h c => ⟨(h c).1.trans (result_scaled m c), (h c).2.1.trans (result_column m c), (h c).2.2⟩)
      (Cert.ScaleBwdIdeal.Value.run_blocks m g),
    (θ_run Cert.ScaleBwdRefIdeal.defs _ _).mono (fun _ h c =>
      ⟨(h c).1.trans ((val_main_v7_eq _ _).trans (congrArg₂ (val_main_v7 (F := Ideal)) (hargs c).1 (hargs c).2.2)),
        (h c).2.1.trans ((val_main_v4_eq _ _).trans (congrArg₂ (val_main_v4 (F := Ideal)) (hargs c).1 (hargs c).2.1)), (h c).2.2⟩)
      (Cert.ScaleBwdRefIdeal.Value.run m' g')⟩

theorem frame_launched : Cert.quiescent_ScaleBwd := fun m g _ => Cert.ScaleBwd.Gen.frame m g
theorem frame : Cert.quiescent_ScaleBwdIdeal := fun m g _ => Cert.ScaleBwdIdeal.Gen.frame m g
theorem frame_reference : Cert.quiescent_ScaleBwdRefIdeal := fun m g _ =>
  (θ_run Cert.ScaleBwdRefIdeal.defs _ _).mono (fun r h => ⟨fun c => (h c).2.2, sem_eq_zero_of_no_sems (by decide) r.2⟩)
    (Cert.ScaleBwdRefIdeal.Value.run (F := Ideal) m g)

end Cert.ScaleBwdIdeal.Columns

end
-- ==== Proof.Loss.lean ====
/- The loss head: half the sum over the rows of their mean squares, which the kernel takes over eight blocks of rows, and its gradient in the rows. -/
module

public import proofs.«01_k».proof.Defs
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.LossIdeal.Head

open Idealize.ShloMosaic Idealize.ShloMosaic.TcCoe Idealize.SL.Sem
open Cert.LossRefIdeal.Read
open Cert.LossIdeal Cert.LossIdeal.Gen
open scoped BigOperators

theorem idx (t : Fin cfg0.N) : win0_0.index t = ![t.val, 0] ∧ win0_1.index t = ![t.val, 0] ∧ win0_2.index t = ![0, 0]
    ∧ win0_3.index t = ![t.val, 0] := by
  revert t; decide +kernel

/-! ## The constants -/

theorem half : Ideal.ofBits .f32 0x3F000000#32 = (((1 : ℝ) / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem features : Ideal.ofBits .f32 0x45000000#32 = ((2048 : ℝ) : EReal) := by
  simp [Ideal.ofBits, Ideal.ieee, -EReal.coe_mul]
  norm_num

/-- Half a sum is the sum of the halves, infinite terms or not. -/
theorem half_sum (n : ℕ) (f : ℕ → Ideal .f32) : Ideal.ofBits .f32 0x3F000000#32 * ∑ s ∈ Finset.range n, f s
    = ∑ s ∈ Finset.range n, Ideal.ofBits .f32 0x3F000000#32 * f s := by
  induction n with
  | zero => simp
  | succ n ih =>
    rw [Finset.sum_range_succ, Finset.sum_range_succ, ← ih, half]
    exact EReal.left_distrib_of_nonneg_of_ne_top (by exact_mod_cast (by norm_num : (0 : ℝ) ≤ 1 / 2)) (EReal.coe_ne_top _) _ _

/-- The mean square of a row's differences. -/
def square {R : ℕ} (x0 x1 : Vec Ideal ⟨2, ![R, 2048]⟩ .f32) (r : Fin R) : Ideal .f32 :=
  Ideal.div (∑ k : Fin 2048, (x0 (ix2 r k) - x1 (ix2 r k)) * (x0 (ix2 r k) - x1 (ix2 r k))) (Ideal.ofBits .f32 0x45000000#32)

theorem slope_apply (v0 v1 : Vec Ideal S256x2048 .f32) (y : S256x2048.Idx) :
    k0_pay2 v0 v1 y = Ideal.div (v0 y - v1 y) (Ideal.ofBits .f32 0x45000000#32) := by
  unfold k0_pay2 k0_pay1
  pointwise

theorem half_apply (v0 v1 : Vec Ideal S256x2048 .f32) (a b : Fin 1) :
    k0_pay3 v0 v1 (ix2 a b) = Ideal.ofBits .f32 0x3F000000#32 * ∑ r : Fin 256, square v0 v1 r := by
  unfold k0_pay3 k0_pay1
  pointwise
  rfl

theorem first_apply (v0 v1 : Vec Ideal S256x2048 .f32) (y : S8x128.Idx) :
    k0_pay4 v0 v1 y = Ideal.ofBits .f32 0x3F000000#32 * ∑ r : Fin 256, square v0 v1 r := by
  refine .trans ?_ (half_apply v0 v1 0 0)
  unfold k0_pay4
  pointwise

theorem add_apply (v0 v1 : Vec Ideal S256x2048 .f32) (v : Vec Ideal S8x128 .f32) (y : S8x128.Idx) :
    k0_pay5 v0 v1 v y = v y + k0_pay4 v0 v1 y := by
  unfold k0_pay5 k0_pay4
  pointwise

/-- The part of the loss that belongs to block `s`, before it is halved. -/
def part (x0 x1 : Vec Ideal S2048x2048 .f32) (s : ℕ) : Ideal .f32 :=
  ∑ r : Fin 256, square x0 x1 ⟨(s * 256 + r.val) % 2048, Nat.mod_lt _ (by decide)⟩

section
variable (x0 x1 : Vec Ideal S2048x2048 .f32)

/-- The reference's mean square of a row. -/
theorem ref_square (i : Cert.LossRefIdeal.S2048.Idx) : val_main_v6 (F := Ideal) x0 x1 i = square x0 x1 (i 0) := by
  rw [val_main_v6_apply, val_main_v4_apply, val_main_cst_0_apply, val_main_v5_apply, val_main_cst_1_apply]
  refine congrArg (Ideal.div · _) ((congrArg (· + _) Ideal.ofBits_zero_f32).trans ((zero_add _).trans (Finset.sum_congr rfl fun k _ => ?_)))
  rw [val_main_v1_apply, val_main_v0_apply]
  exact congrArg (fun j => (x0 j - x1 j) * (x0 j - x1 j)) (by blk_ext)

/-- The reference's loss, block by block. -/
theorem ref_loss (i : S8x128.Idx) : val_main_v9 (F := Ideal) x0 x1 i
    = ∑ s ∈ Finset.range 8, Ideal.ofBits .f32 0x3F000000#32 * part x0 x1 s := by
  rw [val_main_v9_apply, val_main_v8_apply, val_main_cst_3_apply, val_main_v7_apply, val_main_cst_2_apply]
  refine .trans (congrArg (_ * ·) ((congrArg (· + _) Ideal.ofBits_zero_f32).trans ((zero_add _).trans ?_))) (half_sum 8 (part x0 x1))
  refine .trans ?_ (Finset.sum_range (part x0 x1)).symm
  refine .trans (.trans (Finset.sum_congr rfl fun j _ => ref_square x0 x1 j)
    (Fintype.sum_equiv (⟨fun j => j 0, fun k => ix1 k, fun j => by blk_ext, fun _ => rfl⟩ : Cert.LossRefIdeal.S2048.Idx ≃ Fin 2048) _
      (fun k => square x0 x1 k) fun _ => rfl)) ?_
  refine ((Equiv.sum_comp (finProdFinEquiv (m := 8) (n := 256)) _).symm.trans (Fintype.sum_prod_type _)).trans ?_
  refine Finset.sum_congr rfl fun s _ => Finset.sum_congr rfl fun r _ => congrArg (square x0 x1) (Fin.ext ?_)
  have hs : (finProdFinEquiv (s, r)).val = r.val + 256 * s.val := rfl
  have h8 := s.isLt
  have hr := r.isLt
  rw [hs]
  dsimp only
  omega

/-- The reference's gradient: twice the difference, times one half over the number of features. -/
theorem ref_slope (i : S2048x2048.Idx) :
    val_main_v15 (F := Ideal) x0 x1 i = Ideal.div (x0 i - x1 i) (Ideal.ofBits .f32 0x45000000#32) := by
  rw [val_main_v15_apply, val_main_v14_apply, val_main_v13_apply, val_main_v11_apply, val_main_v10_apply, val_main_cst_4_apply,
    val_main_cst_5_apply, val_main_v12_apply, val_main_cst_6_apply, val_main_v3_apply, val_main_v2_apply, val_main_cst_apply, val_main_v0_apply]
  change Ideal.div (Ideal.ofBits .f32 0x3F000000#32 * Ideal.ofBits .f32 0x3F800000#32) (Ideal.ofBits .f32 0x45000000#32)
    * (Ideal.ofBits .f32 0x40000000#32 * (x0 i - x1 i)) = _
  rw [half, two, features, Ideal.ofBits_one_f32, mul_one, Ideal.div_coe (by norm_num), Ideal.div_coe (by norm_num), ← EReal.coe_mul, ← mul_assoc,
    ← EReal.coe_mul, mul_comm]
  congr 2
  norm_num

end

variable (m : (ℓ : Loc nD τ sig) → Buf (Elt Ideal) ℓ)

theorem below (t : Fin cfg0.N) : t.val - 1 < cfg0.N := Nat.lt_of_le_of_lt (Nat.sub_le _ _) t.isLt

/-- What a point leaves of the gradient. -/
theorem slope (c : Dev nD) (t : Fin cfg0.N) (y : S256x2048.Idx) :
    (outsAt0 m c t.val t.isLt).2 y = k0_pay2 (iblk m c 0 t) (iblk m c 1 t) y := by
  by_cases h : t.val = 0
  · rw [outsAt0_A m c t (by omega) (by omega)]
    frame_out
  · have := t.isLt
    rw [outsAt0_B m c t (by have : cfg0.N = 8 := rfl; omega) (by omega)]
    frame_out

/-- What the first point leaves of the loss, and what each of the others adds to it. -/
theorem first (c : Dev nD) (t : Fin cfg0.N) (h : t.val = 0) (y : S8x128.Idx) :
    (outsAt0 m c t.val t.isLt).1 y = k0_pay4 (iblk m c 0 t) (iblk m c 1 t) y := by
  rw [outsAt0_A m c t (by omega) (by omega)]
  frame_out

theorem later (c : Dev nD) (t : Fin cfg0.N) (h : t.val ≠ 0) (y : S8x128.Idx) :
    (outsAt0 m c t.val t.isLt).1 y = (outsAt0 m c (t.val - 1) (below t)).1 y + k0_pay4 (iblk m c 0 t) (iblk m c 1 t) y := by
  have := t.isLt
  rw [outsAt0_B m c t (by have : cfg0.N = 8 := rfl; omega) (by omega)]
  frame_out
  exact add_apply _ _ _ y

/-- What a point computes is half its block's part. -/
theorem loss_part (c : Dev nD) (t : Fin cfg0.N) (s : ℕ) (h : t.val = s) (y : S8x128.Idx) : k0_pay4 (iblk m c 0 t) (iblk m c 1 t) y
      = Ideal.ofBits .f32 0x3F000000#32 * part (m ((c : Thread nD τ).loc main_arg0)) (m ((c : Thread nD τ).loc main_arg1)) s := by
  refine (first_apply _ _ y).trans (congrArg (_ * ·) (Finset.sum_congr rfl fun r _ =>
    congrArg (Ideal.div · _) (Finset.sum_congr rfl fun k _ => ?_)))
  have := t.isLt
  have : cfg0.N = 8 := rfl
  subst h
  congr 1 <;> congr 1 <;> blk_ext [iblk, V, idx t]

theorem running (c : Dev nD) (y : S8x128.Idx) (s : ℕ) (t : Fin cfg0.N) (h : t.val = s) : (outsAt0 m c t.val t.isLt).1 y
      = ∑ r ∈ Finset.range (s + 1), Ideal.ofBits .f32 0x3F000000#32
        * part (m ((c : Thread nD τ).loc main_arg0)) (m ((c : Thread nD τ).loc main_arg1)) r := by
  induction s generalizing t with
  | zero =>
    refine (first m c t h y).trans ((loss_part m c t 0 h y).trans ?_)
    rw [Finset.sum_range_one]
  | succ s ih =>
    refine (later m c t (by omega) y).trans (.trans ?_ (Finset.sum_range_succ _ _).symm)
    exact congrArg₂ (· + ·) (ih ⟨t.val - 1, below t⟩ (by dsimp only; omega)) (loss_part m c t (s + 1) h y)

theorem result_loss (c : Dev nD) : @Eq (FVec Ideal S8x128 .f32) ((dats m 0 c).arrAt 2 cfg0.N)
    (val_main_v9 (F := Ideal) (m ((c : Thread nD τ).loc main_arg0)) (m ((c : Thread nD τ).loc main_arg1))) := by
  refine (dats m 0 c).arrAt_eq_of_covers 2 _ (by decide +kernel) fun t hf y => ?_
  have h7 : t.val = 7 := by have := (flush0_2 t).mp hf; have := t.isLt; have : cfg0.N = 8 := rfl; omega
  blk_simp
  rw [after0_2]
  exact (running m c y 7 t h7).trans (ref_loss _ _ _).symm

theorem result_slope (c : Dev nD) : @Eq (FVec Ideal S2048x2048 .f32) ((dats m 0 c).arrAt 3 cfg0.N)
    (val_main_v15 (F := Ideal) (m ((c : Thread nD τ).loc main_arg0)) (m ((c : Thread nD τ).loc main_arg1))) := by
  refine (dats m 0 c).arrAt_eq_of_covers 3 _ (by decide +kernel) fun t hf y => ?_
  blk_simp
  rw [after0_3]
  refine (slope m c t y).trans ((slope_apply _ _ y).trans (.trans (congrArg (Ideal.div · _) ?_) (ref_slope _ _ _).symm))
  congr 1 <;> blk_ext [iblk, V, idx t]

/-- The two runs end with equal results. -/
theorem agree : Cert.algebraic_LossIdeal_LossRefIdeal := fun m g m' g' _ hargs =>
  ⟨fun c => val_main_v9 (F := Ideal) (m ((c : Thread nD τ).loc main_arg0)) (m ((c : Thread nD τ).loc main_arg1)),
    fun c => val_main_v15 (F := Ideal) (m ((c : Thread nD τ).loc main_arg0)) (m ((c : Thread nD τ).loc main_arg1)),
    (θ_run defs _ _).mono (fun _ h c => ⟨(h c).1.trans (result_loss m c), (h c).2.1.trans (result_slope m c), (h c).2.2⟩)
      (Cert.LossIdeal.Value.run_blocks m g),
    (θ_run Cert.LossRefIdeal.defs _ _).mono (fun _ h c =>
      ⟨(h c).1.trans ((val_main_v9_eq _ _).trans (congrArg₂ (val_main_v9 (F := Ideal)) (hargs c).1 (hargs c).2)),
        (h c).2.1.trans ((val_main_v15_eq _ _).trans (congrArg₂ (val_main_v15 (F := Ideal)) (hargs c).1 (hargs c).2)), (h c).2.2⟩)
      (Cert.LossRefIdeal.Value.run m' g')⟩

theorem frame_launched : Cert.quiescent_Loss := fun m g _ => Cert.Loss.Gen.frame m g
theorem frame : Cert.quiescent_LossIdeal := fun m g _ => Cert.LossIdeal.Gen.frame m g
theorem frame_reference : Cert.quiescent_LossRefIdeal := fun m g _ =>
  (θ_run Cert.LossRefIdeal.defs _ _).mono (fun r h => ⟨fun c => (h c).2.2, sem_eq_zero_of_no_sems (by decide) r.2⟩)
    (Cert.LossRefIdeal.Value.run (F := Ideal) m g)

end Cert.LossIdeal.Head

end
-- ==== Proof.AttnStep.lean ====
/- One step of the attention itself, as the kernel's body computes it on its staged blocks: a query block of 256 rows against the
   `n` key rows it can see. The kernel prints this once for each of the eight query blocks; here it is written once, with the number
   of key rows a variable, and read entry by entry where the blocks hold a head's real numbers. -/
module

public import proofs.«01_k».proof.Proof.Block

@[expose] public section

noncomputable section

namespace Cert.FoxFwd

open Idealize.ShloMosaic Idealize.ShloMosaic.ValueIdx Cert.KernelIdeal Cert.FoxBwd
open scoped BigOperators

section step
variable {F : FTy → Type} [FloatOps F] (n : ℕ)

/-- The scores: the scaled products of queries and keys with the gates' differences added, −∞ where the key comes after the query
    (whose rows start at `off`). -/
def logits (off : BitVec 32) (q : Vec F S256x128 .f32) (k : Vec F (Mat n 128) .f32) (cc : Vec F S1x256x1 .f32)
    (cr : Vec F (Row n) .f32) : FVec F (Mat 256 n) .f32 :=
  select (cmpi .sle (iota .tc (Mat 256 n) 32 [1] (iotas_cols 256 n))
      (addi (broadcast (Mat 256 n) off) (iota .tc (Mat 256 n) 32 [0] (iotas_rows 256 n))))
    (subf
      (addf (mulf (matmul (DotDims.transposedRhs 256 128 n) none (truncf .bf16 q narrower) (truncf .bf16 k narrower)
          (constant (Mat 256 n) .f32 0x00000000#32)) (broadcast (Mat 256 n) (Scalar.ofBits .f32 0x3DB504F3#32)))
        (broadcastTo (Mat 256 n) (shapeCast S256x1 cc casts_col) (broadcasts_col 256 n)))
      (broadcastTo (Mat 256 n) (shapeCast (Mat 1 n) cr (casts_row n)) (broadcasts_row 256 n)))
    (broadcast (Mat 256 n) (Scalar.ofBits .f32 0xFF800000#32))

variable (s : FVec F (Mat 256 n) .f32)

/-- Each row's greatest score. -/
def highest : FVec F S256x1 .f32 :=
  shapeCast S256x1 (multiReduction .maximumf [1] S256 s 0xFF800000#32 (reduces_cols 256 n) (.inl rfl) rfl) casts_vec'
/-- The exponentials of the scores less it. -/
def expo : FVec F (Mat 256 n) .f32 := exp (subf s (broadcastTo (Mat 256 n) (highest n s) (broadcasts_col 256 n)))
/-- Their sum along each row. -/
def total : FVec F S256x1 .f32 :=
  shapeCast S256x1 (multiReduction .add [1] S256 (expo n s) 0x00000000#32 (reduces_cols 256 n) (.inl rfl) rfl) casts_vec'
/-- The mean of the values with the quotients as weights. -/
def mean (v : Vec F (Mat n 128) .f32) : FVec F S256x128 .f32 :=
  matmul (DotDims.plain 256 n 128) none
    (truncf .bf16 (divf (expo n s) (broadcastTo (Mat 256 n) (total n s) (broadcasts_col 256 n))) narrower) (truncf .bf16 v narrower)
    (constant S256x128 .f32 0x00000000#32)
/-- The logarithm of the row's sum, the greatest score put back. -/
def logTotal : FVec F S1x256x1 .f32 := shapeCast S1x256x1 (addf (highest n s) (log (total n s))) casts_col'

end step

/-! ## The scores where the blocks hold reals -/

section scores
variable {n : ℕ} {q : Vec Ideal S256x128 .f32} {k : Vec Ideal (Mat n 128) .f32} {cc : Vec Ideal S1x256x1 .f32} {cr : Vec Ideal (Row n) .f32}
  {Q : Fin 256 → Fin 128 → ℝ} {K : Fin n → Fin 128 → ℝ} {A : Fin 256 → ℝ} {C : Fin n → ℝ}

theorem logits_apply {off : ℕ} (ho : off ≤ 2048) (hn : n ≤ 2048) (hq : ∀ r a, q (ix2 r a) = (Q r a : EReal))
    (hk : ∀ j a, k (ix2 j a) = (K j a : EReal)) (hA : ∀ r, cc (ix3 0 r 0) = (A r : EReal)) (hC : ∀ j, cr (ix3 0 0 j) = (C j : EReal))
    (r : Fin 256) (j : Fin n) : logits n (BitVec.ofNat 32 off) q k cc cr (ix2 r j)
      = if j.val ≤ off + r.val then (((∑ a, Q r a * K j a) * scale + A r - C j : ℝ) : EReal) else ⊥ := by
  have e : logits n (BitVec.ofNat 32 off) q k cc cr (ix2 r j) = Scalar.select
      (IntOp.cmpi .sle (iota .tc (Mat 256 n) 32 [1] (iotas_cols 256 n) (ix2 r j))
        (IntOp.addi (BitVec.ofNat 32 off) (iota .tc (Mat 256 n) 32 [0] (iotas_rows 256 n) (ix2 r j))))
      ((FloatOps.matmul (DotDims.transposedRhs 256 128 n) none (truncf .bf16 q narrower) (truncf .bf16 k narrower)
        (constant (Mat 256 n) .f32 0x00000000#32) (ix2 r j) * Ideal.ofBits .f32 0x3DB504F3#32
        + broadcastTo (Mat 256 n) (shapeCast S256x1 cc casts_col) (broadcasts_col 256 n) (ix2 r j))
        - broadcastTo (Mat 256 n) (shapeCast (Mat 1 n) cr (casts_row n)) (broadcasts_row 256 n) (ix2 r j))
      (Ideal.ofBits .f32 0xFF800000#32) := rfl
  rw [e, iota_col, iota_row, masked ho r.isLt (by omega), Ideal.matmul_transposedRhs_apply, broadcastTo_col_apply, casts_col_apply,
    broadcastTo_1b_ab_apply, shapeCast_1ab_ab_apply, hA, hC, scale_eq, bot_eq, constant_apply, Ideal.ofBits_zero_f32, zero_add]
  simp only [truncf_apply, hq, hk, coe_sum_mul]
  rw [← EReal.coe_mul, ← EReal.coe_add, ← EReal.coe_sub]

end scores

/-! ## The rest of the step, from a head's scores -/

section head
variable {H : Head} {b : Fin 8} {s : FVec Ideal (Mat 256 (seen b)) .f32} {v : Vec Ideal (Mat (seen b) 128) .f32} {M : Fin 256 → ℝ}

/-- Among extended reals below ⊤ some of which is above ⊥, the greatest is a real. -/
theorem greatest_real {n : ℕ} (f : Fin n → EReal) (hf : ∀ k, f k ≠ ⊤) (k₀ : Fin n) (h₀ : f k₀ ≠ ⊥) :
    ∃ M : ℝ, (Finset.univ : Finset (Fin n)).fold max ⊥ f = (M : EReal) := by
  have ht := (Finset.fold_max_lt (s := Finset.univ) (f := f) (b := ⊥) ⊤).mpr ⟨bot_lt_top, fun k _ => lt_top_iff_ne_top.mpr (hf k)⟩
  have hb := (Finset.le_fold_max (s := Finset.univ) (f := f) (b := ⊥) (f k₀)).mpr (Or.inr ⟨k₀, Finset.mem_univ _, le_refl _⟩)
  exact ⟨_, (EReal.coe_toReal ht.ne (fun e => h₀ (le_bot_iff.mp (hb.trans e.le)))).symm⟩

/-- The block's scores are the head's, −∞ for the keys after the query. -/
def Scored (H : Head) (b : Fin 8) (s : FVec Ideal (Mat 256 (seen b)) .f32) : Prop :=
  ∀ r j, s (ix2 r j) = if key b j ≤ rowIn b r then (H.s (rowIn b r) (key b j) : EReal) else ⊥

variable (hs : Scored H b s)
include hs

theorem highest_real (r : Fin 256) : ∃ M : ℝ, highest (seen b) s (ix2 r (0 : Fin 1)) = (M : EReal) := by
  unfold highest
  rw [shapeCast_a_a1_apply]
  have e := Ideal.multiReduction_maximumf_single s 0xFF800000#32 (reduces_cols 256 (seen b)) (.inl rfl) rfl (ix1 r)
  have el (j : Fin (seen b)) : s ((reduces_cols 256 (seen b)).lift (ix1 r) j) = s (ix2 r j) := congrArg s (funext fun a => by
    match a with
    | ⟨0, _⟩ => rfl
    | ⟨1, _⟩ => rfl)
  obtain ⟨M, hM⟩ := greatest_real (fun j : Fin (seen b) => s (ix2 r j)) (fun j => by
    rw [hs]; split
    exacts [EReal.coe_ne_top _, bot_ne_top]) ⟨0, Nat.mul_pos (by decide) (Nat.succ_pos _)⟩ (by
    rw [hs, if_pos (Fin.le_def.mpr (Nat.zero_le _))]; exact EReal.coe_ne_bot _)
  refine ⟨M, e.trans (.trans ?_ hM)⟩
  show (Finset.univ : Finset (Fin (seen b))).fold max (Ideal.ofBits .f32 0xFF800000#32) (fun j => s ((reduces_cols 256 (seen b)).lift (ix1 r) j)) = _
  rw [bot_eq]
  exact congrArg (fun f => (Finset.univ : Finset (Fin (seen b))).fold max ⊥ f) (funext el)

theorem expo_apply (hM : ∀ r, highest (seen b) s (ix2 r (0 : Fin 1)) = (M r : EReal)) (r : Fin 256) (j : Fin (seen b)) :
    expo (seen b) s (ix2 r j) = ((H.e (rowIn b r) (key b j) * Real.exp (-M r) : ℝ) : EReal) := by
  have e : expo (seen b) s (ix2 r j)
      = Ideal.exp (s (ix2 r j) - broadcastTo (Mat 256 (seen b)) (highest (seen b) s) (broadcasts_col 256 (seen b)) (ix2 r j)) := rfl
  rw [e, broadcastTo_col_apply, hM, hs, ← H.exp_sub]
  split
  · rw [← EReal.coe_sub, Ideal.exp_coe]
  · rw [EReal.bot_sub, Ideal.exp_bot, EReal.coe_zero]

omit hs in
theorem after (r : Fin 256) {j : Fin 2048} (hj : seen b ≤ j.val) : rowIn b r < j := by
  show 256 * b.val + r.val < j.val
  have := r.isLt; unfold seen at hj; omega

omit hs in
theorem e_after (r : Fin 256) {j : Fin 2048} (hj : seen b ≤ j.val) : H.e (rowIn b r) j = 0 := if_neg (not_le.mpr (after r hj))

theorem total_apply (hM : ∀ r, highest (seen b) s (ix2 r (0 : Fin 1)) = (M r : EReal)) (r : Fin 256) :
    total (seen b) s (ix2 r (0 : Fin 1)) = ((H.z (rowIn b r) * Real.exp (-M r) : ℝ) : EReal) := by
  refine (rowSum_apply (S := fun r j => H.e (rowIn b r) (key b j) * Real.exp (-M r)) (expo_apply hs hM) r).trans (congrArg _ ?_)
  rw [sum_first (seen_le b) (fun j => H.e (rowIn b r) j * Real.exp (-M r)) fun j hj => by rw [e_after r hj, zero_mul], H.sum_exp_sub]

/-- The block's rows of the attention's output. -/
theorem mean_apply (hv : ∀ j a, v (ix2 j a) = (H.v (key b j) a : EReal)) (r : Fin 256) (a : Fin 128) :
    mean (seen b) s v (ix2 r a) = (H.o (rowIn b r) a : EReal) := by
  choose M hM using highest_real hs
  have ep (j : Fin (seen b)) : divf (expo (seen b) s) (broadcastTo (Mat 256 (seen b)) (total (seen b) s) (broadcasts_col 256 (seen b))) (ix2 r j)
      = (H.p (rowIn b r) (key b j) : EReal) := by
    rw [divf_apply, broadcastTo_col_apply, expo_apply hs hM, total_apply hs hM, ← H.shifted_ratio (M r), Ideal.div_coe (H.shifted_pos _ _).ne',
      ← EReal.coe_mul, mul_one_div]
  refine (Ideal.matmul_plain_apply _ _ _ _ r a).trans ?_
  rw [constant_apply, Ideal.ofBits_zero_f32, zero_add]
  simp only [truncf_apply, ep, hv, coe_sum_mul]
  rw [Head.o, ← sum_first (seen_le b) (fun j => H.p (rowIn b r) j * H.v j a) fun j hj => by rw [H.p_later (after r hj), zero_mul]]

omit hs in
theorem log_back {x w : FVec Ideal S256x1 .f32} {y : S256x1.Idx} {u z : EReal} (hx : x y = u) (hw : w y = z) :
    addf x (log w) y = u + Ideal.log z := congrArg₂ (fun x w : EReal => x + Ideal.log w) hx hw

/-- The logarithms of the block's rows' sums. -/
theorem logTotal_apply (r : Fin 256) : logTotal (seen b) s (ix3 0 r 0) = (Real.log (H.z (rowIn b r)) : EReal) := by
  choose M hM using highest_real hs
  refine (shapeCast_ab_1ab_apply _ _ 0 r 0).trans ((log_back (hM r) (total_apply hs hM r)).trans ?_)
  rw [Ideal.log_coe, if_neg (not_le.mpr (H.shifted_pos _ _)), ← H.add_log_shifted (M r), EReal.coe_add]

end head

end Cert.FoxFwd

end
-- ==== Proof.AttnPoint.lean ====
/- The attention's call point by point: what a point leaves in its three blocks, the eight printed bodies brought under one step, and the
   blocks it finds where the call's arrays hold the heads' real numbers. -/
module

public import proofs.«01_k».proof.Proof.AttnStep
public import proofs.«01_k».proof.Proof.Gen.AttnIdeal.Value
public import Idealize.ShloMosaic.Lib.Pipeline.ValueKit

@[expose] public section

set_option maxRecDepth 16384

noncomputable section

namespace Cert.FoxFwd

open Idealize.ShloMosaic hiding ix2 ix3
open Idealize.ShloMosaic.TcCoe Idealize.SL.Sem
open Idealize.ShloMosaic.ValueIdx (ix2 ix3)
open Cert.AttnIdeal Cert.AttnIdeal.Gen Cert.FoxBwd

variable (m : (ℓ : Loc nD τ sig) → Buf (Elt Ideal) ℓ)

theorem idx (t : Fin cfg0.N) :
    win0_0.index t = ![t.val % 8, t.val / 8] ∧ win0_1.index t = ![0, 16 + t.val / 8] ∧ win0_2.index t = ![0, 32 + t.val / 8]
    ∧ win0_3.index t = ![t.val / 8, t.val % 8, 0] ∧ win0_4.index t = ![t.val / 8, 0, 0] ∧ win0_5.index t = ![t.val % 8, t.val / 8]
    ∧ win0_6.index t = ![t.val % 8, t.val / 8] ∧ win0_7.index t = ![t.val / 8, t.val % 8, 0] := by
  revert t; decide +kernel

/-- The head and the query block of point `t`. -/
def headOf (t : Fin cfg0.N) : Fin 16 := ⟨t.val / 8, by have : t.val < 128 := t.isLt; omega⟩
def blockOf (t : Fin cfg0.N) : Fin 8 := ⟨t.val % 8, by omega⟩

/-- The scores of a point whose query block is `b`. -/
def scoresAt (c : Dev nD) (t : Fin cfg0.N) (b : Fin 8) : FVec Ideal (Mat 256 (seen b)) .f32 :=
  logits (seen b) (BitVec.ofNat 32 (256 * b.val)) (iblk m c 0 t) (rowsOf b (iblk m c 1 t)) (iblk m c 3 t) (colsOf b (iblk m c 4 t))

/-- The last block sees all the keys. -/
theorem rows_all (x : Vec Ideal S2048x128 .f32) : @Eq (Vec Ideal S2048x128 .f32) (rowsOf 7 x) x := funext fun y => congrArg x (funext fun ax => Fin.ext (by
  match ax with
  | ⟨0, _⟩ => show 0 + 1 * (y 0).val = (y 0).val; omega
  | ⟨1, _⟩ => show 0 + 1 * (y 1).val = (y 1).val; omega))
theorem cols_all (x : Vec Ideal S1x1x2048 .f32) : @Eq (Vec Ideal S1x1x2048 .f32) (colsOf 7 x) x := funext fun y => congrArg x (funext fun ax => Fin.ext (by
  match ax with
  | ⟨0, _⟩ => show 0 + 1 * (y 0).val = (y 0).val; omega
  | ⟨1, _⟩ => show 0 + 1 * (y 1).val = (y 1).val; omega
  | ⟨2, _⟩ => show 0 + 1 * (y 2).val = (y 2).val; omega))

/-- The scores of a head's last point. -/
def lastScores (c : Dev nD) (t : Fin cfg0.N) : FVec Ideal (Mat 256 2048) .f32 :=
  logits 2048 1792#32 (iblk m c 0 t) (iblk m c 1 t) (iblk m c 3 t) (iblk m c 4 t)

theorem scoresAt_last (c : Dev nD) (t : Fin cfg0.N) : @Eq (FVec Ideal (Mat 256 2048) .f32) (scoresAt m c t 7) (lastScores m c t) :=
  congrArg₂ (fun k cr => logits 2048 1792#32 (iblk m c 0 t) k (iblk m c 3 t) cr) (rows_all (iblk m c 1 t)) (cols_all (iblk m c 4 t))

theorem mean_last (c : Dev nD) (t : Fin cfg0.N) :
    mean (seen 7) (scoresAt m c t 7) (rowsOf 7 (iblk m c 2 t)) = mean 2048 (lastScores m c t) (iblk m c 2 t) :=
  congrArg₂ (mean 2048) (scoresAt_last m c t) (rows_all (iblk m c 2 t))

theorem logTotal_last (c : Dev nD) (t : Fin cfg0.N) : logTotal (seen 7) (scoresAt m c t 7) = logTotal 2048 (lastScores m c t) :=
  congrArg (logTotal 2048) (scoresAt_last m c t)

set_option maxHeartbeats 1000000 in
/-- What a point leaves. -/
theorem leaves (c : Dev nD) (t : Fin cfg0.N) (b : Fin 8) (h : t.val % 8 = b.val) :
    (∀ y, (outsAt0 m c t.val t.isLt).1 y = mean (seen b) (scoresAt m c t b) (rowsOf b (iblk m c 2 t)) y)
    ∧ (∀ y, (outsAt0 m c t.val t.isLt).2.1 y = mean (seen b) (scoresAt m c t b) (rowsOf b (iblk m c 2 t)) y)
    ∧ (∀ y, (outsAt0 m c t.val t.isLt).2.2 y = logTotal (seen b) (scoresAt m c t b) y) := by
  fin_cases b
  · replace h : t.val % 8 = 0 := h
    rw [outsAt0_A m c t h (by omega) (by omega) (by omega) (by omega) (by omega) (by omega) (by omega)]
    exact ⟨fun y => by frame_out; rfl, fun y => by frame_out; rfl, fun y => by frame_out; rfl⟩
  · replace h : t.val % 8 = 1 := h
    rw [outsAt0_B m c t (by omega) h (by omega) (by omega) (by omega) (by omega) (by omega) (by omega)]
    exact ⟨fun y => by frame_out; rfl, fun y => by frame_out; rfl, fun y => by frame_out; rfl⟩
  · replace h : t.val % 8 = 2 := h
    rw [outsAt0_C m c t (by omega) (by omega) h (by omega) (by omega) (by omega) (by omega) (by omega)]
    exact ⟨fun y => by frame_out; rfl, fun y => by frame_out; rfl, fun y => by frame_out; rfl⟩
  · replace h : t.val % 8 = 3 := h
    rw [outsAt0_D m c t (by omega) (by omega) (by omega) h (by omega) (by omega) (by omega) (by omega)]
    exact ⟨fun y => by frame_out; rfl, fun y => by frame_out; rfl, fun y => by frame_out; rfl⟩
  · replace h : t.val % 8 = 4 := h
    rw [outsAt0_E m c t (by omega) (by omega) (by omega) (by omega) h (by omega) (by omega) (by omega)]
    exact ⟨fun y => by frame_out; rfl, fun y => by frame_out; rfl, fun y => by frame_out; rfl⟩
  · replace h : t.val % 8 = 5 := h
    rw [outsAt0_F m c t (by omega) (by omega) (by omega) (by omega) (by omega) h (by omega) (by omega)]
    exact ⟨fun y => by frame_out; rfl, fun y => by frame_out; rfl, fun y => by frame_out; rfl⟩
  · replace h : t.val % 8 = 6 := h
    rw [outsAt0_G m c t (by omega) (by omega) (by omega) (by omega) (by omega) (by omega) h (by omega)]
    exact ⟨fun y => by frame_out; rfl, fun y => by frame_out; rfl, fun y => by frame_out; rfl⟩
  · replace h : t.val % 8 = 7 := h
    rw [outsAt0_H m c t (by omega) (by omega) (by omega) (by omega) (by omega) (by omega) (by omega) h]
    refine ⟨fun y => .trans ?_ (congrFun (mean_last m c t) y).symm, fun y => .trans ?_ (congrFun (mean_last m c t) y).symm,
      fun y => .trans ?_ (congrFun (logTotal_last m c t) y).symm⟩
    · frame_out; rfl
    · frame_out; rfl
    · frame_out; rfl

/-- The arrays the call finds on device `c` hold the heads `I`. -/
structure Finds (I : Fin 16 → Head) (c : Dev nD) : Prop where
  q : ∀ h i a, V m c main_arg0 (ix2 i (projCol 0 h a)) = ((I h).q i a : EReal)
  k : ∀ h i a, V m c main_arg0 (ix2 i (projCol 1 h a)) = ((I h).k i a : EReal)
  v : ∀ h i a, V m c main_arg0 (ix2 i (projCol 2 h a)) = ((I h).v i a : EReal)
  cc : ∀ h i, V m c main_v2 (ix3 h i 0) = ((I h).c i : EReal)
  cr : ∀ h j, V m c main_v3 (ix3 h 0 j) = ((I h).c j : EReal)

section reads
variable (t : Fin cfg0.N) (r : Fin 256) (j : Fin 2048) (a : Fin 128)

theorem blockOf_val : (blockOf t).val = t.val % 8 := rfl

theorem read_q (X : (⟨S2048x6272, .f32⟩ : BufTy).Contents (Elt Ideal)) :
    ((cfg0.win 0).blk t).view.read (Elt Ideal) X (Idealize.ShloMosaic.ix2 r a) = X (Idealize.ShloMosaic.ix2 (rowIn (blockOf t) r) (projCol 0 (headOf t) a)) := by
  have := blockOf_val t
  blk_ext [idx t, rowIn, headOf, projCol]
theorem read_k (X : (⟨S2048x6272, .f32⟩ : BufTy).Contents (Elt Ideal)) :
    ((cfg0.win 1).blk t).view.read (Elt Ideal) X (Idealize.ShloMosaic.ix2 j a) = X (Idealize.ShloMosaic.ix2 j (projCol 1 (headOf t) a)) := by
  blk_ext [idx t, headOf, projCol]
theorem read_v (X : (⟨S2048x6272, .f32⟩ : BufTy).Contents (Elt Ideal)) :
    ((cfg0.win 2).blk t).view.read (Elt Ideal) X (Idealize.ShloMosaic.ix2 j a) = X (Idealize.ShloMosaic.ix2 j (projCol 2 (headOf t) a)) := by
  blk_ext [idx t, headOf, projCol]
theorem read_cc (X : (⟨S16x2048x1, .f32⟩ : BufTy).Contents (Elt Ideal)) :
    ((cfg0.win 3).blk t).view.read (Elt Ideal) X (Idealize.ShloMosaic.ix3 0 r 0) = X (Idealize.ShloMosaic.ix3 (headOf t) (rowIn (blockOf t) r) 0) := by
  have := blockOf_val t
  blk_ext [idx t, rowIn, headOf]
theorem read_cr (X : (⟨S16x1x2048, .f32⟩ : BufTy).Contents (Elt Ideal)) :
    ((cfg0.win 4).blk t).view.read (Elt Ideal) X (Idealize.ShloMosaic.ix3 0 0 j) = X (Idealize.ShloMosaic.ix3 (headOf t) 0 j) := by
  blk_ext [idx t, headOf]

end reads

variable {m} {I : Fin 16 → Head} {c : Dev nD} (hF : Finds m I c) (t : Fin cfg0.N)
include hF

theorem values_hold (j : Fin (seen (blockOf t))) (a : Fin 128) :
    rowsOf (blockOf t) (iblk m c 2 t) (ix2 j a) = ((I (headOf t)).v (key (blockOf t) j) a : EReal) :=
  (rowsOf_apply (blockOf t) (iblk m c 2 t) j a).trans ((read_v t _ a (V m c main_arg0)).trans (hF.v _ _ a))

theorem scores_hold : Scored (I (headOf t)) (blockOf t) (scoresAt m c t (blockOf t)) :=
  logits_apply (Q := fun r => (I (headOf t)).q (rowIn (blockOf t) r)) (K := fun j => (I (headOf t)).k (key (blockOf t) j))
    (A := fun r => (I (headOf t)).c (rowIn (blockOf t) r)) (C := fun j => (I (headOf t)).c (key (blockOf t) j))
    (by have := (blockOf t).isLt; omega) (seen_le _)
    (fun r a => (read_q t r a (V m c main_arg0)).trans (hF.q _ _ a))
    (fun j a => (rowsOf_apply (blockOf t) (iblk m c 1 t) j a).trans ((read_k t _ a (V m c main_arg0)).trans (hF.k _ _ a)))
    (fun r => (read_cc t r (V m c main_v2)).trans (hF.cc _ _))
    (fun j => (colsOf_apply (blockOf t) (iblk m c 4 t) j).trans ((read_cr t _ (V m c main_v3)).trans (hF.cr _ _)))

theorem leaves_output (r : Fin 256) (a : Fin 128) :
    (outsAt0 m c t.val t.isLt).1 (ix2 r a) = ((I (headOf t)).o (rowIn (blockOf t) r) a : EReal) :=
  ((leaves m c t (blockOf t) rfl).1 _).trans (mean_apply (scores_hold hF t) (values_hold hF t) r a)

theorem leaves_output16 (r : Fin 256) (a : Fin 128) :
    (outsAt0 m c t.val t.isLt).2.1 (ix2 r a) = ((I (headOf t)).o (rowIn (blockOf t) r) a : EReal) :=
  ((leaves m c t (blockOf t) rfl).2.1 _).trans (mean_apply (scores_hold hF t) (values_hold hF t) r a)

theorem leaves_logSum (r : Fin 256) :
    (outsAt0 m c t.val t.isLt).2.2 (ix3 0 r 0) = (Real.log ((I (headOf t)).z (rowIn (blockOf t) r)) : EReal) :=
  ((leaves m c t (blockOf t) rfl).2.2 _).trans (logTotal_apply (scores_hold hF t) r)

end Cert.FoxFwd

end
-- ==== Proof.AttnRef.lean ====
/- The reference of the attention itself where its arguments hold the heads' real numbers: its lines are those of the backward pass's
   reference up to the output, and the logarithm of each row's sum is read from the same exponentials. -/
module

public import proofs.«01_k».proof.Proof.Finite
public import proofs.«01_k».proof.Proof.Gen.AttnRefIdeal.Run
public import proofs.«01_k».proof.Proof.Gen.AttnRefIdeal.Read
public import proofs.«01_k».proof.Proof.Gen.Pre_finite_attn

@[expose] public section

set_option maxRecDepth 16384

noncomputable section

namespace Cert.FoxFwd

open Idealize.ShloMosaic hiding ix2 ix3
open Idealize.ShloMosaic.ValueIdx (ix2 ix3)
open Cert.AttnRefIdeal Cert.AttnRefIdeal.Read Cert.FoxBwd

variable {I : Fin 16 → Head} {x0 : (⟨S2048x6272, .f32⟩ : BufTy).Contents (Elt Ideal)} {x1 : (⟨S2048x128, .f32⟩ : BufTy).Contents (Elt Ideal)}
  {x2 : (⟨S2048x2048, .f32⟩ : BufTy).Contents (Elt Ideal)}

theorem output_line (x0 : (⟨S2048x6272, .f32⟩ : BufTy).Contents (Elt Ideal)) (x1 : (⟨S2048x128, .f32⟩ : BufTy).Contents (Elt Ideal)) :
    val_main_v41 (F := Ideal) x0 x1 = Cert.ReferenceIdeal.Read.val_main_v58 (F := Ideal) x0 x1 := rfl
theorem scores_line (x0 : (⟨S2048x6272, .f32⟩ : BufTy).Contents (Elt Ideal)) (x1 : (⟨S2048x128, .f32⟩ : BufTy).Contents (Elt Ideal)) :
    val_main_v62 (F := Ideal) x0 x1 = Cert.ReferenceIdeal.Read.val_main_v25_0 (F := Ideal) x0 x1 := rfl
theorem max_line (x0 : (⟨S2048x6272, .f32⟩ : BufTy).Contents (Elt Ideal)) (x1 : (⟨S2048x128, .f32⟩ : BufTy).Contents (Elt Ideal)) :
    val_main_v63 (F := Ideal) x0 x1 = Cert.ReferenceIdeal.Read.val_main_v26 (F := Ideal) x0 x1 := rfl

variable (H : Holds I x0 x1 x2)
include H

theorem ref_output (h : Fin 16) (i : Fin 2048) (a : Fin 128) :
    val_main_v41 (F := Ideal) x0 x1 (ix2 i (col h a)) = ((I h).o i a : EReal) :=
  (congrFun (output_line x0 x1) _).trans (H.output h i a)

theorem ref_top (h : Fin 16) (i : Fin 2048) : val_main_v64 (F := Ideal) x0 x1 (ix3 h i 0) = (H.top h i : EReal) := by
  rw [val_main_v64_apply, max_line]
  exact at2 (H.top_eq h i) rfl rfl

theorem ref_expo (h : Fin 16) (i j : Fin 2048) :
    val_main_v68 (F := Ideal) x0 x1 (ix3 h i j) = (((I h).e i j * Real.exp (-H.top h i) : ℝ) : EReal) := by
  have e : val_main_v64 (F := Ideal) x0 x1 (idx_main_v66 (ix3 h i j)) = (H.top h i : EReal) := at3 (ref_top H h i) rfl rfl rfl
  rw [val_main_v68_apply, val_main_v67_apply, scores_line, H.maskedScore, val_main_v66_apply, e, ← Head.exp_sub]
  show Ideal.exp ((if j ≤ i then ((I h).s i j : EReal) else ⊥) - (H.top h i : EReal)) = _
  split
  · rw [← EReal.coe_sub, Ideal.exp_coe]
  · rw [EReal.bot_sub, Ideal.exp_bot, EReal.coe_zero]

theorem ref_sum (h : Fin 16) (i : Fin 2048) :
    val_main_v70 (F := Ideal) x0 x1 (ix3 h i 0) = (((I h).z i * Real.exp (-H.top h i) : ℝ) : EReal) := by
  rw [val_main_v70_apply, val_main_v69_apply, val_main_cst_7_apply]
  refine (congrArg (· + _) Ideal.ofBits_zero_f32).trans ((zero_add _).trans ?_)
  rw [← Head.sum_exp_sub, coe_sum]
  exact Finset.sum_congr rfl fun j _ => at3 (ref_expo H h i j) rfl rfl rfl

theorem ref_logSum (h : Fin 16) (i : Fin 2048) : val_main_v72 (F := Ideal) x0 x1 (ix3 h i 0) = (Real.log ((I h).z i) : EReal) :=
  logSum_value (I h) (H.top h i) i (ref_top H h i) (ref_sum H h i)

omit H in
/-- Where the precondition holds, the arguments hold heads; no cotangent is among them, so zeros stand there. -/
theorem holds_of_finite_attn (h₀ : (Cert.Pre_finite_attn.fn (F := Ideal) x0 x1).1 = fun _ => 1#1)
    (h₁ : (Cert.Pre_finite_attn.fn (F := Ideal) x0 x1).2 = fun _ => 1#1) :
    Holds (headsOf x0 x1 fun _ => (0 : EReal)) x0 x1 fun _ => (0 : EReal) where
  q h i a := real_proj (x0 := x0) (x1 := x1) (x2 := fun _ => (0 : EReal)) h₀ 0 h i a
  k h i a := real_proj (x0 := x0) (x1 := x1) (x2 := fun _ => (0 : EReal)) h₀ 1 h i a
  v h i a := real_proj (x0 := x0) (x1 := x1) (x2 := fun _ => (0 : EReal)) h₀ 2 h i a
  c h i := real_gate (x0 := x0) (x1 := x1) (x2 := fun _ => (0 : EReal)) h₁ h i
  d h i a := (congrArg Real.toEReal EReal.toReal_zero).symm

end Cert.FoxFwd

end
-- ==== Proof.Attn.lean ====
/- The attention itself, where its arguments are finite: the kernel's output, its narrowed copy and the logarithms of the rows' sums are the
   reference's. -/
module

public import proofs.«01_k».proof.Defs
public import proofs.«01_k».proof.Proof.AttnPoint
public import proofs.«01_k».proof.Proof.AttnRef
public import proofs.«01_k».proof.Proof.Results
public import proofs.«01_k».proof.Proof.Gen.Attn.Frame
public import Idealize.ShloMosaic.Lib.Quiescent

@[expose] public section

set_option maxRecDepth 16384

noncomputable section

namespace Cert.FoxFwd

open Idealize.ShloMosaic hiding ix2 ix3
open Idealize.ShloMosaic.ValueIdx (ix2 ix3)
open Idealize.ShloMosaic.TcCoe Idealize.SL.Sem
open Cert.AttnRefIdeal.Read
open Cert.AttnIdeal Cert.AttnIdeal.Gen
open Cert.FoxBwd (Head Holds rowIn col projCol index₂ index_col)

section places
variable (t : Fin cfg0.N) (r : Fin 256) (a : Fin 128)

theorem place_output (X : (⟨S2048x2048, .f32⟩ : BufTy).Contents (Elt Ideal)) :
    X (((cfg0.win 5).blk t).view.emb (Idealize.ShloMosaic.ix2 r a)) = X (Idealize.ShloMosaic.ix2 (rowIn (blockOf t) r) (col (headOf t) a)) := by
  have := blockOf_val t
  blk_ext [idx t, rowIn, headOf, col]
theorem place_output16 (X : (⟨S2048x2048, .bf16⟩ : BufTy).Contents (Elt Ideal)) :
    X (((cfg0.win 6).blk t).view.emb (Idealize.ShloMosaic.ix2 r a)) = X (Idealize.ShloMosaic.ix2 (rowIn (blockOf t) r) (col (headOf t) a)) := by
  have := blockOf_val t
  blk_ext [idx t, rowIn, headOf, col]
theorem place_logSum (X : (⟨S16x2048x1, .f32⟩ : BufTy).Contents (Elt Ideal)) :
    X (((cfg0.win 7).blk t).view.emb (Idealize.ShloMosaic.ix3 0 r 0)) = X (Idealize.ShloMosaic.ix3 (headOf t) (rowIn (blockOf t) r) 0) := by
  have := blockOf_val t
  blk_ext [idx t, rowIn, headOf]

end places

variable (m : (ℓ : Loc nD τ sig) → Buf (Elt Ideal) ℓ) (c : Dev nD)

/-- The two arguments, at the reference's types. -/
abbrev projs : (⟨Cert.AttnRefIdeal.S2048x6272, .f32⟩ : BufTy).Contents (Elt Ideal) := m ((c : Thread nD τ).loc main_arg0)
abbrev gates : (⟨Cert.AttnRefIdeal.S2048x128, .f32⟩ : BufTy).Contents (Elt Ideal) := m ((c : Thread nD τ).loc main_arg1)

theorem entry_gate_col : (V m c main_v2 : (⟨S16x2048x1, .f32⟩ : BufTy).Contents (Elt Ideal))
    = Cert.ReferenceIdeal.Read.val_main_v5 (F := Ideal) (gates m c) := by
  entry_read
  rfl
theorem entry_gate_row : (V m c main_v3 : (⟨S16x1x2048, .f32⟩ : BufTy).Contents (Elt Ideal))
    = Cert.ReferenceIdeal.Read.val_main_v6 (F := Ideal) (gates m c) := by
  entry_read
  rfl

variable {m c} {I : Fin 16 → Head} {x2 : (⟨Cert.AttnRefIdeal.S2048x2048, .f32⟩ : BufTy).Contents (Elt Ideal)}
  (H : Holds I (projs m c) (gates m c) x2)
include H

/-- Where the arguments hold the heads `I`, so does everything the call reads. -/
theorem finds : Finds m I c := by
  have e := V_main_arg0 m c
  have e2 := entry_gate_col m c
  have e3 := entry_gate_row m c
  refine ⟨fun h i a => ?_, fun h i a => ?_, fun h i a => ?_, fun h i => ?_, fun h j => ?_⟩
  · exact (congrFun e _).trans (H.q h i a)
  · exact (congrFun e _).trans (H.k h i a)
  · exact (congrFun e _).trans (H.v h i a)
  · exact (congrFun e2 _).trans (H.gate_col h i)
  · exact (congrFun e3 _).trans (H.gate_row h j)

theorem result_output : @Eq (FVec Ideal S2048x2048 .f32) ((dats m 0 c).arrAt 5 cfg0.N) (val_main_v41 (F := Ideal) (projs m c) (gates m c)) := by
  have hg := ref_output H
  generalize val_main_v41 (F := Ideal) (projs m c) (gates m c) = G at hg ⊢
  refine (dats m 0 c).arrAt_eq_of_covers 5 _ (by decide +kernel) fun t hf y => ?_
  blk_simp
  rw [after0_5]
  obtain ⟨r, a, rfl⟩ := index₂ (a := 256) (b := 128) y
  exact (leaves_output (finds H) t r a).trans ((place_output t r a G).trans (hg (headOf t) (rowIn (blockOf t) r) a)).symm

theorem result_output16 :
    @Eq (FVec Ideal S2048x2048 .bf16) ((dats m 0 c).arrAt 6 cfg0.N) (val_main_v65 (F := Ideal) (projs m c) (gates m c)) := by
  have hg : ∀ h i a, val_main_v65 (F := Ideal) (projs m c) (gates m c) (ix2 i (col h a)) = ((I h).o i a : EReal) := ref_output H
  generalize val_main_v65 (F := Ideal) (projs m c) (gates m c) = G at hg ⊢
  refine (dats m 0 c).arrAt_eq_of_covers 6 _ (by decide +kernel) fun t hf y => ?_
  blk_simp
  rw [after0_6]
  obtain ⟨r, a, rfl⟩ := index₂ (a := 256) (b := 128) y
  exact (leaves_output16 (finds H) t r a).trans ((place_output16 t r a G).trans (hg (headOf t) (rowIn (blockOf t) r) a)).symm

theorem result_logSum : @Eq (FVec Ideal S16x2048x1 .f32) ((dats m 0 c).arrAt 7 cfg0.N) (val_main_v72 (F := Ideal) (projs m c) (gates m c)) := by
  have hg := ref_logSum H
  generalize val_main_v72 (F := Ideal) (projs m c) (gates m c) = G at hg ⊢
  refine (dats m 0 c).arrAt_eq_of_covers 7 _ (by decide +kernel) fun t hf y => ?_
  blk_simp
  rw [after0_7]
  obtain ⟨r, rfl⟩ := index_col (n := 256) y
  exact (leaves_logSum (finds H) t r).trans ((place_logSum t r G).trans (hg (headOf t) (rowIn (blockOf t) r))).symm

omit H
/-- The two runs end with equal results. -/
theorem agree : Cert.algebraic_AttnIdeal_AttnRefIdeal_pre_finite_attn (hAttnIdeal := Cert.AttnIdeal.Gen.facts)
    (hAttnRefIdeal := Cert.AttnRefIdeal.Gen.facts) (hPre_finite_attn := Cert.Pre_finite_attn.Gen.facts) := fun m g m' g' hpre hargs =>
  have H (c : Dev nD) := holds_of_finite_attn (x0 := projs m c) (x1 := gates m c) (hpre c).1 (hpre c).2
  ⟨fun c => val_main_v41 (F := Ideal) (projs m c) (gates m c), fun c => val_main_v65 (F := Ideal) (projs m c) (gates m c),
    fun c => val_main_v72 (F := Ideal) (projs m c) (gates m c),
    (θ_run defs _ _).mono (fun _ h c => ⟨(h c).1.trans (result_output (H c)), (h c).2.1.trans (result_output16 (H c)),
        (h c).2.2.1.trans (result_logSum (H c)), (h c).2.2.2⟩)
      (Cert.AttnIdeal.Value.run_blocks m g),
    (θ_run Cert.AttnRefIdeal.defs _ _).mono (fun _ h c =>
      ⟨(h c).1.trans ((val_main_v41_eq _ _).trans (congrArg₂ (val_main_v41 (F := Ideal)) (hargs c).1 (hargs c).2)),
        (h c).2.1.trans ((val_main_v65_eq _ _).trans (congrArg₂ (val_main_v65 (F := Ideal)) (hargs c).1 (hargs c).2)),
        (h c).2.2.1.trans ((val_main_v72_eq _ _).trans (congrArg₂ (val_main_v72 (F := Ideal)) (hargs c).1 (hargs c).2)), (h c).2.2.2⟩)
      (Cert.AttnRefIdeal.Value.run m' g')⟩

theorem frame_launched : Cert.quiescent_Attn := fun m g _ => Cert.Attn.Gen.frame m g
theorem frame : Cert.quiescent_AttnIdeal := fun m g _ => Cert.AttnIdeal.Gen.frame m g
theorem frame_reference : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)

end Cert.FoxFwd

end
-- ==== Proof.lean ====
/- The certificate's claims, assembled: for the attention backward and forward, for each product with a weight, for the layer norms, the loss and the
   pooling's scale, the frames of the three programs and the equality of the kernel's results with the reference's. -/
module

public import proofs.«01_k».proof.Defs
public import proofs.«01_k».proof.Proof.Gen.Pre_finite
public import proofs.«01_k».proof.Proof.Same
public import proofs.«01_k».proof.Proof.Agree
public import proofs.«01_k».proof.Proof.UpDw
public import proofs.«01_k».proof.Proof.UpDx
public import proofs.«01_k».proof.Proof.DownDx
public import proofs.«01_k».proof.Proof.DownDw
public import proofs.«01_k».proof.Proof.Up
public import proofs.«01_k».proof.Proof.Down
public import proofs.«01_k».proof.Proof.MixerOutDx
public import proofs.«01_k».proof.Proof.MixerOutDw
public import proofs.«01_k».proof.Proof.MixerOut
public import proofs.«01_k».proof.Proof.AttnInDx
public import proofs.«01_k».proof.Proof.AttnInDw
public import proofs.«01_k».proof.Proof.AttnIn
public import proofs.«01_k».proof.Proof.RecInDx
public import proofs.«01_k».proof.Proof.RecInDw
public import proofs.«01_k».proof.Proof.RecIn
public import proofs.«01_k».proof.Proof.PoolMixDx
public import proofs.«01_k».proof.Proof.PoolMixDw
public import proofs.«01_k».proof.Proof.PoolMix
public import proofs.«01_k».proof.Proof.RecGateDx
public import proofs.«01_k».proof.Proof.RecGateDxAdd
public import proofs.«01_k».proof.Proof.RecGateDw
public import proofs.«01_k».proof.Proof.RecGate
public import proofs.«01_k».proof.Proof.Ln
public import proofs.«01_k».proof.Proof.LnScaled
public import proofs.«01_k».proof.Proof.ScaleBwd
public import proofs.«01_k».proof.Proof.Loss
public import proofs.«01_k».proof.Proof.Attn
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem frame_reference (m) (g) : θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run m g)

theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hargs =>
  ⟨fun _ => _, fun _ => _, fun _ => _, fun _ => _, fun _ => _,
    Cert.FoxBwd.run_results m g _ fun c => Cert.FoxBwd.holds_of_finite (hpre c).1 (hpre c).2.1 (hpre c).2.2,
    Cert.FoxBwd.run_reference m' g' (fun c => Cert.FoxBwd.projs m c) (fun c => Cert.FoxBwd.gates m c) (fun c => Cert.FoxBwd.outCt m c)
      (fun c => (hargs c).1) (fun c => (hargs c).2.1) (fun c => (hargs c).2.2)⟩

theorem claim : Cert.Claim := ⟨Cert.Kernel.Gen.facts, Cert.KernelIdeal.Gen.facts, Cert.ReferenceIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.MixerOutDx.Gen.facts, Cert.MixerOutDxIdeal.Gen.facts, Cert.MixerOutDxRefIdeal.Gen.facts,
  Cert.MixerOutDw.Gen.facts, Cert.MixerOutDwIdeal.Gen.facts, Cert.MixerOutDwRefIdeal.Gen.facts,
  Cert.MixerOut.Gen.facts, Cert.MixerOutIdeal.Gen.facts, Cert.MixerOutRefIdeal.Gen.facts,
  Cert.AttnInDx.Gen.facts, Cert.AttnInDxIdeal.Gen.facts, Cert.AttnInDxRefIdeal.Gen.facts,
  Cert.AttnInDw.Gen.facts, Cert.AttnInDwIdeal.Gen.facts, Cert.AttnInDwRefIdeal.Gen.facts,
  Cert.AttnIn.Gen.facts, Cert.AttnInIdeal.Gen.facts, Cert.AttnInRefIdeal.Gen.facts,
  Cert.RecInDx.Gen.facts, Cert.RecInDxIdeal.Gen.facts, Cert.RecInDxRefIdeal.Gen.facts,
  Cert.RecInDw.Gen.facts, Cert.RecInDwIdeal.Gen.facts, Cert.RecInDwRefIdeal.Gen.facts,
  Cert.RecIn.Gen.facts, Cert.RecInIdeal.Gen.facts, Cert.RecInRefIdeal.Gen.facts,
  Cert.PoolMixDx.Gen.facts, Cert.PoolMixDxIdeal.Gen.facts, Cert.PoolMixDxRefIdeal.Gen.facts,
  Cert.PoolMixDw.Gen.facts, Cert.PoolMixDwIdeal.Gen.facts, Cert.PoolMixDwRefIdeal.Gen.facts,
  Cert.PoolMix.Gen.facts, Cert.PoolMixIdeal.Gen.facts, Cert.PoolMixRefIdeal.Gen.facts,
  Cert.RecGateDx.Gen.facts, Cert.RecGateDxIdeal.Gen.facts, Cert.RecGateDxRefIdeal.Gen.facts,
  Cert.RecGateDxAdd.Gen.facts, Cert.RecGateDxAddIdeal.Gen.facts, Cert.RecGateDxAddRefIdeal.Gen.facts,
  Cert.RecGateDw.Gen.facts, Cert.RecGateDwIdeal.Gen.facts, Cert.RecGateDwRefIdeal.Gen.facts,
  Cert.RecGate.Gen.facts, Cert.RecGateIdeal.Gen.facts, Cert.RecGateRefIdeal.Gen.facts,
  Cert.Ln.Gen.facts, Cert.LnIdeal.Gen.facts, Cert.LnRefIdeal.Gen.facts,
  Cert.LnScaled.Gen.facts, Cert.LnScaledIdeal.Gen.facts, Cert.LnScaledRefIdeal.Gen.facts,
  Cert.ScaleBwd.Gen.facts, Cert.ScaleBwdIdeal.Gen.facts, Cert.ScaleBwdRefIdeal.Gen.facts,
  Cert.Loss.Gen.facts, Cert.LossIdeal.Gen.facts, Cert.LossRefIdeal.Gen.facts,
  Cert.Attn.Gen.facts, Cert.AttnIdeal.Gen.facts, Cert.AttnRefIdeal.Gen.facts,
  Cert.Pre_finite.Gen.facts, Cert.Pre_finite_attn.Gen.facts,
  fun m g _ => Cert.FoxBwd.quiescent_launched m g, fun m g _ => Cert.FoxBwd.quiescent m g, fun m g _ => Cert.FoxBwd.quiescent m g,
  fun m g _ => frame_reference m g, fun m g _ => frame_reference m g,
  Cert.UpDwIdeal.Product.frame_launched, Cert.UpDwIdeal.Product.frame, Cert.UpDwIdeal.Product.frame_reference,
  Cert.UpDxIdeal.Product.frame_launched, Cert.UpDxIdeal.Product.frame, Cert.UpDxIdeal.Product.frame_reference,
  Cert.DownDxIdeal.Product.frame_launched, Cert.DownDxIdeal.Product.frame, Cert.DownDxIdeal.Product.frame_reference,
  Cert.DownDwIdeal.Product.frame_launched, Cert.DownDwIdeal.Product.frame, Cert.DownDwIdeal.Product.frame_reference,
  Cert.UpIdeal.Product.frame_launched, Cert.UpIdeal.Product.frame, Cert.UpIdeal.Product.frame_reference,
  Cert.DownIdeal.Product.frame_launched, Cert.DownIdeal.Product.frame, Cert.DownIdeal.Product.frame_reference,
  Cert.MixerOutDxIdeal.Product.frame_launched, Cert.MixerOutDxIdeal.Product.frame, Cert.MixerOutDxIdeal.Product.frame_reference,
  Cert.MixerOutDwIdeal.Product.frame_launched, Cert.MixerOutDwIdeal.Product.frame, Cert.MixerOutDwIdeal.Product.frame_reference,
  Cert.MixerOutIdeal.Product.frame_launched, Cert.MixerOutIdeal.Product.frame, Cert.MixerOutIdeal.Product.frame_reference,
  Cert.AttnInDxIdeal.Product.frame_launched, Cert.AttnInDxIdeal.Product.frame, Cert.AttnInDxIdeal.Product.frame_reference,
  Cert.AttnInDwIdeal.Product.frame_launched, Cert.AttnInDwIdeal.Product.frame, Cert.AttnInDwIdeal.Product.frame_reference,
  Cert.AttnInIdeal.Product.frame_launched, Cert.AttnInIdeal.Product.frame, Cert.AttnInIdeal.Product.frame_reference,
  Cert.RecInDxIdeal.Product.frame_launched, Cert.RecInDxIdeal.Product.frame, Cert.RecInDxIdeal.Product.frame_reference,
  Cert.RecInDwIdeal.Product.frame_launched, Cert.RecInDwIdeal.Product.frame, Cert.RecInDwIdeal.Product.frame_reference,
  Cert.RecInIdeal.Product.frame_launched, Cert.RecInIdeal.Product.frame, Cert.RecInIdeal.Product.frame_reference,
  Cert.PoolMixDxIdeal.Product.frame_launched, Cert.PoolMixDxIdeal.Product.frame, Cert.PoolMixDxIdeal.Product.frame_reference,
  Cert.PoolMixDwIdeal.Product.frame_launched, Cert.PoolMixDwIdeal.Product.frame, Cert.PoolMixDwIdeal.Product.frame_reference,
  Cert.PoolMixIdeal.Product.frame_launched, Cert.PoolMixIdeal.Product.frame, Cert.PoolMixIdeal.Product.frame_reference,
  Cert.RecGateDxIdeal.Product.frame_launched, Cert.RecGateDxIdeal.Product.frame, Cert.RecGateDxIdeal.Product.frame_reference,
  Cert.RecGateDxAddIdeal.Product.frame_launched, Cert.RecGateDxAddIdeal.Product.frame, Cert.RecGateDxAddIdeal.Product.frame_reference,
  Cert.RecGateDwIdeal.Product.frame_launched, Cert.RecGateDwIdeal.Product.frame, Cert.RecGateDwIdeal.Product.frame_reference,
  Cert.RecGateIdeal.Product.frame_launched, Cert.RecGateIdeal.Product.frame, Cert.RecGateIdeal.Product.frame_reference,
  Cert.LnIdeal.Norm.frame_launched, Cert.LnIdeal.Norm.frame, Cert.LnIdeal.Norm.frame_reference,
  Cert.LnScaledIdeal.Norm.frame_launched, Cert.LnScaledIdeal.Norm.frame, Cert.LnScaledIdeal.Norm.frame_reference,
  Cert.ScaleBwdIdeal.Columns.frame_launched, Cert.ScaleBwdIdeal.Columns.frame, Cert.ScaleBwdIdeal.Columns.frame_reference,
  Cert.LossIdeal.Head.frame_launched, Cert.LossIdeal.Head.frame, Cert.LossIdeal.Head.frame_reference,
  Cert.FoxFwd.frame_launched, Cert.FoxFwd.frame, fun m g _ => Cert.FoxFwd.frame m g trivial,
  Cert.FoxFwd.frame_reference, fun m g _ => Cert.FoxFwd.frame_reference m g trivial,
  trivial, agree,
  trivial, Cert.UpDwIdeal.Product.agree,
  trivial, Cert.UpDxIdeal.Product.agree,
  trivial, Cert.DownDxIdeal.Product.agree,
  trivial, Cert.DownDwIdeal.Product.agree,
  trivial, Cert.UpIdeal.Product.agree,
  trivial, Cert.DownIdeal.Product.agree,
  trivial, Cert.MixerOutDxIdeal.Product.agree,
  trivial, Cert.MixerOutDwIdeal.Product.agree,
  trivial, Cert.MixerOutIdeal.Product.agree,
  trivial, Cert.AttnInDxIdeal.Product.agree,
  trivial, Cert.AttnInDwIdeal.Product.agree,
  trivial, Cert.AttnInIdeal.Product.agree,
  trivial, Cert.RecInDxIdeal.Product.agree,
  trivial, Cert.RecInDwIdeal.Product.agree,
  trivial, Cert.RecInIdeal.Product.agree,
  trivial, Cert.PoolMixDxIdeal.Product.agree,
  trivial, Cert.PoolMixDwIdeal.Product.agree,
  trivial, Cert.PoolMixIdeal.Product.agree,
  trivial, Cert.RecGateDxIdeal.Product.agree,
  trivial, Cert.RecGateDxAddIdeal.Product.agree,
  trivial, Cert.RecGateDwIdeal.Product.agree,
  trivial, Cert.RecGateIdeal.Product.agree,
  trivial, Cert.LnIdeal.Norm.agree,
  trivial, Cert.LnScaledIdeal.Norm.agree,
  trivial, Cert.ScaleBwdIdeal.Columns.agree,
  trivial, Cert.LossIdeal.Head.agree,
  trivial, Cert.FoxFwd.agree⟩

end Cert.Proof

end
